-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v116)) (v1 : (c : Dev Cert.KernelIdeal.nD) → Buf (Elt Ideal) ((c.tc : Thread Cert.KernelIdeal.nD Cert.KernelIdeal.τ).loc Cert.KernelIdeal.main_v105)) (v2 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_v106) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x3x512x512 : Shape := ⟨4, ![32, 3, 512, 512]⟩
abbrev S16x3 : Shape := ⟨2, ![16, 3]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S16x3 .f32) (main_arg2 : FVec F S16 .f32) (main_arg3 : FVec F S16 .f32) (main_arg4 : FVec F S1x16 .f32) (main_arg5 : FVec F S1 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S16x3 : Shape := ⟨2, ![16, 3]⟩
abbrev S16 : Shape := ⟨1, ![16]⟩
abbrev S1x16 : Shape := ⟨2, ![1, 16]⟩
abbrev S1 : Shape := ⟨1, ![1]⟩
abbrev S512 : Shape := ⟨1, ![512]⟩
abbrev S32x512 : Shape := ⟨2, ![32, 512]⟩
abbrev S512x32 : Shape := ⟨2, ![512, 32]⟩
abbrev S864x16 : Shape := ⟨2, ![864, 16]⟩
abbrev S512x512 : Shape := ⟨2, ![512, 512]⟩
abbrev S_ : Shape := ⟨0, ![]⟩
abbrev S512x512x1 : Shape := ⟨3, ![512, 512, 1]⟩
abbrev S512x3072 : Shape := ⟨2, ![512, 3072]⟩
abbrev S3072x512 : Shape := ⟨2, ![3072, 512]⟩
abbrev S32x1536 : Shape := ⟨2, ![32, 1536]⟩
abbrev S1536x32 : Shape := ⟨2, ![1536, 32]⟩
abbrev S8x96 : Shape := ⟨2, ![8, 96]⟩
abbrev S32x32x32 : Shape := ⟨3, ![32, 32, 32]⟩
abbrev S32x1x16 : Shape := ⟨3, ![32, 1, 16]⟩
abbrev S1x3x512x512 : Shape := ⟨4, ![1, 3, 512, 512]⟩
abbrev S1x32x32 : Shape := ⟨3, ![1, 32, 32]⟩
abbrev S1x1x16 : Shape := ⟨3, ![1, 1, 16]⟩
abbrev S1x1x512x512 : Shape := ⟨4, ![1, 1, 512, 512]⟩
abbrev S1536x512 : Shape := ⟨2, ![1536, 512]⟩
abbrev S32x32 : Shape := ⟨2, ![32, 32]⟩
abbrev S32x288 : Shape := ⟨2, ![32, 288]⟩
abbrev S96x288 : Shape := ⟨2, ![96, 288]⟩
abbrev S8x288 : Shape := ⟨2, ![8, 288]⟩
abbrev S8x864 : Shape := ⟨2, ![8, 864]⟩
abbrev S8x16 : Shape := ⟨2, ![8, 16]⟩
abbrev S32x3x32x16x32x16 : Shape := ⟨6, ![32, 3, 32, 16, 32, 16]⟩
abbrev S32x3x32x32x16x16 : Shape := ⟨6, ![32, 3, 32, 32, 16, 16]⟩
abbrev S32x3x1024x16x16 : Shape := ⟨5, ![32, 3, 1024, 16, 16]⟩
abbrev S32x3x1024 : Shape := ⟨3, ![32, 3, 1024]⟩
abbrev S32x1024 : Shape := ⟨2, ![32, 1024]⟩
abbrev S16x32x512x512 : Shape := ⟨4, ![16, 32, 512, 512]⟩
abbrev S32x16x512x512 : Shape := ⟨4, ![32, 16, 512, 512]⟩
abbrev S1x16x1x1 : Shape := ⟨4, ![1, 16, 1, 1]⟩
abbrev S1x32x512x512 : Shape := ⟨4, ![1, 32, 512, 512]⟩
abbrev S32x1x512x512 : Shape := ⟨4, ![32, 1, 512, 512]⟩
abbrev S1x1x1x1 : Shape := ⟨4, ![1, 1, 1, 1]⟩
abbrev S32x1x32x16x32x16 : Shape := ⟨6, ![32, 1, 32, 16, 32, 16]⟩
abbrev S32x1x32x32x16x16 : Shape := ⟨6, ![32, 1, 32, 32, 16, 16]⟩
abbrev S32x1x1024x256 : Shape := ⟨4, ![32, 1, 1024, 256]⟩
abbrev S32x1x1024 : Shape := ⟨3, ![32, 1, 1024]⟩
abbrev S32x1024x1 : Shape := ⟨3, ![32, 1024, 1]⟩
abbrev S1x1x1024 : Shape := ⟨3, ![1, 1, 1024]⟩
abbrev S1x1024x1 : Shape := ⟨3, ![1, 1024, 1]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S2 : Shape := ⟨1, ![2]⟩
abbrev S1x1 : Shape := ⟨2, ![1, 1]⟩
abbrev S32x256 : Shape := ⟨2, ![32, 256]⟩
abbrev S32 : Shape := ⟨1, ![32]⟩
abbrev S32x1 : Shape := ⟨2, ![32, 1]⟩
abbrev S32768 : Shape := ⟨1, ![32768]⟩

abbrev nBuf : Table → Nat
  | .hbm => 442
  | .local .tc .vmem => 20
  | .local .scVector .vmem => 3
  | _ => 0

abbrev hbmTy0_0 (i : Nat) : BufTy := match i % 128 with
  | 0 => ⟨S32x3x512x512, .f32⟩
  | 1 => ⟨S16x3, .f32⟩
  | 2 => ⟨S16, .f32⟩
  | 3 => ⟨S16, .f32⟩
  | 4 => ⟨S1x16, .f32⟩
  | 5 => ⟨S1, .f32⟩
  | 6 => ⟨S512, .f32⟩
  | 7 => ⟨S512, .f32⟩
  | 8 => ⟨S32x512, .f32⟩
  | 9 => ⟨S512x32, .f32⟩
  | 10 => ⟨S864x16, .f32⟩
  | 11 => ⟨S512x512, .i32⟩
  | 12 => ⟨S512x512, .i32⟩
  | 13 => ⟨S512x512, .i32⟩
  | 14 => ⟨S_, .i32⟩
  | 15 => ⟨S512x512, .i32⟩
  | 16 => ⟨S512x512, .i32⟩
  | 17 => ⟨S_, .i32⟩
  | 18 => ⟨S512x512, .i32⟩
  | 19 => ⟨S512x512, .i1⟩
  | 20 => ⟨S_, .i32⟩
  | 21 => ⟨S512x512, .i32⟩
  | 22 => ⟨S512x512, .i32⟩
  | 23 => ⟨S512x512, .i32⟩
  | 24 => ⟨S512x512x1, .i32⟩
  | 25 => ⟨S512x512, .f32⟩
  | 26 => ⟨S_, .i32⟩
  | 27 => ⟨S512x512, .i32⟩
  | 28 => ⟨S512x512, .i1⟩
  | 29 => ⟨S_, .i32⟩
  | 30 => ⟨S512x512, .i32⟩
  | 31 => ⟨S512x512, .i32⟩
  | 32 => ⟨S512x512, .i32⟩
  | 33 => ⟨S512x512x1, .i32⟩
  | 34 => ⟨S512x512, .f32⟩
  | 35 => ⟨S512x512, .bf16⟩
  | 36 => ⟨S512x512, .f32⟩
  | 37 => ⟨S512x512, .f32⟩
  | 38 => ⟨S512x512, .bf16⟩
  | 39 => ⟨S512x512, .f32⟩
  | 40 => ⟨S512x512, .f32⟩
  | 41 => ⟨S512x512, .bf16⟩
  | 42 => ⟨S512x512, .bf16⟩
  | 43 => ⟨S512x512, .f32⟩
  | 44 => ⟨S512x512, .f32⟩
  | 45 => ⟨S512x512, .bf16⟩
  | 46 => ⟨S512x512, .f32⟩
  | 47 => ⟨S512x512, .f32⟩
  | 48 => ⟨S512x512, .bf16⟩
  | 49 => ⟨S512x3072, .bf16⟩
  | 50 => ⟨S512x3072, .bf16⟩
  | 51 => ⟨S3072x512, .bf16⟩
  | 52 => ⟨S3072x512, .bf16⟩
  | 53 => ⟨S32x512, .bf16⟩
  | 54 => ⟨S512x32, .bf16⟩
  | 55 => ⟨S32x1536, .bf16⟩
  | 56 => ⟨S1536x32, .bf16⟩
  | 57 => ⟨S_, .bf16⟩
  | 58 => ⟨S8x96, .bf16⟩
  | 59 => ⟨S864x16, .bf16⟩
  | 60 => ⟨S32x3x512x512, .f32⟩
  | 61 => ⟨S32x32x32, .f32⟩
  | 62 => ⟨S32x1x16, .f32⟩
  | 63 => ⟨S32x3x32x16x32x16, .f32⟩
  | 64 => ⟨S32x3x32x32x16x16, .f32⟩
  | 65 => ⟨S32x3x1024x16x16, .f32⟩
  | 66 => ⟨S_, .f32⟩
  | 67 => ⟨S32x3x1024, .f32⟩
  | 68 => ⟨S_, .f32⟩
  | 69 => ⟨S32x3x1024, .f32⟩
  | 70 => ⟨S32x3x1024, .f32⟩
  | 71 => ⟨S_, .f32⟩
  | 72 => ⟨S32x1024, .f32⟩
  | 73 => ⟨S_, .f32⟩
  | 74 => ⟨S32x1024, .f32⟩
  | 75 => ⟨S32x1024, .f32⟩
  | 76 => ⟨S16x32x512x512, .f32⟩
  | 77 => ⟨S32x16x512x512, .f32⟩
  | 78 => ⟨S_, .f32⟩
  | 79 => ⟨S16, .f32⟩
  | 80 => ⟨S_, .f32⟩
  | 81 => ⟨S16, .f32⟩
  | 82 => ⟨S16, .f32⟩
  | 83 => ⟨S_, .i32⟩
  | 84 => ⟨S_, .f32⟩
  | 85 => ⟨S16, .f32⟩
  | 86 => ⟨S1x16x1x1, .f32⟩
  | 87 => ⟨S_, .f32⟩
  | 88 => ⟨S1x16x1x1, .f32⟩
  | 89 => ⟨S1x16x1x1, .f32⟩
  | 90 => ⟨S32x16x512x512, .f32⟩
  | 91 => ⟨S32x16x512x512, .f32⟩
  | 92 => ⟨S32x16x512x512, .f32⟩
  | 93 => ⟨S_, .f32⟩
  | 94 => ⟨S_, .f32⟩
  | 95 => ⟨S_, .f32⟩
  | 96 => ⟨S_, .f32⟩
  | 97 => ⟨S16, .f32⟩
  | 98 => ⟨S16, .f32⟩
  | 99 => ⟨S16, .f32⟩
  | 100 => ⟨S_, .f32⟩
  | 101 => ⟨S_, .i1⟩
  | 102 => ⟨S_, .f32⟩
  | 103 => ⟨S_, .f32⟩
  | 104 => ⟨S16, .f32⟩
  | 105 => ⟨S16, .f32⟩
  | 106 => ⟨S1x16x1x1, .f32⟩
  | 107 => ⟨S32x16x512x512, .f32⟩
  | 108 => ⟨S32x16x512x512, .f32⟩
  | 109 => ⟨S1x16x1x1, .f32⟩
  | 110 => ⟨S_, .f32⟩
  | 111 => ⟨S1x16x1x1, .f32⟩
  | 112 => ⟨S1x16x1x1, .f32⟩
  | 113 => ⟨S1x16x1x1, .f32⟩
  | 114 => ⟨S32x16x512x512, .f32⟩
  | 115 => ⟨S32x16x512x512, .f32⟩
  | 116 => ⟨S1x16x1x1, .f32⟩
  | 117 => ⟨S32x16x512x512, .f32⟩
  | 118 => ⟨S32x16x512x512, .f32⟩
  | 119 => ⟨S1x16x1x1, .f32⟩
  | 120 => ⟨S32x16x512x512, .f32⟩
  | 121 => ⟨S32x16x512x512, .f32⟩
  | 122 => ⟨S_, .f32⟩
  | 123 => ⟨S32x16x512x512, .f32⟩
  | 124 => ⟨S32x16x512x512, .f32⟩
  | 125 => ⟨S1x32x512x512, .f32⟩
  | 126 => ⟨S32x1x512x512, .f32⟩
  | 127 => ⟨S1x1x1x1, .f32⟩
  | _ => ⟨S32x3x512x512, .f32⟩

abbrev hbmTy0_1 (i : Nat) : BufTy := match i % 128 with
  | 0 => ⟨S32x1x512x512, .f32⟩
  | 1 => ⟨S32x1x512x512, .f32⟩
  | 2 => ⟨S32x1x32x16x32x16, .f32⟩
  | 3 => ⟨S32x1x32x32x16x16, .f32⟩
  | 4 => ⟨S32x1x1024x256, .f32⟩
  | 5 => ⟨S_, .f32⟩
  | 6 => ⟨S32x1x1024, .f32⟩
  | 7 => ⟨S_, .f32⟩
  | 8 => ⟨S32x1x1024, .f32⟩
  | 9 => ⟨S32x1x1024, .f32⟩
  | 10 => ⟨S32x1024, .f32⟩
  | 11 => ⟨S32x1024, .f32⟩
  | 12 => ⟨S32x1024, .f32⟩
  | 13 => ⟨S_, .f32⟩
  | 14 => ⟨S32x1024, .f32⟩
  | 15 => ⟨S32x1024, .f32⟩
  | 16 => ⟨S_, .f32⟩
  | 17 => ⟨S32x1024, .f32⟩
  | 18 => ⟨S32x1024, .f32⟩
  | 19 => ⟨S32x1024, .f32⟩
  | 20 => ⟨S32x1x1024, .f32⟩
  | 21 => ⟨S32x1024x1, .f32⟩
  | 22 => ⟨S_, .i32⟩
  | 23 => ⟨S_, .i32⟩
  | 24 => ⟨S_, .i32⟩
  | 25 => ⟨S_, .i32⟩
  | 26 => ⟨S1, .i32⟩
  | 27 => ⟨S_, .i32⟩
  | 28 => ⟨S_, .i32⟩
  | 29 => ⟨S_, .i32⟩
  | 30 => ⟨S1, .i32⟩
  | 31 => ⟨S2, .i32⟩
  | 32 => ⟨S_, .f32⟩
  | 33 => ⟨S_, .f32⟩
  | 34 => ⟨S_, .f32⟩
  | 35 => ⟨S_, .f32⟩
  | 36 => ⟨S1x1, .f32⟩
  | 37 => ⟨S1x1, .f32⟩
  | 38 => ⟨S1, .i32⟩
  | 39 => ⟨S_, .i32⟩
  | 40 => ⟨S1, .i32⟩
  | 41 => ⟨S_, .i32⟩
  | 42 => ⟨S32x1024, .i64⟩
  | 43 => ⟨S32x1024, .i64⟩
  | 44 => ⟨S_, .i64⟩
  | 45 => ⟨S32x1024, .i64⟩
  | 46 => ⟨S32x1024, .i64⟩
  | 47 => ⟨S_, .i64⟩
  | 48 => ⟨S32x1024, .i64⟩
  | 49 => ⟨S32x1024, .i64⟩
  | 50 => ⟨S32x1024, .i64⟩
  | 51 => ⟨S_, .i64⟩
  | 52 => ⟨S32x1024, .i64⟩
  | 53 => ⟨S32x1024, .i64⟩
  | 54 => ⟨S32x1024, .i32⟩
  | 55 => ⟨S32x1024, .i32⟩
  | 56 => ⟨S_, .i32⟩
  | 57 => ⟨S_, .i32⟩
  | 58 => ⟨S_, .i32⟩
  | 59 => ⟨S32x1024, .i32⟩
  | 60 => ⟨S32x1024, .i32⟩
  | 61 => ⟨S32x1024, .i32⟩
  | 62 => ⟨S32x1024, .i32⟩
  | 63 => ⟨S32x1024, .i32⟩
  | 64 => ⟨S_, .i32⟩
  | 65 => ⟨S32x1024, .i32⟩
  | 66 => ⟨S32x1024, .i32⟩
  | 67 => ⟨S_, .i32⟩
  | 68 => ⟨S32x1024, .i32⟩
  | 69 => ⟨S32x1024, .i32⟩
  | 70 => ⟨S32x1024, .i32⟩
  | 71 => ⟨S32x1024, .i32⟩
  | 72 => ⟨S32x1024, .i32⟩
  | 73 => ⟨S_, .i32⟩
  | 74 => ⟨S32x1024, .i32⟩
  | 75 => ⟨S32x1024, .i32⟩
  | 76 => ⟨S_, .i32⟩
  | 77 => ⟨S32x1024, .i32⟩
  | 78 => ⟨S32x1024, .i32⟩
  | 79 => ⟨S32x1024, .i32⟩
  | 80 => ⟨S32x1024, .i32⟩
  | 81 => ⟨S32x1024, .i32⟩
  | 82 => ⟨S_, .i32⟩
  | 83 => ⟨S32x1024, .i32⟩
  | 84 => ⟨S32x1024, .i32⟩
  | 85 => ⟨S_, .i32⟩
  | 86 => ⟨S32x1024, .i32⟩
  | 87 => ⟨S32x1024, .i32⟩
  | 88 => ⟨S32x1024, .i32⟩
  | 89 => ⟨S32x1024, .i32⟩
  | 90 => ⟨S32x1024, .i32⟩
  | 91 => ⟨S_, .i32⟩
  | 92 => ⟨S32x1024, .i32⟩
  | 93 => ⟨S32x1024, .i32⟩
  | 94 => ⟨S_, .i32⟩
  | 95 => ⟨S32x1024, .i32⟩
  | 96 => ⟨S32x1024, .i32⟩
  | 97 => ⟨S32x1024, .i32⟩
  | 98 => ⟨S32x1024, .i32⟩
  | 99 => ⟨S32x1024, .i32⟩
  | 100 => ⟨S32x1024, .i32⟩
  | 101 => ⟨S32x1024, .i32⟩
  | 102 => ⟨S32x1024, .i32⟩
  | 103 => ⟨S_, .i32⟩
  | 104 => ⟨S32x1024, .i32⟩
  | 105 => ⟨S32x1024, .i32⟩
  | 106 => ⟨S32x1024, .i32⟩
  | 107 => ⟨S_, .i32⟩
  | 108 => ⟨S32x1024, .i32⟩
  | 109 => ⟨S32x1024, .i32⟩
  | 110 => ⟨S_, .i32⟩
  | 111 => ⟨S32x1024, .i32⟩
  | 112 => ⟨S32x1024, .i32⟩
  | 113 => ⟨S32x1024, .i32⟩
  | 114 => ⟨S32x1024, .i32⟩
  | 115 => ⟨S32x1024, .i32⟩
  | 116 => ⟨S_, .i32⟩
  | 117 => ⟨S32x1024, .i32⟩
  | 118 => ⟨S32x1024, .i32⟩
  | 119 => ⟨S_, .i32⟩
  | 120 => ⟨S32x1024, .i32⟩
  | 121 => ⟨S32x1024, .i32⟩
  | 122 => ⟨S32x1024, .i32⟩
  | 123 => ⟨S32x1024, .i32⟩
  | 124 => ⟨S32x1024, .i32⟩
  | 125 => ⟨S_, .i32⟩
  | 126 => ⟨S32x1024, .i32⟩
  | 127 => ⟨S32x1024, .i32⟩
  | _ => ⟨S32x3x512x512, .f32⟩

abbrev hbmTy0_2 (i : Nat) : BufTy := match i % 128 with
  | 0 => ⟨S_, .i32⟩
  | 1 => ⟨S32x1024, .i32⟩
  | 2 => ⟨S32x1024, .i32⟩
  | 3 => ⟨S32x1024, .i32⟩
  | 4 => ⟨S32x1024, .i32⟩
  | 5 => ⟨S32x1024, .i32⟩
  | 6 => ⟨S_, .i32⟩
  | 7 => ⟨S32x1024, .i32⟩
  | 8 => ⟨S32x1024, .i32⟩
  | 9 => ⟨S_, .i32⟩
  | 10 => ⟨S32x1024, .i32⟩
  | 11 => ⟨S32x1024, .i32⟩
  | 12 => ⟨S32x1024, .i32⟩
  | 13 => ⟨S32x1024, .i32⟩
  | 14 => ⟨S32x1024, .i32⟩
  | 15 => ⟨S32x1024, .i32⟩
  | 16 => ⟨S32x1024, .i32⟩
  | 17 => ⟨S32x1024, .i32⟩
  | 18 => ⟨S_, .i32⟩
  | 19 => ⟨S32x1024, .i32⟩
  | 20 => ⟨S32x1024, .i32⟩
  | 21 => ⟨S32x1024, .i32⟩
  | 22 => ⟨S_, .i32⟩
  | 23 => ⟨S32x1024, .i32⟩
  | 24 => ⟨S32x1024, .i32⟩
  | 25 => ⟨S_, .i32⟩
  | 26 => ⟨S32x1024, .i32⟩
  | 27 => ⟨S32x1024, .i32⟩
  | 28 => ⟨S32x1024, .i32⟩
  | 29 => ⟨S32x1024, .i32⟩
  | 30 => ⟨S32x1024, .i32⟩
  | 31 => ⟨S_, .i32⟩
  | 32 => ⟨S32x1024, .i32⟩
  | 33 => ⟨S32x1024, .i32⟩
  | 34 => ⟨S_, .i32⟩
  | 35 => ⟨S32x1024, .i32⟩
  | 36 => ⟨S32x1024, .i32⟩
  | 37 => ⟨S32x1024, .i32⟩
  | 38 => ⟨S32x1024, .i32⟩
  | 39 => ⟨S32x1024, .i32⟩
  | 40 => ⟨S_, .i32⟩
  | 41 => ⟨S32x1024, .i32⟩
  | 42 => ⟨S32x1024, .i32⟩
  | 43 => ⟨S_, .i32⟩
  | 44 => ⟨S32x1024, .i32⟩
  | 45 => ⟨S32x1024, .i32⟩
  | 46 => ⟨S32x1024, .i32⟩
  | 47 => ⟨S32x1024, .i32⟩
  | 48 => ⟨S32x1024, .i32⟩
  | 49 => ⟨S_, .i32⟩
  | 50 => ⟨S32x1024, .i32⟩
  | 51 => ⟨S32x1024, .i32⟩
  | 52 => ⟨S_, .i32⟩
  | 53 => ⟨S32x1024, .i32⟩
  | 54 => ⟨S32x1024, .i32⟩
  | 55 => ⟨S32x1024, .i32⟩
  | 56 => ⟨S32x1024, .i32⟩
  | 57 => ⟨S32x1024, .i32⟩
  | 58 => ⟨S32x1024, .i32⟩
  | 59 => ⟨S32x1024, .i32⟩
  | 60 => ⟨S32x1024, .i32⟩
  | 61 => ⟨S_, .i32⟩
  | 62 => ⟨S32x1024, .i32⟩
  | 63 => ⟨S32x1024, .i32⟩
  | 64 => ⟨S32x1024, .i32⟩
  | 65 => ⟨S_, .i32⟩
  | 66 => ⟨S32x1024, .i32⟩
  | 67 => ⟨S32x1024, .i32⟩
  | 68 => ⟨S_, .i32⟩
  | 69 => ⟨S32x1024, .i32⟩
  | 70 => ⟨S32x1024, .i32⟩
  | 71 => ⟨S32x1024, .i32⟩
  | 72 => ⟨S32x1024, .i32⟩
  | 73 => ⟨S32x1024, .i32⟩
  | 74 => ⟨S_, .i32⟩
  | 75 => ⟨S32x1024, .i32⟩
  | 76 => ⟨S32x1024, .i32⟩
  | 77 => ⟨S_, .i32⟩
  | 78 => ⟨S32x1024, .i32⟩
  | 79 => ⟨S32x1024, .i32⟩
  | 80 => ⟨S32x1024, .i32⟩
  | 81 => ⟨S32x1024, .i32⟩
  | 82 => ⟨S32x1024, .i32⟩
  | 83 => ⟨S_, .i32⟩
  | 84 => ⟨S32x1024, .i32⟩
  | 85 => ⟨S32x1024, .i32⟩
  | 86 => ⟨S_, .i32⟩
  | 87 => ⟨S32x1024, .i32⟩
  | 88 => ⟨S32x1024, .i32⟩
  | 89 => ⟨S32x1024, .i32⟩
  | 90 => ⟨S32x1024, .i32⟩
  | 91 => ⟨S32x1024, .i32⟩
  | 92 => ⟨S_, .i32⟩
  | 93 => ⟨S32x1024, .i32⟩
  | 94 => ⟨S32x1024, .i32⟩
  | 95 => ⟨S_, .i32⟩
  | 96 => ⟨S32x1024, .i32⟩
  | 97 => ⟨S32x1024, .i32⟩
  | 98 => ⟨S32x1024, .i32⟩
  | 99 => ⟨S32x1024, .i32⟩
  | 100 => ⟨S32x1024, .i32⟩
  | 101 => ⟨S32x1024, .i32⟩
  | 102 => ⟨S32x1024, .i32⟩
  | 103 => ⟨S32x1024, .i32⟩
  | 104 => ⟨S_, .i32⟩
  | 105 => ⟨S32x1024, .i32⟩
  | 106 => ⟨S32x1024, .i32⟩
  | 107 => ⟨S32x1024, .i32⟩
  | 108 => ⟨S_, .i32⟩
  | 109 => ⟨S32x1024, .i32⟩
  | 110 => ⟨S32x1024, .i32⟩
  | 111 => ⟨S_, .i32⟩
  | 112 => ⟨S32x1024, .i32⟩
  | 113 => ⟨S32x1024, .i32⟩
  | 114 => ⟨S32x1024, .i32⟩
  | 115 => ⟨S32x1024, .i32⟩
  | 116 => ⟨S32x1024, .i32⟩
  | 117 => ⟨S_, .i32⟩
  | 118 => ⟨S32x1024, .i32⟩
  | 119 => ⟨S32x1024, .i32⟩
  | 120 => ⟨S_, .i32⟩
  | 121 => ⟨S32x1024, .i32⟩
  | 122 => ⟨S32x1024, .i32⟩
  | 123 => ⟨S32x1024, .i32⟩
  | 124 => ⟨S32x1024, .i32⟩
  | 125 => ⟨S32x1024, .i32⟩
  | 126 => ⟨S_, .i32⟩
  | 127 => ⟨S32x1024, .i32⟩
  | _ => ⟨S32x3x512x512, .f32⟩

abbrev hbmTy0_3 (i : Nat) : BufTy := match i % 128 with
  | 0 => ⟨S32x1024, .i32⟩
  | 1 => ⟨S_, .i32⟩
  | 2 => ⟨S32x1024, .i32⟩
  | 3 => ⟨S32x1024, .i32⟩
  | 4 => ⟨S32x1024, .i32⟩
  | 5 => ⟨S32x1024, .i32⟩
  | 6 => ⟨S32x1024, .i32⟩
  | 7 => ⟨S_, .i32⟩
  | 8 => ⟨S32x1024, .i32⟩
  | 9 => ⟨S32x1024, .i32⟩
  | 10 => ⟨S_, .i32⟩
  | 11 => ⟨S32x1024, .i32⟩
  | 12 => ⟨S32x1024, .i32⟩
  | 13 => ⟨S32x1024, .i32⟩
  | 14 => ⟨S32x1024, .i32⟩
  | 15 => ⟨S32x1024, .i32⟩
  | 16 => ⟨S32x1024, .i32⟩
  | 17 => ⟨S32x1024, .i32⟩
  | 18 => ⟨S32x1024, .i32⟩
  | 19 => ⟨S_, .i32⟩
  | 20 => ⟨S32x1024, .i32⟩
  | 21 => ⟨S32x1024, .i32⟩
  | 22 => ⟨S32x1024, .i32⟩
  | 23 => ⟨S_, .i32⟩
  | 24 => ⟨S32x1024, .i32⟩
  | 25 => ⟨S32x1024, .i32⟩
  | 26 => ⟨S_, .i32⟩
  | 27 => ⟨S32x1024, .i32⟩
  | 28 => ⟨S32x1024, .i32⟩
  | 29 => ⟨S32x1024, .f32⟩
  | 30 => ⟨S_, .f32⟩
  | 31 => ⟨S32x1024, .f32⟩
  | 32 => ⟨S32x1024, .f32⟩
  | 33 => ⟨S1x1, .f32⟩
  | 34 => ⟨S32x1024, .f32⟩
  | 35 => ⟨S32x1024, .f32⟩
  | 36 => ⟨S32x1024, .f32⟩
  | 37 => ⟨S32x1024, .f32⟩
  | 38 => ⟨S32x1024, .f32⟩
  | 39 => ⟨S32x1024, .f32⟩
  | 40 => ⟨S32x1024, .i32⟩
  | 41 => ⟨S32x1024, .f32⟩
  | 42 => ⟨S32x1024, .i32⟩
  | 43 => ⟨S32x1024, .i32⟩
  | 44 => ⟨S32x1024, .i32⟩
  | 45 => ⟨S32x1024, .i32⟩
  | 46 => ⟨S32x256, .i32⟩
  | 47 => ⟨S32, .i32⟩
  | 48 => ⟨S32x1, .i32⟩
  | 49 => ⟨S_, .i32⟩
  | 50 => ⟨S32x1, .i32⟩
  | 51 => ⟨S32x1, .i32⟩
  | 52 => ⟨S32x1024, .i32⟩
  | 53 => ⟨S32x1024, .i32⟩
  | 54 => ⟨S32768, .i32⟩
  | 55 => ⟨S32768, .f32⟩
  | 56 => ⟨S32768, .f32⟩
  | 57 => ⟨S32x1024, .f32⟩
  | _ => ⟨S32x3x512x512, .f32⟩

abbrev hbmTy (i : Nat) : BufTy := match i / 128 with
  | 0 => hbmTy0_0 i
  | 1 => hbmTy0_1 i
  | 2 => hbmTy0_2 i
  | 3 => hbmTy0_3 i
  | _ => ⟨S32x3x512x512, .f32⟩

abbrev bufTy : (tb : Table) → Fin (nBuf tb) → BufTy
  | .hbm, ⟨i, _⟩ => hbmTy i
  | .local .tc .vmem, ⟨0, _⟩ => ⟨S1x3x512x512, .f32⟩
  | .local .tc .vmem, ⟨1, _⟩ => ⟨S1x3x512x512, .f32⟩
  | .local .tc .vmem, ⟨2, _⟩ => ⟨S512x3072, .bf16⟩
  | .local .tc .vmem, ⟨3, _⟩ => ⟨S512x3072, .bf16⟩
  | .local .tc .vmem, ⟨4, _⟩ => ⟨S3072x512, .bf16⟩
  | .local .tc .vmem, ⟨5, _⟩ => ⟨S3072x512, .bf16⟩
  | .local .tc .vmem, ⟨6, _⟩ => ⟨S32x1536, .bf16⟩
  | .local .tc .vmem, ⟨7, _⟩ => ⟨S1536x32, .bf16⟩
  | .local .tc .vmem, ⟨8, _⟩ => ⟨S8x96, .bf16⟩
  | .local .tc .vmem, ⟨9, _⟩ => ⟨S864x16, .bf16⟩
  | .local .tc .vmem, ⟨10, _⟩ => ⟨S1x3x512x512, .f32⟩
  | .local .tc .vmem, ⟨11, _⟩ => ⟨S1x3x512x512, .f32⟩
  | .local .tc .vmem, ⟨12, _⟩ => ⟨S1x32x32, .f32⟩
  | .local .tc .vmem, ⟨13, _⟩ => ⟨S1x32x32, .f32⟩
  | .local .tc .vmem, ⟨14, _⟩ => ⟨S1x1x16, .f32⟩
  | .local .tc .vmem, ⟨15, _⟩ => ⟨S1x1x16, .f32⟩
  | .local .tc .vmem, ⟨16, _⟩ => ⟨S1x1x1024, .f32⟩
  | .local .tc .vmem, ⟨17, _⟩ => ⟨S1x1x1024, .f32⟩
  | .local .tc .vmem, ⟨18, _⟩ => ⟨S1x1024x1, .f32⟩
  | .local .tc .vmem, ⟨19, _⟩ => ⟨S1x1024x1, .f32⟩
  | .local .scVector .vmem, ⟨0, _⟩ => ⟨S32768, .f32⟩
  | .local .scVector .vmem, ⟨1, _⟩ => ⟨S1024, .i32⟩
  | .local .scVector .vmem, ⟨2, _⟩ => ⟨S1024, .f32⟩
  | _, _ => ⟨S32x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_cst_3 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_4 : Ref sig .tc := ⟨.hbm, 17, rfl⟩
abbrev main_v5 : Ref sig .tc := ⟨.hbm, 18, rfl⟩
abbrev main_v6 : Ref sig .tc := ⟨.hbm, 19, rfl⟩
abbrev main_c_5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_6 : Ref sig .tc := ⟨.hbm, 26, rfl⟩
abbrev main_v12 : Ref sig .tc := ⟨.hbm, 27, rfl⟩
abbrev main_v13 : Ref sig .tc := ⟨.hbm, 28, rfl⟩
abbrev main_c_7 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43_0 : Ref sig .tc := ⟨.hbm, 60, rfl⟩
abbrev main_v43_1 : Ref sig .tc := ⟨.hbm, 61, rfl⟩
abbrev main_v43_2 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_c_15 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_cst_0 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_v7 : Ref sig .tc := ⟨.hbm, 93, rfl⟩
abbrev main_call0_cst_1 : Ref sig .tc := ⟨.hbm, 94, rfl⟩
abbrev main_call0_v8 : Ref sig .tc := ⟨.hbm, 95, rfl⟩
abbrev main_call0_cst_2 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_call0_cst_3 : Ref sig .tc := ⟨.hbm, 100, rfl⟩
abbrev main_call0_v12 : Ref sig .tc := ⟨.hbm, 101, rfl⟩
abbrev main_call0_cst_4 : Ref sig .tc := ⟨.hbm, 102, rfl⟩
abbrev main_call0_call0_v0 : Ref sig .tc := ⟨.hbm, 103, rfl⟩
abbrev main_call0_call0_v1 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_16 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_call1_cst : Ref sig .tc := ⟨.hbm, 122, rfl⟩
abbrev main_call1_v0 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_17 : Ref sig .tc := ⟨.hbm, 133, rfl⟩
abbrev main_v83 : Ref sig .tc := ⟨.hbm, 134, rfl⟩
abbrev main_cst_18 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_19 : Ref sig .tc := ⟨.hbm, 141, rfl⟩
abbrev main_v89 : Ref sig .tc := ⟨.hbm, 142, rfl⟩
abbrev main_v90 : Ref sig .tc := ⟨.hbm, 143, rfl⟩
abbrev main_cst_20 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_c_21 : Ref sig .tc := ⟨.hbm, 150, rfl⟩
abbrev main_c_22 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_c_23 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_24 : Ref sig .tc := ⟨.hbm, 160, rfl⟩
abbrev main_cst_25 : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_v7 : Ref sig .tc := ⟨.hbm, 169, rfl⟩
abbrev main_call2_v8 : Ref sig .tc := ⟨.hbm, 170, rfl⟩
abbrev main_call2_v9 : Ref sig .tc := ⟨.hbm, 171, rfl⟩
abbrev main_call2_c : Ref sig .tc := ⟨.hbm, 172, rfl⟩
abbrev main_call2_v10 : Ref sig .tc := ⟨.hbm, 173, rfl⟩
abbrev main_call2_v11 : Ref sig .tc := ⟨.hbm, 174, rfl⟩
abbrev main_call2_c_0 : Ref sig .tc := ⟨.hbm, 175, rfl⟩
abbrev main_call2_v12 : Ref sig .tc := ⟨.hbm, 176, rfl⟩
abbrev main_call2_v13 : Ref sig .tc := ⟨.hbm, 177, rfl⟩
abbrev main_call2_v14 : Ref sig .tc := ⟨.hbm, 178, rfl⟩
abbrev main_call2_c_1 : Ref sig .tc := ⟨.hbm, 179, rfl⟩
abbrev main_call2_v15 : Ref sig .tc := ⟨.hbm, 180, rfl⟩
abbrev main_call2_v16 : Ref sig .tc := ⟨.hbm, 181, rfl⟩
abbrev main_call2_v17 : Ref sig .tc := ⟨.hbm, 182, rfl⟩
abbrev main_call2_v18 : Ref sig .tc := ⟨.hbm, 183, rfl⟩
abbrev main_call2_call0_v0 : Ref sig .tc := ⟨.hbm, 184, rfl⟩
abbrev main_call2_call0_c : Ref sig .tc := ⟨.hbm, 185, rfl⟩
abbrev main_call2_call0_v1 : Ref sig .tc := ⟨.hbm, 186, rfl⟩
abbrev main_call2_call0_v2 : Ref sig .tc := ⟨.hbm, 187, rfl⟩
abbrev main_call2_call0_v3 : Ref sig .tc := ⟨.hbm, 188, rfl⟩
abbrev main_call2_call0_v4 : Ref sig .tc := ⟨.hbm, 189, rfl⟩
abbrev main_call2_call0_v5 : Ref sig .tc := ⟨.hbm, 190, rfl⟩
abbrev main_call2_call0_v6 : Ref sig .tc := ⟨.hbm, 191, rfl⟩
abbrev main_call2_call0_c_0 : Ref sig .tc := ⟨.hbm, 192, rfl⟩
abbrev main_call2_call0_v7 : Ref sig .tc := ⟨.hbm, 193, rfl⟩
abbrev main_call2_call0_v8 : Ref sig .tc := ⟨.hbm, 194, rfl⟩
abbrev main_call2_call0_c_1 : Ref sig .tc := ⟨.hbm, 195, rfl⟩
abbrev main_call2_call0_v9 : Ref sig .tc := ⟨.hbm, 196, rfl⟩
abbrev main_call2_call0_v10 : Ref sig .tc := ⟨.hbm, 197, rfl⟩
abbrev main_call2_call0_v11 : Ref sig .tc := ⟨.hbm, 198, rfl⟩
abbrev main_call2_call0_v12 : Ref sig .tc := ⟨.hbm, 199, rfl⟩
abbrev main_call2_call0_v13 : Ref sig .tc := ⟨.hbm, 200, rfl⟩
abbrev main_call2_call0_c_2 : Ref sig .tc := ⟨.hbm, 201, rfl⟩
abbrev main_call2_call0_v14 : Ref sig .tc := ⟨.hbm, 202, rfl⟩
abbrev main_call2_call0_v15 : Ref sig .tc := ⟨.hbm, 203, rfl⟩
abbrev main_call2_call0_c_3 : Ref sig .tc := ⟨.hbm, 204, rfl⟩
abbrev main_call2_call0_v16 : Ref sig .tc := ⟨.hbm, 205, rfl⟩
abbrev main_call2_call0_v17 : Ref sig .tc := ⟨.hbm, 206, rfl⟩
abbrev main_call2_call0_v18 : Ref sig .tc := ⟨.hbm, 207, rfl⟩
abbrev main_call2_call0_v19 : Ref sig .tc := ⟨.hbm, 208, rfl⟩
abbrev main_call2_call0_v20 : Ref sig .tc := ⟨.hbm, 209, rfl⟩
abbrev main_call2_call0_c_4 : Ref sig .tc := ⟨.hbm, 210, rfl⟩
abbrev main_call2_call0_v21 : Ref sig .tc := ⟨.hbm, 211, rfl⟩
abbrev main_call2_call0_v22 : Ref sig .tc := ⟨.hbm, 212, rfl⟩
abbrev main_call2_call0_c_5 : Ref sig .tc := ⟨.hbm, 213, rfl⟩
abbrev main_call2_call0_v23 : Ref sig .tc := ⟨.hbm, 214, rfl⟩
abbrev main_call2_call0_v24 : Ref sig .tc := ⟨.hbm, 215, rfl⟩
abbrev main_call2_call0_v25 : Ref sig .tc := ⟨.hbm, 216, rfl⟩
abbrev main_call2_call0_v26 : Ref sig .tc := ⟨.hbm, 217, rfl⟩
abbrev main_call2_call0_v27 : Ref sig .tc := ⟨.hbm, 218, rfl⟩
abbrev main_call2_call0_c_6 : Ref sig .tc := ⟨.hbm, 219, rfl⟩
abbrev main_call2_call0_v28 : Ref sig .tc := ⟨.hbm, 220, rfl⟩
abbrev main_call2_call0_v29 : Ref sig .tc := ⟨.hbm, 221, rfl⟩
abbrev main_call2_call0_c_7 : Ref sig .tc := ⟨.hbm, 222, rfl⟩
abbrev main_call2_call0_v30 : Ref sig .tc := ⟨.hbm, 223, rfl⟩
abbrev main_call2_call0_v31 : Ref sig .tc := ⟨.hbm, 224, rfl⟩
abbrev main_call2_call0_v32 : Ref sig .tc := ⟨.hbm, 225, rfl⟩
abbrev main_call2_call0_v33 : Ref sig .tc := ⟨.hbm, 226, rfl⟩
abbrev main_call2_call0_v34 : Ref sig .tc := ⟨.hbm, 227, rfl⟩
abbrev main_call2_call0_v35 : Ref sig .tc := ⟨.hbm, 228, rfl⟩
abbrev main_call2_call0_v36 : Ref sig .tc := ⟨.hbm, 229, rfl⟩
abbrev main_call2_call0_v37 : Ref sig .tc := ⟨.hbm, 230, rfl⟩
abbrev main_call2_call0_c_8 : Ref sig .tc := ⟨.hbm, 231, rfl⟩
abbrev main_call2_call0_v38 : Ref sig .tc := ⟨.hbm, 232, rfl⟩
abbrev main_call2_call0_v39 : Ref sig .tc := ⟨.hbm, 233, rfl⟩
abbrev main_call2_call0_v40 : Ref sig .tc := ⟨.hbm, 234, rfl⟩
abbrev main_call2_call0_c_9 : Ref sig .tc := ⟨.hbm, 235, rfl⟩
abbrev main_call2_call0_v41 : Ref sig .tc := ⟨.hbm, 236, rfl⟩
abbrev main_call2_call0_v42 : Ref sig .tc := ⟨.hbm, 237, rfl⟩
abbrev main_call2_call0_c_10 : Ref sig .tc := ⟨.hbm, 238, rfl⟩
abbrev main_call2_call0_v43 : Ref sig .tc := ⟨.hbm, 239, rfl⟩
abbrev main_call2_call0_v44 : Ref sig .tc := ⟨.hbm, 240, rfl⟩
abbrev main_call2_call0_v45 : Ref sig .tc := ⟨.hbm, 241, rfl⟩
abbrev main_call2_call0_v46 : Ref sig .tc := ⟨.hbm, 242, rfl⟩
abbrev main_call2_call0_v47 : Ref sig .tc := ⟨.hbm, 243, rfl⟩
abbrev main_call2_call0_c_11 : Ref sig .tc := ⟨.hbm, 244, rfl⟩
abbrev main_call2_call0_v48 : Ref sig .tc := ⟨.hbm, 245, rfl⟩
abbrev main_call2_call0_v49 : Ref sig .tc := ⟨.hbm, 246, rfl⟩
abbrev main_call2_call0_c_12 : Ref sig .tc := ⟨.hbm, 247, rfl⟩
abbrev main_call2_call0_v50 : Ref sig .tc := ⟨.hbm, 248, rfl⟩
abbrev main_call2_call0_v51 : Ref sig .tc := ⟨.hbm, 249, rfl⟩
abbrev main_call2_call0_v52 : Ref sig .tc := ⟨.hbm, 250, rfl⟩
abbrev main_call2_call0_v53 : Ref sig .tc := ⟨.hbm, 251, rfl⟩
abbrev main_call2_call0_v54 : Ref sig .tc := ⟨.hbm, 252, rfl⟩
abbrev main_call2_call0_c_13 : Ref sig .tc := ⟨.hbm, 253, rfl⟩
abbrev main_call2_call0_v55 : Ref sig .tc := ⟨.hbm, 254, rfl⟩
abbrev main_call2_call0_v56 : Ref sig .tc := ⟨.hbm, 255, rfl⟩
abbrev main_call2_call0_c_14 : Ref sig .tc := ⟨.hbm, 256, rfl⟩
abbrev main_call2_call0_v57 : Ref sig .tc := ⟨.hbm, 257, rfl⟩
abbrev main_call2_call0_v58 : Ref sig .tc := ⟨.hbm, 258, rfl⟩
abbrev main_call2_call0_v59 : Ref sig .tc := ⟨.hbm, 259, rfl⟩
abbrev main_call2_call0_v60 : Ref sig .tc := ⟨.hbm, 260, rfl⟩
abbrev main_call2_call0_v61 : Ref sig .tc := ⟨.hbm, 261, rfl⟩
abbrev main_call2_call0_c_15 : Ref sig .tc := ⟨.hbm, 262, rfl⟩
abbrev main_call2_call0_v62 : Ref sig .tc := ⟨.hbm, 263, rfl⟩
abbrev main_call2_call0_v63 : Ref sig .tc := ⟨.hbm, 264, rfl⟩
abbrev main_call2_call0_c_16 : Ref sig .tc := ⟨.hbm, 265, rfl⟩
abbrev main_call2_call0_v64 : Ref sig .tc := ⟨.hbm, 266, rfl⟩
abbrev main_call2_call0_v65 : Ref sig .tc := ⟨.hbm, 267, rfl⟩
abbrev main_call2_call0_v66 : Ref sig .tc := ⟨.hbm, 268, rfl⟩
abbrev main_call2_call0_v67 : Ref sig .tc := ⟨.hbm, 269, rfl⟩
abbrev main_call2_call0_v68 : Ref sig .tc := ⟨.hbm, 270, rfl⟩
abbrev main_call2_call0_v69 : Ref sig .tc := ⟨.hbm, 271, rfl⟩
abbrev main_call2_call0_v70 : Ref sig .tc := ⟨.hbm, 272, rfl⟩
abbrev main_call2_call0_v71 : Ref sig .tc := ⟨.hbm, 273, rfl⟩
abbrev main_call2_call0_c_17 : Ref sig .tc := ⟨.hbm, 274, rfl⟩
abbrev main_call2_call0_v72 : Ref sig .tc := ⟨.hbm, 275, rfl⟩
abbrev main_call2_call0_v73 : Ref sig .tc := ⟨.hbm, 276, rfl⟩
abbrev main_call2_call0_v74 : Ref sig .tc := ⟨.hbm, 277, rfl⟩
abbrev main_call2_call0_c_18 : Ref sig .tc := ⟨.hbm, 278, rfl⟩
abbrev main_call2_call0_v75 : Ref sig .tc := ⟨.hbm, 279, rfl⟩
abbrev main_call2_call0_v76 : Ref sig .tc := ⟨.hbm, 280, rfl⟩
abbrev main_call2_call0_c_19 : Ref sig .tc := ⟨.hbm, 281, rfl⟩
abbrev main_call2_call0_v77 : Ref sig .tc := ⟨.hbm, 282, rfl⟩
abbrev main_call2_call0_v78 : Ref sig .tc := ⟨.hbm, 283, rfl⟩
abbrev main_call2_call0_v79 : Ref sig .tc := ⟨.hbm, 284, rfl⟩
abbrev main_call2_call0_v80 : Ref sig .tc := ⟨.hbm, 285, rfl⟩
abbrev main_call2_call0_v81 : Ref sig .tc := ⟨.hbm, 286, rfl⟩
abbrev main_call2_call0_c_20 : Ref sig .tc := ⟨.hbm, 287, rfl⟩
abbrev main_call2_call0_v82 : Ref sig .tc := ⟨.hbm, 288, rfl⟩
abbrev main_call2_call0_v83 : Ref sig .tc := ⟨.hbm, 289, rfl⟩
abbrev main_call2_call0_c_21 : Ref sig .tc := ⟨.hbm, 290, rfl⟩
abbrev main_call2_call0_v84 : Ref sig .tc := ⟨.hbm, 291, rfl⟩
abbrev main_call2_call0_v85 : Ref sig .tc := ⟨.hbm, 292, rfl⟩
abbrev main_call2_call0_v86 : Ref sig .tc := ⟨.hbm, 293, rfl⟩
abbrev main_call2_call0_v87 : Ref sig .tc := ⟨.hbm, 294, rfl⟩
abbrev main_call2_call0_v88 : Ref sig .tc := ⟨.hbm, 295, rfl⟩
abbrev main_call2_call0_c_22 : Ref sig .tc := ⟨.hbm, 296, rfl⟩
abbrev main_call2_call0_v89 : Ref sig .tc := ⟨.hbm, 297, rfl⟩
abbrev main_call2_call0_v90 : Ref sig .tc := ⟨.hbm, 298, rfl⟩
abbrev main_call2_call0_c_23 : Ref sig .tc := ⟨.hbm, 299, rfl⟩
abbrev main_call2_call0_v91 : Ref sig .tc := ⟨.hbm, 300, rfl⟩
abbrev main_call2_call0_v92 : Ref sig .tc := ⟨.hbm, 301, rfl⟩
abbrev main_call2_call0_v93 : Ref sig .tc := ⟨.hbm, 302, rfl⟩
abbrev main_call2_call0_v94 : Ref sig .tc := ⟨.hbm, 303, rfl⟩
abbrev main_call2_call0_v95 : Ref sig .tc := ⟨.hbm, 304, rfl⟩
abbrev main_call2_call0_c_24 : Ref sig .tc := ⟨.hbm, 305, rfl⟩
abbrev main_call2_call0_v96 : Ref sig .tc := ⟨.hbm, 306, rfl⟩
abbrev main_call2_call0_v97 : Ref sig .tc := ⟨.hbm, 307, rfl⟩
abbrev main_call2_call0_c_25 : Ref sig .tc := ⟨.hbm, 308, rfl⟩
abbrev main_call2_call0_v98 : Ref sig .tc := ⟨.hbm, 309, rfl⟩
abbrev main_call2_call0_v99 : Ref sig .tc := ⟨.hbm, 310, rfl⟩
abbrev main_call2_call0_v100 : Ref sig .tc := ⟨.hbm, 311, rfl⟩
abbrev main_call2_call0_v101 : Ref sig .tc := ⟨.hbm, 312, rfl⟩
abbrev main_call2_call0_v102 : Ref sig .tc := ⟨.hbm, 313, rfl⟩
abbrev main_call2_call0_v103 : Ref sig .tc := ⟨.hbm, 314, rfl⟩
abbrev main_call2_call0_v104 : Ref sig .tc := ⟨.hbm, 315, rfl⟩
abbrev main_call2_call0_v105 : Ref sig .tc := ⟨.hbm, 316, rfl⟩
abbrev main_call2_call0_c_26 : Ref sig .tc := ⟨.hbm, 317, rfl⟩
abbrev main_call2_call0_v106 : Ref sig .tc := ⟨.hbm, 318, rfl⟩
abbrev main_call2_call0_v107 : Ref sig .tc := ⟨.hbm, 319, rfl⟩
abbrev main_call2_call0_v108 : Ref sig .tc := ⟨.hbm, 320, rfl⟩
abbrev main_call2_call0_c_27 : Ref sig .tc := ⟨.hbm, 321, rfl⟩
abbrev main_call2_call0_v109 : Ref sig .tc := ⟨.hbm, 322, rfl⟩
abbrev main_call2_call0_v110 : Ref sig .tc := ⟨.hbm, 323, rfl⟩
abbrev main_call2_call0_c_28 : Ref sig .tc := ⟨.hbm, 324, rfl⟩
abbrev main_call2_call0_v111 : Ref sig .tc := ⟨.hbm, 325, rfl⟩
abbrev main_call2_call0_v112 : Ref sig .tc := ⟨.hbm, 326, rfl⟩
abbrev main_call2_call0_v113 : Ref sig .tc := ⟨.hbm, 327, rfl⟩
abbrev main_call2_call0_v114 : Ref sig .tc := ⟨.hbm, 328, rfl⟩
abbrev main_call2_call0_v115 : Ref sig .tc := ⟨.hbm, 329, rfl⟩
abbrev main_call2_call0_c_29 : Ref sig .tc := ⟨.hbm, 330, rfl⟩
abbrev main_call2_call0_v116 : Ref sig .tc := ⟨.hbm, 331, rfl⟩
abbrev main_call2_call0_v117 : Ref sig .tc := ⟨.hbm, 332, rfl⟩
abbrev main_call2_call0_c_30 : Ref sig .tc := ⟨.hbm, 333, rfl⟩
abbrev main_call2_call0_v118 : Ref sig .tc := ⟨.hbm, 334, rfl⟩
abbrev main_call2_call0_v119 : Ref sig .tc := ⟨.hbm, 335, rfl⟩
abbrev main_call2_call0_v120 : Ref sig .tc := ⟨.hbm, 336, rfl⟩
abbrev main_call2_call0_v121 : Ref sig .tc := ⟨.hbm, 337, rfl⟩
abbrev main_call2_call0_v122 : Ref sig .tc := ⟨.hbm, 338, rfl⟩
abbrev main_call2_call0_c_31 : Ref sig .tc := ⟨.hbm, 339, rfl⟩
abbrev main_call2_call0_v123 : Ref sig .tc := ⟨.hbm, 340, rfl⟩
abbrev main_call2_call0_v124 : Ref sig .tc := ⟨.hbm, 341, rfl⟩
abbrev main_call2_call0_c_32 : Ref sig .tc := ⟨.hbm, 342, rfl⟩
abbrev main_call2_call0_v125 : Ref sig .tc := ⟨.hbm, 343, rfl⟩
abbrev main_call2_call0_v126 : Ref sig .tc := ⟨.hbm, 344, rfl⟩
abbrev main_call2_call0_v127 : Ref sig .tc := ⟨.hbm, 345, rfl⟩
abbrev main_call2_call0_v128 : Ref sig .tc := ⟨.hbm, 346, rfl⟩
abbrev main_call2_call0_v129 : Ref sig .tc := ⟨.hbm, 347, rfl⟩
abbrev main_call2_call0_c_33 : Ref sig .tc := ⟨.hbm, 348, rfl⟩
abbrev main_call2_call0_v130 : Ref sig .tc := ⟨.hbm, 349, rfl⟩
abbrev main_call2_call0_v131 : Ref sig .tc := ⟨.hbm, 350, rfl⟩
abbrev main_call2_call0_c_34 : Ref sig .tc := ⟨.hbm, 351, rfl⟩
abbrev main_call2_call0_v132 : Ref sig .tc := ⟨.hbm, 352, rfl⟩
abbrev main_call2_call0_v133 : Ref sig .tc := ⟨.hbm, 353, rfl⟩
abbrev main_call2_call0_v134 : Ref sig .tc := ⟨.hbm, 354, rfl⟩
abbrev main_call2_call0_v135 : Ref sig .tc := ⟨.hbm, 355, rfl⟩
abbrev main_call2_call0_v136 : Ref sig .tc := ⟨.hbm, 356, rfl⟩
abbrev main_call2_call0_v137 : Ref sig .tc := ⟨.hbm, 357, rfl⟩
abbrev main_call2_call0_v138 : Ref sig .tc := ⟨.hbm, 358, rfl⟩
abbrev main_call2_call0_v139 : Ref sig .tc := ⟨.hbm, 359, rfl⟩
abbrev main_call2_call0_c_35 : Ref sig .tc := ⟨.hbm, 360, rfl⟩
abbrev main_call2_call0_v140 : Ref sig .tc := ⟨.hbm, 361, rfl⟩
abbrev main_call2_call0_v141 : Ref sig .tc := ⟨.hbm, 362, rfl⟩
abbrev main_call2_call0_v142 : Ref sig .tc := ⟨.hbm, 363, rfl⟩
abbrev main_call2_call0_c_36 : Ref sig .tc := ⟨.hbm, 364, rfl⟩
abbrev main_call2_call0_v143 : Ref sig .tc := ⟨.hbm, 365, rfl⟩
abbrev main_call2_call0_v144 : Ref sig .tc := ⟨.hbm, 366, rfl⟩
abbrev main_call2_call0_c_37 : Ref sig .tc := ⟨.hbm, 367, rfl⟩
abbrev main_call2_call0_v145 : Ref sig .tc := ⟨.hbm, 368, rfl⟩
abbrev main_call2_call0_v146 : Ref sig .tc := ⟨.hbm, 369, rfl⟩
abbrev main_call2_call0_v147 : Ref sig .tc := ⟨.hbm, 370, rfl⟩
abbrev main_call2_call0_v148 : Ref sig .tc := ⟨.hbm, 371, rfl⟩
abbrev main_call2_call0_v149 : Ref sig .tc := ⟨.hbm, 372, rfl⟩
abbrev main_call2_call0_c_38 : Ref sig .tc := ⟨.hbm, 373, rfl⟩
abbrev main_call2_call0_v150 : Ref sig .tc := ⟨.hbm, 374, rfl⟩
abbrev main_call2_call0_v151 : Ref sig .tc := ⟨.hbm, 375, rfl⟩
abbrev main_call2_call0_c_39 : Ref sig .tc := ⟨.hbm, 376, rfl⟩
abbrev main_call2_call0_v152 : Ref sig .tc := ⟨.hbm, 377, rfl⟩
abbrev main_call2_call0_v153 : Ref sig .tc := ⟨.hbm, 378, rfl⟩
abbrev main_call2_call0_v154 : Ref sig .tc := ⟨.hbm, 379, rfl⟩
abbrev main_call2_call0_v155 : Ref sig .tc := ⟨.hbm, 380, rfl⟩
abbrev main_call2_call0_v156 : Ref sig .tc := ⟨.hbm, 381, rfl⟩
abbrev main_call2_call0_c_40 : Ref sig .tc := ⟨.hbm, 382, rfl⟩
abbrev main_call2_call0_v157 : Ref sig .tc := ⟨.hbm, 383, rfl⟩
abbrev main_call2_call0_v158 : Ref sig .tc := ⟨.hbm, 384, rfl⟩
abbrev main_call2_call0_c_41 : Ref sig .tc := ⟨.hbm, 385, rfl⟩
abbrev main_call2_call0_v159 : Ref sig .tc := ⟨.hbm, 386, rfl⟩
abbrev main_call2_call0_v160 : Ref sig .tc := ⟨.hbm, 387, rfl⟩
abbrev main_call2_call0_v161 : Ref sig .tc := ⟨.hbm, 388, rfl⟩
abbrev main_call2_call0_v162 : Ref sig .tc := ⟨.hbm, 389, rfl⟩
abbrev main_call2_call0_v163 : Ref sig .tc := ⟨.hbm, 390, rfl⟩
abbrev main_call2_call0_c_42 : Ref sig .tc := ⟨.hbm, 391, rfl⟩
abbrev main_call2_call0_v164 : Ref sig .tc := ⟨.hbm, 392, rfl⟩
abbrev main_call2_call0_v165 : Ref sig .tc := ⟨.hbm, 393, rfl⟩
abbrev main_call2_call0_c_43 : Ref sig .tc := ⟨.hbm, 394, rfl⟩
abbrev main_call2_call0_v166 : Ref sig .tc := ⟨.hbm, 395, rfl⟩
abbrev main_call2_call0_v167 : Ref sig .tc := ⟨.hbm, 396, rfl⟩
abbrev main_call2_call0_v168 : Ref sig .tc := ⟨.hbm, 397, rfl⟩
abbrev main_call2_call0_v169 : Ref sig .tc := ⟨.hbm, 398, rfl⟩
abbrev main_call2_call0_v170 : Ref sig .tc := ⟨.hbm, 399, rfl⟩
abbrev main_call2_v19_0 : Ref sig .tc := ⟨.hbm, 400, rfl⟩
abbrev main_call2_call0_v172 : Ref sig .tc := ⟨.hbm, 401, rfl⟩
abbrev main_call2_call0_v173 : Ref sig .tc := ⟨.hbm, 402, rfl⟩
abbrev main_call2_call0_c_44 : Ref sig .tc := ⟨.hbm, 403, rfl⟩
abbrev main_call2_call0_v174 : Ref sig .tc := ⟨.hbm, 404, rfl⟩
abbrev main_call2_v19_1 : Ref sig .tc := ⟨.hbm, 405, rfl⟩
abbrev main_call2_v20 : Ref sig .tc := ⟨.hbm, 406, rfl⟩
abbrev main_call2_c_2 : Ref sig .tc := ⟨.hbm, 407, rfl⟩
abbrev main_call2_v21 : Ref sig .tc := ⟨.hbm, 408, rfl⟩
abbrev main_call2_v22 : Ref sig .tc := ⟨.hbm, 409, rfl⟩
abbrev main_call2_c_3 : Ref sig .tc := ⟨.hbm, 410, rfl⟩
abbrev main_call2_v23 : Ref sig .tc := ⟨.hbm, 411, rfl⟩
abbrev main_call2_v24 : Ref sig .tc := ⟨.hbm, 412, rfl⟩
abbrev main_call2_v25 : Ref sig .tc := ⟨.hbm, 413, rfl⟩
abbrev main_call2_cst : Ref sig .tc := ⟨.hbm, 414, rfl⟩
abbrev main_call2_v26 : Ref sig .tc := ⟨.hbm, 415, rfl⟩
abbrev main_call2_v27 : Ref sig .tc := ⟨.hbm, 416, rfl⟩
abbrev main_call2_v28 : Ref sig .tc := ⟨.hbm, 417, rfl⟩
abbrev main_call2_v29 : Ref sig .tc := ⟨.hbm, 418, rfl⟩
abbrev main_call2_v30 : Ref sig .tc := ⟨.hbm, 419, rfl⟩
abbrev main_call2_v31 : Ref sig .tc := ⟨.hbm, 420, rfl⟩
abbrev main_call2_v32 : Ref sig .tc := ⟨.hbm, 421, rfl⟩
abbrev main_call2_v33 : Ref sig .tc := ⟨.hbm, 422, rfl⟩
abbrev main_v103 : Ref sig .tc := ⟨.hbm, 423, rfl⟩
abbrev main_call3_v0 : Ref sig .tc := ⟨.hbm, 424, rfl⟩
abbrev main_call3_v1_0 : Ref sig .tc := ⟨.hbm, 425, rfl⟩
abbrev main_v104 : Ref sig .tc := ⟨.hbm, 426, rfl⟩
abbrev main_call4_v0 : Ref sig .tc := ⟨.hbm, 427, rfl⟩
abbrev main_call4_v1_0 : Ref sig .tc := ⟨.hbm, 428, rfl⟩
abbrev main_v105 : Ref sig .tc := ⟨.hbm, 429, rfl⟩
abbrev main_v106 : Ref sig .tc := ⟨.hbm, 430, rfl⟩
abbrev main_v107 : Ref sig .tc := ⟨.hbm, 431, rfl⟩
abbrev main_v108 : Ref sig .tc := ⟨.hbm, 432, rfl⟩
abbrev main_c_26 : Ref sig .tc := ⟨.hbm, 433, rfl⟩
abbrev main_v109 : Ref sig .tc := ⟨.hbm, 434, rfl⟩
abbrev main_v110 : Ref sig .tc := ⟨.hbm, 435, rfl⟩
abbrev main_v111 : Ref sig .tc := ⟨.hbm, 436, rfl⟩
abbrev main_v112 : Ref sig .tc := ⟨.hbm, 437, rfl⟩
abbrev main_v113 : Ref sig .tc := ⟨.hbm, 438, rfl⟩
abbrev main_v114 : Ref sig .tc := ⟨.hbm, 439, rfl⟩
abbrev main_v115 : Ref sig .tc := ⟨.hbm, 440, rfl⟩
abbrev main_v116 : Ref sig .tc := ⟨.hbm, 441, rfl⟩
abbrev main_v114_scv : Ref sig .scVector := ⟨.hbm, 439, rfl⟩
abbrev main_v113_scv : Ref sig .scVector := ⟨.hbm, 438, rfl⟩
abbrev main_v115_scv : Ref sig .scVector := ⟨.hbm, 440, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S864x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x3x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]

def k2_chk1 (v3 : IVec S16 32) : Prop :=
  (∀ a x, ((![v3] : Fin 1 → IVec S16 32) a x).toNat < S32768.size a)
theorem k2_idx1_inb : ∀ (v3 : IVec S16 32) (k2_hw1 : k2_chk1 v3), ∀ a x, ((![v3] : Fin 1 → IVec S16 32) a x).toNat < S32768.size a := fun v3 k2_hw1 => k2_hw1

def k2_chk2 (v6 : IVec S16 32) : Prop :=
  (∀ a x, ((![v6] : Fin 1 → IVec S16 32) a x).toNat < S32768.size a)
theorem k2_idx2_inb : ∀ (v6 : IVec S16 32) (k2_hw2 : k2_chk2 v6), ∀ a x, ((![v6] : Fin 1 → IVec S16 32) a x).toNat < S32768.size a := fun v6 k2_hw2 => k2_hw2

def k2_chk3 (v9 : IVec S16 32) : Prop :=
  (∀ a x, ((![v9] : Fin 1 → IVec S16 32) a x).toNat < S32768.size a)
theorem k2_idx3_inb : ∀ (v9 : IVec S16 32) (k2_hw3 : k2_chk3 v9), ∀ a x, ((![v9] : Fin 1 → IVec S16 32) a x).toNat < S32768.size a := fun v9 k2_hw3 => k2_hw3

def k2_chk4 (v12 : IVec S16 32) : Prop :=
  (∀ a x, ((![v12] : Fin 1 → IVec S16 32) a x).toNat < S32768.size a)
theorem k2_idx4_inb : ∀ (v12 : IVec S16 32) (k2_hw4 : k2_chk4 v12), ∀ a x, ((![v12] : Fin 1 → IVec S16 32) a x).toNat < S32768.size a := fun v12 k2_hw4 => k2_hw4

def k2_chk5 (v15 : IVec S16 32) : Prop :=
  (∀ a x, ((![v15] : Fin 1 → IVec S16 32) a x).toNat < S32768.size a)
theorem k2_idx5_inb : ∀ (v15 : IVec S16 32) (k2_hw5 : k2_chk5 v15), ∀ a x, ((![v15] : Fin 1 → IVec S16 32) a x).toNat < S32768.size a := fun v15 k2_hw5 => k2_hw5

def k2_chk6 (v18 : IVec S16 32) : Prop :=
  (∀ a x, ((![v18] : Fin 1 → IVec S16 32) a x).toNat < S32768.size a)
theorem k2_idx6_inb : ∀ (v18 : IVec S16 32) (k2_hw6 : k2_chk6 v18), ∀ a x, ((![v18] : Fin 1 → IVec S16 32) a x).toNat < S32768.size a := fun v18 k2_hw6 => k2_hw6

def k2_chk7 (v21 : IVec S16 32) : Prop :=
  (∀ a x, ((![v21] : Fin 1 → IVec S16 32) a x).toNat < S32768.size a)
theorem k2_idx7_inb : ∀ (v21 : IVec S16 32) (k2_hw7 : k2_chk7 v21), ∀ a x, ((![v21] : Fin 1 → IVec S16 32) a x).toNat < S32768.size a := fun v21 k2_hw7 => k2_hw7

def k2_chk8 (v24 : IVec S16 32) : Prop :=
  (∀ a x, ((![v24] : Fin 1 → IVec S16 32) a x).toNat < S32768.size a)
theorem k2_idx8_inb : ∀ (v24 : IVec S16 32) (k2_hw8 : k2_chk8 v24), ∀ a x, ((![v24] : Fin 1 → IVec S16 32) a x).toNat < S32768.size a := fun v24 k2_hw8 => k2_hw8

def k2_chk9 (v27 : IVec S16 32) : Prop :=
  (∀ a x, ((![v27] : Fin 1 → IVec S16 32) a x).toNat < S32768.size a)
theorem k2_idx9_inb : ∀ (v27 : IVec S16 32) (k2_hw9 : k2_chk9 v27), ∀ a x, ((![v27] : Fin 1 → IVec S16 32) a x).toNat < S32768.size a := fun v27 k2_hw9 => k2_hw9

def k2_chk10 (v30 : IVec S16 32) : Prop :=
  (∀ a x, ((![v30] : Fin 1 → IVec S16 32) a x).toNat < S32768.size a)
theorem k2_idx10_inb : ∀ (v30 : IVec S16 32) (k2_hw10 : k2_chk10 v30), ∀ a x, ((![v30] : Fin 1 → IVec S16 32) a x).toNat < S32768.size a := fun v30 k2_hw10 => k2_hw10

def k2_chk11 (v33 : IVec S16 32) : Prop :=
  (∀ a x, ((![v33] : Fin 1 → IVec S16 32) a x).toNat < S32768.size a)
theorem k2_idx11_inb : ∀ (v33 : IVec S16 32) (k2_hw11 : k2_chk11 v33), ∀ a x, ((![v33] : Fin 1 → IVec S16 32) a x).toNat < S32768.size a := fun v33 k2_hw11 => k2_hw11

def k2_chk12 (v36 : IVec S16 32) : Prop :=
  (∀ a x, ((![v36] : Fin 1 → IVec S16 32) a x).toNat < S32768.size a)
theorem k2_idx12_inb : ∀ (v36 : IVec S16 32) (k2_hw12 : k2_chk12 v36), ∀ a x, ((![v36] : Fin 1 → IVec S16 32) a x).toNat < S32768.size a := fun v36 k2_hw12 => k2_hw12

def k2_chk13 (v39 : IVec S16 32) : Prop :=
  (∀ a x, ((![v39] : Fin 1 → IVec S16 32) a x).toNat < S32768.size a)
theorem k2_idx13_inb : ∀ (v39 : IVec S16 32) (k2_hw13 : k2_chk13 v39), ∀ a x, ((![v39] : Fin 1 → IVec S16 32) a x).toNat < S32768.size a := fun v39 k2_hw13 => k2_hw13

def k2_chk14 (v42 : IVec S16 32) : Prop :=
  (∀ a x, ((![v42] : Fin 1 → IVec S16 32) a x).toNat < S32768.size a)
theorem k2_idx14_inb : ∀ (v42 : IVec S16 32) (k2_hw14 : k2_chk14 v42), ∀ a x, ((![v42] : Fin 1 → IVec S16 32) a x).toNat < S32768.size a := fun v42 k2_hw14 => k2_hw14

def k2_chk15 (v45 : IVec S16 32) : Prop :=
  (∀ a x, ((![v45] : Fin 1 → IVec S16 32) a x).toNat < S32768.size a)
theorem k2_idx15_inb : ∀ (v45 : IVec S16 32) (k2_hw15 : k2_chk15 v45), ∀ a x, ((![v45] : Fin 1 → IVec S16 32) a x).toNat < S32768.size a := fun v45 k2_hw15 => k2_hw15

def k2_chk16 (v48 : IVec S16 32) : Prop :=
  (∀ a x, ((![v48] : Fin 1 → IVec S16 32) a x).toNat < S32768.size a)
theorem k2_idx16_inb : ∀ (v48 : IVec S16 32) (k2_hw16 : k2_chk16 v48), ∀ a x, ((![v48] : Fin 1 → IVec S16 32) a x).toNat < S32768.size a := fun v48 k2_hw16 => k2_hw16

def k2_chk17 (v51 : IVec S16 32) : Prop :=
  (∀ a x, ((![v51] : Fin 1 → IVec S16 32) a x).toNat < S32768.size a)
theorem k2_idx17_inb : ∀ (v51 : IVec S16 32) (k2_hw17 : k2_chk17 v51), ∀ a x, ((![v51] : Fin 1 → IVec S16 32) a x).toNat < S32768.size a := fun v51 k2_hw17 => k2_hw17

def k2_chk18 (v54 : IVec S16 32) : Prop :=
  (∀ a x, ((![v54] : Fin 1 → IVec S16 32) a x).toNat < S32768.size a)
theorem k2_idx18_inb : ∀ (v54 : IVec S16 32) (k2_hw18 : k2_chk18 v54), ∀ a x, ((![v54] : Fin 1 → IVec S16 32) a x).toNat < S32768.size a := fun v54 k2_hw18 => k2_hw18

def k2_chk19 (v57 : IVec S16 32) : Prop :=
  (∀ a x, ((![v57] : Fin 1 → IVec S16 32) a x).toNat < S32768.size a)
theorem k2_idx19_inb : ∀ (v57 : IVec S16 32) (k2_hw19 : k2_chk19 v57), ∀ a x, ((![v57] : Fin 1 → IVec S16 32) a x).toNat < S32768.size a := fun v57 k2_hw19 => k2_hw19

def k2_chk20 (v60 : IVec S16 32) : Prop :=
  (∀ a x, ((![v60] : Fin 1 → IVec S16 32) a x).toNat < S32768.size a)
theorem k2_idx20_inb : ∀ (v60 : IVec S16 32) (k2_hw20 : k2_chk20 v60), ∀ a x, ((![v60] : Fin 1 → IVec S16 32) a x).toNat < S32768.size a := fun v60 k2_hw20 => k2_hw20

def k2_chk21 (v63 : IVec S16 32) : Prop :=
  (∀ a x, ((![v63] : Fin 1 → IVec S16 32) a x).toNat < S32768.size a)
theorem k2_idx21_inb : ∀ (v63 : IVec S16 32) (k2_hw21 : k2_chk21 v63), ∀ a x, ((![v63] : Fin 1 → IVec S16 32) a x).toNat < S32768.size a := fun v63 k2_hw21 => k2_hw21

def k2_chk22 (v66 : IVec S16 32) : Prop :=
  (∀ a x, ((![v66] : Fin 1 → IVec S16 32) a x).toNat < S32768.size a)
theorem k2_idx22_inb : ∀ (v66 : IVec S16 32) (k2_hw22 : k2_chk22 v66), ∀ a x, ((![v66] : Fin 1 → IVec S16 32) a x).toNat < S32768.size a := fun v66 k2_hw22 => k2_hw22

def k2_chk23 (v69 : IVec S16 32) : Prop :=
  (∀ a x, ((![v69] : Fin 1 → IVec S16 32) a x).toNat < S32768.size a)
theorem k2_idx23_inb : ∀ (v69 : IVec S16 32) (k2_hw23 : k2_chk23 v69), ∀ a x, ((![v69] : Fin 1 → IVec S16 32) a x).toNat < S32768.size a := fun v69 k2_hw23 => k2_hw23

def k2_chk24 (v72 : IVec S16 32) : Prop :=
  (∀ a x, ((![v72] : Fin 1 → IVec S16 32) a x).toNat < S32768.size a)
theorem k2_idx24_inb : ∀ (v72 : IVec S16 32) (k2_hw24 : k2_chk24 v72), ∀ a x, ((![v72] : Fin 1 → IVec S16 32) a x).toNat < S32768.size a := fun v72 k2_hw24 => k2_hw24

def k2_chk25 (v75 : IVec S16 32) : Prop :=
  (∀ a x, ((![v75] : Fin 1 → IVec S16 32) a x).toNat < S32768.size a)
theorem k2_idx25_inb : ∀ (v75 : IVec S16 32) (k2_hw25 : k2_chk25 v75), ∀ a x, ((![v75] : Fin 1 → IVec S16 32) a x).toNat < S32768.size a := fun v75 k2_hw25 => k2_hw25

def k2_chk26 (v78 : IVec S16 32) : Prop :=
  (∀ a x, ((![v78] : Fin 1 → IVec S16 32) a x).toNat < S32768.size a)
theorem k2_idx26_inb : ∀ (v78 : IVec S16 32) (k2_hw26 : k2_chk26 v78), ∀ a x, ((![v78] : Fin 1 → IVec S16 32) a x).toNat < S32768.size a := fun v78 k2_hw26 => k2_hw26

def k2_chk27 (v81 : IVec S16 32) : Prop :=
  (∀ a x, ((![v81] : Fin 1 → IVec S16 32) a x).toNat < S32768.size a)
theorem k2_idx27_inb : ∀ (v81 : IVec S16 32) (k2_hw27 : k2_chk27 v81), ∀ a x, ((![v81] : Fin 1 → IVec S16 32) a x).toNat < S32768.size a := fun v81 k2_hw27 => k2_hw27

def k2_chk28 (v84 : IVec S16 32) : Prop :=
  (∀ a x, ((![v84] : Fin 1 → IVec S16 32) a x).toNat < S32768.size a)
theorem k2_idx28_inb : ∀ (v84 : IVec S16 32) (k2_hw28 : k2_chk28 v84), ∀ a x, ((![v84] : Fin 1 → IVec S16 32) a x).toNat < S32768.size a := fun v84 k2_hw28 => k2_hw28

def k2_chk29 (v87 : IVec S16 32) : Prop :=
  (∀ a x, ((![v87] : Fin 1 → IVec S16 32) a x).toNat < S32768.size a)
theorem k2_idx29_inb : ∀ (v87 : IVec S16 32) (k2_hw29 : k2_chk29 v87), ∀ a x, ((![v87] : Fin 1 → IVec S16 32) a x).toNat < S32768.size a := fun v87 k2_hw29 => k2_hw29

def k2_chk30 (v90 : IVec S16 32) : Prop :=
  (∀ a x, ((![v90] : Fin 1 → IVec S16 32) a x).toNat < S32768.size a)
theorem k2_idx30_inb : ∀ (v90 : IVec S16 32) (k2_hw30 : k2_chk30 v90), ∀ a x, ((![v90] : Fin 1 → IVec S16 32) a x).toNat < S32768.size a := fun v90 k2_hw30 => k2_hw30

def k2_chk31 (v93 : IVec S16 32) : Prop :=
  (∀ a x, ((![v93] : Fin 1 → IVec S16 32) a x).toNat < S32768.size a)
theorem k2_idx31_inb : ∀ (v93 : IVec S16 32) (k2_hw31 : k2_chk31 v93), ∀ a x, ((![v93] : Fin 1 → IVec S16 32) a x).toNat < S32768.size a := fun v93 k2_hw31 => k2_hw31

def k2_chk32 (v96 : IVec S16 32) : Prop :=
  (∀ a x, ((![v96] : Fin 1 → IVec S16 32) a x).toNat < S32768.size a)
theorem k2_idx32_inb : ∀ (v96 : IVec S16 32) (k2_hw32 : k2_chk32 v96), ∀ a x, ((![v96] : Fin 1 → IVec S16 32) a x).toNat < S32768.size a := fun v96 k2_hw32 => k2_hw32

def k2_chk33 (v99 : IVec S16 32) : Prop :=
  (∀ a x, ((![v99] : Fin 1 → IVec S16 32) a x).toNat < S32768.size a)
theorem k2_idx33_inb : ∀ (v99 : IVec S16 32) (k2_hw33 : k2_chk33 v99), ∀ a x, ((![v99] : Fin 1 → IVec S16 32) a x).toNat < S32768.size a := fun v99 k2_hw33 => k2_hw33

def k2_chk34 (v102 : IVec S16 32) : Prop :=
  (∀ a x, ((![v102] : Fin 1 → IVec S16 32) a x).toNat < S32768.size a)
theorem k2_idx34_inb : ∀ (v102 : IVec S16 32) (k2_hw34 : k2_chk34 v102), ∀ a x, ((![v102] : Fin 1 → IVec S16 32) a x).toNat < S32768.size a := fun v102 k2_hw34 => k2_hw34

def k2_chk35 (v105 : IVec S16 32) : Prop :=
  (∀ a x, ((![v105] : Fin 1 → IVec S16 32) a x).toNat < S32768.size a)
theorem k2_idx35_inb : ∀ (v105 : IVec S16 32) (k2_hw35 : k2_chk35 v105), ∀ a x, ((![v105] : Fin 1 → IVec S16 32) a x).toNat < S32768.size a := fun v105 k2_hw35 => k2_hw35

def k2_chk36 (v108 : IVec S16 32) : Prop :=
  (∀ a x, ((![v108] : Fin 1 → IVec S16 32) a x).toNat < S32768.size a)
theorem k2_idx36_inb : ∀ (v108 : IVec S16 32) (k2_hw36 : k2_chk36 v108), ∀ a x, ((![v108] : Fin 1 → IVec S16 32) a x).toNat < S32768.size a := fun v108 k2_hw36 => k2_hw36

def k2_chk37 (v111 : IVec S16 32) : Prop :=
  (∀ a x, ((![v111] : Fin 1 → IVec S16 32) a x).toNat < S32768.size a)
theorem k2_idx37_inb : ∀ (v111 : IVec S16 32) (k2_hw37 : k2_chk37 v111), ∀ a x, ((![v111] : Fin 1 → IVec S16 32) a x).toNat < S32768.size a := fun v111 k2_hw37 => k2_hw37

def k2_chk38 (v114 : IVec S16 32) : Prop :=
  (∀ a x, ((![v114] : Fin 1 → IVec S16 32) a x).toNat < S32768.size a)
theorem k2_idx38_inb : ∀ (v114 : IVec S16 32) (k2_hw38 : k2_chk38 v114), ∀ a x, ((![v114] : Fin 1 → IVec S16 32) a x).toNat < S32768.size a := fun v114 k2_hw38 => k2_hw38

def k2_chk39 (v117 : IVec S16 32) : Prop :=
  (∀ a x, ((![v117] : Fin 1 → IVec S16 32) a x).toNat < S32768.size a)
theorem k2_idx39_inb : ∀ (v117 : IVec S16 32) (k2_hw39 : k2_chk39 v117), ∀ a x, ((![v117] : Fin 1 → IVec S16 32) a x).toNat < S32768.size a := fun v117 k2_hw39 => k2_hw39

def k2_chk40 (v120 : IVec S16 32) : Prop :=
  (∀ a x, ((![v120] : Fin 1 → IVec S16 32) a x).toNat < S32768.size a)
theorem k2_idx40_inb : ∀ (v120 : IVec S16 32) (k2_hw40 : k2_chk40 v120), ∀ a x, ((![v120] : Fin 1 → IVec S16 32) a x).toNat < S32768.size a := fun v120 k2_hw40 => k2_hw40

def k2_chk41 (v123 : IVec S16 32) : Prop :=
  (∀ a x, ((![v123] : Fin 1 → IVec S16 32) a x).toNat < S32768.size a)
theorem k2_idx41_inb : ∀ (v123 : IVec S16 32) (k2_hw41 : k2_chk41 v123), ∀ a x, ((![v123] : Fin 1 → IVec S16 32) a x).toNat < S32768.size a := fun v123 k2_hw41 => k2_hw41

def k2_chk42 (v126 : IVec S16 32) : Prop :=
  (∀ a x, ((![v126] : Fin 1 → IVec S16 32) a x).toNat < S32768.size a)
theorem k2_idx42_inb : ∀ (v126 : IVec S16 32) (k2_hw42 : k2_chk42 v126), ∀ a x, ((![v126] : Fin 1 → IVec S16 32) a x).toNat < S32768.size a := fun v126 k2_hw42 => k2_hw42

def k2_chk43 (v129 : IVec S16 32) : Prop :=
  (∀ a x, ((![v129] : Fin 1 → IVec S16 32) a x).toNat < S32768.size a)
theorem k2_idx43_inb : ∀ (v129 : IVec S16 32) (k2_hw43 : k2_chk43 v129), ∀ a x, ((![v129] : Fin 1 → IVec S16 32) a x).toNat < S32768.size a := fun v129 k2_hw43 => k2_hw43

def k2_chk44 (v132 : IVec S16 32) : Prop :=
  (∀ a x, ((![v132] : Fin 1 → IVec S16 32) a x).toNat < S32768.size a)
theorem k2_idx44_inb : ∀ (v132 : IVec S16 32) (k2_hw44 : k2_chk44 v132), ∀ a x, ((![v132] : Fin 1 → IVec S16 32) a x).toNat < S32768.size a := fun v132 k2_hw44 => k2_hw44

def k2_chk45 (v135 : IVec S16 32) : Prop :=
  (∀ a x, ((![v135] : Fin 1 → IVec S16 32) a x).toNat < S32768.size a)
theorem k2_idx45_inb : ∀ (v135 : IVec S16 32) (k2_hw45 : k2_chk45 v135), ∀ a x, ((![v135] : Fin 1 → IVec S16 32) a x).toNat < S32768.size a := fun v135 k2_hw45 => k2_hw45

def k2_chk46 (v138 : IVec S16 32) : Prop :=
  (∀ a x, ((![v138] : Fin 1 → IVec S16 32) a x).toNat < S32768.size a)
theorem k2_idx46_inb : ∀ (v138 : IVec S16 32) (k2_hw46 : k2_chk46 v138), ∀ a x, ((![v138] : Fin 1 → IVec S16 32) a x).toNat < S32768.size a := fun v138 k2_hw46 => k2_hw46

def k2_chk47 (v141 : IVec S16 32) : Prop :=
  (∀ a x, ((![v141] : Fin 1 → IVec S16 32) a x).toNat < S32768.size a)
theorem k2_idx47_inb : ∀ (v141 : IVec S16 32) (k2_hw47 : k2_chk47 v141), ∀ a x, ((![v141] : Fin 1 → IVec S16 32) a x).toNat < S32768.size a := fun v141 k2_hw47 => k2_hw47

def k2_chk48 (v144 : IVec S16 32) : Prop :=
  (∀ a x, ((![v144] : Fin 1 → IVec S16 32) a x).toNat < S32768.size a)
theorem k2_idx48_inb : ∀ (v144 : IVec S16 32) (k2_hw48 : k2_chk48 v144), ∀ a x, ((![v144] : Fin 1 → IVec S16 32) a x).toNat < S32768.size a := fun v144 k2_hw48 => k2_hw48

def k2_chk49 (v147 : IVec S16 32) : Prop :=
  (∀ a x, ((![v147] : Fin 1 → IVec S16 32) a x).toNat < S32768.size a)
theorem k2_idx49_inb : ∀ (v147 : IVec S16 32) (k2_hw49 : k2_chk49 v147), ∀ a x, ((![v147] : Fin 1 → IVec S16 32) a x).toNat < S32768.size a := fun v147 k2_hw49 => k2_hw49

def k2_chk50 (v150 : IVec S16 32) : Prop :=
  (∀ a x, ((![v150] : Fin 1 → IVec S16 32) a x).toNat < S32768.size a)
theorem k2_idx50_inb : ∀ (v150 : IVec S16 32) (k2_hw50 : k2_chk50 v150), ∀ a x, ((![v150] : Fin 1 → IVec S16 32) a x).toNat < S32768.size a := fun v150 k2_hw50 => k2_hw50

def k2_chk51 (v153 : IVec S16 32) : Prop :=
  (∀ a x, ((![v153] : Fin 1 → IVec S16 32) a x).toNat < S32768.size a)
theorem k2_idx51_inb : ∀ (v153 : IVec S16 32) (k2_hw51 : k2_chk51 v153), ∀ a x, ((![v153] : Fin 1 → IVec S16 32) a x).toNat < S32768.size a := fun v153 k2_hw51 => k2_hw51

def k2_chk52 (v156 : IVec S16 32) : Prop :=
  (∀ a x, ((![v156] : Fin 1 → IVec S16 32) a x).toNat < S32768.size a)
theorem k2_idx52_inb : ∀ (v156 : IVec S16 32) (k2_hw52 : k2_chk52 v156), ∀ a x, ((![v156] : Fin 1 → IVec S16 32) a x).toNat < S32768.size a := fun v156 k2_hw52 => k2_hw52

def k2_chk53 (v159 : IVec S16 32) : Prop :=
  (∀ a x, ((![v159] : Fin 1 → IVec S16 32) a x).toNat < S32768.size a)
theorem k2_idx53_inb : ∀ (v159 : IVec S16 32) (k2_hw53 : k2_chk53 v159), ∀ a x, ((![v159] : Fin 1 → IVec S16 32) a x).toNat < S32768.size a := fun v159 k2_hw53 => k2_hw53

def k2_chk54 (v162 : IVec S16 32) : Prop :=
  (∀ a x, ((![v162] : Fin 1 → IVec S16 32) a x).toNat < S32768.size a)
theorem k2_idx54_inb : ∀ (v162 : IVec S16 32) (k2_hw54 : k2_chk54 v162), ∀ a x, ((![v162] : Fin 1 → IVec S16 32) a x).toNat < S32768.size a := fun v162 k2_hw54 => k2_hw54

def k2_chk55 (v165 : IVec S16 32) : Prop :=
  (∀ a x, ((![v165] : Fin 1 → IVec S16 32) a x).toNat < S32768.size a)
theorem k2_idx55_inb : ∀ (v165 : IVec S16 32) (k2_hw55 : k2_chk55 v165), ∀ a x, ((![v165] : Fin 1 → IVec S16 32) a x).toNat < S32768.size a := fun v165 k2_hw55 => k2_hw55

def k2_chk56 (v168 : IVec S16 32) : Prop :=
  (∀ a x, ((![v168] : Fin 1 → IVec S16 32) a x).toNat < S32768.size a)
theorem k2_idx56_inb : ∀ (v168 : IVec S16 32) (k2_hw56 : k2_chk56 v168), ∀ a x, ((![v168] : Fin 1 → IVec S16 32) a x).toNat < S32768.size a := fun v168 k2_hw56 => k2_hw56

def k2_chk57 (v171 : IVec S16 32) : Prop :=
  (∀ a x, ((![v171] : Fin 1 → IVec S16 32) a x).toNat < S32768.size a)
theorem k2_idx57_inb : ∀ (v171 : IVec S16 32) (k2_hw57 : k2_chk57 v171), ∀ a x, ((![v171] : Fin 1 → IVec S16 32) a x).toNat < S32768.size a := fun v171 k2_hw57 => k2_hw57

def k2_chk58 (v174 : IVec S16 32) : Prop :=
  (∀ a x, ((![v174] : Fin 1 → IVec S16 32) a x).toNat < S32768.size a)
theorem k2_idx58_inb : ∀ (v174 : IVec S16 32) (k2_hw58 : k2_chk58 v174), ∀ a x, ((![v174] : Fin 1 → IVec S16 32) a x).toNat < S32768.size a := fun v174 k2_hw58 => k2_hw58

def k2_chk59 (v177 : IVec S16 32) : Prop :=
  (∀ a x, ((![v177] : Fin 1 → IVec S16 32) a x).toNat < S32768.size a)
theorem k2_idx59_inb : ∀ (v177 : IVec S16 32) (k2_hw59 : k2_chk59 v177), ∀ a x, ((![v177] : Fin 1 → IVec S16 32) a x).toNat < S32768.size a := fun v177 k2_hw59 => k2_hw59

def k2_chk60 (v180 : IVec S16 32) : Prop :=
  (∀ a x, ((![v180] : Fin 1 → IVec S16 32) a x).toNat < S32768.size a)
theorem k2_idx60_inb : ∀ (v180 : IVec S16 32) (k2_hw60 : k2_chk60 v180), ∀ a x, ((![v180] : Fin 1 → IVec S16 32) a x).toNat < S32768.size a := fun v180 k2_hw60 => k2_hw60

def k2_chk61 (v183 : IVec S16 32) : Prop :=
  (∀ a x, ((![v183] : Fin 1 → IVec S16 32) a x).toNat < S32768.size a)
theorem k2_idx61_inb : ∀ (v183 : IVec S16 32) (k2_hw61 : k2_chk61 v183), ∀ a x, ((![v183] : Fin 1 → IVec S16 32) a x).toNat < S32768.size a := fun v183 k2_hw61 => k2_hw61

def k2_chk62 (v186 : IVec S16 32) : Prop :=
  (∀ a x, ((![v186] : Fin 1 → IVec S16 32) a x).toNat < S32768.size a)
theorem k2_idx62_inb : ∀ (v186 : IVec S16 32) (k2_hw62 : k2_chk62 v186), ∀ a x, ((![v186] : Fin 1 → IVec S16 32) a x).toNat < S32768.size a := fun v186 k2_hw62 => k2_hw62

def k2_chk63 (v189 : IVec S16 32) : Prop :=
  (∀ a x, ((![v189] : Fin 1 → IVec S16 32) a x).toNat < S32768.size a)
theorem k2_idx63_inb : ∀ (v189 : IVec S16 32) (k2_hw63 : k2_chk63 v189), ∀ a x, ((![v189] : Fin 1 → IVec S16 32) a x).toNat < S32768.size a := fun v189 k2_hw63 => k2_hw63

def k2_chk64 (v192 : IVec S16 32) : Prop :=
  (∀ a x, ((![v192] : Fin 1 → IVec S16 32) a x).toNat < S32768.size a)
theorem k2_idx64_inb : ∀ (v192 : IVec S16 32) (k2_hw64 : k2_chk64 v192), ∀ a x, ((![v192] : Fin 1 → IVec S16 32) a x).toNat < S32768.size a := fun v192 k2_hw64 => k2_hw64
def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x3x512x512 : Shape := ⟨4, ![32, 3, 512, 512]⟩
abbrev S16x3 : Shape := ⟨2, ![16, 3]⟩
abbrev S16 : Shape := ⟨1, ![16]⟩
abbrev S1x16 : Shape := ⟨2, ![1, 16]⟩
abbrev S1 : Shape := ⟨1, ![1]⟩
abbrev S512 : Shape := ⟨1, ![512]⟩
abbrev S512x512 : Shape := ⟨2, ![512, 512]⟩
abbrev S_ : Shape := ⟨0, ![]⟩
abbrev S512x512x1 : Shape := ⟨3, ![512, 512, 1]⟩
abbrev S32x3x32x16x32x16 : Shape := ⟨6, ![32, 3, 32, 16, 32, 16]⟩
abbrev S32x3x32x32x16x16 : Shape := ⟨6, ![32, 3, 32, 32, 16, 16]⟩
abbrev S32x3x1024x16x16 : Shape := ⟨5, ![32, 3, 1024, 16, 16]⟩
abbrev S32x3x1024 : Shape := ⟨3, ![32, 3, 1024]⟩
abbrev S32x1024 : Shape := ⟨2, ![32, 1024]⟩
abbrev S16x32x512x512 : Shape := ⟨4, ![16, 32, 512, 512]⟩
abbrev S32x16x512x512 : Shape := ⟨4, ![32, 16, 512, 512]⟩
abbrev S1x16x1x1 : Shape := ⟨4, ![1, 16, 1, 1]⟩
abbrev S1x32x512x512 : Shape := ⟨4, ![1, 32, 512, 512]⟩
abbrev S32x1x512x512 : Shape := ⟨4, ![32, 1, 512, 512]⟩
abbrev S1x1x1x1 : Shape := ⟨4, ![1, 1, 1, 1]⟩
abbrev S32x1x32x16x32x16 : Shape := ⟨6, ![32, 1, 32, 16, 32, 16]⟩
abbrev S32x1x32x32x16x16 : Shape := ⟨6, ![32, 1, 32, 32, 16, 16]⟩
abbrev S32x1x1024x256 : Shape := ⟨4, ![32, 1, 1024, 256]⟩
abbrev S32x1x1024 : Shape := ⟨3, ![32, 1, 1024]⟩
abbrev S32 : Shape := ⟨1, ![32]⟩
abbrev S32x1 : Shape := ⟨2, ![32, 1]⟩
abbrev S32x768 : Shape := ⟨2, ![32, 768]⟩
abbrev S32x768x1 : Shape := ⟨3, ![32, 768, 1]⟩
abbrev S32x768x2 : Shape := ⟨3, ![32, 768, 2]⟩
abbrev S2 : Shape := ⟨1, ![2]⟩
abbrev S1x1 : Shape := ⟨2, ![1, 1]⟩
abbrev S32x256 : Shape := ⟨2, ![32, 256]⟩
abbrev S32x1024x1 : Shape := ⟨3, ![32, 1024, 1]⟩
abbrev S1x1x1 : Shape := ⟨3, ![1, 1, 1]⟩

abbrev nBuf : Space → Nat
  | .hbm => 481
  | .vmem => 0
  | .smem => 0
  | _ => 0

abbrev hbmTy0_0 (i : Nat) : BufTy := match i % 128 with
  | 0 => ⟨S32x3x512x512, .f32⟩
  | 1 => ⟨S16x3, .f32⟩
  | 2 => ⟨S16, .f32⟩
  | 3 => ⟨S16, .f32⟩
  | 4 => ⟨S1x16, .f32⟩
  | 5 => ⟨S1, .f32⟩
  | 6 => ⟨S512, .f32⟩
  | 7 => ⟨S512, .f32⟩
  | 8 => ⟨S512x512, .i32⟩
  | 9 => ⟨S512x512, .i32⟩
  | 10 => ⟨S512x512, .i32⟩
  | 11 => ⟨S_, .i32⟩
  | 12 => ⟨S512x512, .i32⟩
  | 13 => ⟨S512x512, .i32⟩
  | 14 => ⟨S_, .i32⟩
  | 15 => ⟨S512x512, .i32⟩
  | 16 => ⟨S512x512, .i1⟩
  | 17 => ⟨S_, .i32⟩
  | 18 => ⟨S512x512, .i32⟩
  | 19 => ⟨S512x512, .i32⟩
  | 20 => ⟨S512x512, .i32⟩
  | 21 => ⟨S512x512x1, .i32⟩
  | 22 => ⟨S512x512, .f32⟩
  | 23 => ⟨S_, .i32⟩
  | 24 => ⟨S512x512, .i32⟩
  | 25 => ⟨S512x512, .i1⟩
  | 26 => ⟨S_, .i32⟩
  | 27 => ⟨S512x512, .i32⟩
  | 28 => ⟨S512x512, .i32⟩
  | 29 => ⟨S512x512, .i32⟩
  | 30 => ⟨S512x512x1, .i32⟩
  | 31 => ⟨S512x512, .f32⟩
  | 32 => ⟨S32x3x512x512, .f32⟩
  | 33 => ⟨S32x3x512x512, .f32⟩
  | 34 => ⟨S32x3x512x512, .f32⟩
  | 35 => ⟨S32x3x512x512, .f32⟩
  | 36 => ⟨S32x3x512x512, .f32⟩
  | 37 => ⟨S32x3x512x512, .f32⟩
  | 38 => ⟨S32x3x512x512, .f32⟩
  | 39 => ⟨S32x3x512x512, .f32⟩
  | 40 => ⟨S32x3x512x512, .f32⟩
  | 41 => ⟨S32x3x512x512, .f32⟩
  | 42 => ⟨S32x3x512x512, .f32⟩
  | 43 => ⟨S32x3x512x512, .f32⟩
  | 44 => ⟨S32x3x512x512, .f32⟩
  | 45 => ⟨S32x3x512x512, .f32⟩
  | 46 => ⟨S32x3x512x512, .f32⟩
  | 47 => ⟨S_, .f32⟩
  | 48 => ⟨S32x3x512x512, .f32⟩
  | 49 => ⟨S32x3x512x512, .f32⟩
  | 50 => ⟨S32x3x32x16x32x16, .f32⟩
  | 51 => ⟨S32x3x32x32x16x16, .f32⟩
  | 52 => ⟨S32x3x1024x16x16, .f32⟩
  | 53 => ⟨S_, .f32⟩
  | 54 => ⟨S32x3x1024, .f32⟩
  | 55 => ⟨S_, .f32⟩
  | 56 => ⟨S32x3x1024, .f32⟩
  | 57 => ⟨S32x3x1024, .f32⟩
  | 58 => ⟨S_, .f32⟩
  | 59 => ⟨S32x1024, .f32⟩
  | 60 => ⟨S_, .f32⟩
  | 61 => ⟨S32x1024, .f32⟩
  | 62 => ⟨S32x1024, .f32⟩
  | 63 => ⟨S16x32x512x512, .f32⟩
  | 64 => ⟨S32x16x512x512, .f32⟩
  | 65 => ⟨S_, .f32⟩
  | 66 => ⟨S16, .f32⟩
  | 67 => ⟨S_, .f32⟩
  | 68 => ⟨S16, .f32⟩
  | 69 => ⟨S16, .f32⟩
  | 70 => ⟨S_, .i32⟩
  | 71 => ⟨S_, .f32⟩
  | 72 => ⟨S16, .f32⟩
  | 73 => ⟨S1x16x1x1, .f32⟩
  | 74 => ⟨S_, .f32⟩
  | 75 => ⟨S1x16x1x1, .f32⟩
  | 76 => ⟨S1x16x1x1, .f32⟩
  | 77 => ⟨S32x16x512x512, .f32⟩
  | 78 => ⟨S32x16x512x512, .f32⟩
  | 79 => ⟨S32x16x512x512, .f32⟩
  | 80 => ⟨S_, .f32⟩
  | 81 => ⟨S_, .f32⟩
  | 82 => ⟨S_, .f32⟩
  | 83 => ⟨S_, .f32⟩
  | 84 => ⟨S16, .f32⟩
  | 85 => ⟨S16, .f32⟩
  | 86 => ⟨S16, .f32⟩
  | 87 => ⟨S_, .f32⟩
  | 88 => ⟨S_, .i1⟩
  | 89 => ⟨S_, .f32⟩
  | 90 => ⟨S_, .f32⟩
  | 91 => ⟨S16, .f32⟩
  | 92 => ⟨S16, .f32⟩
  | 93 => ⟨S1x16x1x1, .f32⟩
  | 94 => ⟨S32x16x512x512, .f32⟩
  | 95 => ⟨S32x16x512x512, .f32⟩
  | 96 => ⟨S1x16x1x1, .f32⟩
  | 97 => ⟨S_, .f32⟩
  | 98 => ⟨S1x16x1x1, .f32⟩
  | 99 => ⟨S1x16x1x1, .f32⟩
  | 100 => ⟨S1x16x1x1, .f32⟩
  | 101 => ⟨S32x16x512x512, .f32⟩
  | 102 => ⟨S32x16x512x512, .f32⟩
  | 103 => ⟨S1x16x1x1, .f32⟩
  | 104 => ⟨S32x16x512x512, .f32⟩
  | 105 => ⟨S32x16x512x512, .f32⟩
  | 106 => ⟨S1x16x1x1, .f32⟩
  | 107 => ⟨S32x16x512x512, .f32⟩
  | 108 => ⟨S32x16x512x512, .f32⟩
  | 109 => ⟨S_, .f32⟩
  | 110 => ⟨S32x16x512x512, .f32⟩
  | 111 => ⟨S32x16x512x512, .f32⟩
  | 112 => ⟨S1x32x512x512, .f32⟩
  | 113 => ⟨S32x1x512x512, .f32⟩
  | 114 => ⟨S1x1x1x1, .f32⟩
  | 115 => ⟨S32x1x512x512, .f32⟩
  | 116 => ⟨S32x1x512x512, .f32⟩
  | 117 => ⟨S32x1x32x16x32x16, .f32⟩
  | 118 => ⟨S32x1x32x32x16x16, .f32⟩
  | 119 => ⟨S32x1x1024x256, .f32⟩
  | 120 => ⟨S_, .f32⟩
  | 121 => ⟨S32x1x1024, .f32⟩
  | 122 => ⟨S_, .f32⟩
  | 123 => ⟨S32x1x1024, .f32⟩
  | 124 => ⟨S32x1x1024, .f32⟩
  | 125 => ⟨S32x1024, .f32⟩
  | 126 => ⟨S32x1024, .f32⟩
  | 127 => ⟨S32x1024, .f32⟩
  | _ => ⟨S32x3x512x512, .f32⟩

abbrev hbmTy0_1 (i : Nat) : BufTy := match i % 128 with
  | 0 => ⟨S_, .f32⟩
  | 1 => ⟨S32x1024, .f32⟩
  | 2 => ⟨S32x1024, .f32⟩
  | 3 => ⟨S_, .f32⟩
  | 4 => ⟨S32x1024, .f32⟩
  | 5 => ⟨S32x1024, .f32⟩
  | 6 => ⟨S32x1024, .f32⟩
  | 7 => ⟨S_, .f32⟩
  | 8 => ⟨S_, .f32⟩
  | 9 => ⟨S32x1024, .f32⟩
  | 10 => ⟨S32x1024, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S32x1024, .f32⟩
  | 19 => ⟨S32x1024, .f32⟩
  | 20 => ⟨S32x1024, .f32⟩
  | 21 => ⟨S32x1024, .i32⟩
  | 22 => ⟨S32x1024, .f32⟩
  | 23 => ⟨S32x1024, .i32⟩
  | 24 => ⟨S_, .f32⟩
  | 25 => ⟨S32x1024, .f32⟩
  | 26 => ⟨S32, .i32⟩
  | 27 => ⟨S32x1, .i32⟩
  | 28 => ⟨S32x768, .i32⟩
  | 29 => ⟨S_, .i32⟩
  | 30 => ⟨S32x1, .i32⟩
  | 31 => ⟨S32x1, .i1⟩
  | 32 => ⟨S_, .i32⟩
  | 33 => ⟨S32x1, .i32⟩
  | 34 => ⟨S32x1, .i32⟩
  | 35 => ⟨S32x1, .i32⟩
  | 36 => ⟨S_, .i32⟩
  | 37 => ⟨S32x768, .i32⟩
  | 38 => ⟨S32x768, .i1⟩
  | 39 => ⟨S_, .i32⟩
  | 40 => ⟨S32x768, .i32⟩
  | 41 => ⟨S32x768, .i32⟩
  | 42 => ⟨S32x768, .i32⟩
  | 43 => ⟨S32x768, .i32⟩
  | 44 => ⟨S32x768x1, .i32⟩
  | 45 => ⟨S32x768x1, .i32⟩
  | 46 => ⟨S32x768x2, .i32⟩
  | 47 => ⟨S_, .f32⟩
  | 48 => ⟨S32x768, .f32⟩
  | 49 => ⟨S32x1024, .f32⟩
  | 50 => ⟨S_, .i32⟩
  | 51 => ⟨S_, .i32⟩
  | 52 => ⟨S_, .i32⟩
  | 53 => ⟨S_, .i32⟩
  | 54 => ⟨S1, .i32⟩
  | 55 => ⟨S_, .i32⟩
  | 56 => ⟨S_, .i32⟩
  | 57 => ⟨S_, .i32⟩
  | 58 => ⟨S1, .i32⟩
  | 59 => ⟨S2, .i32⟩
  | 60 => ⟨S_, .f32⟩
  | 61 => ⟨S_, .f32⟩
  | 62 => ⟨S_, .f32⟩
  | 63 => ⟨S_, .f32⟩
  | 64 => ⟨S1x1, .f32⟩
  | 65 => ⟨S1x1, .f32⟩
  | 66 => ⟨S1, .i32⟩
  | 67 => ⟨S_, .i32⟩
  | 68 => ⟨S1, .i32⟩
  | 69 => ⟨S_, .i32⟩
  | 70 => ⟨S32x1024, .i64⟩
  | 71 => ⟨S32x1024, .i64⟩
  | 72 => ⟨S_, .i64⟩
  | 73 => ⟨S32x1024, .i64⟩
  | 74 => ⟨S32x1024, .i64⟩
  | 75 => ⟨S_, .i64⟩
  | 76 => ⟨S32x1024, .i64⟩
  | 77 => ⟨S32x1024, .i64⟩
  | 78 => ⟨S32x1024, .i64⟩
  | 79 => ⟨S_, .i64⟩
  | 80 => ⟨S32x1024, .i64⟩
  | 81 => ⟨S32x1024, .i64⟩
  | 82 => ⟨S32x1024, .i32⟩
  | 83 => ⟨S32x1024, .i32⟩
  | 84 => ⟨S_, .i32⟩
  | 85 => ⟨S_, .i32⟩
  | 86 => ⟨S_, .i32⟩
  | 87 => ⟨S32x1024, .i32⟩
  | 88 => ⟨S32x1024, .i32⟩
  | 89 => ⟨S32x1024, .i32⟩
  | 90 => ⟨S32x1024, .i32⟩
  | 91 => ⟨S32x1024, .i32⟩
  | 92 => ⟨S_, .i32⟩
  | 93 => ⟨S32x1024, .i32⟩
  | 94 => ⟨S32x1024, .i32⟩
  | 95 => ⟨S_, .i32⟩
  | 96 => ⟨S32x1024, .i32⟩
  | 97 => ⟨S32x1024, .i32⟩
  | 98 => ⟨S32x1024, .i32⟩
  | 99 => ⟨S32x1024, .i32⟩
  | 100 => ⟨S32x1024, .i32⟩
  | 101 => ⟨S_, .i32⟩
  | 102 => ⟨S32x1024, .i32⟩
  | 103 => ⟨S32x1024, .i32⟩
  | 104 => ⟨S_, .i32⟩
  | 105 => ⟨S32x1024, .i32⟩
  | 106 => ⟨S32x1024, .i32⟩
  | 107 => ⟨S32x1024, .i32⟩
  | 108 => ⟨S32x1024, .i32⟩
  | 109 => ⟨S32x1024, .i32⟩
  | 110 => ⟨S_, .i32⟩
  | 111 => ⟨S32x1024, .i32⟩
  | 112 => ⟨S32x1024, .i32⟩
  | 113 => ⟨S_, .i32⟩
  | 114 => ⟨S32x1024, .i32⟩
  | 115 => ⟨S32x1024, .i32⟩
  | 116 => ⟨S32x1024, .i32⟩
  | 117 => ⟨S32x1024, .i32⟩
  | 118 => ⟨S32x1024, .i32⟩
  | 119 => ⟨S_, .i32⟩
  | 120 => ⟨S32x1024, .i32⟩
  | 121 => ⟨S32x1024, .i32⟩
  | 122 => ⟨S_, .i32⟩
  | 123 => ⟨S32x1024, .i32⟩
  | 124 => ⟨S32x1024, .i32⟩
  | 125 => ⟨S32x1024, .i32⟩
  | 126 => ⟨S32x1024, .i32⟩
  | 127 => ⟨S32x1024, .i32⟩
  | _ => ⟨S32x3x512x512, .f32⟩

abbrev hbmTy0_2 (i : Nat) : BufTy := match i % 128 with
  | 0 => ⟨S32x1024, .i32⟩
  | 1 => ⟨S32x1024, .i32⟩
  | 2 => ⟨S32x1024, .i32⟩
  | 3 => ⟨S_, .i32⟩
  | 4 => ⟨S32x1024, .i32⟩
  | 5 => ⟨S32x1024, .i32⟩
  | 6 => ⟨S32x1024, .i32⟩
  | 7 => ⟨S_, .i32⟩
  | 8 => ⟨S32x1024, .i32⟩
  | 9 => ⟨S32x1024, .i32⟩
  | 10 => ⟨S_, .i32⟩
  | 11 => ⟨S32x1024, .i32⟩
  | 12 => ⟨S32x1024, .i32⟩
  | 13 => ⟨S32x1024, .i32⟩
  | 14 => ⟨S32x1024, .i32⟩
  | 15 => ⟨S32x1024, .i32⟩
  | 16 => ⟨S_, .i32⟩
  | 17 => ⟨S32x1024, .i32⟩
  | 18 => ⟨S32x1024, .i32⟩
  | 19 => ⟨S_, .i32⟩
  | 20 => ⟨S32x1024, .i32⟩
  | 21 => ⟨S32x1024, .i32⟩
  | 22 => ⟨S32x1024, .i32⟩
  | 23 => ⟨S32x1024, .i32⟩
  | 24 => ⟨S32x1024, .i32⟩
  | 25 => ⟨S_, .i32⟩
  | 26 => ⟨S32x1024, .i32⟩
  | 27 => ⟨S32x1024, .i32⟩
  | 28 => ⟨S_, .i32⟩
  | 29 => ⟨S32x1024, .i32⟩
  | 30 => ⟨S32x1024, .i32⟩
  | 31 => ⟨S32x1024, .i32⟩
  | 32 => ⟨S32x1024, .i32⟩
  | 33 => ⟨S32x1024, .i32⟩
  | 34 => ⟨S_, .i32⟩
  | 35 => ⟨S32x1024, .i32⟩
  | 36 => ⟨S32x1024, .i32⟩
  | 37 => ⟨S_, .i32⟩
  | 38 => ⟨S32x1024, .i32⟩
  | 39 => ⟨S32x1024, .i32⟩
  | 40 => ⟨S32x1024, .i32⟩
  | 41 => ⟨S32x1024, .i32⟩
  | 42 => ⟨S32x1024, .i32⟩
  | 43 => ⟨S32x1024, .i32⟩
  | 44 => ⟨S32x1024, .i32⟩
  | 45 => ⟨S32x1024, .i32⟩
  | 46 => ⟨S_, .i32⟩
  | 47 => ⟨S32x1024, .i32⟩
  | 48 => ⟨S32x1024, .i32⟩
  | 49 => ⟨S32x1024, .i32⟩
  | 50 => ⟨S_, .i32⟩
  | 51 => ⟨S32x1024, .i32⟩
  | 52 => ⟨S32x1024, .i32⟩
  | 53 => ⟨S_, .i32⟩
  | 54 => ⟨S32x1024, .i32⟩
  | 55 => ⟨S32x1024, .i32⟩
  | 56 => ⟨S32x1024, .i32⟩
  | 57 => ⟨S32x1024, .i32⟩
  | 58 => ⟨S32x1024, .i32⟩
  | 59 => ⟨S_, .i32⟩
  | 60 => ⟨S32x1024, .i32⟩
  | 61 => ⟨S32x1024, .i32⟩
  | 62 => ⟨S_, .i32⟩
  | 63 => ⟨S32x1024, .i32⟩
  | 64 => ⟨S32x1024, .i32⟩
  | 65 => ⟨S32x1024, .i32⟩
  | 66 => ⟨S32x1024, .i32⟩
  | 67 => ⟨S32x1024, .i32⟩
  | 68 => ⟨S_, .i32⟩
  | 69 => ⟨S32x1024, .i32⟩
  | 70 => ⟨S32x1024, .i32⟩
  | 71 => ⟨S_, .i32⟩
  | 72 => ⟨S32x1024, .i32⟩
  | 73 => ⟨S32x1024, .i32⟩
  | 74 => ⟨S32x1024, .i32⟩
  | 75 => ⟨S32x1024, .i32⟩
  | 76 => ⟨S32x1024, .i32⟩
  | 77 => ⟨S_, .i32⟩
  | 78 => ⟨S32x1024, .i32⟩
  | 79 => ⟨S32x1024, .i32⟩
  | 80 => ⟨S_, .i32⟩
  | 81 => ⟨S32x1024, .i32⟩
  | 82 => ⟨S32x1024, .i32⟩
  | 83 => ⟨S32x1024, .i32⟩
  | 84 => ⟨S32x1024, .i32⟩
  | 85 => ⟨S32x1024, .i32⟩
  | 86 => ⟨S32x1024, .i32⟩
  | 87 => ⟨S32x1024, .i32⟩
  | 88 => ⟨S32x1024, .i32⟩
  | 89 => ⟨S_, .i32⟩
  | 90 => ⟨S32x1024, .i32⟩
  | 91 => ⟨S32x1024, .i32⟩
  | 92 => ⟨S32x1024, .i32⟩
  | 93 => ⟨S_, .i32⟩
  | 94 => ⟨S32x1024, .i32⟩
  | 95 => ⟨S32x1024, .i32⟩
  | 96 => ⟨S_, .i32⟩
  | 97 => ⟨S32x1024, .i32⟩
  | 98 => ⟨S32x1024, .i32⟩
  | 99 => ⟨S32x1024, .i32⟩
  | 100 => ⟨S32x1024, .i32⟩
  | 101 => ⟨S32x1024, .i32⟩
  | 102 => ⟨S_, .i32⟩
  | 103 => ⟨S32x1024, .i32⟩
  | 104 => ⟨S32x1024, .i32⟩
  | 105 => ⟨S_, .i32⟩
  | 106 => ⟨S32x1024, .i32⟩
  | 107 => ⟨S32x1024, .i32⟩
  | 108 => ⟨S32x1024, .i32⟩
  | 109 => ⟨S32x1024, .i32⟩
  | 110 => ⟨S32x1024, .i32⟩
  | 111 => ⟨S_, .i32⟩
  | 112 => ⟨S32x1024, .i32⟩
  | 113 => ⟨S32x1024, .i32⟩
  | 114 => ⟨S_, .i32⟩
  | 115 => ⟨S32x1024, .i32⟩
  | 116 => ⟨S32x1024, .i32⟩
  | 117 => ⟨S32x1024, .i32⟩
  | 118 => ⟨S32x1024, .i32⟩
  | 119 => ⟨S32x1024, .i32⟩
  | 120 => ⟨S_, .i32⟩
  | 121 => ⟨S32x1024, .i32⟩
  | 122 => ⟨S32x1024, .i32⟩
  | 123 => ⟨S_, .i32⟩
  | 124 => ⟨S32x1024, .i32⟩
  | 125 => ⟨S32x1024, .i32⟩
  | 126 => ⟨S32x1024, .i32⟩
  | 127 => ⟨S32x1024, .i32⟩
  | _ => ⟨S32x3x512x512, .f32⟩

abbrev hbmTy0_3 (i : Nat) : BufTy := match i % 128 with
  | 0 => ⟨S32x1024, .i32⟩
  | 1 => ⟨S32x1024, .i32⟩
  | 2 => ⟨S32x1024, .i32⟩
  | 3 => ⟨S32x1024, .i32⟩
  | 4 => ⟨S_, .i32⟩
  | 5 => ⟨S32x1024, .i32⟩
  | 6 => ⟨S32x1024, .i32⟩
  | 7 => ⟨S32x1024, .i32⟩
  | 8 => ⟨S_, .i32⟩
  | 9 => ⟨S32x1024, .i32⟩
  | 10 => ⟨S32x1024, .i32⟩
  | 11 => ⟨S_, .i32⟩
  | 12 => ⟨S32x1024, .i32⟩
  | 13 => ⟨S32x1024, .i32⟩
  | 14 => ⟨S32x1024, .i32⟩
  | 15 => ⟨S32x1024, .i32⟩
  | 16 => ⟨S32x1024, .i32⟩
  | 17 => ⟨S_, .i32⟩
  | 18 => ⟨S32x1024, .i32⟩
  | 19 => ⟨S32x1024, .i32⟩
  | 20 => ⟨S_, .i32⟩
  | 21 => ⟨S32x1024, .i32⟩
  | 22 => ⟨S32x1024, .i32⟩
  | 23 => ⟨S32x1024, .i32⟩
  | 24 => ⟨S32x1024, .i32⟩
  | 25 => ⟨S32x1024, .i32⟩
  | 26 => ⟨S_, .i32⟩
  | 27 => ⟨S32x1024, .i32⟩
  | 28 => ⟨S32x1024, .i32⟩
  | 29 => ⟨S_, .i32⟩
  | 30 => ⟨S32x1024, .i32⟩
  | 31 => ⟨S32x1024, .i32⟩
  | 32 => ⟨S32x1024, .i32⟩
  | 33 => ⟨S32x1024, .i32⟩
  | 34 => ⟨S32x1024, .i32⟩
  | 35 => ⟨S_, .i32⟩
  | 36 => ⟨S32x1024, .i32⟩
  | 37 => ⟨S32x1024, .i32⟩
  | 38 => ⟨S_, .i32⟩
  | 39 => ⟨S32x1024, .i32⟩
  | 40 => ⟨S32x1024, .i32⟩
  | 41 => ⟨S32x1024, .i32⟩
  | 42 => ⟨S32x1024, .i32⟩
  | 43 => ⟨S32x1024, .i32⟩
  | 44 => ⟨S32x1024, .i32⟩
  | 45 => ⟨S32x1024, .i32⟩
  | 46 => ⟨S32x1024, .i32⟩
  | 47 => ⟨S_, .i32⟩
  | 48 => ⟨S32x1024, .i32⟩
  | 49 => ⟨S32x1024, .i32⟩
  | 50 => ⟨S32x1024, .i32⟩
  | 51 => ⟨S_, .i32⟩
  | 52 => ⟨S32x1024, .i32⟩
  | 53 => ⟨S32x1024, .i32⟩
  | 54 => ⟨S_, .i32⟩
  | 55 => ⟨S32x1024, .i32⟩
  | 56 => ⟨S32x1024, .i32⟩
  | 57 => ⟨S32x1024, .f32⟩
  | 58 => ⟨S_, .f32⟩
  | 59 => ⟨S32x1024, .f32⟩
  | 60 => ⟨S32x1024, .f32⟩
  | 61 => ⟨S1x1, .f32⟩
  | 62 => ⟨S32x1024, .f32⟩
  | 63 => ⟨S32x1024, .f32⟩
  | 64 => ⟨S32x1024, .f32⟩
  | 65 => ⟨S32x1024, .f32⟩
  | 66 => ⟨S32x1024, .f32⟩
  | 67 => ⟨S32x1024, .f32⟩
  | 68 => ⟨S32x1024, .i32⟩
  | 69 => ⟨S32x1024, .f32⟩
  | 70 => ⟨S32x1024, .i32⟩
  | 71 => ⟨S32x1024, .i32⟩
  | 72 => ⟨S32x1024, .i32⟩
  | 73 => ⟨S32x1024, .i32⟩
  | 74 => ⟨S32x256, .i32⟩
  | 75 => ⟨S_, .i32⟩
  | 76 => ⟨S32x1024, .i32⟩
  | 77 => ⟨S32x1024, .i1⟩
  | 78 => ⟨S_, .i32⟩
  | 79 => ⟨S32x1024, .i32⟩
  | 80 => ⟨S32x1024, .i32⟩
  | 81 => ⟨S32x1024, .i32⟩
  | 82 => ⟨S32x1024x1, .i32⟩
  | 83 => ⟨S1, .i32⟩
  | 84 => ⟨S_, .i32⟩
  | 85 => ⟨S32x1024x1, .i32⟩
  | 86 => ⟨S32x1024x1, .i1⟩
  | 87 => ⟨S1x1x1, .i32⟩
  | 88 => ⟨S32x1024x1, .i32⟩
  | 89 => ⟨S32x1024x1, .i1⟩
  | 90 => ⟨S32x1024x1, .i1⟩
  | 91 => ⟨S_, .i1⟩
  | 92 => ⟨S32x1024, .i1⟩
  | 93 => ⟨S32x1024, .f32⟩
  | 94 => ⟨S_, .f32⟩
  | 95 => ⟨S32x1024, .f32⟩
  | 96 => ⟨S32x1024, .f32⟩
  | _ => ⟨S32x3x512x512, .f32⟩

abbrev hbmTy (i : Nat) : BufTy := match i / 128 with
  | 0 => hbmTy0_0 i
  | 1 => hbmTy0_1 i
  | 2 => hbmTy0_2 i
  | 3 => hbmTy0_3 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_c_12 : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_cst_0 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_cst_1 : Ref sig .tc := ⟨.hbm, 81, rfl⟩
abbrev main_call0_v8 : Ref sig .tc := ⟨.hbm, 82, rfl⟩
abbrev main_call0_cst_2 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_cst_3 : Ref sig .tc := ⟨.hbm, 87, rfl⟩
abbrev main_call0_v12 : Ref sig .tc := ⟨.hbm, 88, rfl⟩
abbrev main_call0_cst_4 : Ref sig .tc := ⟨.hbm, 89, rfl⟩
abbrev main_call0_call0_v0 : Ref sig .tc := ⟨.hbm, 90, rfl⟩
abbrev main_call0_call0_v1 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_13 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_call1_cst : Ref sig .tc := ⟨.hbm, 109, rfl⟩
abbrev main_call1_v0 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_14 : Ref sig .tc := ⟨.hbm, 120, rfl⟩
abbrev main_v75 : Ref sig .tc := ⟨.hbm, 121, rfl⟩
abbrev main_cst_15 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_16 : Ref sig .tc := ⟨.hbm, 128, rfl⟩
abbrev main_v81 : Ref sig .tc := ⟨.hbm, 129, rfl⟩
abbrev main_v82 : Ref sig .tc := ⟨.hbm, 130, rfl⟩
abbrev main_cst_17 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_18 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_19 : Ref sig .tc := ⟨.hbm, 139, rfl⟩
abbrev main_v89 : Ref sig .tc := ⟨.hbm, 140, rfl⟩
abbrev main_cst_20 : Ref sig .tc := ⟨.hbm, 141, rfl⟩
abbrev main_v90 : Ref sig .tc := ⟨.hbm, 142, rfl⟩
abbrev main_v91 : Ref sig .tc := ⟨.hbm, 143, rfl⟩
abbrev main_cst_21 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_call2_v0 : Ref sig .tc := ⟨.hbm, 149, rfl⟩
abbrev main_call2_v1_0 : Ref sig .tc := ⟨.hbm, 150, rfl⟩
abbrev main_v96 : Ref sig .tc := ⟨.hbm, 151, rfl⟩
abbrev main_cst_22 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_c_23 : Ref sig .tc := ⟨.hbm, 157, rfl⟩
abbrev main_v101 : Ref sig .tc := ⟨.hbm, 158, rfl⟩
abbrev main_v102 : Ref sig .tc := ⟨.hbm, 159, rfl⟩
abbrev main_c_24 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_c_25 : Ref sig .tc := ⟨.hbm, 164, rfl⟩
abbrev main_v106 : Ref sig .tc := ⟨.hbm, 165, rfl⟩
abbrev main_v107 : Ref sig .tc := ⟨.hbm, 166, rfl⟩
abbrev main_c_26 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_cst_27 : Ref sig .tc := ⟨.hbm, 175, rfl⟩
abbrev main_v115 : Ref sig .tc := ⟨.hbm, 176, rfl⟩
abbrev main_v116 : Ref sig .tc := ⟨.hbm, 177, rfl⟩
abbrev main_c_28 : Ref sig .tc := ⟨.hbm, 178, rfl⟩
abbrev main_c_29 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_c_30 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_31 : Ref sig .tc := ⟨.hbm, 188, rfl⟩
abbrev main_cst_32 : Ref sig .tc := ⟨.hbm, 189, rfl⟩
abbrev main_call3_v0 : Ref sig .tc := ⟨.hbm, 190, rfl⟩
abbrev main_call3_v1 : Ref sig .tc := ⟨.hbm, 191, rfl⟩
abbrev main_call3_v2 : Ref sig .tc := ⟨.hbm, 192, rfl⟩
abbrev main_call3_v3 : Ref sig .tc := ⟨.hbm, 193, rfl⟩
abbrev main_call3_v4 : Ref sig .tc := ⟨.hbm, 194, rfl⟩
abbrev main_call3_v5 : Ref sig .tc := ⟨.hbm, 195, rfl⟩
abbrev main_call3_v6 : Ref sig .tc := ⟨.hbm, 196, rfl⟩
abbrev main_call3_v7 : Ref sig .tc := ⟨.hbm, 197, rfl⟩
abbrev main_call3_v8 : Ref sig .tc := ⟨.hbm, 198, rfl⟩
abbrev main_call3_v9 : Ref sig .tc := ⟨.hbm, 199, rfl⟩
abbrev main_call3_c : Ref sig .tc := ⟨.hbm, 200, rfl⟩
abbrev main_call3_v10 : Ref sig .tc := ⟨.hbm, 201, rfl⟩
abbrev main_call3_v11 : Ref sig .tc := ⟨.hbm, 202, rfl⟩
abbrev main_call3_c_0 : Ref sig .tc := ⟨.hbm, 203, rfl⟩
abbrev main_call3_v12 : Ref sig .tc := ⟨.hbm, 204, rfl⟩
abbrev main_call3_v13 : Ref sig .tc := ⟨.hbm, 205, rfl⟩
abbrev main_call3_v14 : Ref sig .tc := ⟨.hbm, 206, rfl⟩
abbrev main_call3_c_1 : Ref sig .tc := ⟨.hbm, 207, rfl⟩
abbrev main_call3_v15 : Ref sig .tc := ⟨.hbm, 208, rfl⟩
abbrev main_call3_v16 : Ref sig .tc := ⟨.hbm, 209, rfl⟩
abbrev main_call3_v17 : Ref sig .tc := ⟨.hbm, 210, rfl⟩
abbrev main_call3_v18 : Ref sig .tc := ⟨.hbm, 211, rfl⟩
abbrev main_call3_call0_v0 : Ref sig .tc := ⟨.hbm, 212, rfl⟩
abbrev main_call3_call0_c : Ref sig .tc := ⟨.hbm, 213, rfl⟩
abbrev main_call3_call0_v1 : Ref sig .tc := ⟨.hbm, 214, rfl⟩
abbrev main_call3_call0_v2 : Ref sig .tc := ⟨.hbm, 215, rfl⟩
abbrev main_call3_call0_v3 : Ref sig .tc := ⟨.hbm, 216, rfl⟩
abbrev main_call3_call0_v4 : Ref sig .tc := ⟨.hbm, 217, rfl⟩
abbrev main_call3_call0_v5 : Ref sig .tc := ⟨.hbm, 218, rfl⟩
abbrev main_call3_call0_v6 : Ref sig .tc := ⟨.hbm, 219, rfl⟩
abbrev main_call3_call0_c_0 : Ref sig .tc := ⟨.hbm, 220, rfl⟩
abbrev main_call3_call0_v7 : Ref sig .tc := ⟨.hbm, 221, rfl⟩
abbrev main_call3_call0_v8 : Ref sig .tc := ⟨.hbm, 222, rfl⟩
abbrev main_call3_call0_c_1 : Ref sig .tc := ⟨.hbm, 223, rfl⟩
abbrev main_call3_call0_v9 : Ref sig .tc := ⟨.hbm, 224, rfl⟩
abbrev main_call3_call0_v10 : Ref sig .tc := ⟨.hbm, 225, rfl⟩
abbrev main_call3_call0_v11 : Ref sig .tc := ⟨.hbm, 226, rfl⟩
abbrev main_call3_call0_v12 : Ref sig .tc := ⟨.hbm, 227, rfl⟩
abbrev main_call3_call0_v13 : Ref sig .tc := ⟨.hbm, 228, rfl⟩
abbrev main_call3_call0_c_2 : Ref sig .tc := ⟨.hbm, 229, rfl⟩
abbrev main_call3_call0_v14 : Ref sig .tc := ⟨.hbm, 230, rfl⟩
abbrev main_call3_call0_v15 : Ref sig .tc := ⟨.hbm, 231, rfl⟩
abbrev main_call3_call0_c_3 : Ref sig .tc := ⟨.hbm, 232, rfl⟩
abbrev main_call3_call0_v16 : Ref sig .tc := ⟨.hbm, 233, rfl⟩
abbrev main_call3_call0_v17 : Ref sig .tc := ⟨.hbm, 234, rfl⟩
abbrev main_call3_call0_v18 : Ref sig .tc := ⟨.hbm, 235, rfl⟩
abbrev main_call3_call0_v19 : Ref sig .tc := ⟨.hbm, 236, rfl⟩
abbrev main_call3_call0_v20 : Ref sig .tc := ⟨.hbm, 237, rfl⟩
abbrev main_call3_call0_c_4 : Ref sig .tc := ⟨.hbm, 238, rfl⟩
abbrev main_call3_call0_v21 : Ref sig .tc := ⟨.hbm, 239, rfl⟩
abbrev main_call3_call0_v22 : Ref sig .tc := ⟨.hbm, 240, rfl⟩
abbrev main_call3_call0_c_5 : Ref sig .tc := ⟨.hbm, 241, rfl⟩
abbrev main_call3_call0_v23 : Ref sig .tc := ⟨.hbm, 242, rfl⟩
abbrev main_call3_call0_v24 : Ref sig .tc := ⟨.hbm, 243, rfl⟩
abbrev main_call3_call0_v25 : Ref sig .tc := ⟨.hbm, 244, rfl⟩
abbrev main_call3_call0_v26 : Ref sig .tc := ⟨.hbm, 245, rfl⟩
abbrev main_call3_call0_v27 : Ref sig .tc := ⟨.hbm, 246, rfl⟩
abbrev main_call3_call0_c_6 : Ref sig .tc := ⟨.hbm, 247, rfl⟩
abbrev main_call3_call0_v28 : Ref sig .tc := ⟨.hbm, 248, rfl⟩
abbrev main_call3_call0_v29 : Ref sig .tc := ⟨.hbm, 249, rfl⟩
abbrev main_call3_call0_c_7 : Ref sig .tc := ⟨.hbm, 250, rfl⟩
abbrev main_call3_call0_v30 : Ref sig .tc := ⟨.hbm, 251, rfl⟩
abbrev main_call3_call0_v31 : Ref sig .tc := ⟨.hbm, 252, rfl⟩
abbrev main_call3_call0_v32 : Ref sig .tc := ⟨.hbm, 253, rfl⟩
abbrev main_call3_call0_v33 : Ref sig .tc := ⟨.hbm, 254, rfl⟩
abbrev main_call3_call0_v34 : Ref sig .tc := ⟨.hbm, 255, rfl⟩
abbrev main_call3_call0_v35 : Ref sig .tc := ⟨.hbm, 256, rfl⟩
abbrev main_call3_call0_v36 : Ref sig .tc := ⟨.hbm, 257, rfl⟩
abbrev main_call3_call0_v37 : Ref sig .tc := ⟨.hbm, 258, rfl⟩
abbrev main_call3_call0_c_8 : Ref sig .tc := ⟨.hbm, 259, rfl⟩
abbrev main_call3_call0_v38 : Ref sig .tc := ⟨.hbm, 260, rfl⟩
abbrev main_call3_call0_v39 : Ref sig .tc := ⟨.hbm, 261, rfl⟩
abbrev main_call3_call0_v40 : Ref sig .tc := ⟨.hbm, 262, rfl⟩
abbrev main_call3_call0_c_9 : Ref sig .tc := ⟨.hbm, 263, rfl⟩
abbrev main_call3_call0_v41 : Ref sig .tc := ⟨.hbm, 264, rfl⟩
abbrev main_call3_call0_v42 : Ref sig .tc := ⟨.hbm, 265, rfl⟩
abbrev main_call3_call0_c_10 : Ref sig .tc := ⟨.hbm, 266, rfl⟩
abbrev main_call3_call0_v43 : Ref sig .tc := ⟨.hbm, 267, rfl⟩
abbrev main_call3_call0_v44 : Ref sig .tc := ⟨.hbm, 268, rfl⟩
abbrev main_call3_call0_v45 : Ref sig .tc := ⟨.hbm, 269, rfl⟩
abbrev main_call3_call0_v46 : Ref sig .tc := ⟨.hbm, 270, rfl⟩
abbrev main_call3_call0_v47 : Ref sig .tc := ⟨.hbm, 271, rfl⟩
abbrev main_call3_call0_c_11 : Ref sig .tc := ⟨.hbm, 272, rfl⟩
abbrev main_call3_call0_v48 : Ref sig .tc := ⟨.hbm, 273, rfl⟩
abbrev main_call3_call0_v49 : Ref sig .tc := ⟨.hbm, 274, rfl⟩
abbrev main_call3_call0_c_12 : Ref sig .tc := ⟨.hbm, 275, rfl⟩
abbrev main_call3_call0_v50 : Ref sig .tc := ⟨.hbm, 276, rfl⟩
abbrev main_call3_call0_v51 : Ref sig .tc := ⟨.hbm, 277, rfl⟩
abbrev main_call3_call0_v52 : Ref sig .tc := ⟨.hbm, 278, rfl⟩
abbrev main_call3_call0_v53 : Ref sig .tc := ⟨.hbm, 279, rfl⟩
abbrev main_call3_call0_v54 : Ref sig .tc := ⟨.hbm, 280, rfl⟩
abbrev main_call3_call0_c_13 : Ref sig .tc := ⟨.hbm, 281, rfl⟩
abbrev main_call3_call0_v55 : Ref sig .tc := ⟨.hbm, 282, rfl⟩
abbrev main_call3_call0_v56 : Ref sig .tc := ⟨.hbm, 283, rfl⟩
abbrev main_call3_call0_c_14 : Ref sig .tc := ⟨.hbm, 284, rfl⟩
abbrev main_call3_call0_v57 : Ref sig .tc := ⟨.hbm, 285, rfl⟩
abbrev main_call3_call0_v58 : Ref sig .tc := ⟨.hbm, 286, rfl⟩
abbrev main_call3_call0_v59 : Ref sig .tc := ⟨.hbm, 287, rfl⟩
abbrev main_call3_call0_v60 : Ref sig .tc := ⟨.hbm, 288, rfl⟩
abbrev main_call3_call0_v61 : Ref sig .tc := ⟨.hbm, 289, rfl⟩
abbrev main_call3_call0_c_15 : Ref sig .tc := ⟨.hbm, 290, rfl⟩
abbrev main_call3_call0_v62 : Ref sig .tc := ⟨.hbm, 291, rfl⟩
abbrev main_call3_call0_v63 : Ref sig .tc := ⟨.hbm, 292, rfl⟩
abbrev main_call3_call0_c_16 : Ref sig .tc := ⟨.hbm, 293, rfl⟩
abbrev main_call3_call0_v64 : Ref sig .tc := ⟨.hbm, 294, rfl⟩
abbrev main_call3_call0_v65 : Ref sig .tc := ⟨.hbm, 295, rfl⟩
abbrev main_call3_call0_v66 : Ref sig .tc := ⟨.hbm, 296, rfl⟩
abbrev main_call3_call0_v67 : Ref sig .tc := ⟨.hbm, 297, rfl⟩
abbrev main_call3_call0_v68 : Ref sig .tc := ⟨.hbm, 298, rfl⟩
abbrev main_call3_call0_v69 : Ref sig .tc := ⟨.hbm, 299, rfl⟩
abbrev main_call3_call0_v70 : Ref sig .tc := ⟨.hbm, 300, rfl⟩
abbrev main_call3_call0_v71 : Ref sig .tc := ⟨.hbm, 301, rfl⟩
abbrev main_call3_call0_c_17 : Ref sig .tc := ⟨.hbm, 302, rfl⟩
abbrev main_call3_call0_v72 : Ref sig .tc := ⟨.hbm, 303, rfl⟩
abbrev main_call3_call0_v73 : Ref sig .tc := ⟨.hbm, 304, rfl⟩
abbrev main_call3_call0_v74 : Ref sig .tc := ⟨.hbm, 305, rfl⟩
abbrev main_call3_call0_c_18 : Ref sig .tc := ⟨.hbm, 306, rfl⟩
abbrev main_call3_call0_v75 : Ref sig .tc := ⟨.hbm, 307, rfl⟩
abbrev main_call3_call0_v76 : Ref sig .tc := ⟨.hbm, 308, rfl⟩
abbrev main_call3_call0_c_19 : Ref sig .tc := ⟨.hbm, 309, rfl⟩
abbrev main_call3_call0_v77 : Ref sig .tc := ⟨.hbm, 310, rfl⟩
abbrev main_call3_call0_v78 : Ref sig .tc := ⟨.hbm, 311, rfl⟩
abbrev main_call3_call0_v79 : Ref sig .tc := ⟨.hbm, 312, rfl⟩
abbrev main_call3_call0_v80 : Ref sig .tc := ⟨.hbm, 313, rfl⟩
abbrev main_call3_call0_v81 : Ref sig .tc := ⟨.hbm, 314, rfl⟩
abbrev main_call3_call0_c_20 : Ref sig .tc := ⟨.hbm, 315, rfl⟩
abbrev main_call3_call0_v82 : Ref sig .tc := ⟨.hbm, 316, rfl⟩
abbrev main_call3_call0_v83 : Ref sig .tc := ⟨.hbm, 317, rfl⟩
abbrev main_call3_call0_c_21 : Ref sig .tc := ⟨.hbm, 318, rfl⟩
abbrev main_call3_call0_v84 : Ref sig .tc := ⟨.hbm, 319, rfl⟩
abbrev main_call3_call0_v85 : Ref sig .tc := ⟨.hbm, 320, rfl⟩
abbrev main_call3_call0_v86 : Ref sig .tc := ⟨.hbm, 321, rfl⟩
abbrev main_call3_call0_v87 : Ref sig .tc := ⟨.hbm, 322, rfl⟩
abbrev main_call3_call0_v88 : Ref sig .tc := ⟨.hbm, 323, rfl⟩
abbrev main_call3_call0_c_22 : Ref sig .tc := ⟨.hbm, 324, rfl⟩
abbrev main_call3_call0_v89 : Ref sig .tc := ⟨.hbm, 325, rfl⟩
abbrev main_call3_call0_v90 : Ref sig .tc := ⟨.hbm, 326, rfl⟩
abbrev main_call3_call0_c_23 : Ref sig .tc := ⟨.hbm, 327, rfl⟩
abbrev main_call3_call0_v91 : Ref sig .tc := ⟨.hbm, 328, rfl⟩
abbrev main_call3_call0_v92 : Ref sig .tc := ⟨.hbm, 329, rfl⟩
abbrev main_call3_call0_v93 : Ref sig .tc := ⟨.hbm, 330, rfl⟩
abbrev main_call3_call0_v94 : Ref sig .tc := ⟨.hbm, 331, rfl⟩
abbrev main_call3_call0_v95 : Ref sig .tc := ⟨.hbm, 332, rfl⟩
abbrev main_call3_call0_c_24 : Ref sig .tc := ⟨.hbm, 333, rfl⟩
abbrev main_call3_call0_v96 : Ref sig .tc := ⟨.hbm, 334, rfl⟩
abbrev main_call3_call0_v97 : Ref sig .tc := ⟨.hbm, 335, rfl⟩
abbrev main_call3_call0_c_25 : Ref sig .tc := ⟨.hbm, 336, rfl⟩
abbrev main_call3_call0_v98 : Ref sig .tc := ⟨.hbm, 337, rfl⟩
abbrev main_call3_call0_v99 : Ref sig .tc := ⟨.hbm, 338, rfl⟩
abbrev main_call3_call0_v100 : Ref sig .tc := ⟨.hbm, 339, rfl⟩
abbrev main_call3_call0_v101 : Ref sig .tc := ⟨.hbm, 340, rfl⟩
abbrev main_call3_call0_v102 : Ref sig .tc := ⟨.hbm, 341, rfl⟩
abbrev main_call3_call0_v103 : Ref sig .tc := ⟨.hbm, 342, rfl⟩
abbrev main_call3_call0_v104 : Ref sig .tc := ⟨.hbm, 343, rfl⟩
abbrev main_call3_call0_v105 : Ref sig .tc := ⟨.hbm, 344, rfl⟩
abbrev main_call3_call0_c_26 : Ref sig .tc := ⟨.hbm, 345, rfl⟩
abbrev main_call3_call0_v106 : Ref sig .tc := ⟨.hbm, 346, rfl⟩
abbrev main_call3_call0_v107 : Ref sig .tc := ⟨.hbm, 347, rfl⟩
abbrev main_call3_call0_v108 : Ref sig .tc := ⟨.hbm, 348, rfl⟩
abbrev main_call3_call0_c_27 : Ref sig .tc := ⟨.hbm, 349, rfl⟩
abbrev main_call3_call0_v109 : Ref sig .tc := ⟨.hbm, 350, rfl⟩
abbrev main_call3_call0_v110 : Ref sig .tc := ⟨.hbm, 351, rfl⟩
abbrev main_call3_call0_c_28 : Ref sig .tc := ⟨.hbm, 352, rfl⟩
abbrev main_call3_call0_v111 : Ref sig .tc := ⟨.hbm, 353, rfl⟩
abbrev main_call3_call0_v112 : Ref sig .tc := ⟨.hbm, 354, rfl⟩
abbrev main_call3_call0_v113 : Ref sig .tc := ⟨.hbm, 355, rfl⟩
abbrev main_call3_call0_v114 : Ref sig .tc := ⟨.hbm, 356, rfl⟩
abbrev main_call3_call0_v115 : Ref sig .tc := ⟨.hbm, 357, rfl⟩
abbrev main_call3_call0_c_29 : Ref sig .tc := ⟨.hbm, 358, rfl⟩
abbrev main_call3_call0_v116 : Ref sig .tc := ⟨.hbm, 359, rfl⟩
abbrev main_call3_call0_v117 : Ref sig .tc := ⟨.hbm, 360, rfl⟩
abbrev main_call3_call0_c_30 : Ref sig .tc := ⟨.hbm, 361, rfl⟩
abbrev main_call3_call0_v118 : Ref sig .tc := ⟨.hbm, 362, rfl⟩
abbrev main_call3_call0_v119 : Ref sig .tc := ⟨.hbm, 363, rfl⟩
abbrev main_call3_call0_v120 : Ref sig .tc := ⟨.hbm, 364, rfl⟩
abbrev main_call3_call0_v121 : Ref sig .tc := ⟨.hbm, 365, rfl⟩
abbrev main_call3_call0_v122 : Ref sig .tc := ⟨.hbm, 366, rfl⟩
abbrev main_call3_call0_c_31 : Ref sig .tc := ⟨.hbm, 367, rfl⟩
abbrev main_call3_call0_v123 : Ref sig .tc := ⟨.hbm, 368, rfl⟩
abbrev main_call3_call0_v124 : Ref sig .tc := ⟨.hbm, 369, rfl⟩
abbrev main_call3_call0_c_32 : Ref sig .tc := ⟨.hbm, 370, rfl⟩
abbrev main_call3_call0_v125 : Ref sig .tc := ⟨.hbm, 371, rfl⟩
abbrev main_call3_call0_v126 : Ref sig .tc := ⟨.hbm, 372, rfl⟩
abbrev main_call3_call0_v127 : Ref sig .tc := ⟨.hbm, 373, rfl⟩
abbrev main_call3_call0_v128 : Ref sig .tc := ⟨.hbm, 374, rfl⟩
abbrev main_call3_call0_v129 : Ref sig .tc := ⟨.hbm, 375, rfl⟩
abbrev main_call3_call0_c_33 : Ref sig .tc := ⟨.hbm, 376, rfl⟩
abbrev main_call3_call0_v130 : Ref sig .tc := ⟨.hbm, 377, rfl⟩
abbrev main_call3_call0_v131 : Ref sig .tc := ⟨.hbm, 378, rfl⟩
abbrev main_call3_call0_c_34 : Ref sig .tc := ⟨.hbm, 379, rfl⟩
abbrev main_call3_call0_v132 : Ref sig .tc := ⟨.hbm, 380, rfl⟩
abbrev main_call3_call0_v133 : Ref sig .tc := ⟨.hbm, 381, rfl⟩
abbrev main_call3_call0_v134 : Ref sig .tc := ⟨.hbm, 382, rfl⟩
abbrev main_call3_call0_v135 : Ref sig .tc := ⟨.hbm, 383, rfl⟩
abbrev main_call3_call0_v136 : Ref sig .tc := ⟨.hbm, 384, rfl⟩
abbrev main_call3_call0_v137 : Ref sig .tc := ⟨.hbm, 385, rfl⟩
abbrev main_call3_call0_v138 : Ref sig .tc := ⟨.hbm, 386, rfl⟩
abbrev main_call3_call0_v139 : Ref sig .tc := ⟨.hbm, 387, rfl⟩
abbrev main_call3_call0_c_35 : Ref sig .tc := ⟨.hbm, 388, rfl⟩
abbrev main_call3_call0_v140 : Ref sig .tc := ⟨.hbm, 389, rfl⟩
abbrev main_call3_call0_v141 : Ref sig .tc := ⟨.hbm, 390, rfl⟩
abbrev main_call3_call0_v142 : Ref sig .tc := ⟨.hbm, 391, rfl⟩
abbrev main_call3_call0_c_36 : Ref sig .tc := ⟨.hbm, 392, rfl⟩
abbrev main_call3_call0_v143 : Ref sig .tc := ⟨.hbm, 393, rfl⟩
abbrev main_call3_call0_v144 : Ref sig .tc := ⟨.hbm, 394, rfl⟩
abbrev main_call3_call0_c_37 : Ref sig .tc := ⟨.hbm, 395, rfl⟩
abbrev main_call3_call0_v145 : Ref sig .tc := ⟨.hbm, 396, rfl⟩
abbrev main_call3_call0_v146 : Ref sig .tc := ⟨.hbm, 397, rfl⟩
abbrev main_call3_call0_v147 : Ref sig .tc := ⟨.hbm, 398, rfl⟩
abbrev main_call3_call0_v148 : Ref sig .tc := ⟨.hbm, 399, rfl⟩
abbrev main_call3_call0_v149 : Ref sig .tc := ⟨.hbm, 400, rfl⟩
abbrev main_call3_call0_c_38 : Ref sig .tc := ⟨.hbm, 401, rfl⟩
abbrev main_call3_call0_v150 : Ref sig .tc := ⟨.hbm, 402, rfl⟩
abbrev main_call3_call0_v151 : Ref sig .tc := ⟨.hbm, 403, rfl⟩
abbrev main_call3_call0_c_39 : Ref sig .tc := ⟨.hbm, 404, rfl⟩
abbrev main_call3_call0_v152 : Ref sig .tc := ⟨.hbm, 405, rfl⟩
abbrev main_call3_call0_v153 : Ref sig .tc := ⟨.hbm, 406, rfl⟩
abbrev main_call3_call0_v154 : Ref sig .tc := ⟨.hbm, 407, rfl⟩
abbrev main_call3_call0_v155 : Ref sig .tc := ⟨.hbm, 408, rfl⟩
abbrev main_call3_call0_v156 : Ref sig .tc := ⟨.hbm, 409, rfl⟩
abbrev main_call3_call0_c_40 : Ref sig .tc := ⟨.hbm, 410, rfl⟩
abbrev main_call3_call0_v157 : Ref sig .tc := ⟨.hbm, 411, rfl⟩
abbrev main_call3_call0_v158 : Ref sig .tc := ⟨.hbm, 412, rfl⟩
abbrev main_call3_call0_c_41 : Ref sig .tc := ⟨.hbm, 413, rfl⟩
abbrev main_call3_call0_v159 : Ref sig .tc := ⟨.hbm, 414, rfl⟩
abbrev main_call3_call0_v160 : Ref sig .tc := ⟨.hbm, 415, rfl⟩
abbrev main_call3_call0_v161 : Ref sig .tc := ⟨.hbm, 416, rfl⟩
abbrev main_call3_call0_v162 : Ref sig .tc := ⟨.hbm, 417, rfl⟩
abbrev main_call3_call0_v163 : Ref sig .tc := ⟨.hbm, 418, rfl⟩
abbrev main_call3_call0_c_42 : Ref sig .tc := ⟨.hbm, 419, rfl⟩
abbrev main_call3_call0_v164 : Ref sig .tc := ⟨.hbm, 420, rfl⟩
abbrev main_call3_call0_v165 : Ref sig .tc := ⟨.hbm, 421, rfl⟩
abbrev main_call3_call0_c_43 : Ref sig .tc := ⟨.hbm, 422, rfl⟩
abbrev main_call3_call0_v166 : Ref sig .tc := ⟨.hbm, 423, rfl⟩
abbrev main_call3_call0_v167 : Ref sig .tc := ⟨.hbm, 424, rfl⟩
abbrev main_call3_call0_v168 : Ref sig .tc := ⟨.hbm, 425, rfl⟩
abbrev main_call3_call0_v169 : Ref sig .tc := ⟨.hbm, 426, rfl⟩
abbrev main_call3_call0_v170 : Ref sig .tc := ⟨.hbm, 427, rfl⟩
abbrev main_call3_v19_0 : Ref sig .tc := ⟨.hbm, 428, rfl⟩
abbrev main_call3_call0_v172 : Ref sig .tc := ⟨.hbm, 429, rfl⟩
abbrev main_call3_call0_v173 : Ref sig .tc := ⟨.hbm, 430, rfl⟩
abbrev main_call3_call0_c_44 : Ref sig .tc := ⟨.hbm, 431, rfl⟩
abbrev main_call3_call0_v174 : Ref sig .tc := ⟨.hbm, 432, rfl⟩
abbrev main_call3_v19_1 : Ref sig .tc := ⟨.hbm, 433, rfl⟩
abbrev main_call3_v20 : Ref sig .tc := ⟨.hbm, 434, rfl⟩
abbrev main_call3_c_2 : Ref sig .tc := ⟨.hbm, 435, rfl⟩
abbrev main_call3_v21 : Ref sig .tc := ⟨.hbm, 436, rfl⟩
abbrev main_call3_v22 : Ref sig .tc := ⟨.hbm, 437, rfl⟩
abbrev main_call3_c_3 : Ref sig .tc := ⟨.hbm, 438, rfl⟩
abbrev main_call3_v23 : Ref sig .tc := ⟨.hbm, 439, rfl⟩
abbrev main_call3_v24 : Ref sig .tc := ⟨.hbm, 440, rfl⟩
abbrev main_call3_v25 : Ref sig .tc := ⟨.hbm, 441, rfl⟩
abbrev main_call3_cst : Ref sig .tc := ⟨.hbm, 442, rfl⟩
abbrev main_call3_v26 : Ref sig .tc := ⟨.hbm, 443, rfl⟩
abbrev main_call3_v27 : Ref sig .tc := ⟨.hbm, 444, rfl⟩
abbrev main_call3_v28 : Ref sig .tc := ⟨.hbm, 445, rfl⟩
abbrev main_call3_v29 : Ref sig .tc := ⟨.hbm, 446, rfl⟩
abbrev main_call3_v30 : Ref sig .tc := ⟨.hbm, 447, rfl⟩
abbrev main_call3_v31 : Ref sig .tc := ⟨.hbm, 448, rfl⟩
abbrev main_call3_v32 : Ref sig .tc := ⟨.hbm, 449, rfl⟩
abbrev main_call3_v33 : Ref sig .tc := ⟨.hbm, 450, rfl⟩
abbrev main_v124 : Ref sig .tc := ⟨.hbm, 451, rfl⟩
abbrev main_call4_v0 : Ref sig .tc := ⟨.hbm, 452, rfl⟩
abbrev main_call4_v1_0 : Ref sig .tc := ⟨.hbm, 453, rfl⟩
abbrev main_v125 : Ref sig .tc := ⟨.hbm, 454, rfl⟩
abbrev main_call5_v0 : Ref sig .tc := ⟨.hbm, 455, rfl⟩
abbrev main_call5_v1_0 : Ref sig .tc := ⟨.hbm, 456, rfl⟩
abbrev main_v126 : Ref sig .tc := ⟨.hbm, 457, rfl⟩
abbrev main_v127 : Ref sig .tc := ⟨.hbm, 458, rfl⟩
abbrev main_call6_c : Ref sig .tc := ⟨.hbm, 459, rfl⟩
abbrev main_call6_v0 : Ref sig .tc := ⟨.hbm, 460, rfl⟩
abbrev main_call6_v1 : Ref sig .tc := ⟨.hbm, 461, rfl⟩
abbrev main_call6_c_0 : Ref sig .tc := ⟨.hbm, 462, rfl⟩
abbrev main_call6_v2 : Ref sig .tc := ⟨.hbm, 463, rfl⟩
abbrev main_call6_v3 : Ref sig .tc := ⟨.hbm, 464, rfl⟩
abbrev main_call6_v4 : Ref sig .tc := ⟨.hbm, 465, rfl⟩
abbrev main_call6_v5 : Ref sig .tc := ⟨.hbm, 466, rfl⟩
abbrev main_call6_c_1 : Ref sig .tc := ⟨.hbm, 467, rfl⟩
abbrev main_call6_c_2 : Ref sig .tc := ⟨.hbm, 468, rfl⟩
abbrev main_call6_v6 : Ref sig .tc := ⟨.hbm, 469, rfl⟩
abbrev main_call6_v7 : Ref sig .tc := ⟨.hbm, 470, rfl⟩
abbrev main_call6_v8 : Ref sig .tc := ⟨.hbm, 471, rfl⟩
abbrev main_call6_v9 : Ref sig .tc := ⟨.hbm, 472, rfl⟩
abbrev main_call6_v10 : Ref sig .tc := ⟨.hbm, 473, rfl⟩
abbrev main_call6_v11 : Ref sig .tc := ⟨.hbm, 474, rfl⟩
abbrev main_call6_c_3 : Ref sig .tc := ⟨.hbm, 475, rfl⟩
abbrev main_call6_v12 : Ref sig .tc := ⟨.hbm, 476, rfl⟩
abbrev main_call6_v13 : Ref sig .tc := ⟨.hbm, 477, rfl⟩
abbrev main_call6_cst : Ref sig .tc := ⟨.hbm, 478, rfl⟩
abbrev main_call6_v14 : Ref sig .tc := ⟨.hbm, 479, rfl⟩
abbrev main_v128 : Ref sig .tc := ⟨.hbm, 480, rfl⟩

abbrev nD : Nat := 1
abbrev τ : Topo := Topo.v7x

variable {F : FTy → Type} [FloatOps F]
-- ==== Proof.TileLoop.lean ====
/- The SparseCore tile's program, read as a loop: the printed body repeats one step sixty-four times, at the
   offsets 0, 16, …, 1008. Here the step is a function of its number, and the body is the two copies in, the
   steps in order, and the copy out. -/
module

public import proofs.«01_k».proof.KernelIdeal.P01

@[expose] public section

noncomputable section

namespace Cert.KernelIdeal.Tile

open Idealize.ShloMosaic Idealize.SL.Sem Cert.KernelIdeal Facts₀ Facts

variable {F : FTy → Type} [FloatOps F] [Facts]

/-- A group of sixteen lanes, at sixteen times its number, lies in a row of 1024. -/
theorem group_inb (j : Nat) (hj : j < 64) : ∀ a, (![16 * j] : Fin 1 → Nat) a + S16.size a ≤ S1024.size a := by
  intro a
  fin_cases a
  show 16 * j + 16 ≤ 1024
  omega

/-- One step of the tile's gather: sixteen row numbers read, the mask's elements they name gathered, and the
    sixteen stored at the same place. -/
def step {p : Proc τ} (arg5 : Memref sig p.kind .vmem S32768 .f32) (arg6 : Memref sig p.kind .vmem S1024 .i32)
    (arg7 : Memref sig p.kind .vmem S1024 .f32) (j : Nat) (hj : j < 64) :
    Prog (TpuEff nD τ sig (Elt F) Λ₀ p) PUnit := do
  let v : Vec F S16 .i32 ← Prog.lift (.load arg6 (Rect.unit (s := S1024) ![16 * j] S16.size (group_inb j hj)).toLoadRect (View.loadsAt_vmem h_S16))
  have hw : k2_chk1 v := (← Prog.lift (TpuEff.assume (k2_chk1 v) (k2_chk1.dec v))).down
  let g : Vec F S16 .f32 ← SparseCore.vectorLoadIdx arg5 ![v] (k2_idx1_inb v hw) (View.loads_vmem h_S32768)
  let _ : Vec F S16 .f32 ← Prog.lift (.load arg7 (Rect.unit (s := S1024) ![16 * j] S16.size (group_inb j hj)).toLoadRect (View.loadsAt_vmem h_S16))
  Prog.lift (.store arg7 (Rect.unit (s := S1024) ![16 * j] S16.size (group_inb j hj)) g Finset.univ (View.stores_vmem_bits_univ h_S16 rfl) (.inl rfl))

/-- The steps from number `64 - n` on, then `k`. -/
def steps {p : Proc τ} (arg5 : Memref sig p.kind .vmem S32768 .f32) (arg6 : Memref sig p.kind .vmem S1024 .i32)
    (arg7 : Memref sig p.kind .vmem S1024 .f32) (k : Prog (TpuEff nD τ sig (Elt F) Λ₀ p) PUnit) :
    (n : Nat) → n ≤ 64 → Prog (TpuEff nD τ sig (Elt F) Λ₀ p) PUnit
  | 0, _ => k
  | n + 1, h => step arg5 arg6 arg7 (64 - (n + 1)) (Nat.sub_lt (by decide) (Nat.succ_pos n)) >>= fun _ =>
      steps arg5 arg6 arg7 k n (Nat.le_of_succ_le h)

/-- The tile's copy of its row of the gathered mask to HBM. -/
def copyOut (i : grid2.Coords) (arg4 : Memref sig .scVector .hbm S32768 .f32) (arg7 : Memref sig .scVector .vmem S1024 .f32)
    (harg7 : arg7.IsWhole) (r2 : DmaSems sig S_) :
    Prog (TpuEff nD τ sig (Elt F) Λ₀ (.scVector ((i 0).castLE hcore2) ((i 1).castLE hsub2))) PUnit := do
  Prog.lift (.enqueueDma arg7 (.here (arg4.slice (Rect.unit (s := S32768) (k2_off2 i) S1024.size (k2_off2_inb i)) (fun _ => rfl))) (.dma r2.sem) harg7.wordExact (View.wordExact_bits rfl) ⟨Or.inl rfl, trivial⟩)
  Prog.lift (.waitDma2 r2.sem arg7 (arg4.slice (Rect.unit (s := S32768) (k2_off2 i) S1024.size (k2_off2_inb i)) (fun _ => rfl)) harg7.wordExact (View.wordExact_bits rfl))
  pure ⟨⟩

/-- The tile's program, as copies and a loop. -/
def looped (i : grid2.Coords) (arg2 : Memref sig .scVector .hbm S32768 .f32) (harg2 : arg2.IsWhole) (arg3 : Memref sig .scVector .hbm S32768 .i32) (harg3 : arg3.IsWhole) (arg4 : Memref sig .scVector .hbm S32768 .f32) (harg4 : arg4.IsWhole) (arg5 : Memref sig .scVector .vmem S32768 .f32) (harg5 : arg5.IsWhole) (arg6 : Memref sig .scVector .vmem S1024 .i32) (harg6 : arg6.IsWhole) (arg7 : Memref sig .scVector .vmem S1024 .f32) (harg7 : arg7.IsWhole) (r0 r1 r2 : DmaSems sig S_) :
    Prog (TpuEff nD τ sig (Elt F) Λ₀ (.scVector ((i 0).castLE hcore2) ((i 1).castLE hsub2))) PUnit := do
  Prog.lift (.enqueueDma arg2 (.here arg5) (.dma r0.sem) harg2.wordExact harg5.wordExact ⟨Or.inl rfl, trivial⟩)
  Prog.lift (.waitDma2 r0.sem arg2 arg5 harg2.wordExact harg5.wordExact)
  Prog.lift (.enqueueDma (arg3.slice (Rect.unit (s := S32768) (k2_off1 i) S1024.size (k2_off1_inb i)) (fun _ => rfl)) (.here arg6) (.dma r1.sem) (View.wordExact_bits rfl) harg6.wordExact ⟨Or.inl rfl, trivial⟩)
  Prog.lift (.waitDma2 r1.sem (arg3.slice (Rect.unit (s := S32768) (k2_off1 i) S1024.size (k2_off1_inb i)) (fun _ => rfl)) arg6 (View.wordExact_bits rfl) harg6.wordExact)
  steps arg5 arg6 arg7 (copyOut i arg4 arg7 harg7 r2) 64 le_rfl

set_option maxRecDepth 100000 in
theorem cc2_k_eq (i : grid2.Coords) (arg2 : Memref sig .scVector .hbm S32768 .f32) (harg2 : arg2.IsWhole) (arg3 : Memref sig .scVector .hbm S32768 .i32) (harg3 : arg3.IsWhole) (arg4 : Memref sig .scVector .hbm S32768 .f32) (harg4 : arg4.IsWhole) (arg5 : Memref sig .scVector .vmem S32768 .f32) (harg5 : arg5.IsWhole) (arg6 : Memref sig .scVector .vmem S1024 .i32) (harg6 : arg6.IsWhole) (arg7 : Memref sig .scVector .vmem S1024 .f32) (harg7 : arg7.IsWhole) (r0 r1 r2 : DmaSems sig S_) :
    cc2_k (F := F) i arg2 harg2 arg3 harg3 arg4 harg4 arg5 harg5 arg6 harg6 arg7 harg7 r0 r1 r2
      = looped i arg2 harg2 arg3 harg3 arg4 harg4 arg5 harg5 arg6 harg6 arg7 harg7 r0 r1 r2 := by
  rfl

end Cert.KernelIdeal.Tile

end
-- ==== Proof.Setup.lean ====
/- The launch of the kernel's program: its SparseCore call, the resource algebra (the handshakes' rounds, the pipelines'
   cells, the counters of the tiles' own copies), and what the call's handshakes carry. -/
module

public import proofs.«01_k».proof.Proof.TileLoop
public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Tactic

@[expose] public section

noncomputable section

namespace Cert.KernelIdeal.Run

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipelines' rounds, the copies' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The call's arrays, and the rows of the tiles -/

/-- The mask, the row numbers and the gathered mask, each a flat array of 32 rows of 1024, as locations of device `d`. -/
abbrev mLoc (d : Dev nD) : Loc nD τ sig := (SparseCore.T d).loc main_v114
abbrev iLoc (d : Dev nD) : Loc nD τ sig := (SparseCore.T d).loc main_v113
abbrev oLoc (d : Dev nD) : Loc nD τ sig := (SparseCore.T d).loc main_v115

/-- The elements of row `2 * s + c`: those tile `s` of SparseCore `c` gathers. -/
def rowSet (p : Fin 2 × Fin 16) : Finset S32768.Idx :=
  Finset.univ.filter fun x => (x 0).val / 1024 = 2 * p.2.val + p.1.val

/-- The mask gathered at the row numbers: element `x` is the mask's at `idx x`. -/
def gath (mask : Vec F S32768 .f32) (idx : IVec S32768 32) : Vec F S32768 .f32 :=
  fun x => mask fun a => ⟨(idx x).toNat % S32768.size a, Nat.mod_lt _ (by fin_cases a; decide)⟩

/-- The read share of the mask tile `s` of SparseCore `c` holds. -/
abbrev mShare (p : Fin 2 × Fin 16) : PosShare TreeShare :=
  Transfers.dealOf fullShare (Finset.univ : Finset (Fin 2 ×ₗ Fin 16)) (toLex p)

/-- What the call's handshakes carry, from the three arrays' contents on each device: to a tile, a share of the mask, its row of the
    row numbers and of the result; back, the same with the row of the result gathered. A SparseCore's is its tiles'. -/
def P (mask : Dev nD → Vec F S32768 .f32) (idx : Dev nD → IVec S32768 32) (o : Dev nD → Vec F S32768 .f32) :
    (K (F := F)).Pay (nD := nD) (Val := Elt F) (Name := ℕ) (U := UU) where
  st := fun q d c => match q with
    | 0 => bigSep Finset.univ fun i : Fin 16 => iprop((mLoc d ↦{mShare (c, i)} mask d) ∗ (iLoc d ↦[rowSet (c, i)]{fullShare} idx d) ∗ (oLoc d ↦[rowSet (c, i)]{fullShare} o d))
  dn := fun q d c => match q with
    | 0 => bigSep Finset.univ fun i : Fin 16 => iprop((mLoc d ↦{mShare (c, i)} mask d) ∗ (iLoc d ↦[rowSet (c, i)]{fullShare} idx d) ∗ (oLoc d ↦[rowSet (c, i)]{fullShare} gath (mask d) (idx d)))
  go := fun q d c i => match q with
    | 0 => iprop((mLoc d ↦{mShare (c, i)} mask d) ∗ (iLoc d ↦[rowSet (c, i)]{fullShare} idx d) ∗ (oLoc d ↦[rowSet (c, i)]{fullShare} o d))
  td := fun q d c i => match q with
    | 0 => iprop((mLoc d ↦{mShare (c, i)} mask d) ∗ (iLoc d ↦[rowSet (c, i)]{fullShare} idx d) ∗ (oLoc d ↦[rowSet (c, i)]{fullShare} gath (mask d) (idx d)))
  x := fun _ _ => iprop(emp)

variable (mask : Dev nD → Vec F S32768 .f32) (idx : Dev nD → IVec S32768 32) (o : Dev nD → Vec F S32768 .f32)

instance P_storable : (P (F := F) mask idx o).IsStorable where
  st q d c := match q with
    | 0 => (inferInstance : BI.Storable (upEmb : UEmb _ 𝕄) (bigSep Finset.univ fun i : Fin 16 => iprop((mLoc d ↦{mShare (c, i)} mask d) ∗ (iLoc d ↦[rowSet (c, i)]{fullShare} idx d) ∗ (oLoc d ↦[rowSet (c, i)]{fullShare} o d))))
  dn q d c := match q with
    | 0 => (inferInstance : BI.Storable (upEmb : UEmb _ 𝕄) (bigSep Finset.univ fun i : Fin 16 => iprop((mLoc d ↦{mShare (c, i)} mask d) ∗ (iLoc d ↦[rowSet (c, i)]{fullShare} idx d) ∗ (oLoc d ↦[rowSet (c, i)]{fullShare} gath (mask d) (idx d)))))
  go q d c i := match q with
    | 0 => (inferInstance : BI.Storable (upEmb : UEmb _ 𝕄) iprop((mLoc d ↦{mShare (c, i)} mask d) ∗ (iLoc d ↦[rowSet (c, i)]{fullShare} idx d) ∗ (oLoc d ↦[rowSet (c, i)]{fullShare} o d)))
  td q d c i := match q with
    | 0 => (inferInstance : BI.Storable (upEmb : UEmb _ 𝕄) iprop((mLoc d ↦{mShare (c, i)} mask d) ∗ (iLoc d ↦[rowSet (c, i)]{fullShare} idx d) ∗ (oLoc d ↦[rowSet (c, i)]{fullShare} gath (mask d) (idx d))))

end Cert.KernelIdeal.Run

end
-- ==== Proof.Tile.lean ====
/- One tile's task: the mask fetched whole, the tile's row of row numbers fetched, the row of the mask gathered in
   sixty-four steps and copied out. Its run, with the value of the row it leaves. -/
module

public import proofs.«01_k».proof.Proof.Setup
public import Idealize.ShloMosaic.Lib.Pipeline.ValueKit

@[expose] public section

noncomputable section

namespace Cert.KernelIdeal.Run

open Cert.KernelIdeal Facts₀ Facts
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [Facts] [FloatOps F]

local notation "𝕄" => MT nD τ sig (HIx 1) (Elt F) ℕ UU ℕ

abbrev mV : Memref sig .scVector .hbm S32768 .f32 := Memref.whole main_v114_scv
abbrev iV : Memref sig .scVector .hbm S32768 .i32 := Memref.whole main_v113_scv
abbrev oV : Memref sig .scVector .hbm S32768 .f32 := Memref.whole main_v115_scv
/-- A tile's scratch: the mask, its row numbers, its row of the result. -/
abbrev sM : Memref sig .scVector .vmem S32768 .f32 := Memref.whole cc2_scratch0
abbrev sI : Memref sig .scVector .vmem S1024 .i32 := Memref.whole cc2_scratch1
abbrev sO : Memref sig .scVector .vmem S1024 .f32 := Memref.whole cc2_scratch2

theorem row_off1 : ∀ i : grid2.Coords, k2_off1 i = ![2048 * (i 1).val + 1024 * (i 0).val] := by decide +kernel
theorem row_off2 : ∀ i : grid2.Coords, k2_off2 i = ![2048 * (i 1).val + 1024 * (i 0).val] := by decide +kernel

section Tile

variable (d : Dev nD) (L : grid2.Coords)

abbrev cV (L : grid2.Coords) : Fin τ.nSC := (L 0).castLE hcore2
abbrev jV (L : grid2.Coords) : Fin τ.nSub := (L 1).castLE hsub2
/-- The tile's pair, in the grid. -/
abbrev pair (L : grid2.Coords) : Fin 2 × Fin 16 := (L 0, L 1)

abbrev row1 (L : grid2.Coords) : Rect S32768 := Rect.unit (s := S32768) (k2_off1 L) S1024.size (k2_off1_inb L)
abbrev row2 (L : grid2.Coords) : Rect S32768 := Rect.unit (s := S32768) (k2_off2 L) S1024.size (k2_off2_inb L)
abbrev iRow (L : grid2.Coords) : Memref sig .scVector .hbm S1024 .i32 := (iV : Memref sig .scVector .hbm S32768 .i32).slice (row1 L) (fun _ => rfl)
abbrev oRow (L : grid2.Coords) : Memref sig .scVector .hbm S1024 .f32 := (oV : Memref sig .scVector .hbm S32768 .f32).slice (row2 L) (fun _ => rfl)

omit [Facts] [FloatOps F] in
theorem mem_row {off : Fin 1 → Nat} {inb} (hoff : off = ![2048 * (L 1).val + 1024 * (L 0).val]) (x : S32768.Idx) :
    x ∈ (Rect.unit (s := S32768) off S1024.size inb).set ↔ x ∈ rowSet (pair L) := by
  subst hoff
  rw [Rect.mem_set_unit]
  unfold rowSet
  rw [Finset.mem_filter, Fin.forall_fin_one]
  show (2048 * (L 1).val + 1024 * (L 0).val ≤ (x 0).val ∧ (x 0).val < 2048 * (L 1).val + 1024 * (L 0).val + 1024) ↔ _ ∧ (x 0).val / 1024 = 2 * (L 1).val + (L 0).val
  simp only [Finset.mem_univ, true_and]
  omega

omit [FloatOps F] in
theorem set_iRow : (iRow L).view.set = rowSet (pair L) := by
  show ((View.whole (main_v113_scv : Ref sig .scVector)).slice (row1 L)).set = _
  rw [View.set_slice_whole]
  exact Finset.ext fun x => mem_row L (row_off1 L) x
omit [FloatOps F] in
theorem set_oRow : (oRow L).view.set = rowSet (pair L) := by
  show ((View.whole (main_v115_scv : Ref sig .scVector)).slice (row2 L)).set = _
  rw [View.set_slice_whole]
  exact Finset.ext fun x => mem_row L (row_off2 L) x

/-- Element `y` of the tile's row, in the flat array. -/
def inRow (y : S1024.Idx) : S32768.Idx := (row1 L).emb y

omit [FloatOps F] in
theorem oRow_emb (y : S1024.Idx) : (row2 L).emb y = inRow L y := by
  funext a
  apply Fin.ext
  unfold inRow
  rw [ValueKit.rect_emb_unit_val, ValueKit.rect_emb_unit_val, congrFun (row_off1 L) a, congrFun (row_off2 L) a]

/-- What a tile gathers: element `y` of its row. -/
def gathRow (mask : Vec F S32768 .f32) (idx : IVec S32768 32) (y : S1024.Idx) : F .f32 := gath mask idx (inRow L y)

abbrev c0 (d : Dev nD) (L : grid2.Coords) : GSem nD τ sig := (V d (cV L) (jV L), .dma cc2_scoped0.sem)
abbrev c1 (d : Dev nD) (L : grid2.Coords) : GSem nD τ sig := (V d (cV L) (jV L), .dma cc2_scoped1.sem)
abbrev c2 (d : Dev nD) (L : grid2.Coords) : GSem nD τ sig := (V d (cV L) (jV L), .dma cc2_scoped2.sem)

omit [FloatOps F] in
theorem ownSems0_V :
    (ownSems0 (V d (cV L) (jV L)) : sProp 𝕄)
      = iprop(semVal (c0 d L) 0 ∗ semVal (c1 d L) 0 ∗ semVal (c2 d L) 0
          ∗ bigSep ((((ownCells (V d (cV L) (jV L))).erase (c0 d L)).erase (c1 d L)).erase (c2 d L)) fun g => semVal g 0) := by
  unfold SparseCore.Cfg.ownSems0
  rw [SparseCore.bigSep_erase' ((mem_ownCells (g := c0 d L)).mpr ⟨rfl, by
      show (SemLoc.dma cc2_scoped0.sem : SemLoc sig).isScoped .scVector = true; decide⟩),
    SparseCore.bigSep_erase' (Finset.mem_erase.mpr ⟨by simp [c0, c1]; decide, (mem_ownCells (g := c1 d L)).mpr ⟨rfl, by
      show (SemLoc.dma cc2_scoped1.sem : SemLoc sig).isScoped .scVector = true; decide⟩⟩),
    SparseCore.bigSep_erase' (Finset.mem_erase.mpr ⟨by simp [c1, c2]; decide, Finset.mem_erase.mpr ⟨by simp [c0, c2]; decide,
      (mem_ownCells (g := c2 d L)).mpr ⟨rfl, by show (SemLoc.dma cc2_scoped2.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV L) (jV L)) (b := (Proc.scVector (cV L) (jV L)).devRef cc2_scratch2) rfl⟩⟩)]

/-! ### The steps -/

variable (mask : Vec F S32768 .f32) (idx : IVec S32768 32)

/-- The tile's row of row numbers. -/
abbrev idxRow : Vec F S1024 .i32 := fun y => idx (inRow L y)

/-- The lane group a step reads and stores. -/
abbrev grp (j : Nat) (hj : j < 64) : Rect S1024 := Rect.unit (s := S1024) ![16 * j] S16.size (Tile.group_inb j hj)

abbrev pM (f : Vec F S32768 .f32) : sProp 𝕄 := (V d (cV L) (jV L)).loc cc2_scratch0 ↦{fullShare} f
abbrev pI (f : Vec F S1024 .i32) : sProp 𝕄 := (V d (cV L) (jV L)).loc cc2_scratch1 ↦{fullShare} f
abbrev pO (f : Vec F S1024 .f32) : sProp 𝕄 := (V d (cV L) (jV L)).loc cc2_scratch2 ↦{fullShare} f

/-- What a step leaves in the tile's row: the sixteen elements of its group gathered. -/
def stepRow (f : Vec F S1024 .f32) (j : Nat) (y : S1024.Idx) : F .f32 :=
  if (y 0).val / 16 = j then gathRow L mask idx y else f y

theorem chk_row (hidx : ∀ x, (idx x).toNat < 32768) (j : Nat) (hj : j < 64) :
    k2_chk1 ((sI : Memref sig .scVector .vmem S1024 .i32).view.readAt (Elt F) (grp j hj).toLoadRect (idxRow (F := F) L idx)) := by
  intro a x
  obtain rfl : a = 0 := Subsingleton.elim _ _
  exact hidx _

theorem store_row (hidx : ∀ x, (idx x).toNat < 32768) (f : Vec F S1024 .f32) (j : Nat) (hj : j < 64) :
    ((sO : Memref sig .scVector .vmem S1024 .f32).access (grp j hj)).write (Elt F) f
        (loadIdx (((sM : Memref sig .scVector .vmem S32768 .f32).access (.whole S32768)).read (Elt F) mask)
          ![(sI : Memref sig .scVector .vmem S1024 .i32).view.readAt (Elt F) (grp j hj).toLoadRect (idxRow (F := F) L idx)]
          (k2_idx1_inb _ (chk_row L idx hidx j hj))) Finset.univ
      = stepRow L mask idx f j := by
  funext y
  by_cases hy : (y 0).val / 16 = j
  · obtain ⟨x, hx⟩ : ∃ x : S16.Idx, (grp j hj).emb x = y := by
      refine ⟨fun a => ⟨(y 0).val % 16, by fin_cases a; exact Nat.mod_lt _ (by decide)⟩, ?_⟩
      funext a
      apply Fin.ext
      rw [ValueKit.rect_emb_unit_val]
      obtain rfl : a = 0 := Subsingleton.elim _ _
      show 16 * j + (y 0).val % 16 = (y 0).val
      omega
    unfold stepRow
    rw [if_pos hy, ← hx]
    refine (View.write_emb_of_mem (v := (sO : Memref sig .scVector .vmem S1024 .f32).access (grp j hj)) f _ (Finset.mem_univ x)).trans ?_
    refine (cast_eq _ _).trans ?_
    show mask _ = mask _
    congr 1
    funext (a : Fin 1)
    apply Fin.ext
    obtain rfl : a = 0 := Subsingleton.elim _ _
    show 0 + 1 * (idx (inRow L ((grp j hj).emb x))).toNat = (idx (inRow L ((grp j hj).emb x))).toNat % 32768
    rw [Nat.mod_eq_of_lt (hidx _)]
    omega
  · unfold stepRow
    rw [if_neg hy]
    refine View.write_of_not_mem (v := (sO : Memref sig .scVector .vmem S1024 .f32).access (grp j hj)) f _ _ fun h => hy ?_
    have h' : y ∈ (grp j hj).set := by
      have := h
      rw [show ((sO : Memref sig .scVector .vmem S1024 .f32).access (grp j hj)).setOn Finset.univ
        = ((View.whole (cc2_scratch2 : Ref sig .scVector)).slice (grp j hj)).set from rfl, View.set_slice_whole] at this
      exact this
    rw [Rect.mem_set_unit] at h'
    have := h' 0
    have h1 : 16 * j ≤ (y 0).val ∧ (y 0).val < 16 * j + 16 := this
    omega

theorem wp_step (hidx : ∀ x, (idx x).toNat < 32768) (f : Vec F S1024 .f32) (j : Nat) (hj : j < 64)
    (k : PUnit → Prog (TpuEff nD τ sig (Elt F) Λ₀ (.scVector (cV L) (jV L))) PUnit) (Q : PUnit → sProp 𝕄) :
    iprop(pM d L mask ∗ pI d L (idxRow (F := F) L idx) ∗ pO d L f
        ∗ (iprop(pM d L mask ∗ pI d L (idxRow (F := F) L idx) ∗ pO d L (stepRow L mask idx f j))
            -∗ wp frame (wpE (defs₀ (F := F)) 𝒱₀ (V d (cV L) (jV L)) none) Set.univ (k ⟨⟩) Q))
      ⊢ wp frame (wpE (defs₀ (F := F)) 𝒱₀ (V d (cV L) (jV L)) none) Set.univ
          (Tile.step (F := F) (p := .scVector (cV L) (jV L)) sM sI sO j hj >>= k) Q := by
  unfold Tile.step
  simp only [Prog.lift, Prog.bind_op, Prog.bind_ret, Prog.pure_eq_ret, bind_assoc]
  iintro ⟨HM, HI, HO, Hk⟩
  iapply (wp_load 𝒱₀ (V d (cV L) (jV L)) none Set.univ (m := (sI : Memref sig .scVector .vmem S1024 .i32)) (S := Finset.univ) (Finset.subset_univ _)) $$ HI; iintro HI
  rw [wp_assume_of _ _ _ _ (chk_row L idx hidx j hj)]
  iapply (SparseCore.wp_vectorLoadIdx 𝒱₀ (V d (cV L) (jV L)) none Set.univ (base := (sM : Memref sig .scVector .vmem S32768 .f32)) (S := Finset.univ) (q := fullShare) (Finset.subset_univ _)) $$ HM; iintro HM
  iapply (wp_load 𝒱₀ (V d (cV L) (jV L)) none Set.univ (m := (sO : Memref sig .scVector .vmem S1024 .f32)) (S := Finset.univ) (Finset.subset_univ _)) $$ HO; iintro HO
  iapply (wp_store 𝒱₀ (V d (cV L) (jV L)) none Set.univ (m := (sO : Memref sig .scVector .vmem S1024 .f32)) (r := grp j hj) (Mk := Finset.univ) (S := Finset.univ) (Finset.subset_univ _)) $$ HO; iintro HO
  iapply Hk
  isplitl [HM]; · iexact HM
  isplitl [HI]; · iexact HI
  rw [← store_row L mask idx hidx f j hj]
  iexact HO

/-- The row after the steps before number `j`. -/
def rowUpTo (f : Vec F S1024 .f32) (j : Nat) (y : S1024.Idx) : F .f32 :=
  if (y 0).val / 16 < j then gathRow L mask idx y else f y

theorem rowUpTo_succ (f : Vec F S1024 .f32) (j : Nat) :
    stepRow L mask idx (rowUpTo L mask idx f j) j = rowUpTo L mask idx f (j + 1) := by
  funext y
  unfold stepRow rowUpTo
  by_cases h : (y 0).val / 16 = j
  · rw [if_pos h, if_pos (by omega)]
  · rw [if_neg h]
    by_cases h' : (y 0).val / 16 < j
    · rw [if_pos h', if_pos (by omega)]
    · rw [if_neg h', if_neg (by omega)]

theorem rowUpTo_all (f : Vec F S1024 .f32) : rowUpTo L mask idx f 64 = gathRow L mask idx := by
  funext y
  exact if_pos (by have : (y 0).val < 1024 := (y 0).isLt; omega)

theorem wp_steps (hidx : ∀ x, (idx x).toNat < 32768) (f : Vec F S1024 .f32)
    (k : Prog (TpuEff nD τ sig (Elt F) Λ₀ (.scVector (cV L) (jV L))) PUnit) (Q : PUnit → sProp 𝕄) :
    ∀ (n : Nat) (hn : n ≤ 64),
    iprop(pM d L mask ∗ pI d L (idxRow (F := F) L idx) ∗ pO d L (rowUpTo L mask idx f (64 - n))
        ∗ (iprop(pM d L mask ∗ pI d L (idxRow (F := F) L idx) ∗ pO d L (gathRow L mask idx))
            -∗ wp frame (wpE (defs₀ (F := F)) 𝒱₀ (V d (cV L) (jV L)) none) Set.univ k Q))
      ⊢ wp frame (wpE (defs₀ (F := F)) 𝒱₀ (V d (cV L) (jV L)) none) Set.univ
          (Tile.steps (F := F) (p := .scVector (cV L) (jV L)) sM sI sO k n hn) Q
  | 0, _ => by
      rw [show 64 - 0 = 64 from rfl, rowUpTo_all]
      unfold Tile.steps
      iintro ⟨HM, HI, HO, Hk⟩
      iapply Hk
      isplitl [HM]; · iexact HM
      isplitl [HI] <;> iassumption
  | n + 1, hn => by
      unfold Tile.steps
      refine BIBase.Entails.trans ?_ (wp_step d L mask idx hidx (rowUpTo L mask idx f (64 - (n + 1))) (64 - (n + 1)) _ _ Q)
      rw [rowUpTo_succ, show 64 - (n + 1) + 1 = 64 - n by omega]
      iintro ⟨HM, HI, HO, Hk⟩
      isplitl [HM]; · iexact HM
      isplitl [HI]; · iexact HI
      isplitl [HO]; · iexact HO
      iintro ⟨HM, HI, HO⟩
      iapply (wp_steps hidx f k Q n (Nat.le_of_succ_le hn))
      isplitl [HM]; · iexact HM
      isplitl [HI]; · iexact HI
      isplitl [HO]; · iexact HO
      iexact Hk

/-- What the copy out leaves of the tile's row of the result, where the row lies. -/
theorem copied_row (o : Vec F S32768 .f32) (x : S32768.Idx) (hx : x ∈ rowSet (pair L)) :
    (oRow L).view.write (Elt F) o (gathRow L mask idx) Finset.univ x = gath mask idx x := by
  rw [← set_oRow, View.set, Finset.mem_map] at hx
  obtain ⟨y, -, rfl⟩ := hx
  refine (View.write_emb_of_mem (v := (oRow L).view) o _ (Finset.mem_univ y)).trans ?_
  refine (cast_eq _ _).trans ?_
  show gath mask idx (inRow L y) = gath mask idx ((row2 L).emb y)
  rw [oRow_emb]

/-- The mask scratch after the fetch holds the mask. -/
theorem got_M (fm : Vec F S32768 .f32) :
    ((sM : Memref sig .scVector .vmem S32768 .f32).view.loc (V d (cV L) (jV L)) ↦[Finset.univ]{fullShare}
        (sM : Memref sig .scVector .vmem S32768 .f32).view.write (Elt F) fm (ReadAs.same.apply ((mV : Memref sig .scVector .hbm S32768 .f32).view.read (Elt F) mask)) Finset.univ : sProp 𝕄)
      = pM d L mask := by
  have h : (sM : Memref sig .scVector .vmem S32768 .f32).view.write (Elt F) fm (ReadAs.same.apply ((mV : Memref sig .scVector .hbm S32768 .f32).view.read (Elt F) mask)) Finset.univ
      = mask := View.write_whole_univ (cc2_scratch0 : Ref sig .scVector) fm mask
  rw [h]

/-- The row scratch after the fetch holds the tile's row numbers. -/
theorem got_I (fi : Vec F S1024 .i32) :
    ((sI : Memref sig .scVector .vmem S1024 .i32).view.loc (V d (cV L) (jV L)) ↦[Finset.univ]{fullShare}
        (sI : Memref sig .scVector .vmem S1024 .i32).view.write (Elt F) fi (ReadAs.same.apply ((iRow L).view.read (Elt F) idx)) Finset.univ : sProp 𝕄)
      = pI d L (idxRow (F := F) L idx) := by
  have h : (sI : Memref sig .scVector .vmem S1024 .i32).view.write (Elt F) fi (ReadAs.same.apply ((iRow L).view.read (Elt F) idx)) Finset.univ
      = idxRow (F := F) L idx := View.write_whole_univ (cc2_scratch1 : Ref sig .scVector) fi (idxRow (F := F) L idx)
  rw [h]

/-- The row of the result after the copy out. -/
theorem got_O (o : Vec F S32768 .f32) :
    ((oRow L).view.loc (V d (cV L) (jV L)) ↦[rowSet (pair L)]{fullShare}
        (oRow L).view.write (Elt F) o (ReadAs.same.apply ((sO : Memref sig .scVector .vmem S1024 .f32).view.read (Elt F) (gathRow L mask idx))) Finset.univ : sProp 𝕄)
      = (oLoc d ↦[rowSet (pair L)]{fullShare} gath mask idx) :=
  pointsTo_congr (copied_row L mask idx o)

/-- A tile's task: from a share of the mask and its rows, to the row of the result gathered. -/
theorem tile_body (hF : (K (F := F)).Facts) (hidx : ∀ x, (idx x).toNat < 32768) (q : PosShare TreeShare) (o : Vec F S32768 .f32)
    (O : CellTallies nD τ sig (HIx 1)) (W : Waits sig (HIx 1)) (hO : ∀ g, O g none = 0) :
    iprop(levAts (K (F := F)).L (K (F := F)).lev
        ∗ ((mLoc d ↦{q} mask) ∗ (iLoc d ↦[rowSet (pair L)]{fullShare} idx) ∗ (oLoc d ↦[rowSet (pair L)]{fullShare} o))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_k (F := F) L mV (Memref.isWhole_whole _) iV (Memref.isWhole_whole _) oV (Memref.isWhole_whole _)
            sM (Memref.isWhole_whole _) sI (Memref.isWhole_whole _) sO (Memref.isWhole_whole _) cc2_scoped0 cc2_scoped1 cc2_scoped2)
          fun _ => (iprop(((mLoc d ↦{q} mask) ∗ (iLoc d ↦[rowSet (pair L)]{fullShare} idx) ∗ (oLoc d ↦[rowSet (pair L)]{fullShare} gath mask idx))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [Tile.cc2_k_eq]; unfold Tile.looped
  simp only [Prog.lift, Prog.bind_op, Prog.bind_ret]
  rw [(K (F := F)).scopedBufs_V hF d (cV L) (jV L), SparseCore.Cfg.scopedSems0_V (Val := Elt F) d (cV L) (jV L), ownSems0_V, ownBufs_V]
  iintro ⟨#Hlv, ⟨Hm, Hi, Ho⟩, ⟨⟨%fm, HsM⟩, ⟨%fi, HsI⟩, ⟨%fo, HsO⟩, Hbufs⟩, ⟨Hc0, Hc1, Hc2, Hsems⟩, HO⟩
  -- the mask fetched whole
  iapply (Transfers.wp_dmaLocal (EC (F := F)) 𝒱₀ (V d (cV L) (jV L)) none (src := mV) (dst := sM) (Sd := Finset.univ) (q := q) (fs := mask) (fd := fm)
    none _ rfl (View.amount_pos _ _ (show 0 < S32768.numel by decide)) (Finset.subset_univ _)) $$ [Hm HsM Hc0]
  · isplitl [Hm]; · rw [show (mV : Memref sig .scVector .hbm S32768 .f32).view.set = Finset.univ from View.set_whole _]; iexact Hm
    isplitl [HsM] <;> iassumption
  iintro Hf
  iapply (Transfers.wp_waitLocalO (EC (F := F)) 𝒱₀ (V d (cV L) (jV L)) none (O := O) (W := W) none rfl) $$ [Hf HO]
  · isplitl [Hf]; · iexact Hf
    isplitl [HO]; · iexact HO
    iapply ((K (F := F)).mayWait_none (SemLoc.dma cc2_scoped0.sem) hO); iexact Hlv
  iintro ⟨⟨HsM, Hm⟩, Hc0, HO⟩
  -- the row numbers' row fetched
  iapply (Transfers.wp_dmaLocal (EC (F := F)) 𝒱₀ (V d (cV L) (jV L)) none (src := iRow L) (dst := sI) (Sd := Finset.univ) (q := fullShare) (fs := idx) (fd := fi)
    none _ rfl (View.amount_pos _ _ (show 0 < S1024.numel by decide)) (Finset.subset_univ _)) $$ [Hi HsI Hc1]
  · isplitl [Hi]; · rw [set_iRow]; iexact Hi
    isplitl [HsI] <;> iassumption
  iintro Hf
  iapply (Transfers.wp_waitLocalO (EC (F := F)) 𝒱₀ (V d (cV L) (jV L)) none (O := O) none rfl) $$ [Hf HO]
  · isplitl [Hf]; · iexact Hf
    isplitl [HO]; · iexact HO
    iapply ((K (F := F)).mayWait_none (SemLoc.dma cc2_scoped1.sem) hO); iexact Hlv
  iintro ⟨⟨HsI, Hi⟩, Hc1, HO⟩
  -- the steps
  ihave HsM := (Entails.of_eq (got_M d L mask fm)) $$ HsM
  ihave HsI := (Entails.of_eq (got_I d L idx fi)) $$ HsI
  iapply (wp_steps d L mask idx hidx fo (Tile.copyOut L oV sO (Memref.isWhole_whole _) cc2_scoped2) _ 64 le_rfl)
  isplitl [HsM]; · iexact HsM
  isplitl [HsI]; · iexact HsI
  isplitl [HsO]; · iexact HsO
  iintro ⟨HsM, HsI, HsO⟩
  -- the row copied out
  unfold Tile.copyOut
  simp only [Prog.lift, Prog.bind_op, Prog.bind_ret, Prog.pure_eq_ret]
  iapply (Transfers.wp_dmaLocal (EC (F := F)) 𝒱₀ (V d (cV L) (jV L)) none (src := sO) (dst := oRow L) (Sd := rowSet (pair L)) (q := fullShare) (fs := gathRow L mask idx) (fd := o)
    none _ rfl (View.amount_pos _ _ (show 0 < S1024.numel by decide)) (set_oRow L).le) $$ [HsO Ho Hc2]
  · isplitl [HsO]; · rw [show (sO : Memref sig .scVector .vmem S1024 .f32).view.set = Finset.univ from View.set_whole _]; iexact HsO
    isplitl [Ho] <;> iassumption
  iintro Hf
  iapply (Transfers.wp_waitLocalO (EC (F := F)) 𝒱₀ (V d (cV L) (jV L)) none (O := O) none rfl) $$ [Hf HO]
  · isplitl [Hf]; · iexact Hf
    isplitl [HO]; · iexact HO
    iapply ((K (F := F)).mayWait_none (SemLoc.dma cc2_scoped2.sem) hO); iexact Hlv
  iintro ⟨⟨Ho, HsO⟩, Hc2, HO⟩
  rw [wp_ret]; imodintro
  isplitl [Hm Hi Ho]
  · isplitl [Hm]; · rw [show (mV : Memref sig .scVector .hbm S32768 .f32).view.set = Finset.univ from View.set_whole _]; iexact Hm
    isplitl [Hi]; · rw [set_iRow]; iexact Hi
    iapply (Entails.of_eq (got_O d L mask idx o)); iexact Ho
  isplitl [HsM HsI HsO Hbufs]
  · isplitl [HsM]
    · iexists _; iexact HsM
    isplitl [HsI]
    · iexists _; iexact HsI
    isplitl [HsO]
    · iexists _; rw [show (sO : Memref sig .scVector .vmem S1024 .f32).view.set = Finset.univ from View.set_whole _]; iexact HsO
    · iexact Hbufs
  isplitl [Hc0 Hc1 Hc2 Hsems]
  · isplitl [Hc0]; · iexact Hc0
    isplitl [Hc1]; · iexact Hc1
    isplitl [Hc2]; · iexact Hc2
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.KernelIdeal.Run

end
-- ==== Proof.Region.lean ====
/- A TensorCore region of the launched program, entered from every unscoped buffer at a valuation and left with them at the valuation
   the pipeline leaves, while the core keeps what it owes the SparseCores and its recorded waits stay within a bound. -/
module

public import proofs.«01_k».proof.Proof.Setup
public import Idealize.ShloMosaic.Lib.Pipeline.RegionArraysS

@[expose] public section

noncomputable section

namespace Cert.KernelIdeal.Run

open Cert.KernelIdeal Cert.KernelIdeal.Gen
open Idealize.ShloMosaic
open Idealize.ShloMosaic.TcCoe
open Idealize.ShloMosaic.Pipeline
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The TensorCore's unscoped buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- No pipeline reads a table. -/
abbrev adm : (p : Fin 2) → (pcfgs (F := F) p).Adm := fun p => (cfgs p).toPCfg_adm

/-- What a core owes and the bound on the waits it has recorded. -/
def owing (c : Dev nD) (O : CellTallies nD τ sig (HIx 1)) (B : Set (SemLoc sig × HIx 1)) : sProp 𝕄 :=
  iprop(∃ W, ⌜∀ p ∈ W, p ∈ B⌝ ∗ owes (c : Thread nD τ) O W)

/-- What a use of a region gives: its body obligation, that it owes a constant tally within a constant bound, full shares, the scoped
    buffers it does not stage as its invariant, and its arrays at the valuation. -/
structure Use (p : Fin 2) (pdats : (p : Fin 2) → (c : Dev nD) → Dat τ (Elt F) (HIx 1) ℕ UU ℕ (pin (pcfgs (F := F)) adm p) c)
    (O : Dev nD → CellTallies nD τ sig (HIx 1)) (B : Set (SemLoc sig × HIx 1)) (W : Dev nD → Valuation τ sig (Elt F)) : Prop where
  body : ∀ c, BodyObligationLoose (pdats p c) (defs₀ (F := F)) 𝒱₀ none Set.univ
  owed : ∀ c t, (pdats p c).owed t = O c
  free : ∀ c g, O c g none = 0
  recd : ∀ c t, (pdats p c).recorded t = B
  pairs : ∀ s : SemLoc sig, (s, (none : HIx 1)) ∈ B
  share : ∀ c w, (pdats p c).share w = fullShare
  inv : ∀ c t, (pdats p c).Φ t = scopedRest (pin (pcfgs (F := F)) adm p).spec c
  arr : ∀ c w, (pdats p c).arrAt w 0 = W c (Proc.devRef .tc (arrRef (pin (pcfgs (F := F)) adm p).spec w))

omit [FloatOps F] in
theorem arrRefs_sub {p : Fin 2} (kit : PLaunchFacts (nD := nD) (τ := τ) (pcfgs (F := F)) p) : arrRefs (pcfgs (F := F) p).spec ⊆ ucRefs := by
  intro b hb
  obtain ⟨r, hr, rfl⟩ := Finset.mem_map.mp hb
  obtain ⟨w, -, rfl⟩ := Finset.mem_image.mp hr
  exact Finset.mem_filter.mpr ⟨StableHlo.devRef_mem_tcRefs _, by simpa using kit.win.arr_unscoped w⟩

variable {p : Fin 2} {pdats : (p : Fin 2) → (c : Dev nD) → Dat τ (Elt F) (HIx 1) ℕ UU ℕ (pin (pcfgs (F := F)) adm p) c}
  {O : Dev nD → CellTallies nD τ sig (HIx 1)} {B : Set (SemLoc sig × HIx 1)} {W : Dev nD → Valuation τ sig (Elt F)}

/-- The region over every unscoped buffer. -/
def Use.seg (h : Use p pdats O B W) (kit : PLaunchFacts (nD := nD) (τ := τ) (pcfgs (F := F)) p) (hK : (pcfgs (F := F) p).pre.K = 0) :
    RegionSeg (pcfgs (F := F)) adm pdats none defs₀ 𝒱₀ (K (F := F)).L (K (F := F)).lev p where
  win := kit.win.to₀
  block_pos := kit.block_pos
  stage_whole := kit.stage_whole
  K := PEmpty
  osem k := k.elim
  ho := OwnSemFacts.none _
  hbody := h.body
  hwaits c := cellsWaits_of_cut (pin (pcfgs (F := F)) adm) pdats none p c 0 (O c) (h.owed c) (fun w s => Finset.mem_univ _) (fun w s => le_rfl)
    (fun g i hg => ⟨Finset.mem_univ _, by
      cases i with
      | none => rw [h.free c g] at hg; exact absurd hg (Nat.lt_irrefl 0)
      | some q => exact (K (F := F)).lev_some_pos g q⟩)
  pre c := iprop(StableHlo.held (c : Thread nD τ) ucRefs (W c) ∗ owing c (O c) B)
  post c := iprop(StableHlo.held (c : Thread nD τ) ucRefs (afterRegion (pdats p c) (W c)) ∗ owing c (O c) B)
  X _ := BI.emp
  Y _ := BI.emp
  Z c := StableHlo.held (c : Thread nD τ) (ucRefs \ arrRefs (pcfgs (F := F) p).spec) (W c)
  hentry c := by
    rw [ownSems0_none, prefHeld_of_none _ hK, arrays_held (pcfgs (F := F)) adm pdats p kit c (h.share c) _ (W c) (h.arr c),
      StableHlo.held_sub_split (c : Thread nD τ) (arrRefs_sub (F := F) kit) (W c)]
    iintro ⟨⟨⟨Ha, Hr⟩, HO⟩, -, -⟩
    imodintro
    isplitl [Ha]; · iexact Ha
    isplitr; · iempintro
    isplitl [HO]
    · unfold Dat.owesAt owesWithin Dat.bound owing
      rw [h.owed c 0, h.recd c]
      icases HO with ⟨%Wd, %hWd, HO⟩; iexists Wd; isplitr; · ipureintro; exact fun x hx => Or.inl (hWd x hx)
      iexact HO
    isplitr; · iempintro
    iexact Hr
  hin c := by
    rw [h.inv]
    iintro ⟨-, -, Hr⟩; iexact Hr
  hout c := by
    rw [ownSems0_none, h.inv]
    iintro Hr
    isplitr; · iempintro
    isplitr; · iempintro
    iexact Hr
  hexit c := by
    rw [arrays_held (pcfgs (F := F)) adm pdats p kit c (h.share c) _ (afterRegion (pdats p c) (W c))
        (fun w => (afterRegion_arr (pdats p c) (W c) kit.win.arr_inj w).symm),
      StableHlo.held_sub_split (c : Thread nD τ) (arrRefs_sub (F := F) kit) (afterRegion (pdats p c) (W c)),
      StableHlo.held_congr (c : Thread nD τ) (S := ucRefs \ arrRefs (pcfgs (F := F) p).spec) (V := afterRegion (pdats p c) (W c)) (V' := W c)
        (afterRegion_off (pdats p c) (W c) ucRefs)]
    iintro ⟨Ha, HO, -, Hr⟩
    imodintro
    isplitl [Ha Hr]
    · isplitl [Ha]; · iexact Ha
      iexact Hr
    unfold Dat.owesAt owesWithin Dat.bound owing
    rw [h.owed c (Fin.last _), h.recd c]
    icases HO with ⟨%Wd, %hWd, HO⟩; iexists Wd; isplitr
    · ipureintro
      intro x hx
      rcases hWd hx with h1 | h1
      · exact h1
      · obtain ⟨w, s, rfl⟩ := h1; exact h.pairs _
    iexact HO

end Cert.KernelIdeal.Run

end
-- ==== Proof.Region0.lean ====
/- The first TensorCore call: what its body leaves at a point, and the call's use of its region. -/
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Region
public import Idealize.ShloMosaic.Lib.LaneScatter.Own
public import Idealize.ShloMosaic.Lib.Tactic

@[expose] public section

noncomputable section

namespace Cert.KernelIdeal.Run

open Cert.KernelIdeal Cert.KernelIdeal.Gen
open Idealize.ShloMosaic
open Idealize.ShloMosaic.SparseCore.Cfg (HIx)
open Idealize.ShloMosaic.Pipeline (Dat BodyObligation)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-- What a memref's buffer holds on a core, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body at a point: the operands' buffers as found, the results' overwritten whole, at contents the run names. -/
noncomputable def run0 (c : Dev nD) (i : grid0.Coords)
    (M1 : Memref sig .tc .vmem S1x3x512x512 .f32) (h1 : M1.IsWhole)
    (M2 : Memref sig .tc .vmem S512x3072 .bf16) (h2 : M2.IsWhole) (M3 : Memref sig .tc .vmem S512x3072 .bf16) (h3 : M3.IsWhole)
    (M4 : Memref sig .tc .vmem S3072x512 .bf16) (h4 : M4.IsWhole) (M5 : Memref sig .tc .vmem S3072x512 .bf16) (h5 : M5.IsWhole)
    (M6 : Memref sig .tc .vmem S32x1536 .bf16) (h6 : M6.IsWhole) (M7 : Memref sig .tc .vmem S1536x32 .bf16) (h7 : M7.IsWhole)
    (M8 : Memref sig .tc .vmem S8x96 .bf16) (h8 : M8.IsWhole) (M9 : Memref sig .tc .vmem S864x16 .bf16) (h9 : M9.IsWhole)
    (M10 : Memref sig .tc .vmem S1x3x512x512 .f32) (h10 : M10.IsWhole) (M11 : Memref sig .tc .vmem S1x32x32 .f32) (h11 : M11.IsWhole)
    (M12 : Memref sig .tc .vmem S1x1x16 .f32) (h12 : M12.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) :
    { W : Bf (F := F) c M10 × Bf (F := F) c M11 × Bf (F := F) c M12 //
        ∀ (f10 : Bf (F := F) c M10) (f11 : Bf (F := F) c M11) (f12 : Bf (F := F) c M12) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9
            ∗ pt c M10 f10 ∗ pt c M11 f11 ∗ pt c M12 f12
            ∗ (iprop(pt c M1 f1 ∗ pt c M2 f2 ∗ pt c M3 f3 ∗ pt c M4 f4 ∗ pt c M5 f5 ∗ pt c M6 f6 ∗ pt c M7 f7 ∗ pt c M8 f8 ∗ pt c M9 f9
              ∗ pt c M10 W.1 ∗ pt c M11 W.2.1 ∗ pt c M12 W.2.2) -∗ Q ⟨⟩))
          ⊢ wp frame (wpE (defs₀ (F := F)) Variants.none c none) E
              (cc0__p1 i M1 h1 M2 h2 M3 h3 M4 h4 M5 h5 M6 h6 M7 h7 M8 h8 M9 h9 M10 h10 M11 h11 M12 h12) Q } := by
  refine ⟨(?W10, ?W11, ?W12), fun f10 f11 f12 E Q => ?run⟩
  case run =>
    simp only [cc0__p1_eq_skeleton]; unfold cc0__p1_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    simp only [k0_part8_eq_skeleton]; unfold k0_part8_skel
    simp only [Prog.lift, Prog.bind_op, Prog.bind_ret, Prog.pure_eq_ret, Prog.bind_assoc]
    iintro ⟨H1, H2, H3, H4, H5, H6, H7, H8, H9, H10, H11, H12, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- A whole memref owned at what it reads is its buffer held at the contents that read so, -/
theorem owns_pt (c : Dev nD) {sp : Space} {S : Shape} {e : EltTy} (M : Memref sig .tc sp S e) (h : M.IsWhole) (x : S.Idx → Elt F e) :
    (owns (c : Thread nD τ) M fullShare x : sProp 𝕄) ⊢ pt c M (h.unread x) := by
  refine (LaneScatter.owns_raw (c : Thread nD τ) M h x).trans ?_
  unfold LaneScatter.raw
  rw [h.set_eq_univ]

/-- and held at any contents it is owned at what it reads of them. -/
theorem pt_owns (c : Dev nD) {sp : Space} {S : Shape} {e : EltTy} (M : Memref sig .tc sp S e) (h : M.IsWhole) (f : Bf (F := F) c M) {x : S.Idx → Elt F e}
    (hx : M.view.read (Elt F) f = x) : pt c M f ⊢ (owns (c : Thread nD τ) M fullShare x : sProp 𝕄) := by
  have := LaneScatter.raw_owns (Ix := HIx 1) (Name := ℕ) (U := UU) (Lvl := ℕ) (c : Thread nD τ) M (f := f) hx
  unfold LaneScatter.raw at this
  rwa [h.set_eq_univ] at this

/-! ## The proof data, at an entry valuation -/

variable (V : Dev nD → Valuation τ sig (Elt F))

/-! What each operand's window stages at a point: its array's block. -/

abbrev stg0_0 (c : Dev nD) (t : Fin cfg0.N) : (cfg0.win 0).block.Idx → Elt F (cfg0.win 0).elt :=
  ((cfg0.win 0).blk t).view.read (Elt F) (V c (Proc.devRef .tc (Pipeline.arrRef spec0 0)))
abbrev stg0_1 (c : Dev nD) (t : Fin cfg0.N) : (cfg0.win 1).block.Idx → Elt F (cfg0.win 1).elt :=
  ((cfg0.win 1).blk t).view.read (Elt F) (V c (Proc.devRef .tc (Pipeline.arrRef spec0 1)))
abbrev stg0_2 (c : Dev nD) (t : Fin cfg0.N) : (cfg0.win 2).block.Idx → Elt F (cfg0.win 2).elt :=
  ((cfg0.win 2).blk t).view.read (Elt F) (V c (Proc.devRef .tc (Pipeline.arrRef spec0 2)))
abbrev stg0_3 (c : Dev nD) (t : Fin cfg0.N) : (cfg0.win 3).block.Idx → Elt F (cfg0.win 3).elt :=
  ((cfg0.win 3).blk t).view.read (Elt F) (V c (Proc.devRef .tc (Pipeline.arrRef spec0 3)))
abbrev stg0_4 (c : Dev nD) (t : Fin cfg0.N) : (cfg0.win 4).block.Idx → Elt F (cfg0.win 4).elt :=
  ((cfg0.win 4).blk t).view.read (Elt F) (V c (Proc.devRef .tc (Pipeline.arrRef spec0 4)))
abbrev stg0_5 (c : Dev nD) (t : Fin cfg0.N) : (cfg0.win 5).block.Idx → Elt F (cfg0.win 5).elt :=
  ((cfg0.win 5).blk t).view.read (Elt F) (V c (Proc.devRef .tc (Pipeline.arrRef spec0 5)))
abbrev stg0_6 (c : Dev nD) (t : Fin cfg0.N) : (cfg0.win 6).block.Idx → Elt F (cfg0.win 6).elt :=
  ((cfg0.win 6).blk t).view.read (Elt F) (V c (Proc.devRef .tc (Pipeline.arrRef spec0 6)))
abbrev stg0_7 (c : Dev nD) (t : Fin cfg0.N) : (cfg0.win 7).block.Idx → Elt F (cfg0.win 7).elt :=
  ((cfg0.win 7).blk t).view.read (Elt F) (V c (Proc.devRef .tc (Pipeline.arrRef spec0 7)))
abbrev stg0_8 (c : Dev nD) (t : Fin cfg0.N) : (cfg0.win 8).block.Idx → Elt F (cfg0.win 8).elt :=
  ((cfg0.win 8).blk t).view.read (Elt F) (V c (Proc.devRef .tc (Pipeline.arrRef spec0 8)))

/-- The body's run at point `t`. -/
abbrev K0 (c : Dev nD) (t : Fin cfg0.N) :=
  run0 (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t 10).cast nbuf0_10))
    (win0_11.stage (cfg0.slots t 11)) (hstage0_11 ((cfg0.slots t 11).cast nbuf0_11))
    ((hstage0_0 ((cfg0.slots t 0).cast nbuf0_0)).unread (stg0_0 V c t)) ((hstage0_1 ((cfg0.slots t 1).cast nbuf0_1)).unread (stg0_1 V c t))
    ((hstage0_2 ((cfg0.slots t 2).cast nbuf0_2)).unread (stg0_2 V c t)) ((hstage0_3 ((cfg0.slots t 3).cast nbuf0_3)).unread (stg0_3 V c t))
    ((hstage0_4 ((cfg0.slots t 4).cast nbuf0_4)).unread (stg0_4 V c t)) ((hstage0_5 ((cfg0.slots t 5).cast nbuf0_5)).unread (stg0_5 V c t))
    ((hstage0_6 ((cfg0.slots t 6).cast nbuf0_6)).unread (stg0_6 V c t)) ((hstage0_7 ((cfg0.slots t 7).cast nbuf0_7)).unread (stg0_7 V c t))
    ((hstage0_8 ((cfg0.slots t 8).cast nbuf0_8)).unread (stg0_8 V c t))

/-- The call's proof data from the valuation `V`: the arrays at it; an operand's buffer as fetched, a result's as the run leaves it. -/
def dat0 (O : CellTallies nD τ sig (HIx 1)) (B : Set (SemLoc sig × HIx 1)) (c : Dev nD) : Dat τ (Elt F) (HIx 1) ℕ UU ℕ cfg0 c where
  A w := V c (Proc.devRef .tc (Pipeline.arrRef spec0 w))
  after w t := match w with
    | ⟨0, _⟩ => stg0_0 V c t
    | ⟨1, _⟩ => stg0_1 V c t
    | ⟨2, _⟩ => stg0_2 V c t
    | ⟨3, _⟩ => stg0_3 V c t
    | ⟨4, _⟩ => stg0_4 V c t
    | ⟨5, _⟩ => stg0_5 V c t
    | ⟨6, _⟩ => stg0_6 V c t
    | ⟨7, _⟩ => stg0_7 V c t
    | ⟨8, _⟩ => stg0_8 V c t
    | ⟨9, _⟩ => (win0_9.stage (cfg0.slots t 9)).view.read (Elt F) (K0 V c t).1.1
    | ⟨10, _⟩ => (win0_10.stage (cfg0.slots t 10)).view.read (Elt F) (K0 V c t).1.2.1
    | ⟨11, _⟩ => (win0_11.stage (cfg0.slots t 11)).view.read (Elt F) (K0 V c t).1.2.2
  Φ _ := Pipeline.scopedRest (Ix := HIx 1) (Name := ℕ) (U := UU) (Lvl := ℕ) (Val := Elt F) spec0 c
  q _ := fullShare
  owed _ := O
  recorded _ := B

variable (O : CellTallies nD τ sig (HIx 1)) (B : Set (SemLoc sig × HIx 1))

theorem before0_0 (c : Dev nD) (t : Fin cfg0.N) (d) : (dat0 V O B c).before 0 t d = stg0_0 V c t := by
  unfold Dat.before; rw [if_pos (fetch0_0 t)]; rfl
theorem before0_1 (c : Dev nD) (t : Fin cfg0.N) (d) : (dat0 V O B c).before 1 t d = stg0_1 V c t := by
  by_cases h : (cfg0.win 1).fetch t = true
  · unfold Dat.before; rw [if_pos h]; rfl
  · rw [Dat.before_of_pos _ _ _ (fun h0 => h ((fetch0_1 t).mpr (by rw [h0]))) (by simpa using h)]; rfl
theorem before0_2 (c : Dev nD) (t : Fin cfg0.N) (d) : (dat0 V O B c).before 2 t d = stg0_2 V c t := by
  by_cases h : (cfg0.win 2).fetch t = true
  · unfold Dat.before; rw [if_pos h]; rfl
  · rw [Dat.before_of_pos _ _ _ (fun h0 => h ((fetch0_2 t).mpr (by rw [h0]))) (by simpa using h)]; rfl
theorem before0_3 (c : Dev nD) (t : Fin cfg0.N) (d) : (dat0 V O B c).before 3 t d = stg0_3 V c t := by
  by_cases h : (cfg0.win 3).fetch t = true
  · unfold Dat.before; rw [if_pos h]; rfl
  · rw [Dat.before_of_pos _ _ _ (fun h0 => h ((fetch0_3 t).mpr (by rw [h0]))) (by simpa using h)]; rfl
theorem before0_4 (c : Dev nD) (t : Fin cfg0.N) (d) : (dat0 V O B c).before 4 t d = stg0_4 V c t := by
  by_cases h : (cfg0.win 4).fetch t = true
  · unfold Dat.before; rw [if_pos h]; rfl
  · rw [Dat.before_of_pos _ _ _ (fun h0 => h ((fetch0_4 t).mpr (by rw [h0]))) (by simpa using h)]; rfl
theorem before0_5 (c : Dev nD) (t : Fin cfg0.N) (d) : (dat0 V O B c).before 5 t d = stg0_5 V c t := by
  by_cases h : (cfg0.win 5).fetch t = true
  · unfold Dat.before; rw [if_pos h]; rfl
  · rw [Dat.before_of_pos _ _ _ (fun h0 => h ((fetch0_5 t).mpr (by rw [h0]))) (by simpa using h)]; rfl
theorem before0_6 (c : Dev nD) (t : Fin cfg0.N) (d) : (dat0 V O B c).before 6 t d = stg0_6 V c t := by
  by_cases h : (cfg0.win 6).fetch t = true
  · unfold Dat.before; rw [if_pos h]; rfl
  · rw [Dat.before_of_pos _ _ _ (fun h0 => h ((fetch0_6 t).mpr (by rw [h0]))) (by simpa using h)]; rfl
theorem before0_7 (c : Dev nD) (t : Fin cfg0.N) (d) : (dat0 V O B c).before 7 t d = stg0_7 V c t := by
  by_cases h : (cfg0.win 7).fetch t = true
  · unfold Dat.before; rw [if_pos h]; rfl
  · rw [Dat.before_of_pos _ _ _ (fun h0 => h ((fetch0_7 t).mpr (by rw [h0]))) (by simpa using h)]; rfl
theorem before0_8 (c : Dev nD) (t : Fin cfg0.N) (d) : (dat0 V O B c).before 8 t d = stg0_8 V c t := by
  by_cases h : (cfg0.win 8).fetch t = true
  · unfold Dat.before; rw [if_pos h]; rfl
  · rw [Dat.before_of_pos _ _ _ (fun h0 => h ((fetch0_8 t).mpr (by rw [h0]))) (by simpa using h)]; rfl

/-- The body at every point, from the operands as fetched. -/
theorem body0 (c : Dev nD) : BodyObligation (dat0 V O B c) (defs₀ (F := F)) 𝒱₀ none Set.univ := fun t => by
  rw [bigSep_W0, bigSep_W0]
  rw [show (dat0 V O B c).Φ t.castSucc = (dat0 V O B c).Φ t.succ from rfl,
    show (dat0 V O B c).owesAt none t.succ = (dat0 V O B c).owesAt none t.castSucc from rfl]
  simp only [before0_0, before0_1, before0_2, before0_3, before0_4, before0_5, before0_6, before0_7, before0_8]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave G0 := (owns_pt c (win0_0.stage (cfg0.slots t 0)) (hstage0_0 ((cfg0.slots t 0).cast nbuf0_0)) _) $$ H0
  ihave G1 := (owns_pt c (win0_1.stage (cfg0.slots t 1)) (hstage0_1 ((cfg0.slots t 1).cast nbuf0_1)) _) $$ H1
  ihave G2 := (owns_pt c (win0_2.stage (cfg0.slots t 2)) (hstage0_2 ((cfg0.slots t 2).cast nbuf0_2)) _) $$ H2
  ihave G3 := (owns_pt c (win0_3.stage (cfg0.slots t 3)) (hstage0_3 ((cfg0.slots t 3).cast nbuf0_3)) _) $$ H3
  ihave G4 := (owns_pt c (win0_4.stage (cfg0.slots t 4)) (hstage0_4 ((cfg0.slots t 4).cast nbuf0_4)) _) $$ H4
  ihave G5 := (owns_pt c (win0_5.stage (cfg0.slots t 5)) (hstage0_5 ((cfg0.slots t 5).cast nbuf0_5)) _) $$ H5
  ihave G6 := (owns_pt c (win0_6.stage (cfg0.slots t 6)) (hstage0_6 ((cfg0.slots t 6).cast nbuf0_6)) _) $$ H6
  ihave G7 := (owns_pt c (win0_7.stage (cfg0.slots t 7)) (hstage0_7 ((cfg0.slots t 7).cast nbuf0_7)) _) $$ H7
  ihave G8 := (owns_pt c (win0_8.stage (cfg0.slots t 8)) (hstage0_8 ((cfg0.slots t 8).cast nbuf0_8)) _) $$ H8
  ihave G9 := (owns_pt c (win0_9.stage (cfg0.slots t 9)) (hstage0_9 ((cfg0.slots t 9).cast nbuf0_9)) _) $$ H9
  ihave G10 := (owns_pt c (win0_10.stage (cfg0.slots t 10)) (hstage0_10 ((cfg0.slots t 10).cast nbuf0_10)) _) $$ H10
  ihave G11 := (owns_pt c (win0_11.stage (cfg0.slots t 11)) (hstage0_11 ((cfg0.slots t 11).cast nbuf0_11)) _) $$ H11
  iapply ((K0 V c t).2 _ _ _ Set.univ _)
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  iintro ⟨G0, G1, G2, G3, G4, G5, G6, G7, G8, G9, G10, G11⟩
  isplitl [HΦ]; · iexact HΦ
  isplitl [Howes]; · iexact Howes
  isplitl [G0]; · iapply (pt_owns c (win0_0.stage (cfg0.slots t 0)) (hstage0_0 ((cfg0.slots t 0).cast nbuf0_0)) _ ((hstage0_0 ((cfg0.slots t 0).cast nbuf0_0)).read_unread _)); iexact G0
  isplitl [G1]; · iapply (pt_owns c (win0_1.stage (cfg0.slots t 1)) (hstage0_1 ((cfg0.slots t 1).cast nbuf0_1)) _ ((hstage0_1 ((cfg0.slots t 1).cast nbuf0_1)).read_unread _)); iexact G1
  isplitl [G2]; · iapply (pt_owns c (win0_2.stage (cfg0.slots t 2)) (hstage0_2 ((cfg0.slots t 2).cast nbuf0_2)) _ ((hstage0_2 ((cfg0.slots t 2).cast nbuf0_2)).read_unread _)); iexact G2
  isplitl [G3]; · iapply (pt_owns c (win0_3.stage (cfg0.slots t 3)) (hstage0_3 ((cfg0.slots t 3).cast nbuf0_3)) _ ((hstage0_3 ((cfg0.slots t 3).cast nbuf0_3)).read_unread _)); iexact G3
  isplitl [G4]; · iapply (pt_owns c (win0_4.stage (cfg0.slots t 4)) (hstage0_4 ((cfg0.slots t 4).cast nbuf0_4)) _ ((hstage0_4 ((cfg0.slots t 4).cast nbuf0_4)).read_unread _)); iexact G4
  isplitl [G5]; · iapply (pt_owns c (win0_5.stage (cfg0.slots t 5)) (hstage0_5 ((cfg0.slots t 5).cast nbuf0_5)) _ ((hstage0_5 ((cfg0.slots t 5).cast nbuf0_5)).read_unread _)); iexact G5
  isplitl [G6]; · iapply (pt_owns c (win0_6.stage (cfg0.slots t 6)) (hstage0_6 ((cfg0.slots t 6).cast nbuf0_6)) _ ((hstage0_6 ((cfg0.slots t 6).cast nbuf0_6)).read_unread _)); iexact G6
  isplitl [G7]; · iapply (pt_owns c (win0_7.stage (cfg0.slots t 7)) (hstage0_7 ((cfg0.slots t 7).cast nbuf0_7)) _ ((hstage0_7 ((cfg0.slots t 7).cast nbuf0_7)).read_unread _)); iexact G7
  isplitl [G8]; · iapply (pt_owns c (win0_8.stage (cfg0.slots t 8)) (hstage0_8 ((cfg0.slots t 8).cast nbuf0_8)) _ ((hstage0_8 ((cfg0.slots t 8).cast nbuf0_8)).read_unread _)); iexact G8
  isplitl [G9]; · iapply (pt_owns c (win0_9.stage (cfg0.slots t 9)) (hstage0_9 ((cfg0.slots t 9).cast nbuf0_9)) _ rfl); iexact G9
  isplitl [G10]; · iapply (pt_owns c (win0_10.stage (cfg0.slots t 10)) (hstage0_10 ((cfg0.slots t 10).cast nbuf0_10)) _ rfl); iexact G10
  iapply (pt_owns c (win0_11.stage (cfg0.slots t 11)) (hstage0_11 ((cfg0.slots t 11).cast nbuf0_11)) _ rfl); iexact G11

end Cert.KernelIdeal.Run

end
-- ==== Proof.Region1.lean ====
/- The second TensorCore call: what its body leaves at a point; and both calls' uses of their regions. -/
module

public import proofs.«01_k».proof.Proof.Region0

@[expose] public section

noncomputable section

namespace Cert.KernelIdeal.Run

open Cert.KernelIdeal Cert.KernelIdeal.Gen
open Idealize.ShloMosaic
open Idealize.ShloMosaic.SparseCore.Cfg (HIx)
open Idealize.ShloMosaic.Pipeline (Dat BodyObligation)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-- The body at a point: the operand's buffer as found, the result's overwritten whole. -/
noncomputable def run1 (c : Dev nD) (i : grid1.Coords)
    (M1 : Memref sig .tc .vmem S1x1x1024 .f32) (h1 : M1.IsWhole) (M2 : Memref sig .tc .vmem S1x1024x1 .f32) (h2 : M2.IsWhole) (f1 : Bf (F := F) c M1) :
    { W : Bf (F := F) c M2 // ∀ (f2 : Bf (F := F) c M2) (E : Set ℕ) (Q : PUnit → sProp 𝕄),
        iprop(pt c M1 f1 ∗ pt c M2 f2 ∗ (iprop(pt c M1 f1 ∗ pt c M2 W) -∗ Q ⟨⟩))
          ⊢ wp frame (wpE (defs₀ (F := F)) Variants.none c none) E (cc1__p3 i M1 h1 M2 h2) Q } := by
  refine ⟨?W, fun f2 E Q => ?run⟩
  case run =>
    simp only [cc1__p3_eq_skeleton]; unfold cc1__p3_skel
    simp only [Prog.lift, Prog.bind_op, Prog.bind_ret, Prog.pure_eq_ret, Prog.bind_assoc]
    iintro ⟨H1, H2, Hk⟩
    sl_exec!
    sl_step
    iapply Hk
    isplitl [H1]; · iexact H1
    iexact H2

variable (V : Dev nD → Valuation τ sig (Elt F))

/-- What the operand's window stages at a point. -/
abbrev stg1_0 (c : Dev nD) (t : Fin cfg1.N) : (cfg1.win 0).block.Idx → Elt F (cfg1.win 0).elt :=
  ((cfg1.win 0).blk t).view.read (Elt F) (V c (Proc.devRef .tc (Pipeline.arrRef spec1 0)))

/-- The body's run at point `t`. -/
abbrev K1 (c : Dev nD) (t : Fin cfg1.N) :=
  run1 (F := F) c (grid1.coords t) (win1_0.stage (cfg1.slots t 0)) (hstage1_0 ((cfg1.slots t 0).cast nbuf1_0))
    (win1_1.stage (cfg1.slots t 1)) (hstage1_1 ((cfg1.slots t 1).cast nbuf1_1)) ((hstage1_0 ((cfg1.slots t 0).cast nbuf1_0)).unread (stg1_0 V c t))

/-- The call's proof data from the valuation `V`. -/
def dat1 (O : CellTallies nD τ sig (HIx 1)) (B : Set (SemLoc sig × HIx 1)) (c : Dev nD) : Dat τ (Elt F) (HIx 1) ℕ UU ℕ cfg1 c where
  A w := V c (Proc.devRef .tc (Pipeline.arrRef spec1 w))
  after w t := match w with
    | ⟨0, _⟩ => stg1_0 V c t
    | ⟨1, _⟩ => (win1_1.stage (cfg1.slots t 1)).view.read (Elt F) (K1 V c t).1
  Φ _ := Pipeline.scopedRest (Ix := HIx 1) (Name := ℕ) (U := UU) (Lvl := ℕ) (Val := Elt F) spec1 c
  q _ := fullShare
  owed _ := O
  recorded _ := B

section
variable (O : CellTallies nD τ sig (HIx 1)) (B : Set (SemLoc sig × HIx 1))

theorem before1_0 (c : Dev nD) (t : Fin cfg1.N) (d) : (dat1 V O B c).before 0 t d = stg1_0 V c t := by
  unfold Dat.before; rw [if_pos (fetch1_0 t)]; rfl

/-- The body at every point, from the operand as fetched. -/
theorem body1 (c : Dev nD) : BodyObligation (dat1 V O B c) (defs₀ (F := F)) 𝒱₀ none Set.univ := fun t => by
  rw [bigSep_W1, bigSep_W1]
  rw [show (dat1 V O B c).Φ t.castSucc = (dat1 V O B c).Φ t.succ from rfl,
    show (dat1 V O B c).owesAt none t.succ = (dat1 V O B c).owesAt none t.castSucc from rfl]
  simp only [before1_0]
  iintro ⟨HΦ, Howes, ⟨%d0, H0⟩, ⟨%d1, H1⟩⟩
  ihave G0 := (owns_pt c (win1_0.stage (cfg1.slots t 0)) (hstage1_0 ((cfg1.slots t 0).cast nbuf1_0)) _) $$ H0
  ihave G1 := (owns_pt c (win1_1.stage (cfg1.slots t 1)) (hstage1_1 ((cfg1.slots t 1).cast nbuf1_1)) _) $$ H1
  iapply ((K1 V c t).2 _ Set.univ _)
  isplitl [G0]; · iexact G0
  isplitl [G1]; · iexact G1
  iintro ⟨G0, G1⟩
  isplitl [HΦ]; · iexact HΦ
  isplitl [Howes]; · iexact Howes
  isplitl [G0]; · iapply (pt_owns c (win1_0.stage (cfg1.slots t 0)) (hstage1_0 ((cfg1.slots t 0).cast nbuf1_0)) _ ((hstage1_0 ((cfg1.slots t 0).cast nbuf1_0)).read_unread _)); iexact G0
  iapply (pt_owns c (win1_1.stage (cfg1.slots t 1)) (hstage1_1 ((cfg1.slots t 1).cast nbuf1_1)) _ rfl); iexact G1
end

/-! ## The two uses -/

variable (O : Dev nD → CellTallies nD τ sig (HIx 1)) (B : Set (SemLoc sig × HIx 1))

/-- Both calls' proof data from one valuation. -/
def dats : (p : Fin 2) → (c : Dev nD) → Dat τ (Elt F) (HIx 1) ℕ UU ℕ (Pipeline.pin (pcfgs (F := F)) adm p) c
  | ⟨0, _⟩ => fun c => dat0 V (O c) B c
  | ⟨1, _⟩ => fun c => dat1 V (O c) B c

variable {O B}

theorem inv0 (c : Dev nD) (t : Fin (cfg0.N + 1)) : (dats V O B 0 c).Φ t = Pipeline.scopedRest (Ix := HIx 1) (Name := ℕ) (U := UU) (Lvl := ℕ) (Val := Elt F) spec0 c := by
  unfold dats dat0; rfl

theorem arr0 (c : Dev nD) (w) : (dats V O B 0 c).arrAt w 0 = V c (Proc.devRef .tc (Pipeline.arrRef (Pipeline.pin (pcfgs (F := F)) adm 0).spec w)) := rfl

theorem share0 (c : Dev nD) (w) : (dats V O B 0 c).share w = fullShare := (dats V O B 0 c).share_full (fun _ => rfl) w
theorem obl0 (c : Dev nD) : Pipeline.BodyObligationLoose (dats V O B 0 c) (defs₀ (F := F)) 𝒱₀ none Set.univ := (body0 V (O c) B c).loose

theorem use0 (hO : ∀ c g, O c g none = 0) (hB : ∀ s : SemLoc sig, (s, (none : HIx 1)) ∈ B) : Use 0 (dats V O B) O B V :=
  ⟨obl0 V, fun _ _ => by unfold dats dat0; rfl, hO, fun _ _ => by unfold dats dat0; rfl, hB, share0 V, inv0 V, arr0 V⟩

theorem inv1 (c : Dev nD) (t : Fin (cfg1.N + 1)) : (dats V O B 1 c).Φ t = Pipeline.scopedRest (Ix := HIx 1) (Name := ℕ) (U := UU) (Lvl := ℕ) (Val := Elt F) spec1 c := by
  unfold dats dat1; rfl

theorem arr1 (c : Dev nD) (w) : (dats V O B 1 c).arrAt w 0 = V c (Proc.devRef .tc (Pipeline.arrRef (Pipeline.pin (pcfgs (F := F)) adm 1).spec w)) := rfl

theorem share1 (c : Dev nD) (w) : (dats V O B 1 c).share w = fullShare := (dats V O B 1 c).share_full (fun _ => rfl) w
theorem obl1 (c : Dev nD) : Pipeline.BodyObligationLoose (dats V O B 1 c) (defs₀ (F := F)) 𝒱₀ none Set.univ := (body1 V (O c) B c).loose

theorem use1 (hO : ∀ c g, O c g none = 0) (hB : ∀ s : SemLoc sig, (s, (none : HIx 1)) ∈ B) : Use 1 (dats V O B) O B V :=
  ⟨obl1 V, fun _ _ => by unfold dats dat1; rfl, hO, fun _ _ => by unfold dats dat1; rfl, hB, share1 V, inv1 V, arr1 V⟩

end Cert.KernelIdeal.Run

end
-- ==== Proof.Lines.lean ====
/- A line of host operations in which every value has a buffer of its own, the buffers numbered in the order of the operations.
   What the buffers hold after such a line satisfies every operation's equation at once: each operation, applied to those contents,
   gives back its own result. The two programs' values are read off these equations. -/
module

public import Idealize.ShloMosaic.Lib.StableHlo.Run

@[expose] public section

noncomputable section

namespace Cert.Lines

open Idealize.ShloMosaic Idealize.ShloMosaic.StableHlo

variable {τ : Topo} {sig : RefSig} {Val : EltTy → Type}

/-- A tensor value's contents over the float values `F`. -/
abbrev T (F : FTy → Type) (s : Shape) (e : EltTy) : Type := (⟨s, e⟩ : BufTy).Contents (Elt F)

/-- The reference is the buffer of a tensor value, the `n`-th. -/
def IsAt (r : Ref sig .tc) (n : ℕ) : Prop := r.space = .hbm ∧ r.idx.val = n
/-- The reference is the buffer of a tensor value numbered at most `n`. -/
def UpTo (r : Ref sig .tc) (n : ℕ) : Prop := r.space = .hbm ∧ r.idx.val ≤ n

theorem IsAt.eq {r r' : Ref sig .tc} {n : ℕ} (h : IsAt r n) (h' : IsAt r' n) : r = r' := by
  obtain ⟨s, i, p⟩ := r
  obtain ⟨s', i', p'⟩ := r'
  obtain ⟨h1, h2⟩ := h
  obtain ⟨h1', h2'⟩ := h'
  dsimp only at h1 h1'
  subst h1
  subst h1'
  have : i = i' := Fin.ext (h2.trans h2'.symm)
  subst this
  rfl

/-- An operation that writes the `n`-th buffer and touches only buffers up to it. -/
structure One (op : HloOp τ sig Val) (n : ℕ) : Prop where
  ex : ∃ (y : Ref sig .tc) (xs : List (Ref sig .tc)), IsAt y n ∧ op.writes = {Proc.devRef .tc y} ∧
    op.bufs ⊆ (xs.map (Proc.devRef (τ := τ) .tc)).toFinset ∧ ∀ x ∈ xs, UpTo x n
  fresh : op.fresh = ∅
  self : ∀ V : Valuation τ sig Val, op.result (op.result V) = op.result V

/-- The operations write the buffers `n`, …, `m - 1`, in order, each reading only buffers before its own. -/
inductive Line : List (HloOp τ sig Val) → ℕ → ℕ → Prop
  | nil (n : ℕ) : Line [] n n
  | cons {op : HloOp τ sig Val} {ops : List (HloOp τ sig Val)} {n m : ℕ} : One op n → Line ops (n + 1) m → Line (op :: ops) n m

section Builders

variable {x a b c y : Ref sig .tc} {n : ℕ}

theorem IsAt.upTo (h1 : y.space = .hbm) (h2 : y.idx.val = n) : UpTo y n := ⟨h1, h2.le⟩

theorem ne_of_lt (h2 : y.idx.val = n) (hx2 : x.idx.val < n) : x ≠ y := by
  rintro rfl
  omega

/-- An operation that writes `y` alone changes nothing the second time, if its result at `y` is the same the second time. -/
theorem self_of {op : HloOp τ sig Val} (hw : op.writes = {Proc.devRef .tc y}) (V : Valuation τ sig Val)
    (h : op.result (op.result V) (Proc.devRef .tc y) = op.result V (Proc.devRef .tc y)) :
    op.result (op.result V) = op.result V := by
  funext r
  by_cases hm : r ∈ op.writes
  · rw [hw, Finset.mem_singleton] at hm
    subst hm
    exact h
  · exact op.result_of_not_mem _ hm

theorem One.nullary {v : y.ty.Contents Val} {hy} (h1 : y.space = .hbm) (h2 : y.idx.val = n) :
    One (StableHlo.nullary (τ := τ) y v hy) n :=
  ⟨⟨y, [y], ⟨h1, h2⟩, rfl, by rw [nullary_bufs]; simp, by simpa using IsAt.upTo h1 h2⟩, rfl, fun V =>
    self_of rfl V (by rw [nullary_result, nullary_result])⟩

theorem One.unary {f : x.ty.Contents Val → y.ty.Contents Val} {hx hy} (h1 : y.space = .hbm) (h2 : y.idx.val = n)
    (hx1 : x.space = .hbm) (hx2 : x.idx.val < n) : One (StableHlo.unary (τ := τ) x y f hx hy) n :=
  ⟨⟨y, [x, y], ⟨h1, h2⟩, rfl, by rw [unary_bufs]; simp, by
    simpa using ⟨⟨hx1, hx2.le⟩, IsAt.upTo h1 h2⟩⟩, rfl, fun V =>
    self_of rfl V (by rw [unary_result, unary_result, unary_result_ne]; exact ne_of_lt h2 hx2)⟩

theorem One.reshape {he hn hx hy} (h1 : y.space = .hbm) (h2 : y.idx.val = n)
    (hx1 : x.space = .hbm) (hx2 : x.idx.val < n) : One (StableHlo.reshape (τ := τ) (Val := Val) x y he hn hx hy) n :=
  ⟨⟨y, [x, y], ⟨h1, h2⟩, rfl, by rw [reshape_bufs]; simp, by
    simpa using ⟨⟨hx1, hx2.le⟩, IsAt.upTo h1 h2⟩⟩, rfl, fun V =>
    self_of rfl V (by rw [reshape_result, reshape_result, reshape_result_ne]; exact ne_of_lt h2 hx2)⟩

theorem One.binary {f : a.ty.Contents Val → b.ty.Contents Val → y.ty.Contents Val} {ha hb hy}
    (h1 : y.space = .hbm) (h2 : y.idx.val = n) (ha1 : a.space = .hbm) (ha2 : a.idx.val < n) (hb1 : b.space = .hbm)
    (hb2 : b.idx.val < n) : One (StableHlo.binary (τ := τ) a b y f ha hb hy) n :=
  ⟨⟨y, [a, b, y], ⟨h1, h2⟩, rfl, by rw [binary_bufs]; simp, by
    simpa using ⟨⟨ha1, ha2.le⟩, ⟨hb1, hb2.le⟩, IsAt.upTo h1 h2⟩⟩, rfl, fun V =>
    self_of rfl V (by
      rw [binary_result, binary_result, binary_result_ne, binary_result_ne]
      exacts [ne_of_lt h2 hb2, ne_of_lt h2 ha2])⟩

theorem One.ternary {f : c.ty.Contents Val → a.ty.Contents Val → b.ty.Contents Val → y.ty.Contents Val} {hc ha hb hy}
    (h1 : y.space = .hbm) (h2 : y.idx.val = n) (hc1 : c.space = .hbm) (hc2 : c.idx.val < n)
    (ha1 : a.space = .hbm) (ha2 : a.idx.val < n) (hb1 : b.space = .hbm)
    (hb2 : b.idx.val < n) : One (StableHlo.ternary (τ := τ) c a b y f hc ha hb hy) n :=
  ⟨⟨y, [c, a, b, y], ⟨h1, h2⟩, rfl, by rw [ternary_bufs]; simp, by
    simpa using ⟨⟨hc1, hc2.le⟩, ⟨ha1, ha2.le⟩, ⟨hb1, hb2.le⟩, IsAt.upTo h1 h2⟩⟩, rfl, fun V =>
    self_of rfl V (by
      rw [ternary_result, ternary_result, ternary_result_ne, ternary_result_ne, ternary_result_ne]
      exacts [ne_of_lt h2 hb2, ne_of_lt h2 ha2, ne_of_lt h2 hc2])⟩

theorem One.nary {k : ℕ} {xs : Fin k → Ref sig .tc} {f : ((i : Fin k) → (xs i).ty.Contents Val) → y.ty.Contents Val} {hxs hy}
    (h1 : y.space = .hbm) (h2 : y.idx.val = n) (hs1 : ∀ i, (xs i).space = .hbm) (hs2 : ∀ i, (xs i).idx.val < n) :
    One (StableHlo.nary (τ := τ) xs y f hxs hy) n :=
  ⟨⟨y, y :: List.ofFn xs, ⟨h1, h2⟩, rfl, by
    intro b hb
    have hb' : b ∈ insert (Proc.devRef (τ := τ) .tc y) (Finset.univ.image fun i => Proc.devRef (τ := τ) .tc (xs i)) := hb
    refine List.mem_toFinset.mpr (List.mem_map.mpr ?_)
    rcases Finset.mem_insert.mp hb' with h | h
    · exact ⟨y, List.mem_cons_self, h.symm⟩
    · obtain ⟨i, -, rfl⟩ := Finset.mem_image.mp h
      exact ⟨xs i, List.mem_cons_of_mem _ (List.mem_ofFn.mpr ⟨i, rfl⟩), rfl⟩, by
    intro r hr
    rcases List.mem_cons.mp hr with h | h
    · subst h; exact IsAt.upTo h1 h2
    · obtain ⟨i, rfl⟩ := List.mem_ofFn.mp h
      exact ⟨hs1 i, (hs2 i).le⟩⟩, rfl, fun V =>
    self_of rfl V (by
      rw [nary_result, nary_result]
      refine congrArg f (funext fun i => ?_)
      rw [nary_result_ne]
      exact ne_of_lt h2 (hs2 i))⟩

end Builders

/-! ## What a line leaves -/

theorem One.keep {op : HloOp τ sig Val} {n : ℕ} (h : One op n) (V : Valuation τ sig Val) {r : Ref sig .tc} {j : ℕ}
    (hr : IsAt r j) (hj : j ≠ n) : op.result V (Proc.devRef .tc r) = V (Proc.devRef .tc r) := by
  obtain ⟨y, xs, hy, hw, -, -⟩ := h.ex
  refine op.result_of_not_mem V ?_
  rw [hw, Finset.mem_singleton]
  refine devRef_ne_of_ne ?_
  rintro rfl
  exact hj (hr.2.symm.trans hy.2)

theorem Line.le {ops : List (HloOp τ sig Val)} {n m : ℕ} (h : Line ops n m) : n ≤ m := by
  induction h with
  | nil => exact le_rfl
  | cons _ _ ih => omega

theorem Line.append {a b : List (HloOp τ sig Val)} {n k m : ℕ} (ha : Line a n k) (hb : Line b k m) : Line (a ++ b) n m := by
  induction ha with
  | nil => exact hb
  | cons h _ ih => exact .cons h (ih hb)

theorem Line.fresh {ops : List (HloOp τ sig Val)} {n m : ℕ} (h : Line ops n m) : ∀ op ∈ ops, op.fresh = ∅ := by
  induction h with
  | nil => intro op h; cases h
  | cons h _ ih => intro op hop; rcases List.mem_cons.mp hop with rfl | hop; exacts [h.fresh, ih op hop]

theorem Line.bufs {ops : List (HloOp τ sig Val)} {n m : ℕ} (h : Line ops n m) : ∀ op ∈ ops, op.bufs ⊆ tcRefs τ sig := by
  induction h with
  | nil => intro op h; cases h
  | cons h _ ih =>
    intro op hop
    rcases List.mem_cons.mp hop with rfl | hop
    · obtain ⟨y, xs, -, -, hb, -⟩ := h.ex
      refine hb.trans fun b hb => ?_
      obtain ⟨x, -, rfl⟩ := List.mem_map.mp (List.mem_toFinset.mp hb)
      exact devRef_mem_tcRefs x
    · exact ih op hop

/-- A buffer outside the line's range keeps its contents. -/
theorem Line.keep {ops : List (HloOp τ sig Val)} {n m : ℕ} (h : Line ops n m) :
    ∀ (V : Valuation τ sig Val) {r : Ref sig .tc} {j : ℕ}, IsAt r j → (j < n ∨ m ≤ j) →
      after ops V (Proc.devRef .tc r) = V (Proc.devRef .tc r) := by
  induction h with
  | nil => intros; rfl
  | @cons op ops n m h hl ih =>
    intro V r j hr hj
    have := hl.le
    rw [after_cons, ih _ hr (by omega), h.keep V hr (by omega)]

/-- Contents that an operation, applied to them, gives back. -/
def Fixes (op : HloOp τ sig Val) (W : Valuation τ sig Val) : Prop := op.result W = W

/-- An operation's equation holds of contents that agree, up to its buffer, with contents it holds of. -/
theorem One.fixes_of_agree {op : HloOp τ sig Val} {n : ℕ} (h : One op n) {W W' : Valuation τ sig Val}
    (hW : ∀ (r : Ref sig .tc) (j : ℕ), IsAt r j → j ≤ n → W' (Proc.devRef .tc r) = W (Proc.devRef .tc r)) (hf : Fixes op W) :
    Fixes op W' := by
  obtain ⟨y, xs, hy, hw, hb, hx⟩ := h.ex
  funext b
  by_cases hm : b ∈ op.writes
  · have e : op.result W' b = op.result W b := op.result_congr (fun c hc => by
      obtain ⟨x, hxm, rfl⟩ := List.mem_map.mp (List.mem_toFinset.mp (hb hc))
      exact hW x _ ⟨(hx x hxm).1, rfl⟩ (hx x hxm).2) b (op.writes_sub hm)
    rw [e, congrFun hf b]
    rw [hw, Finset.mem_singleton] at hm
    subst hm
    exact (hW y n hy le_rfl).symm
  · exact op.result_of_not_mem W' hm

/-- Applied to what it left, an operation that reads only earlier buffers changes nothing. -/
theorem Line.fixes {ops : List (HloOp τ sig Val)} {n m : ℕ} (h : Line ops n m) :
    ∀ (V : Valuation τ sig Val), ∀ op ∈ ops, Fixes op (after ops V) := by
  induction h with
  | nil => intro V op h; cases h
  | @cons op ops n m h hl ih =>
    intro V o ho
    rcases List.mem_cons.mp ho with rfl | ho
    · rw [after_cons]
      refine h.fixes_of_agree (fun r j hr hj => hl.keep _ hr (by omega)) (h.self V)
    · exact ih _ o ho

/-- An operation's equation after a line stays, whatever else changes the buffers past the line. -/
theorem Line.fixes_of_agree {ops : List (HloOp τ sig Val)} {n m : ℕ} (h : Line ops n m) {W W' : Valuation τ sig Val}
    (hW : ∀ (r : Ref sig .tc) (j : ℕ), IsAt r j → j < m → W' (Proc.devRef .tc r) = W (Proc.devRef .tc r))
    (hf : ∀ op ∈ ops, Fixes op W) : ∀ op ∈ ops, Fixes op W' := by
  induction h with
  | nil => intro op h; cases h
  | @cons op ops n m h hl ih =>
    intro o ho
    have := hl.le
    rcases List.mem_cons.mp ho with rfl | ho
    · exact h.fixes_of_agree (fun r j hr hj => hW r j hr (by omega)) (hf _ List.mem_cons_self)
    · exact ih hW (fun p hp => hf p (List.mem_cons_of_mem _ hp)) o ho

/-! ## The equations, operation by operation -/

section Equations

variable {ops : List (HloOp τ sig Val)} {W : Valuation τ sig Val} {x a b c y : Ref sig .tc}

theorem eq_at (hf : ∀ op ∈ ops, Fixes op W) (k : ℕ) {op : HloOp τ sig Val} (hk : ops[k]? = some op) (r : DevRef τ sig) :
    W r = op.result W r := (congrFun (hf op (List.mem_of_getElem? hk)) r).symm

theorem eq_nullary (hf : ∀ op ∈ ops, Fixes op W) (k : ℕ) {v : y.ty.Contents Val} {hy}
    (hk : ops[k]? = some (StableHlo.nullary y v hy)) : W (Proc.devRef .tc y) = v :=
  (eq_at hf k hk _).trans (nullary_result ..)

theorem eq_unary (hf : ∀ op ∈ ops, Fixes op W) (k : ℕ) {f : x.ty.Contents Val → y.ty.Contents Val} {hx hy}
    (hk : ops[k]? = some (StableHlo.unary x y f hx hy)) : W (Proc.devRef .tc y) = f (W (Proc.devRef .tc x)) :=
  (eq_at hf k hk _).trans (unary_result ..)

theorem eq_reshape (hf : ∀ op ∈ ops, Fixes op W) (k : ℕ) {he hn hx hy}
    (hk : ops[k]? = some (StableHlo.reshape x y he hn hx hy)) :
    W (Proc.devRef .tc y) = fun i => he ▸ shapeCast y.ty.shape (W (Proc.devRef .tc x)) hn i :=
  (eq_at hf k hk _).trans (reshape_result ..)

theorem eq_binary (hf : ∀ op ∈ ops, Fixes op W) (k : ℕ) {f : a.ty.Contents Val → b.ty.Contents Val → y.ty.Contents Val}
    {ha hb hy} (hk : ops[k]? = some (StableHlo.binary a b y f ha hb hy)) :
    W (Proc.devRef .tc y) = f (W (Proc.devRef .tc a)) (W (Proc.devRef .tc b)) :=
  (eq_at hf k hk _).trans (binary_result ..)

theorem eq_ternary (hf : ∀ op ∈ ops, Fixes op W) (k : ℕ)
    {f : c.ty.Contents Val → a.ty.Contents Val → b.ty.Contents Val → y.ty.Contents Val} {hc ha hb hy}
    (hk : ops[k]? = some (StableHlo.ternary c a b y f hc ha hb hy)) :
    W (Proc.devRef .tc y) = f (W (Proc.devRef .tc c)) (W (Proc.devRef .tc a)) (W (Proc.devRef .tc b)) :=
  (eq_at hf k hk _).trans (ternary_result ..)

theorem eq_nary (hf : ∀ op ∈ ops, Fixes op W) (k : ℕ) {m : ℕ} {xs : Fin m → Ref sig .tc}
    {f : ((i : Fin m) → (xs i).ty.Contents Val) → y.ty.Contents Val} {hxs hy}
    (hk : ops[k]? = some (StableHlo.nary xs y f hxs hy)) :
    W (Proc.devRef .tc y) = f fun i => W (Proc.devRef .tc (xs i)) :=
  (eq_at hf k hk _).trans (nary_result ..)

end Equations

end Cert.Lines
-- ==== Proof.HostK.lean ====
/- The kernel program's host operations, in the lines between its kernel calls, with the buffers each writes. -/
module

public import proofs.«01_k».proof.Proof.Gen.KernelIdeal
public import proofs.«01_k».proof.Proof.Lines

@[expose] public section

noncomputable section

namespace Cert.KernelIdeal.Host

open Cert.KernelIdeal
open Idealize.ShloMosaic Idealize.ShloMosaic.StableHlo Idealize.SL.Sem
open Cert.Lines (T Line Fixes)
open Cert.Lines
open Facts₀ Facts

variable {F : FTy → Type} [FloatOps F]

/-- Operations that write the buffers 6 to 59. -/
def k0 : List (HloOp τ sig (Elt F)) := [
  nullary main_cst (fun i => FloatOps.ofBits .f32 (lit0 (S512.rowMajor i))),
  nullary main_cst_0 (fun i => FloatOps.ofBits .f32 (lit1 (S512.rowMajor i))),
  nullary main_cst_1 (fun i => FloatOps.ofBits .f32 (lit2 (S32x512.rowMajor i))),
  nullary main_cst_2 (fun i => FloatOps.ofBits .f32 (lit3 (S512x32.rowMajor i))),
  nullary main_cst_3 (fun i => FloatOps.ofBits .f32 (lit4 (S864x16.rowMajor i))),
  nullary main_v0 (iotaInDim S512x512 32 0),
  nullary main_v1 (iotaInDim S512x512 32 1),
  binary main_v0 main_v1 main_v2 (muli : T F S512x512 .i32 → T F S512x512 .i32 → T F S512x512 .i32),
  nullary main_c (constantI S_ 32 511#32),
  unary main_c main_v3 (broadcastInDim S512x512 ![] bcast_S_S512x512 : T F S_ .i32 → T F S512x512 .i32),
  binary main_v2 main_v3 main_v4 (andi : T F S512x512 .i32 → T F S512x512 .i32 → T F S512x512 .i32),
  nullary main_c_4 (constantI S_ 32 0#32),
  unary main_c_4 main_v5 (broadcastInDim S512x512 ![] bcast_S_S512x512 : T F S_ .i32 → T F S512x512 .i32),
  binary main_v4 main_v5 main_v6 (cmpi .slt : T F S512x512 .i32 → T F S512x512 .i32 → T F S512x512 .i1),
  nullary main_c_5 (constantI S_ 32 512#32),
  unary main_c_5 main_v7 (broadcastInDim S512x512 ![] bcast_S_S512x512 : T F S_ .i32 → T F S512x512 .i32),
  binary main_v4 main_v7 main_v8 (addi : T F S512x512 .i32 → T F S512x512 .i32 → T F S512x512 .i32),
  ternary main_v6 main_v8 main_v4 main_v9 (select : T F S512x512 .i1 → T F S512x512 .i32 → T F S512x512 .i32 → T F S512x512 .i32),
  unary main_v9 main_v10 (broadcastInDim S512x512x1 ![0, 1] bcast_S512x512_S512x512x1_0_1 : T F S512x512 .i32 → T F S512x512x1 .i32),
  binary main_cst main_v10 main_v11 ((fun x i => Host.gather gather_S512_S512x512x1_S512x512_n_0_n_n_0_2_1 x i) : T F S512 .f32 → T F S512x512x1 .i32 → T F S512x512 .f32),
  nullary main_c_6 (constantI S_ 32 0#32),
  unary main_c_6 main_v12 (broadcastInDim S512x512 ![] bcast_S_S512x512 : T F S_ .i32 → T F S512x512 .i32),
  binary main_v4 main_v12 main_v13 (cmpi .slt : T F S512x512 .i32 → T F S512x512 .i32 → T F S512x512 .i1),
  nullary main_c_7 (constantI S_ 32 512#32),
  unary main_c_7 main_v14 (broadcastInDim S512x512 ![] bcast_S_S512x512 : T F S_ .i32 → T F S512x512 .i32),
  binary main_v4 main_v14 main_v15 (addi : T F S512x512 .i32 → T F S512x512 .i32 → T F S512x512 .i32),
  ternary main_v13 main_v15 main_v4 main_v16 (select : T F S512x512 .i1 → T F S512x512 .i32 → T F S512x512 .i32 → T F S512x512 .i32),
  unary main_v16 main_v17 (broadcastInDim S512x512x1 ![0, 1] bcast_S512x512_S512x512x1_0_1 : T F S512x512 .i32 → T F S512x512x1 .i32),
  binary main_cst_0 main_v17 main_v18 ((fun x i => Host.gather gather_S512_S512x512x1_S512x512_n_0_n_n_0_2_1 x i) : T F S512 .f32 → T F S512x512x1 .i32 → T F S512x512 .f32),
  unary main_v11 main_v19 ((truncf .bf16 · bitsLt_bf16_f32) : T F S512x512 .f32 → T F S512x512 .bf16),
  unary main_v19 main_v20 ((extf .f32 · bitsLt_bf16_f32) : T F S512x512 .bf16 → T F S512x512 .f32),
  binary main_v11 main_v20 main_v21 (subf : T F S512x512 .f32 → T F S512x512 .f32 → T F S512x512 .f32),
  unary main_v21 main_v22 ((truncf .bf16 · bitsLt_bf16_f32) : T F S512x512 .f32 → T F S512x512 .bf16),
  unary main_v22 main_v23 ((extf .f32 · bitsLt_bf16_f32) : T F S512x512 .bf16 → T F S512x512 .f32),
  binary main_v21 main_v23 main_v24 (subf : T F S512x512 .f32 → T F S512x512 .f32 → T F S512x512 .f32),
  unary main_v24 main_v25 ((truncf .bf16 · bitsLt_bf16_f32) : T F S512x512 .f32 → T F S512x512 .bf16),
  unary main_v18 main_v26 ((truncf .bf16 · bitsLt_bf16_f32) : T F S512x512 .f32 → T F S512x512 .bf16),
  unary main_v26 main_v27 ((extf .f32 · bitsLt_bf16_f32) : T F S512x512 .bf16 → T F S512x512 .f32),
  binary main_v18 main_v27 main_v28 (subf : T F S512x512 .f32 → T F S512x512 .f32 → T F S512x512 .f32),
  unary main_v28 main_v29 ((truncf .bf16 · bitsLt_bf16_f32) : T F S512x512 .f32 → T F S512x512 .bf16),
  unary main_v29 main_v30 ((extf .f32 · bitsLt_bf16_f32) : T F S512x512 .bf16 → T F S512x512 .f32),
  binary main_v28 main_v30 main_v31 (subf : T F S512x512 .f32 → T F S512x512 .f32 → T F S512x512 .f32),
  unary main_v31 main_v32 ((truncf .bf16 · bitsLt_bf16_f32) : T F S512x512 .f32 → T F S512x512 .bf16),
  nary ![main_v19, main_v19, main_v22, main_v19, main_v22, main_v25] main_v33 (fun u => (concatenate S512x3072 1 [⟨S512x512, (u 0 : T F S512x512 .bf16)⟩, ⟨S512x512, (u 1 : T F S512x512 .bf16)⟩, ⟨S512x512, (u 2 : T F S512x512 .bf16)⟩, ⟨S512x512, (u 3 : T F S512x512 .bf16)⟩, ⟨S512x512, (u 4 : T F S512x512 .bf16)⟩, ⟨S512x512, (u 5 : T F S512x512 .bf16)⟩] concatenates_S512x512_S512x512_S512x512_S512x512_S512x512_S512x512_S512x3072_d1 : T F S512x3072 .bf16)),
  nary ![main_v26, main_v26, main_v29, main_v26, main_v29, main_v32] main_v34 (fun u => (concatenate S512x3072 1 [⟨S512x512, (u 0 : T F S512x512 .bf16)⟩, ⟨S512x512, (u 1 : T F S512x512 .bf16)⟩, ⟨S512x512, (u 2 : T F S512x512 .bf16)⟩, ⟨S512x512, (u 3 : T F S512x512 .bf16)⟩, ⟨S512x512, (u 4 : T F S512x512 .bf16)⟩, ⟨S512x512, (u 5 : T F S512x512 .bf16)⟩] concatenates_S512x512_S512x512_S512x512_S512x512_S512x512_S512x512_S512x3072_d1 : T F S512x3072 .bf16)),
  nary ![main_v19, main_v22, main_v19, main_v25, main_v22, main_v19] main_v35 (fun u => (concatenate S3072x512 0 [⟨S512x512, (u 0 : T F S512x512 .bf16)⟩, ⟨S512x512, (u 1 : T F S512x512 .bf16)⟩, ⟨S512x512, (u 2 : T F S512x512 .bf16)⟩, ⟨S512x512, (u 3 : T F S512x512 .bf16)⟩, ⟨S512x512, (u 4 : T F S512x512 .bf16)⟩, ⟨S512x512, (u 5 : T F S512x512 .bf16)⟩] concatenates_S512x512_S512x512_S512x512_S512x512_S512x512_S512x512_S3072x512_d0 : T F S3072x512 .bf16)),
  nary ![main_v26, main_v29, main_v26, main_v32, main_v29, main_v26] main_v36 (fun u => (concatenate S3072x512 0 [⟨S512x512, (u 0 : T F S512x512 .bf16)⟩, ⟨S512x512, (u 1 : T F S512x512 .bf16)⟩, ⟨S512x512, (u 2 : T F S512x512 .bf16)⟩, ⟨S512x512, (u 3 : T F S512x512 .bf16)⟩, ⟨S512x512, (u 4 : T F S512x512 .bf16)⟩, ⟨S512x512, (u 5 : T F S512x512 .bf16)⟩] concatenates_S512x512_S512x512_S512x512_S512x512_S512x512_S512x512_S3072x512_d0 : T F S3072x512 .bf16)),
  unary main_cst_1 main_v37 ((truncf .bf16 · bitsLt_bf16_f32) : T F S32x512 .f32 → T F S32x512 .bf16),
  unary main_cst_2 main_v38 ((truncf .bf16 · bitsLt_bf16_f32) : T F S512x32 .f32 → T F S512x32 .bf16),
  nary ![main_v37, main_v37, main_v37] main_v39 (fun u => (concatenate S32x1536 1 [⟨S32x512, (u 0 : T F S32x512 .bf16)⟩, ⟨S32x512, (u 1 : T F S32x512 .bf16)⟩, ⟨S32x512, (u 2 : T F S32x512 .bf16)⟩] concatenates_S32x512_S32x512_S32x512_S32x1536_d1 : T F S32x1536 .bf16)),
  nary ![main_v38, main_v38, main_v38] main_v40 (fun u => (concatenate S1536x32 0 [⟨S512x32, (u 0 : T F S512x32 .bf16)⟩, ⟨S512x32, (u 1 : T F S512x32 .bf16)⟩, ⟨S512x32, (u 2 : T F S512x32 .bf16)⟩] concatenates_S512x32_S512x32_S512x32_S1536x32_d0 : T F S1536x32 .bf16)),
  nullary main_cst_8 (constant S_ .bf16 0x3F80#16),
  unary main_cst_8 main_v41 (broadcastInDim S8x96 ![] bcast_S_S8x96 : T F S_ .bf16 → T F S8x96 .bf16),
  unary main_cst_3 main_v42 ((truncf .bf16 · bitsLt_bf16_f32) : T F S864x16 .f32 → T F S864x16 .bf16)]

theorem k0_line : Line (k0 (F := F)) 6 60 := by
  unfold k0
  exact .cons (.nullary rfl rfl)<|
  .cons (.nullary rfl rfl)<|
  .cons (.nullary rfl rfl)<|
  .cons (.nullary rfl rfl)<|
  .cons (.nullary rfl rfl)<|
  .cons (.nullary rfl rfl)<|
  .cons (.nullary rfl rfl)<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.ternary rfl rfl rfl (by decide) rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.ternary rfl rfl rfl (by decide) rfl (by decide) rfl (by decide))<|
  .cons (.unary rfl rfl rfl (by decide))<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.unary rfl rfl rfl (by decide))<|
  .cons (.unary rfl rfl rfl (by decide))<|
  .cons (.unary rfl rfl rfl (by decide))<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.unary rfl rfl rfl (by decide))<|
  .cons (.nary rfl rfl (by decide) (by decide))<|
  .cons (.nary rfl rfl (by decide) (by decide))<|
  .cons (.nary rfl rfl (by decide) (by decide))<|
  .cons (.nary rfl rfl (by decide) (by decide))<|
  .cons (.unary rfl rfl rfl (by decide))<|
  .cons (.unary rfl rfl rfl (by decide))<|
  .cons (.nary rfl rfl (by decide) (by decide))<|
  .cons (.nary rfl rfl (by decide) (by decide))<|
  .cons (.nullary rfl rfl)<|
  .cons (.unary rfl rfl rfl (by decide))<|
  .cons (.unary rfl rfl rfl (by decide))<| .nil _

/-- Operations that write the buffers 63 to 67. -/
def k1 : List (HloOp τ sig (Elt F)) := [
  reshape main_v43_0 main_v44 (rfl : (.f32 : EltTy) = .f32) shapeCasts_S32x3x512x512_S32x3x32x16x32x16,
  unary main_v44 main_v45 ((transpose S32x3x32x32x16x16 [0, 1, 2, 4, 3, 5] · transposes_S32x3x32x16x32x16_S32x3x32x32x16x16_0_1_2_4_3_5) : T F S32x3x32x16x32x16 .f32 → T F S32x3x32x32x16x16 .f32),
  reshape main_v45 main_v46 (rfl : (.f32 : EltTy) = .f32) shapeCasts_S32x3x32x32x16x16_S32x3x1024x16x16,
  nullary main_cst_9 (constant S_ .f32 0x00000000#32),
  binary main_v46 main_cst_9 main_v47 ((fun x v => Host.reduceAdd x v reducesTo_S32x3x1024x16x16_S32x3x1024_d3_4 h_S_) : T F S32x3x1024x16x16 .f32 → T F S_ .f32 → T F S32x3x1024 .f32)]

theorem k1_line : Line (k1 (F := F)) 63 68 := by
  unfold k1
  exact .cons (.reshape rfl rfl rfl (by decide))<|
  .cons (.unary rfl rfl rfl (by decide))<|
  .cons (.reshape rfl rfl rfl (by decide))<|
  .cons (.nullary rfl rfl)<|
  .cons (.binary rfl rfl rfl (by decide) rfl (by decide))<| .nil _

/-- Operations that write the buffers 68 to 148. -/
def k2 : List (HloOp τ sig (Elt F)) := [
  nullary main_cst_10 (constant S_ .f32 0x43800000#32),
  unary main_cst_10 main_v48 (broadcastInDim S32x3x1024 ![] bcast_S_S32x3x1024 : T F S_ .f32 → T F S32x3x1024 .f32),
  binary main_v47 main_v48 main_v49 (Host.divf : T F S32x3x1024 .f32 → T F S32x3x1024 .f32 → T F S32x3x1024 .f32),
  nullary main_cst_11 (constant S_ .f32 0x00000000#32),
  binary main_v49 main_cst_11 main_v50 ((fun x v => Host.reduceAdd x v reducesTo_S32x3x1024_S32x1024_d1 h_S_) : T F S32x3x1024 .f32 → T F S_ .f32 → T F S32x1024 .f32),
  nullary main_cst_12 (constant S_ .f32 0x40400000#32),
  unary main_cst_12 main_v51 (broadcastInDim S32x1024 ![] bcast_S_S32x1024 : T F S_ .f32 → T F S32x1024 .f32),
  binary main_v50 main_v51 main_v52 (Host.divf : T F S32x1024 .f32 → T F S32x1024 .f32 → T F S32x1024 .f32),
  binary main_arg1 main_v43_0 main_v53 ((fun l r => Host.dotGeneral dot_S16x3_S32x3x512x512_S16x32x512x512_1_1_0_023_n_n none l r) : T F S16x3 .f32 → T F S32x3x512x512 .f32 → T F S16x32x512x512 .f32),
  unary main_v53 main_v54 ((transpose S32x16x512x512 [1, 0, 2, 3] · transposes_S16x32x512x512_S32x16x512x512_1_0_2_3) : T F S16x32x512x512 .f32 → T F S32x16x512x512 .f32),
  nullary main_cst_13 (constant S_ .f32 0x00000000#32),
  binary main_v54 main_cst_13 main_v55 ((fun x v => Host.reduceAdd x v reducesTo_S32x16x512x512_S16_d0_2_3 h_S_) : T F S32x16x512x512 .f32 → T F S_ .f32 → T F S16 .f32),
  nullary main_cst_14 (constant S_ .f32 0x4B000000#32),
  unary main_cst_14 main_v56 (broadcastInDim S16 ![] bcast_S_S16 : T F S_ .f32 → T F S16 .f32),
  binary main_v55 main_v56 main_v57 (Host.divf : T F S16 .f32 → T F S16 .f32 → T F S16 .f32),
  nullary main_c_15 (constantI S_ 32 0#32),
  nullary main_call0_cst ((constant S_ .f32 0x00000000#32) : T F S_ .f32),
  binary main_v54 main_call0_cst main_call0_v0 ((fun x v => Host.reduceAdd x v reducesTo_S32x16x512x512_S16_d0_2_3 h_S_) : T F S32x16x512x512 .f32 → T F S_ .f32 → T F S16 .f32),
  unary main_call0_v0 main_call0_v1 ((broadcastInDim S1x16x1x1 ![1] bcast_S16_S1x16x1x1_1) : T F S16 .f32 → T F S1x16x1x1 .f32),
  nullary main_call0_cst_0 ((constant S_ .f32 0x4B000000#32) : T F S_ .f32),
  unary main_call0_cst_0 main_call0_v2 ((broadcastInDim S1x16x1x1 ![] bcast_S_S1x16x1x1) : T F S_ .f32 → T F S1x16x1x1 .f32),
  binary main_call0_v1 main_call0_v2 main_call0_v3 (Host.divf : T F S1x16x1x1 .f32 → T F S1x16x1x1 .f32 → T F S1x16x1x1 .f32),
  unary main_call0_v3 main_call0_v4 ((broadcastInDim S32x16x512x512 ![0, 1, 2, 3] bcast_S1x16x1x1_S32x16x512x512_0_1_2_3) : T F S1x16x1x1 .f32 → T F S32x16x512x512 .f32),
  binary main_v54 main_call0_v4 main_call0_v5 (subf : T F S32x16x512x512 .f32 → T F S32x16x512x512 .f32 → T F S32x16x512x512 .f32),
  binary main_call0_v5 main_call0_v5 main_call0_v6 (mulf : T F S32x16x512x512 .f32 → T F S32x16x512x512 .f32 → T F S32x16x512x512 .f32),
  unary main_c_15 main_call0_v7 ((sitofp .f32) : T F S_ .i32 → T F S_ .f32),
  nullary main_call0_cst_1 ((constant S_ .f32 0x4B000000#32) : T F S_ .f32),
  binary main_call0_cst_1 main_call0_v7 main_call0_v8 (subf : T F S_ .f32 → T F S_ .f32 → T F S_ .f32),
  nullary main_call0_cst_2 ((constant S_ .f32 0x00000000#32) : T F S_ .f32),
  binary main_call0_v6 main_call0_cst_2 main_call0_v9 ((fun x v => Host.reduceAdd x v reducesTo_S32x16x512x512_S16_d0_2_3 h_S_) : T F S32x16x512x512 .f32 → T F S_ .f32 → T F S16 .f32),
  unary main_call0_v8 main_call0_v10 ((broadcastInDim S16 ![] bcast_S_S16) : T F S_ .f32 → T F S16 .f32),
  binary main_call0_v9 main_call0_v10 main_call0_v11 (Host.divf : T F S16 .f32 → T F S16 .f32 → T F S16 .f32),
  nullary main_call0_cst_3 ((constant S_ .f32 0x00000000#32) : T F S_ .f32),
  binary main_call0_v8 main_call0_cst_3 main_call0_v12 ((cmpf .ogt) : T F S_ .f32 → T F S_ .f32 → T F S_ .i1),
  nullary main_call0_cst_4 ((constant S_ .f32 0x7FC00000#32) : T F S_ .f32),
  unary main_call0_cst_4 main_call0_call0_v0 (id : T F S_ .f32 → T F S_ .f32),
  unary main_call0_call0_v0 main_call0_call0_v1 ((broadcastInDim S16 ![] bcast_S_S16) : T F S_ .f32 → T F S16 .f32),
  ternary main_call0_v12 main_call0_v11 main_call0_call0_v1 main_v58 ((fun p a b => select (broadcastInDim S16 ![] bcast_S_S16 p) a b) : T F S_ .i1 → T F S16 .f32 → T F S16 .f32 → T F S16 .f32),
  unary main_v57 main_v59 (broadcastInDim S1x16x1x1 ![1] bcast_S16_S1x16x1x1_1 : T F S16 .f32 → T F S1x16x1x1 .f32),
  unary main_v59 main_v60 (broadcastInDim S32x16x512x512 ![0, 1, 2, 3] bcast_S1x16x1x1_S32x16x512x512_0_1_2_3 : T F S1x16x1x1 .f32 → T F S32x16x512x512 .f32),
  binary main_v54 main_v60 main_v61 (subf : T F S32x16x512x512 .f32 → T F S32x16x512x512 .f32 → T F S32x16x512x512 .f32),
  unary main_v58 main_v62 (broadcastInDim S1x16x1x1 ![1] bcast_S16_S1x16x1x1_1 : T F S16 .f32 → T F S1x16x1x1 .f32),
  nullary main_cst_16 (constant S_ .f32 0x3727C5AC#32),
  unary main_cst_16 main_v63 (broadcastInDim S1x16x1x1 ![] bcast_S_S1x16x1x1 : T F S_ .f32 → T F S1x16x1x1 .f32),
  binary main_v62 main_v63 main_v64 (addf : T F S1x16x1x1 .f32 → T F S1x16x1x1 .f32 → T F S1x16x1x1 .f32),
  unary main_v64 main_v65 (Host.sqrt : T F S1x16x1x1 .f32 → T F S1x16x1x1 .f32),
  unary main_v65 main_v66 (broadcastInDim S32x16x512x512 ![0, 1, 2, 3] bcast_S1x16x1x1_S32x16x512x512_0_1_2_3 : T F S1x16x1x1 .f32 → T F S32x16x512x512 .f32),
  binary main_v61 main_v66 main_v67 (Host.divf : T F S32x16x512x512 .f32 → T F S32x16x512x512 .f32 → T F S32x16x512x512 .f32),
  unary main_arg2 main_v68 (broadcastInDim S1x16x1x1 ![1] bcast_S16_S1x16x1x1_1 : T F S16 .f32 → T F S1x16x1x1 .f32),
  unary main_v68 main_v69 (broadcastInDim S32x16x512x512 ![0, 1, 2, 3] bcast_S1x16x1x1_S32x16x512x512_0_1_2_3 : T F S1x16x1x1 .f32 → T F S32x16x512x512 .f32),
  binary main_v67 main_v69 main_v70 (mulf : T F S32x16x512x512 .f32 → T F S32x16x512x512 .f32 → T F S32x16x512x512 .f32),
  unary main_arg3 main_v71 (broadcastInDim S1x16x1x1 ![1] bcast_S16_S1x16x1x1_1 : T F S16 .f32 → T F S1x16x1x1 .f32),
  unary main_v71 main_v72 (broadcastInDim S32x16x512x512 ![0, 1, 2, 3] bcast_S1x16x1x1_S32x16x512x512_0_1_2_3 : T F S1x16x1x1 .f32 → T F S32x16x512x512 .f32),
  binary main_v70 main_v72 main_v73 (addf : T F S32x16x512x512 .f32 → T F S32x16x512x512 .f32 → T F S32x16x512x512 .f32),
  nullary main_call1_cst ((constant S_ .f32 0x00000000#32) : T F S_ .f32),
  unary main_call1_cst main_call1_v0 ((broadcastInDim S32x16x512x512 ![] bcast_S_S32x16x512x512) : T F S_ .f32 → T F S32x16x512x512 .f32),
  binary main_v73 main_call1_v0 main_v74 (maximumf : T F S32x16x512x512 .f32 → T F S32x16x512x512 .f32 → T F S32x16x512x512 .f32),
  binary main_arg4 main_v74 main_v75 ((fun l r => Host.dotGeneral dot_S1x16_S32x16x512x512_S1x32x512x512_1_1_0_023_n_n none l r) : T F S1x16 .f32 → T F S32x16x512x512 .f32 → T F S1x32x512x512 .f32),
  unary main_v75 main_v76 ((transpose S32x1x512x512 [1, 0, 2, 3] · transposes_S1x32x512x512_S32x1x512x512_1_0_2_3) : T F S1x32x512x512 .f32 → T F S32x1x512x512 .f32),
  unary main_arg5 main_v77 (broadcastInDim S1x1x1x1 ![1] bcast_S1_S1x1x1x1_1 : T F S1 .f32 → T F S1x1x1x1 .f32),
  unary main_v77 main_v78 (broadcastInDim S32x1x512x512 ![0, 1, 2, 3] bcast_S1x1x1x1_S32x1x512x512_0_1_2_3 : T F S1x1x1x1 .f32 → T F S32x1x512x512 .f32),
  binary main_v76 main_v78 main_v79 (addf : T F S32x1x512x512 .f32 → T F S32x1x512x512 .f32 → T F S32x1x512x512 .f32),
  reshape main_v79 main_v80 (rfl : (.f32 : EltTy) = .f32) shapeCasts_S32x1x512x512_S32x1x32x16x32x16,
  unary main_v80 main_v81 ((transpose S32x1x32x32x16x16 [0, 1, 2, 4, 3, 5] · transposes_S32x1x32x16x32x16_S32x1x32x32x16x16_0_1_2_4_3_5) : T F S32x1x32x16x32x16 .f32 → T F S32x1x32x32x16x16 .f32),
  reshape main_v81 main_v82 (rfl : (.f32 : EltTy) = .f32) shapeCasts_S32x1x32x32x16x16_S32x1x1024x256,
  nullary main_cst_17 (constant S_ .f32 0x00000000#32),
  binary main_v82 main_cst_17 main_v83 ((fun x v => Host.reduceAdd x v reducesTo_S32x1x1024x256_S32x1x1024_d3 h_S_) : T F S32x1x1024x256 .f32 → T F S_ .f32 → T F S32x1x1024 .f32),
  nullary main_cst_18 (constant S_ .f32 0x43800000#32),
  unary main_cst_18 main_v84 (broadcastInDim S32x1x1024 ![] bcast_S_S32x1x1024 : T F S_ .f32 → T F S32x1x1024 .f32),
  binary main_v83 main_v84 main_v85 (Host.divf : T F S32x1x1024 .f32 → T F S32x1x1024 .f32 → T F S32x1x1024 .f32),
  reshape main_v85 main_v86 (rfl : (.f32 : EltTy) = .f32) shapeCasts_S32x1x1024_S32x1024,
  unary main_v86 main_v87 (Host.negf : T F S32x1024 .f32 → T F S32x1024 .f32),
  unary main_v87 main_v88 (Host.exp : T F S32x1024 .f32 → T F S32x1024 .f32),
  nullary main_cst_19 (constant S_ .f32 0x3F800000#32),
  unary main_cst_19 main_v89 (broadcastInDim S32x1024 ![] bcast_S_S32x1024 : T F S_ .f32 → T F S32x1024 .f32),
  binary main_v89 main_v88 main_v90 (addf : T F S32x1024 .f32 → T F S32x1024 .f32 → T F S32x1024 .f32),
  nullary main_cst_20 (constant S_ .f32 0x3F800000#32),
  unary main_cst_20 main_v91 (broadcastInDim S32x1024 ![] bcast_S_S32x1024 : T F S_ .f32 → T F S32x1024 .f32),
  binary main_v91 main_v90 main_v92 (Host.divf : T F S32x1024 .f32 → T F S32x1024 .f32 → T F S32x1024 .f32),
  binary main_v52 main_v92 main_v93 (mulf : T F S32x1024 .f32 → T F S32x1024 .f32 → T F S32x1024 .f32),
  reshape main_v93 main_v94 (rfl : (.f32 : EltTy) = .f32) shapeCasts_S32x1024_S32x1x1024]

theorem k2_line : Line (k2 (F := F)) 68 149 := by
  unfold k2
  exact .cons (.nullary rfl rfl)<|
  .cons (.unary rfl rfl rfl (by decide))<|
  .cons (.binary rfl rfl rfl (by decide) rfl (by decide))<|
  .cons (.nullary rfl rfl)<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.unary rfl rfl rfl (by decide))<|
  .cons (.nullary rfl rfl)<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.nullary rfl rfl)<|
  .cons (.binary rfl rfl rfl (by decide) rfl (by decide))<|
  .cons (.unary rfl rfl rfl (by decide))<|
  .cons (.nullary rfl rfl)<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.binary rfl rfl rfl (by decide) rfl (by decide))<|
  .cons (.unary rfl rfl rfl (by decide))<|
  .cons (.nullary rfl rfl)<|
  .cons (.binary rfl rfl rfl (by decide) rfl (by decide))<|
  .cons (.nullary rfl rfl)<|
  .cons (.binary rfl rfl rfl (by decide) rfl (by decide))<|
  .cons (.unary rfl rfl rfl (by decide))<|
  .cons (.binary rfl rfl rfl (by decide) rfl (by decide))<|
  .cons (.nullary rfl rfl)<|
  .cons (.binary rfl rfl rfl (by decide) rfl (by decide))<|
  .cons (.nullary rfl rfl)<|
  .cons (.unary rfl rfl rfl (by decide))<|
  .cons (.unary rfl rfl rfl (by decide))<|
  .cons (.ternary rfl rfl rfl (by decide) rfl (by decide) rfl (by decide))<|
  .cons (.unary rfl rfl rfl (by decide))<|
  .cons (.unary rfl rfl rfl (by decide))<|
  .cons (.binary rfl rfl rfl (by decide) rfl (by decide))<|
  .cons (.unary rfl rfl rfl (by decide))<|
  .cons (.nullary rfl rfl)<|
  .cons (.unary rfl rfl rfl (by decide))<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.unary rfl rfl rfl (by decide))<|
  .cons (.unary rfl rfl rfl (by decide))<|
  .cons (.unary rfl rfl rfl (by decide))<|
  .cons (.binary rfl rfl rfl (by decide) rfl (by decide))<|
  .cons (.reshape rfl rfl rfl (by decide))<|
  .cons (.unary rfl rfl rfl (by decide))<|
  .cons (.reshape rfl rfl rfl (by decide))<|
  .cons (.nullary rfl rfl)<|
  .cons (.binary rfl rfl rfl (by decide) rfl (by decide))<|
  .cons (.nullary rfl rfl)<|
  .cons (.unary rfl rfl rfl (by decide))<|
  .cons (.binary rfl rfl rfl (by decide) rfl (by decide))<|
  .cons (.reshape rfl rfl rfl (by decide))<|
  .cons (.unary rfl rfl rfl (by decide))<|
  .cons (.unary rfl rfl rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.reshape rfl rfl rfl (by decide))<| .nil _

/-- Operations that write the buffers 150 to 150. -/
def k3a : List (HloOp τ sig (Elt F)) := [
  nullary main_c_21 (constantI S_ 32 42#32)]

theorem k3a_line : Line (k3a (F := F)) 150 151 := by
  unfold k3a
  exact .cons (.nullary rfl rfl)<| .nil _

/-- Operations that write the buffers 151 to 161. -/
def k3b : List (HloOp τ sig (Elt F)) := [
  nullary main_c_22 (constantI S_ 32 32#32),
  binary main_c_21 main_c_22 main_v96 (Host.shrui : T F S_ .i32 → T F S_ .i32 → T F S_ .i32),
  unary main_v96 main_v97 (id : T F S_ .i32 → T F S_ .i32),
  unary main_v97 main_v98 (broadcastInDim S1 ![] bcast_S_S1 : T F S_ .i32 → T F S1 .i32),
  nullary main_c_23 (constantI S_ 32 4294967295#32),
  binary main_c_21 main_c_23 main_v99 (andi : T F S_ .i32 → T F S_ .i32 → T F S_ .i32),
  unary main_v99 main_v100 (id : T F S_ .i32 → T F S_ .i32),
  unary main_v100 main_v101 (broadcastInDim S1 ![] bcast_S_S1 : T F S_ .i32 → T F S1 .i32),
  binary main_v98 main_v101 main_v102 ((fun a b => concatenate S2 0 [⟨S1, a⟩, ⟨S1, b⟩] concatenates_S1_S1_S2_d0) : T F S1 .i32 → T F S1 .i32 → T F S2 .i32),
  nullary main_cst_24 (constant S_ .f32 0x00000000#32),
  nullary main_cst_25 (constant S_ .f32 0x3F800000#32)]

theorem k3b_line : Line (k3b (F := F)) 151 162 := by
  unfold k3b
  exact .cons (.nullary rfl rfl)<|
  .cons (.binary rfl rfl rfl (by decide) rfl (by decide))<|
  .cons (.unary rfl rfl rfl (by decide))<|
  .cons (.unary rfl rfl rfl (by decide))<|
  .cons (.nullary rfl rfl)<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.nullary rfl rfl)<|
  .cons (.nullary rfl rfl)<| .nil _

/-- Operations that write the buffers 162 to 183. -/
def k4 : List (HloOp τ sig (Elt F)) := [
  unary main_cst_24 main_call2_v0 (id : T F S_ .f32 → T F S_ .f32),
  unary main_cst_25 main_call2_v1 (id : T F S_ .f32 → T F S_ .f32),
  unary main_call2_v0 main_call2_v2 ((broadcastInDim S1x1 ![] bcast_S_S1x1) : T F S_ .f32 → T F S1x1 .f32),
  unary main_call2_v1 main_call2_v3 ((broadcastInDim S1x1 ![] bcast_S_S1x1) : T F S_ .f32 → T F S1x1 .f32),
  unary main_v102 main_call2_v4 ((extractStridedSlice S1 ![0] · slices_S2_S1_0) : T F S2 .i32 → T F S1 .i32),
  reshape main_call2_v4 main_call2_v5 (rfl : (.i32 : EltTy) = .i32) shapeCasts_S1_S_,
  unary main_v102 main_call2_v6 ((extractStridedSlice S1 ![1] · slices_S2_S1_1) : T F S2 .i32 → T F S1 .i32),
  reshape main_call2_v6 main_call2_v7 (rfl : (.i32 : EltTy) = .i32) shapeCasts_S1_S_,
  nullary main_call2_v8 ((iotaInDim S32x1024 64 0) : T F S32x1024 .i64),
  nullary main_call2_v9 ((iotaInDim S32x1024 64 1) : T F S32x1024 .i64),
  nullary main_call2_c ((constantI S_ 64 1024#64) : T F S_ .i64),
  unary main_call2_c main_call2_v10 ((broadcastInDim S32x1024 ![] bcast_S_S32x1024) : T F S_ .i64 → T F S32x1024 .i64),
  binary main_call2_v10 main_call2_v8 main_call2_v11 (muli : T F S32x1024 .i64 → T F S32x1024 .i64 → T F S32x1024 .i64),
  nullary main_call2_c_0 ((constantI S_ 64 1#64) : T F S_ .i64),
  unary main_call2_c_0 main_call2_v12 ((broadcastInDim S32x1024 ![] bcast_S_S32x1024) : T F S_ .i64 → T F S32x1024 .i64),
  binary main_call2_v12 main_call2_v9 main_call2_v13 (muli : T F S32x1024 .i64 → T F S32x1024 .i64 → T F S32x1024 .i64),
  binary main_call2_v11 main_call2_v13 main_call2_v14 (addi : T F S32x1024 .i64 → T F S32x1024 .i64 → T F S32x1024 .i64),
  nullary main_call2_c_1 ((constantI S_ 64 32#64) : T F S_ .i64),
  unary main_call2_c_1 main_call2_v15 ((broadcastInDim S32x1024 ![] bcast_S_S32x1024) : T F S_ .i64 → T F S32x1024 .i64),
  binary main_call2_v14 main_call2_v15 main_call2_v16 (Host.shrui : T F S32x1024 .i64 → T F S32x1024 .i64 → T F S32x1024 .i64),
  unary main_call2_v14 main_call2_v17 ((trunci 32 · natLt_32_64) : T F S32x1024 .i64 → T F S32x1024 .i32),
  unary main_call2_v16 main_call2_v18 ((trunci 32 · natLt_32_64) : T F S32x1024 .i64 → T F S32x1024 .i32)]

theorem k4_line : Line (k4 (F := F)) 162 184 := by
  unfold k4
  exact .cons (.unary rfl rfl rfl (by decide))<|
  .cons (.unary rfl rfl rfl (by decide))<|
  .cons (.unary rfl rfl rfl (by decide))<|
  .cons (.unary rfl rfl rfl (by decide))<|
  .cons (.unary rfl rfl rfl (by decide))<|
  .cons (.reshape rfl rfl rfl (by decide))<|
  .cons (.unary rfl rfl rfl (by decide))<|
  .cons (.reshape rfl rfl rfl (by decide))<|
  .cons (.nullary rfl rfl)<|
  .cons (.nullary rfl rfl)<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.unary rfl rfl rfl (by decide))<|
  .cons (.unary rfl rfl rfl (by decide))<| .nil _

/-- Operations that write the buffers 184 to 243. -/
def k5 : List (HloOp τ sig (Elt F)) := [
  binary main_call2_v5 main_call2_v7 main_call2_call0_v0 (xori : T F S_ .i32 → T F S_ .i32 → T F S_ .i32),
  nullary main_call2_call0_c ((constantI S_ 32 466688986#32) : T F S_ .i32),
  binary main_call2_call0_v0 main_call2_call0_c main_call2_call0_v1 (xori : T F S_ .i32 → T F S_ .i32 → T F S_ .i32),
  unary main_call2_v5 main_call2_call0_v2 ((broadcastInDim S32x1024 ![] bcast_S_S32x1024) : T F S_ .i32 → T F S32x1024 .i32),
  binary main_call2_v18 main_call2_call0_v2 main_call2_call0_v3 (addi : T F S32x1024 .i32 → T F S32x1024 .i32 → T F S32x1024 .i32),
  unary main_call2_v7 main_call2_call0_v4 ((broadcastInDim S32x1024 ![] bcast_S_S32x1024) : T F S_ .i32 → T F S32x1024 .i32),
  binary main_call2_v17 main_call2_call0_v4 main_call2_call0_v5 (addi : T F S32x1024 .i32 → T F S32x1024 .i32 → T F S32x1024 .i32),
  binary main_call2_call0_v3 main_call2_call0_v5 main_call2_call0_v6 (addi : T F S32x1024 .i32 → T F S32x1024 .i32 → T F S32x1024 .i32),
  nullary main_call2_call0_c_0 ((constantI S_ 32 13#32) : T F S_ .i32),
  unary main_call2_call0_c_0 main_call2_call0_v7 ((broadcastInDim S32x1024 ![] bcast_S_S32x1024) : T F S_ .i32 → T F S32x1024 .i32),
  binary main_call2_call0_v5 main_call2_call0_v7 main_call2_call0_v8 (Host.shli : T F S32x1024 .i32 → T F S32x1024 .i32 → T F S32x1024 .i32),
  nullary main_call2_call0_c_1 ((constantI S_ 32 19#32) : T F S_ .i32),
  unary main_call2_call0_c_1 main_call2_call0_v9 ((broadcastInDim S32x1024 ![] bcast_S_S32x1024) : T F S_ .i32 → T F S32x1024 .i32),
  binary main_call2_call0_v5 main_call2_call0_v9 main_call2_call0_v10 (Host.shrui : T F S32x1024 .i32 → T F S32x1024 .i32 → T F S32x1024 .i32),
  binary main_call2_call0_v8 main_call2_call0_v10 main_call2_call0_v11 (ori : T F S32x1024 .i32 → T F S32x1024 .i32 → T F S32x1024 .i32),
  binary main_call2_call0_v6 main_call2_call0_v11 main_call2_call0_v12 (xori : T F S32x1024 .i32 → T F S32x1024 .i32 → T F S32x1024 .i32),
  binary main_call2_call0_v6 main_call2_call0_v12 main_call2_call0_v13 (addi : T F S32x1024 .i32 → T F S32x1024 .i32 → T F S32x1024 .i32),
  nullary main_call2_call0_c_2 ((constantI S_ 32 15#32) : T F S_ .i32),
  unary main_call2_call0_c_2 main_call2_call0_v14 ((broadcastInDim S32x1024 ![] bcast_S_S32x1024) : T F S_ .i32 → T F S32x1024 .i32),
  binary main_call2_call0_v12 main_call2_call0_v14 main_call2_call0_v15 (Host.shli : T F S32x1024 .i32 → T F S32x1024 .i32 → T F S32x1024 .i32),
  nullary main_call2_call0_c_3 ((constantI S_ 32 17#32) : T F S_ .i32),
  unary main_call2_call0_c_3 main_call2_call0_v16 ((broadcastInDim S32x1024 ![] bcast_S_S32x1024) : T F S_ .i32 → T F S32x1024 .i32),
  binary main_call2_call0_v12 main_call2_call0_v16 main_call2_call0_v17 (Host.shrui : T F S32x1024 .i32 → T F S32x1024 .i32 → T F S32x1024 .i32),
  binary main_call2_call0_v15 main_call2_call0_v17 main_call2_call0_v18 (ori : T F S32x1024 .i32 → T F S32x1024 .i32 → T F S32x1024 .i32),
  binary main_call2_call0_v13 main_call2_call0_v18 main_call2_call0_v19 (xori : T F S32x1024 .i32 → T F S32x1024 .i32 → T F S32x1024 .i32),
  binary main_call2_call0_v13 main_call2_call0_v19 main_call2_call0_v20 (addi : T F S32x1024 .i32 → T F S32x1024 .i32 → T F S32x1024 .i32),
  nullary main_call2_call0_c_4 ((constantI S_ 32 26#32) : T F S_ .i32),
  unary main_call2_call0_c_4 main_call2_call0_v21 ((broadcastInDim S32x1024 ![] bcast_S_S32x1024) : T F S_ .i32 → T F S32x1024 .i32),
  binary main_call2_call0_v19 main_call2_call0_v21 main_call2_call0_v22 (Host.shli : T F S32x1024 .i32 → T F S32x1024 .i32 → T F S32x1024 .i32),
  nullary main_call2_call0_c_5 ((constantI S_ 32 6#32) : T F S_ .i32),
  unary main_call2_call0_c_5 main_call2_call0_v23 ((broadcastInDim S32x1024 ![] bcast_S_S32x1024) : T F S_ .i32 → T F S32x1024 .i32),
  binary main_call2_call0_v19 main_call2_call0_v23 main_call2_call0_v24 (Host.shrui : T F S32x1024 .i32 → T F S32x1024 .i32 → T F S32x1024 .i32),
  binary main_call2_call0_v22 main_call2_call0_v24 main_call2_call0_v25 (ori : T F S32x1024 .i32 → T F S32x1024 .i32 → T F S32x1024 .i32),
  binary main_call2_call0_v20 main_call2_call0_v25 main_call2_call0_v26 (xori : T F S32x1024 .i32 → T F S32x1024 .i32 → T F S32x1024 .i32),
  binary main_call2_call0_v20 main_call2_call0_v26 main_call2_call0_v27 (addi : T F S32x1024 .i32 → T F S32x1024 .i32 → T F S32x1024 .i32),
  nullary main_call2_call0_c_6 ((constantI S_ 32 6#32) : T F S_ .i32),
  unary main_call2_call0_c_6 main_call2_call0_v28 ((broadcastInDim S32x1024 ![] bcast_S_S32x1024) : T F S_ .i32 → T F S32x1024 .i32),
  binary main_call2_call0_v26 main_call2_call0_v28 main_call2_call0_v29 (Host.shli : T F S32x1024 .i32 → T F S32x1024 .i32 → T F S32x1024 .i32),
  nullary main_call2_call0_c_7 ((constantI S_ 32 26#32) : T F S_ .i32),
  unary main_call2_call0_c_7 main_call2_call0_v30 ((broadcastInDim S32x1024 ![] bcast_S_S32x1024) : T F S_ .i32 → T F S32x1024 .i32),
  binary main_call2_call0_v26 main_call2_call0_v30 main_call2_call0_v31 (Host.shrui : T F S32x1024 .i32 → T F S32x1024 .i32 → T F S32x1024 .i32),
  binary main_call2_call0_v29 main_call2_call0_v31 main_call2_call0_v32 (ori : T F S32x1024 .i32 → T F S32x1024 .i32 → T F S32x1024 .i32),
  binary main_call2_call0_v27 main_call2_call0_v32 main_call2_call0_v33 (xori : T F S32x1024 .i32 → T F S32x1024 .i32 → T F S32x1024 .i32),
  unary main_call2_v7 main_call2_call0_v34 ((broadcastInDim S32x1024 ![] bcast_S_S32x1024) : T F S_ .i32 → T F S32x1024 .i32),
  binary main_call2_call0_v27 main_call2_call0_v34 main_call2_call0_v35 (addi : T F S32x1024 .i32 → T F S32x1024 .i32 → T F S32x1024 .i32),
  unary main_call2_call0_v1 main_call2_call0_v36 ((broadcastInDim S32x1024 ![] bcast_S_S32x1024) : T F S_ .i32 → T F S32x1024 .i32),
  binary main_call2_call0_v33 main_call2_call0_v36 main_call2_call0_v37 (addi : T F S32x1024 .i32 → T F S32x1024 .i32 → T F S32x1024 .i32),
  nullary main_call2_call0_c_8 ((constantI S_ 32 1#32) : T F S_ .i32),
  unary main_call2_call0_c_8 main_call2_call0_v38 ((broadcastInDim S32x1024 ![] bcast_S_S32x1024) : T F S_ .i32 → T F S32x1024 .i32),
  binary main_call2_call0_v37 main_call2_call0_v38 main_call2_call0_v39 (addi : T F S32x1024 .i32 → T F S32x1024 .i32 → T F S32x1024 .i32),
  binary main_call2_call0_v35 main_call2_call0_v39 main_call2_call0_v40 (addi : T F S32x1024 .i32 → T F S32x1024 .i32 → T F S32x1024 .i32),
  nullary main_call2_call0_c_9 ((constantI S_ 32 17#32) : T F S_ .i32),
  unary main_call2_call0_c_9 main_call2_call0_v41 ((broadcastInDim S32x1024 ![] bcast_S_S32x1024) : T F S_ .i32 → T F S32x1024 .i32),
  binary main_call2_call0_v39 main_call2_call0_v41 main_call2_call0_v42 (Host.shli : T F S32x1024 .i32 → T F S32x1024 .i32 → T F S32x1024 .i32),
  nullary main_call2_call0_c_10 ((constantI S_ 32 15#32) : T F S_ .i32),
  unary main_call2_call0_c_10 main_call2_call0_v43 ((broadcastInDim S32x1024 ![] bcast_S_S32x1024) : T F S_ .i32 → T F S32x1024 .i32),
  binary main_call2_call0_v39 main_call2_call0_v43 main_call2_call0_v44 (Host.shrui : T F S32x1024 .i32 → T F S32x1024 .i32 → T F S32x1024 .i32),
  binary main_call2_call0_v42 main_call2_call0_v44 main_call2_call0_v45 (ori : T F S32x1024 .i32 → T F S32x1024 .i32 → T F S32x1024 .i32),
  binary main_call2_call0_v40 main_call2_call0_v45 main_call2_call0_v46 (xori : T F S32x1024 .i32 → T F S32x1024 .i32 → T F S32x1024 .i32),
  binary main_call2_call0_v40 main_call2_call0_v46 main_call2_call0_v47 (addi : T F S32x1024 .i32 → T F S32x1024 .i32 → T F S32x1024 .i32)]

theorem k5_line : Line (k5 (F := F)) 184 244 := by
  unfold k5
  exact .cons (.binary rfl rfl rfl (by decide) rfl (by decide))<|
  .cons (.nullary rfl rfl)<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<| .nil _

/-- Operations that write the buffers 244 to 303. -/
def k6 : List (HloOp τ sig (Elt F)) := [
  nullary main_call2_call0_c_11 ((constantI S_ 32 29#32) : T F S_ .i32),
  unary main_call2_call0_c_11 main_call2_call0_v48 ((broadcastInDim S32x1024 ![] bcast_S_S32x1024) : T F S_ .i32 → T F S32x1024 .i32),
  binary main_call2_call0_v46 main_call2_call0_v48 main_call2_call0_v49 (Host.shli : T F S32x1024 .i32 → T F S32x1024 .i32 → T F S32x1024 .i32),
  nullary main_call2_call0_c_12 ((constantI S_ 32 3#32) : T F S_ .i32),
  unary main_call2_call0_c_12 main_call2_call0_v50 ((broadcastInDim S32x1024 ![] bcast_S_S32x1024) : T F S_ .i32 → T F S32x1024 .i32),
  binary main_call2_call0_v46 main_call2_call0_v50 main_call2_call0_v51 (Host.shrui : T F S32x1024 .i32 → T F S32x1024 .i32 → T F S32x1024 .i32),
  binary main_call2_call0_v49 main_call2_call0_v51 main_call2_call0_v52 (ori : T F S32x1024 .i32 → T F S32x1024 .i32 → T F S32x1024 .i32),
  binary main_call2_call0_v47 main_call2_call0_v52 main_call2_call0_v53 (xori : T F S32x1024 .i32 → T F S32x1024 .i32 → T F S32x1024 .i32),
  binary main_call2_call0_v47 main_call2_call0_v53 main_call2_call0_v54 (addi : T F S32x1024 .i32 → T F S32x1024 .i32 → T F S32x1024 .i32),
  nullary main_call2_call0_c_13 ((constantI S_ 32 16#32) : T F S_ .i32),
  unary main_call2_call0_c_13 main_call2_call0_v55 ((broadcastInDim S32x1024 ![] bcast_S_S32x1024) : T F S_ .i32 → T F S32x1024 .i32),
  binary main_call2_call0_v53 main_call2_call0_v55 main_call2_call0_v56 (Host.shli : T F S32x1024 .i32 → T F S32x1024 .i32 → T F S32x1024 .i32),
  nullary main_call2_call0_c_14 ((constantI S_ 32 16#32) : T F S_ .i32),
  unary main_call2_call0_c_14 main_call2_call0_v57 ((broadcastInDim S32x1024 ![] bcast_S_S32x1024) : T F S_ .i32 → T F S32x1024 .i32),
  binary main_call2_call0_v53 main_call2_call0_v57 main_call2_call0_v58 (Host.shrui : T F S32x1024 .i32 → T F S32x1024 .i32 → T F S32x1024 .i32),
  binary main_call2_call0_v56 main_call2_call0_v58 main_call2_call0_v59 (ori : T F S32x1024 .i32 → T F S32x1024 .i32 → T F S32x1024 .i32),
  binary main_call2_call0_v54 main_call2_call0_v59 main_call2_call0_v60 (xori : T F S32x1024 .i32 → T F S32x1024 .i32 → T F S32x1024 .i32),
  binary main_call2_call0_v54 main_call2_call0_v60 main_call2_call0_v61 (addi : T F S32x1024 .i32 → T F S32x1024 .i32 → T F S32x1024 .i32),
  nullary main_call2_call0_c_15 ((constantI S_ 32 24#32) : T F S_ .i32),
  unary main_call2_call0_c_15 main_call2_call0_v62 ((broadcastInDim S32x1024 ![] bcast_S_S32x1024) : T F S_ .i32 → T F S32x1024 .i32),
  binary main_call2_call0_v60 main_call2_call0_v62 main_call2_call0_v63 (Host.shli : T F S32x1024 .i32 → T F S32x1024 .i32 → T F S32x1024 .i32),
  nullary main_call2_call0_c_16 ((constantI S_ 32 8#32) : T F S_ .i32),
  unary main_call2_call0_c_16 main_call2_call0_v64 ((broadcastInDim S32x1024 ![] bcast_S_S32x1024) : T F S_ .i32 → T F S32x1024 .i32),
  binary main_call2_call0_v60 main_call2_call0_v64 main_call2_call0_v65 (Host.shrui : T F S32x1024 .i32 → T F S32x1024 .i32 → T F S32x1024 .i32),
  binary main_call2_call0_v63 main_call2_call0_v65 main_call2_call0_v66 (ori : T F S32x1024 .i32 → T F S32x1024 .i32 → T F S32x1024 .i32),
  binary main_call2_call0_v61 main_call2_call0_v66 main_call2_call0_v67 (xori : T F S32x1024 .i32 → T F S32x1024 .i32 → T F S32x1024 .i32),
  unary main_call2_call0_v1 main_call2_call0_v68 ((broadcastInDim S32x1024 ![] bcast_S_S32x1024) : T F S_ .i32 → T F S32x1024 .i32),
  binary main_call2_call0_v61 main_call2_call0_v68 main_call2_call0_v69 (addi : T F S32x1024 .i32 → T F S32x1024 .i32 → T F S32x1024 .i32),
  unary main_call2_v5 main_call2_call0_v70 ((broadcastInDim S32x1024 ![] bcast_S_S32x1024) : T F S_ .i32 → T F S32x1024 .i32),
  binary main_call2_call0_v67 main_call2_call0_v70 main_call2_call0_v71 (addi : T F S32x1024 .i32 → T F S32x1024 .i32 → T F S32x1024 .i32),
  nullary main_call2_call0_c_17 ((constantI S_ 32 2#32) : T F S_ .i32),
  unary main_call2_call0_c_17 main_call2_call0_v72 ((broadcastInDim S32x1024 ![] bcast_S_S32x1024) : T F S_ .i32 → T F S32x1024 .i32),
  binary main_call2_call0_v71 main_call2_call0_v72 main_call2_call0_v73 (addi : T F S32x1024 .i32 → T F S32x1024 .i32 → T F S32x1024 .i32),
  binary main_call2_call0_v69 main_call2_call0_v73 main_call2_call0_v74 (addi : T F S32x1024 .i32 → T F S32x1024 .i32 → T F S32x1024 .i32),
  nullary main_call2_call0_c_18 ((constantI S_ 32 13#32) : T F S_ .i32),
  unary main_call2_call0_c_18 main_call2_call0_v75 ((broadcastInDim S32x1024 ![] bcast_S_S32x1024) : T F S_ .i32 → T F S32x1024 .i32),
  binary main_call2_call0_v73 main_call2_call0_v75 main_call2_call0_v76 (Host.shli : T F S32x1024 .i32 → T F S32x1024 .i32 → T F S32x1024 .i32),
  nullary main_call2_call0_c_19 ((constantI S_ 32 19#32) : T F S_ .i32),
  unary main_call2_call0_c_19 main_call2_call0_v77 ((broadcastInDim S32x1024 ![] bcast_S_S32x1024) : T F S_ .i32 → T F S32x1024 .i32),
  binary main_call2_call0_v73 main_call2_call0_v77 main_call2_call0_v78 (Host.shrui : T F S32x1024 .i32 → T F S32x1024 .i32 → T F S32x1024 .i32),
  binary main_call2_call0_v76 main_call2_call0_v78 main_call2_call0_v79 (ori : T F S32x1024 .i32 → T F S32x1024 .i32 → T F S32x1024 .i32),
  binary main_call2_call0_v74 main_call2_call0_v79 main_call2_call0_v80 (xori : T F S32x1024 .i32 → T F S32x1024 .i32 → T F S32x1024 .i32),
  binary main_call2_call0_v74 main_call2_call0_v80 main_call2_call0_v81 (addi : T F S32x1024 .i32 → T F S32x1024 .i32 → T F S32x1024 .i32),
  nullary main_call2_call0_c_20 ((constantI S_ 32 15#32) : T F S_ .i32),
  unary main_call2_call0_c_20 main_call2_call0_v82 ((broadcastInDim S32x1024 ![] bcast_S_S32x1024) : T F S_ .i32 → T F S32x1024 .i32),
  binary main_call2_call0_v80 main_call2_call0_v82 main_call2_call0_v83 (Host.shli : T F S32x1024 .i32 → T F S32x1024 .i32 → T F S32x1024 .i32),
  nullary main_call2_call0_c_21 ((constantI S_ 32 17#32) : T F S_ .i32),
  unary main_call2_call0_c_21 main_call2_call0_v84 ((broadcastInDim S32x1024 ![] bcast_S_S32x1024) : T F S_ .i32 → T F S32x1024 .i32),
  binary main_call2_call0_v80 main_call2_call0_v84 main_call2_call0_v85 (Host.shrui : T F S32x1024 .i32 → T F S32x1024 .i32 → T F S32x1024 .i32),
  binary main_call2_call0_v83 main_call2_call0_v85 main_call2_call0_v86 (ori : T F S32x1024 .i32 → T F S32x1024 .i32 → T F S32x1024 .i32),
  binary main_call2_call0_v81 main_call2_call0_v86 main_call2_call0_v87 (xori : T F S32x1024 .i32 → T F S32x1024 .i32 → T F S32x1024 .i32),
  binary main_call2_call0_v81 main_call2_call0_v87 main_call2_call0_v88 (addi : T F S32x1024 .i32 → T F S32x1024 .i32 → T F S32x1024 .i32),
  nullary main_call2_call0_c_22 ((constantI S_ 32 26#32) : T F S_ .i32),
  unary main_call2_call0_c_22 main_call2_call0_v89 ((broadcastInDim S32x1024 ![] bcast_S_S32x1024) : T F S_ .i32 → T F S32x1024 .i32),
  binary main_call2_call0_v87 main_call2_call0_v89 main_call2_call0_v90 (Host.shli : T F S32x1024 .i32 → T F S32x1024 .i32 → T F S32x1024 .i32),
  nullary main_call2_call0_c_23 ((constantI S_ 32 6#32) : T F S_ .i32),
  unary main_call2_call0_c_23 main_call2_call0_v91 ((broadcastInDim S32x1024 ![] bcast_S_S32x1024) : T F S_ .i32 → T F S32x1024 .i32),
  binary main_call2_call0_v87 main_call2_call0_v91 main_call2_call0_v92 (Host.shrui : T F S32x1024 .i32 → T F S32x1024 .i32 → T F S32x1024 .i32),
  binary main_call2_call0_v90 main_call2_call0_v92 main_call2_call0_v93 (ori : T F S32x1024 .i32 → T F S32x1024 .i32 → T F S32x1024 .i32),
  binary main_call2_call0_v88 main_call2_call0_v93 main_call2_call0_v94 (xori : T F S32x1024 .i32 → T F S32x1024 .i32 → T F S32x1024 .i32)]

theorem k6_line : Line (k6 (F := F)) 244 304 := by
  unfold k6
  exact .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<| .nil _

/-- Operations that write the buffers 304 to 363. -/
def k7 : List (HloOp τ sig (Elt F)) := [
  binary main_call2_call0_v88 main_call2_call0_v94 main_call2_call0_v95 (addi : T F S32x1024 .i32 → T F S32x1024 .i32 → T F S32x1024 .i32),
  nullary main_call2_call0_c_24 ((constantI S_ 32 6#32) : T F S_ .i32),
  unary main_call2_call0_c_24 main_call2_call0_v96 ((broadcastInDim S32x1024 ![] bcast_S_S32x1024) : T F S_ .i32 → T F S32x1024 .i32),
  binary main_call2_call0_v94 main_call2_call0_v96 main_call2_call0_v97 (Host.shli : T F S32x1024 .i32 → T F S32x1024 .i32 → T F S32x1024 .i32),
  nullary main_call2_call0_c_25 ((constantI S_ 32 26#32) : T F S_ .i32),
  unary main_call2_call0_c_25 main_call2_call0_v98 ((broadcastInDim S32x1024 ![] bcast_S_S32x1024) : T F S_ .i32 → T F S32x1024 .i32),
  binary main_call2_call0_v94 main_call2_call0_v98 main_call2_call0_v99 (Host.shrui : T F S32x1024 .i32 → T F S32x1024 .i32 → T F S32x1024 .i32),
  binary main_call2_call0_v97 main_call2_call0_v99 main_call2_call0_v100 (ori : T F S32x1024 .i32 → T F S32x1024 .i32 → T F S32x1024 .i32),
  binary main_call2_call0_v95 main_call2_call0_v100 main_call2_call0_v101 (xori : T F S32x1024 .i32 → T F S32x1024 .i32 → T F S32x1024 .i32),
  unary main_call2_v5 main_call2_call0_v102 ((broadcastInDim S32x1024 ![] bcast_S_S32x1024) : T F S_ .i32 → T F S32x1024 .i32),
  binary main_call2_call0_v95 main_call2_call0_v102 main_call2_call0_v103 (addi : T F S32x1024 .i32 → T F S32x1024 .i32 → T F S32x1024 .i32),
  unary main_call2_v7 main_call2_call0_v104 ((broadcastInDim S32x1024 ![] bcast_S_S32x1024) : T F S_ .i32 → T F S32x1024 .i32),
  binary main_call2_call0_v101 main_call2_call0_v104 main_call2_call0_v105 (addi : T F S32x1024 .i32 → T F S32x1024 .i32 → T F S32x1024 .i32),
  nullary main_call2_call0_c_26 ((constantI S_ 32 3#32) : T F S_ .i32),
  unary main_call2_call0_c_26 main_call2_call0_v106 ((broadcastInDim S32x1024 ![] bcast_S_S32x1024) : T F S_ .i32 → T F S32x1024 .i32),
  binary main_call2_call0_v105 main_call2_call0_v106 main_call2_call0_v107 (addi : T F S32x1024 .i32 → T F S32x1024 .i32 → T F S32x1024 .i32),
  binary main_call2_call0_v103 main_call2_call0_v107 main_call2_call0_v108 (addi : T F S32x1024 .i32 → T F S32x1024 .i32 → T F S32x1024 .i32),
  nullary main_call2_call0_c_27 ((constantI S_ 32 17#32) : T F S_ .i32),
  unary main_call2_call0_c_27 main_call2_call0_v109 ((broadcastInDim S32x1024 ![] bcast_S_S32x1024) : T F S_ .i32 → T F S32x1024 .i32),
  binary main_call2_call0_v107 main_call2_call0_v109 main_call2_call0_v110 (Host.shli : T F S32x1024 .i32 → T F S32x1024 .i32 → T F S32x1024 .i32),
  nullary main_call2_call0_c_28 ((constantI S_ 32 15#32) : T F S_ .i32),
  unary main_call2_call0_c_28 main_call2_call0_v111 ((broadcastInDim S32x1024 ![] bcast_S_S32x1024) : T F S_ .i32 → T F S32x1024 .i32),
  binary main_call2_call0_v107 main_call2_call0_v111 main_call2_call0_v112 (Host.shrui : T F S32x1024 .i32 → T F S32x1024 .i32 → T F S32x1024 .i32),
  binary main_call2_call0_v110 main_call2_call0_v112 main_call2_call0_v113 (ori : T F S32x1024 .i32 → T F S32x1024 .i32 → T F S32x1024 .i32),
  binary main_call2_call0_v108 main_call2_call0_v113 main_call2_call0_v114 (xori : T F S32x1024 .i32 → T F S32x1024 .i32 → T F S32x1024 .i32),
  binary main_call2_call0_v108 main_call2_call0_v114 main_call2_call0_v115 (addi : T F S32x1024 .i32 → T F S32x1024 .i32 → T F S32x1024 .i32),
  nullary main_call2_call0_c_29 ((constantI S_ 32 29#32) : T F S_ .i32),
  unary main_call2_call0_c_29 main_call2_call0_v116 ((broadcastInDim S32x1024 ![] bcast_S_S32x1024) : T F S_ .i32 → T F S32x1024 .i32),
  binary main_call2_call0_v114 main_call2_call0_v116 main_call2_call0_v117 (Host.shli : T F S32x1024 .i32 → T F S32x1024 .i32 → T F S32x1024 .i32),
  nullary main_call2_call0_c_30 ((constantI S_ 32 3#32) : T F S_ .i32),
  unary main_call2_call0_c_30 main_call2_call0_v118 ((broadcastInDim S32x1024 ![] bcast_S_S32x1024) : T F S_ .i32 → T F S32x1024 .i32),
  binary main_call2_call0_v114 main_call2_call0_v118 main_call2_call0_v119 (Host.shrui : T F S32x1024 .i32 → T F S32x1024 .i32 → T F S32x1024 .i32),
  binary main_call2_call0_v117 main_call2_call0_v119 main_call2_call0_v120 (ori : T F S32x1024 .i32 → T F S32x1024 .i32 → T F S32x1024 .i32),
  binary main_call2_call0_v115 main_call2_call0_v120 main_call2_call0_v121 (xori : T F S32x1024 .i32 → T F S32x1024 .i32 → T F S32x1024 .i32),
  binary main_call2_call0_v115 main_call2_call0_v121 main_call2_call0_v122 (addi : T F S32x1024 .i32 → T F S32x1024 .i32 → T F S32x1024 .i32),
  nullary main_call2_call0_c_31 ((constantI S_ 32 16#32) : T F S_ .i32),
  unary main_call2_call0_c_31 main_call2_call0_v123 ((broadcastInDim S32x1024 ![] bcast_S_S32x1024) : T F S_ .i32 → T F S32x1024 .i32),
  binary main_call2_call0_v121 main_call2_call0_v123 main_call2_call0_v124 (Host.shli : T F S32x1024 .i32 → T F S32x1024 .i32 → T F S32x1024 .i32),
  nullary main_call2_call0_c_32 ((constantI S_ 32 16#32) : T F S_ .i32),
  unary main_call2_call0_c_32 main_call2_call0_v125 ((broadcastInDim S32x1024 ![] bcast_S_S32x1024) : T F S_ .i32 → T F S32x1024 .i32),
  binary main_call2_call0_v121 main_call2_call0_v125 main_call2_call0_v126 (Host.shrui : T F S32x1024 .i32 → T F S32x1024 .i32 → T F S32x1024 .i32),
  binary main_call2_call0_v124 main_call2_call0_v126 main_call2_call0_v127 (ori : T F S32x1024 .i32 → T F S32x1024 .i32 → T F S32x1024 .i32),
  binary main_call2_call0_v122 main_call2_call0_v127 main_call2_call0_v128 (xori : T F S32x1024 .i32 → T F S32x1024 .i32 → T F S32x1024 .i32),
  binary main_call2_call0_v122 main_call2_call0_v128 main_call2_call0_v129 (addi : T F S32x1024 .i32 → T F S32x1024 .i32 → T F S32x1024 .i32),
  nullary main_call2_call0_c_33 ((constantI S_ 32 24#32) : T F S_ .i32),
  unary main_call2_call0_c_33 main_call2_call0_v130 ((broadcastInDim S32x1024 ![] bcast_S_S32x1024) : T F S_ .i32 → T F S32x1024 .i32),
  binary main_call2_call0_v128 main_call2_call0_v130 main_call2_call0_v131 (Host.shli : T F S32x1024 .i32 → T F S32x1024 .i32 → T F S32x1024 .i32),
  nullary main_call2_call0_c_34 ((constantI S_ 32 8#32) : T F S_ .i32),
  unary main_call2_call0_c_34 main_call2_call0_v132 ((broadcastInDim S32x1024 ![] bcast_S_S32x1024) : T F S_ .i32 → T F S32x1024 .i32),
  binary main_call2_call0_v128 main_call2_call0_v132 main_call2_call0_v133 (Host.shrui : T F S32x1024 .i32 → T F S32x1024 .i32 → T F S32x1024 .i32),
  binary main_call2_call0_v131 main_call2_call0_v133 main_call2_call0_v134 (ori : T F S32x1024 .i32 → T F S32x1024 .i32 → T F S32x1024 .i32),
  binary main_call2_call0_v129 main_call2_call0_v134 main_call2_call0_v135 (xori : T F S32x1024 .i32 → T F S32x1024 .i32 → T F S32x1024 .i32),
  unary main_call2_v7 main_call2_call0_v136 ((broadcastInDim S32x1024 ![] bcast_S_S32x1024) : T F S_ .i32 → T F S32x1024 .i32),
  binary main_call2_call0_v129 main_call2_call0_v136 main_call2_call0_v137 (addi : T F S32x1024 .i32 → T F S32x1024 .i32 → T F S32x1024 .i32),
  unary main_call2_call0_v1 main_call2_call0_v138 ((broadcastInDim S32x1024 ![] bcast_S_S32x1024) : T F S_ .i32 → T F S32x1024 .i32),
  binary main_call2_call0_v135 main_call2_call0_v138 main_call2_call0_v139 (addi : T F S32x1024 .i32 → T F S32x1024 .i32 → T F S32x1024 .i32),
  nullary main_call2_call0_c_35 ((constantI S_ 32 4#32) : T F S_ .i32),
  unary main_call2_call0_c_35 main_call2_call0_v140 ((broadcastInDim S32x1024 ![] bcast_S_S32x1024) : T F S_ .i32 → T F S32x1024 .i32),
  binary main_call2_call0_v139 main_call2_call0_v140 main_call2_call0_v141 (addi : T F S32x1024 .i32 → T F S32x1024 .i32 → T F S32x1024 .i32),
  binary main_call2_call0_v137 main_call2_call0_v141 main_call2_call0_v142 (addi : T F S32x1024 .i32 → T F S32x1024 .i32 → T F S32x1024 .i32)]

theorem k7_line : Line (k7 (F := F)) 304 364 := by
  unfold k7
  exact .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<| .nil _

/-- Operations that write the buffers 364 to 405. -/
def k8 : List (HloOp τ sig (Elt F)) := [
  nullary main_call2_call0_c_36 ((constantI S_ 32 13#32) : T F S_ .i32),
  unary main_call2_call0_c_36 main_call2_call0_v143 ((broadcastInDim S32x1024 ![] bcast_S_S32x1024) : T F S_ .i32 → T F S32x1024 .i32),
  binary main_call2_call0_v141 main_call2_call0_v143 main_call2_call0_v144 (Host.shli : T F S32x1024 .i32 → T F S32x1024 .i32 → T F S32x1024 .i32),
  nullary main_call2_call0_c_37 ((constantI S_ 32 19#32) : T F S_ .i32),
  unary main_call2_call0_c_37 main_call2_call0_v145 ((broadcastInDim S32x1024 ![] bcast_S_S32x1024) : T F S_ .i32 → T F S32x1024 .i32),
  binary main_call2_call0_v141 main_call2_call0_v145 main_call2_call0_v146 (Host.shrui : T F S32x1024 .i32 → T F S32x1024 .i32 → T F S32x1024 .i32),
  binary main_call2_call0_v144 main_call2_call0_v146 main_call2_call0_v147 (ori : T F S32x1024 .i32 → T F S32x1024 .i32 → T F S32x1024 .i32),
  binary main_call2_call0_v142 main_call2_call0_v147 main_call2_call0_v148 (xori : T F S32x1024 .i32 → T F S32x1024 .i32 → T F S32x1024 .i32),
  binary main_call2_call0_v142 main_call2_call0_v148 main_call2_call0_v149 (addi : T F S32x1024 .i32 → T F S32x1024 .i32 → T F S32x1024 .i32),
  nullary main_call2_call0_c_38 ((constantI S_ 32 15#32) : T F S_ .i32),
  unary main_call2_call0_c_38 main_call2_call0_v150 ((broadcastInDim S32x1024 ![] bcast_S_S32x1024) : T F S_ .i32 → T F S32x1024 .i32),
  binary main_call2_call0_v148 main_call2_call0_v150 main_call2_call0_v151 (Host.shli : T F S32x1024 .i32 → T F S32x1024 .i32 → T F S32x1024 .i32),
  nullary main_call2_call0_c_39 ((constantI S_ 32 17#32) : T F S_ .i32),
  unary main_call2_call0_c_39 main_call2_call0_v152 ((broadcastInDim S32x1024 ![] bcast_S_S32x1024) : T F S_ .i32 → T F S32x1024 .i32),
  binary main_call2_call0_v148 main_call2_call0_v152 main_call2_call0_v153 (Host.shrui : T F S32x1024 .i32 → T F S32x1024 .i32 → T F S32x1024 .i32),
  binary main_call2_call0_v151 main_call2_call0_v153 main_call2_call0_v154 (ori : T F S32x1024 .i32 → T F S32x1024 .i32 → T F S32x1024 .i32),
  binary main_call2_call0_v149 main_call2_call0_v154 main_call2_call0_v155 (xori : T F S32x1024 .i32 → T F S32x1024 .i32 → T F S32x1024 .i32),
  binary main_call2_call0_v149 main_call2_call0_v155 main_call2_call0_v156 (addi : T F S32x1024 .i32 → T F S32x1024 .i32 → T F S32x1024 .i32),
  nullary main_call2_call0_c_40 ((constantI S_ 32 26#32) : T F S_ .i32),
  unary main_call2_call0_c_40 main_call2_call0_v157 ((broadcastInDim S32x1024 ![] bcast_S_S32x1024) : T F S_ .i32 → T F S32x1024 .i32),
  binary main_call2_call0_v155 main_call2_call0_v157 main_call2_call0_v158 (Host.shli : T F S32x1024 .i32 → T F S32x1024 .i32 → T F S32x1024 .i32),
  nullary main_call2_call0_c_41 ((constantI S_ 32 6#32) : T F S_ .i32),
  unary main_call2_call0_c_41 main_call2_call0_v159 ((broadcastInDim S32x1024 ![] bcast_S_S32x1024) : T F S_ .i32 → T F S32x1024 .i32),
  binary main_call2_call0_v155 main_call2_call0_v159 main_call2_call0_v160 (Host.shrui : T F S32x1024 .i32 → T F S32x1024 .i32 → T F S32x1024 .i32),
  binary main_call2_call0_v158 main_call2_call0_v160 main_call2_call0_v161 (ori : T F S32x1024 .i32 → T F S32x1024 .i32 → T F S32x1024 .i32),
  binary main_call2_call0_v156 main_call2_call0_v161 main_call2_call0_v162 (xori : T F S32x1024 .i32 → T F S32x1024 .i32 → T F S32x1024 .i32),
  binary main_call2_call0_v156 main_call2_call0_v162 main_call2_call0_v163 (addi : T F S32x1024 .i32 → T F S32x1024 .i32 → T F S32x1024 .i32),
  nullary main_call2_call0_c_42 ((constantI S_ 32 6#32) : T F S_ .i32),
  unary main_call2_call0_c_42 main_call2_call0_v164 ((broadcastInDim S32x1024 ![] bcast_S_S32x1024) : T F S_ .i32 → T F S32x1024 .i32),
  binary main_call2_call0_v162 main_call2_call0_v164 main_call2_call0_v165 (Host.shli : T F S32x1024 .i32 → T F S32x1024 .i32 → T F S32x1024 .i32),
  nullary main_call2_call0_c_43 ((constantI S_ 32 26#32) : T F S_ .i32),
  unary main_call2_call0_c_43 main_call2_call0_v166 ((broadcastInDim S32x1024 ![] bcast_S_S32x1024) : T F S_ .i32 → T F S32x1024 .i32),
  binary main_call2_call0_v162 main_call2_call0_v166 main_call2_call0_v167 (Host.shrui : T F S32x1024 .i32 → T F S32x1024 .i32 → T F S32x1024 .i32),
  binary main_call2_call0_v165 main_call2_call0_v167 main_call2_call0_v168 (ori : T F S32x1024 .i32 → T F S32x1024 .i32 → T F S32x1024 .i32),
  binary main_call2_call0_v163 main_call2_call0_v168 main_call2_call0_v169 (xori : T F S32x1024 .i32 → T F S32x1024 .i32 → T F S32x1024 .i32),
  unary main_call2_call0_v1 main_call2_call0_v170 ((broadcastInDim S32x1024 ![] bcast_S_S32x1024) : T F S_ .i32 → T F S32x1024 .i32),
  binary main_call2_call0_v163 main_call2_call0_v170 main_call2_v19_0 (addi : T F S32x1024 .i32 → T F S32x1024 .i32 → T F S32x1024 .i32),
  unary main_call2_v5 main_call2_call0_v172 ((broadcastInDim S32x1024 ![] bcast_S_S32x1024) : T F S_ .i32 → T F S32x1024 .i32),
  binary main_call2_call0_v169 main_call2_call0_v172 main_call2_call0_v173 (addi : T F S32x1024 .i32 → T F S32x1024 .i32 → T F S32x1024 .i32),
  nullary main_call2_call0_c_44 ((constantI S_ 32 5#32) : T F S_ .i32),
  unary main_call2_call0_c_44 main_call2_call0_v174 ((broadcastInDim S32x1024 ![] bcast_S_S32x1024) : T F S_ .i32 → T F S32x1024 .i32),
  binary main_call2_call0_v173 main_call2_call0_v174 main_call2_v19_1 (addi : T F S32x1024 .i32 → T F S32x1024 .i32 → T F S32x1024 .i32)]

theorem k8_line : Line (k8 (F := F)) 364 406 := by
  unfold k8
  exact .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<| .nil _

/-- Operations that write the buffers 406 to 423. -/
def k9 : List (HloOp τ sig (Elt F)) := [
  binary main_call2_v19_0 main_call2_v19_1 main_call2_v20 (xori : T F S32x1024 .i32 → T F S32x1024 .i32 → T F S32x1024 .i32),
  nullary main_call2_c_2 ((constantI S_ 32 9#32) : T F S_ .i32),
  unary main_call2_c_2 main_call2_v21 ((broadcastInDim S32x1024 ![] bcast_S_S32x1024) : T F S_ .i32 → T F S32x1024 .i32),
  binary main_call2_v20 main_call2_v21 main_call2_v22 (Host.shrui : T F S32x1024 .i32 → T F S32x1024 .i32 → T F S32x1024 .i32),
  nullary main_call2_c_3 ((constantI S_ 32 1065353216#32) : T F S_ .i32),
  unary main_call2_c_3 main_call2_v23 ((broadcastInDim S32x1024 ![] bcast_S_S32x1024) : T F S_ .i32 → T F S32x1024 .i32),
  binary main_call2_v22 main_call2_v23 main_call2_v24 (ori : T F S32x1024 .i32 → T F S32x1024 .i32 → T F S32x1024 .i32),
  unary main_call2_v24 main_call2_v25 ((bitcastToFloat .f32) : T F S32x1024 .i32 → T F S32x1024 .f32),
  nullary main_call2_cst ((constant S_ .f32 0x3F800000#32) : T F S_ .f32),
  unary main_call2_cst main_call2_v26 ((broadcastInDim S32x1024 ![] bcast_S_S32x1024) : T F S_ .f32 → T F S32x1024 .f32),
  binary main_call2_v25 main_call2_v26 main_call2_v27 (subf : T F S32x1024 .f32 → T F S32x1024 .f32 → T F S32x1024 .f32),
  binary main_call2_v3 main_call2_v2 main_call2_v28 (subf : T F S1x1 .f32 → T F S1x1 .f32 → T F S1x1 .f32),
  unary main_call2_v28 main_call2_v29 ((broadcastInDim S32x1024 ![0, 1] bcast_S1x1_S32x1024_0_1) : T F S1x1 .f32 → T F S32x1024 .f32),
  binary main_call2_v27 main_call2_v29 main_call2_v30 (mulf : T F S32x1024 .f32 → T F S32x1024 .f32 → T F S32x1024 .f32),
  unary main_call2_v2 main_call2_v31 ((broadcastInDim S32x1024 ![0, 1] bcast_S1x1_S32x1024_0_1) : T F S1x1 .f32 → T F S32x1024 .f32),
  binary main_call2_v30 main_call2_v31 main_call2_v32 (addf : T F S32x1024 .f32 → T F S32x1024 .f32 → T F S32x1024 .f32),
  unary main_call2_v2 main_call2_v33 ((broadcastInDim S32x1024 ![0, 1] bcast_S1x1_S32x1024_0_1) : T F S1x1 .f32 → T F S32x1024 .f32),
  binary main_call2_v33 main_call2_v32 main_v103 (maximumf : T F S32x1024 .f32 → T F S32x1024 .f32 → T F S32x1024 .f32)]

theorem k9_line : Line (k9 (F := F)) 406 424 := by
  unfold k9
  exact .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.unary rfl rfl rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<| .nil _

/-- Operations that write the buffers 424 to 439. -/
def k10 : List (HloOp τ sig (Elt F)) := [
  nullary main_call3_v0 ((iotaInDim S32x1024 32 1) : T F S32x1024 .i32),
  binary main_v103 main_call3_v0 main_call3_v1_0 ((fun x y => (Host.sort2 S32x1024 1 comparator_f32_i32_d1 x y).1) : T F S32x1024 .f32 → T F S32x1024 .i32 → T F S32x1024 .f32),
  binary main_v103 main_call3_v0 main_v104 ((fun x y => (Host.sort2 S32x1024 1 comparator_f32_i32_d1 x y).2) : T F S32x1024 .f32 → T F S32x1024 .i32 → T F S32x1024 .i32),
  nullary main_call4_v0 ((iotaInDim S32x1024 32 1) : T F S32x1024 .i32),
  binary main_v104 main_call4_v0 main_call4_v1_0 ((fun x y => (Host.sort2 S32x1024 1 comparator_i32_i32_d1 x y).1) : T F S32x1024 .i32 → T F S32x1024 .i32 → T F S32x1024 .i32),
  binary main_v104 main_call4_v0 main_v105 ((fun x y => (Host.sort2 S32x1024 1 comparator_i32_i32_d1 x y).2) : T F S32x1024 .i32 → T F S32x1024 .i32 → T F S32x1024 .i32),
  unary main_v104 main_v106 ((extractStridedSlice S32x256 ![0, 0] · slices_S32x1024_S32x256_0_0) : T F S32x1024 .i32 → T F S32x256 .i32),
  nullary main_v107 (iotaInDim S32 32 0),
  unary main_v107 main_v108 (broadcastInDim S32x1 ![0] bcast_S32_S32x1_0 : T F S32 .i32 → T F S32x1 .i32),
  nullary main_c_26 (constantI S_ 32 1024#32),
  unary main_c_26 main_v109 (broadcastInDim S32x1 ![] bcast_S_S32x1 : T F S_ .i32 → T F S32x1 .i32),
  binary main_v108 main_v109 main_v110 (muli : T F S32x1 .i32 → T F S32x1 .i32 → T F S32x1 .i32),
  unary main_v110 main_v111 (broadcastInDim S32x1024 ![0, 1] bcast_S32x1_S32x1024_0_1 : T F S32x1 .i32 → T F S32x1024 .i32),
  binary main_v111 main_v105 main_v112 (addi : T F S32x1024 .i32 → T F S32x1024 .i32 → T F S32x1024 .i32),
  reshape main_v112 main_v113 (rfl : (.i32 : EltTy) = .i32) shapeCasts_S32x1024_S32768,
  reshape main_v95 main_v114 (rfl : (.f32 : EltTy) = .f32) shapeCasts_S32x1024x1_S32768]

theorem k10_line : Line (k10 (F := F)) 424 440 := by
  unfold k10
  exact .cons (.nullary rfl rfl)<|
  .cons (.binary rfl rfl rfl (by decide) rfl (by decide))<|
  .cons (.binary rfl rfl rfl (by decide) rfl (by decide))<|
  .cons (.nullary rfl rfl)<|
  .cons (.binary rfl rfl rfl (by decide) rfl (by decide))<|
  .cons (.binary rfl rfl rfl (by decide) rfl (by decide))<|
  .cons (.unary rfl rfl rfl (by decide))<|
  .cons (.nullary rfl rfl)<|
  .cons (.unary rfl rfl rfl (by decide))<|
  .cons (.nullary rfl rfl)<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.reshape rfl rfl rfl (by decide))<|
  .cons (.reshape rfl rfl rfl (by decide))<| .nil _

/-- Operations that write the buffers 441 to 441. -/
def k11 : List (HloOp τ sig (Elt F)) := [
  reshape main_v115 main_v116 (rfl : (.f32 : EltTy) = .f32) shapeCasts_S32768_S32x1024]

theorem k11_line : Line (k11 (F := F)) 441 442 := by
  unfold k11
  exact .cons (.reshape rfl rfl rfl (by decide))<| .nil _

end Cert.KernelIdeal.Host
-- ==== Proof.ProgK.lean ====
/- The kernel's program is its runs of host operations with the three calls between them. -/
module

public import proofs.«01_k».proof.Proof.HostK

@[expose] public section

set_option maxRecDepth 100000

noncomputable section

namespace Cert.KernelIdeal.Host

open Cert.KernelIdeal
open Idealize.ShloMosaic Idealize.ShloMosaic.StableHlo Idealize.SL.Sem

variable {F : FTy → Type} [FloatOps F]

abbrev L := SparseCore.Sig (Pipeline.Sig Λ₀ (Fin 2) fun p => (pcfgs (F := F) p).Adm) 1

theorem threefry0 : fn_threefry2x32.body_part0 (F := F) main_call2.v5 main_call2.v7 main_call2.v18 main_call2.v17 main_call2.call0 = seq k5 := rfl
theorem threefry1 : fn_threefry2x32.body_part1 (F := F) main_call2.v5 main_call2.v7 main_call2.v18 main_call2.v17 main_call2.call0 = seq k6 := rfl
theorem threefry2 : fn_threefry2x32.body_part2 (F := F) main_call2.v5 main_call2.v7 main_call2.v18 main_call2.v17 main_call2.call0 = seq k7 := rfl
theorem threefry3 : fn_threefry2x32.body_part3 (F := F) main_call2.v5 main_call2.v7 main_call2.v18 main_call2.v17 main_call2.call0 = seq k8 := rfl

theorem part0 (d : Dev nD) : main_part0 (F := F) d = seqK k0 (Prog.lift (.customCall (SparseCore.inner (Pipeline.entry 0)) ()) >>= fun _ => seq k1) := rfl

theorem threefry : fn_threefry2x32.body (F := F) main_call2.v5 main_call2.v7 main_call2.v18 main_call2.v17 main_call2.call0 = seq (k5 ++ (k6 ++ (k7 ++ k8))) := by
  unfold fn_threefry2x32.body
  rw [threefry0, threefry1, threefry2, threefry3, seq_append, seq_append, seq_append]

theorem uniform : fn_uniform.body (F := F) (.of main_v102) (.of main_cst_24) (.of main_cst_25) main_call2 =
    seqK k4 (fn_threefry2x32.body (F := F) main_call2.v5 main_call2.v7 main_call2.v18 main_call2.v17 main_call2.call0 >>= fun _ => seq k9) := rfl

theorem part1 (d : Dev nD) : main_part1 (F := F) d = seqK k2 (Prog.lift (.customCall (SparseCore.inner (Pipeline.entry 1)) ()) >>= fun _ =>
    seq k3a) := rfl

theorem part2 (d : Dev nD) : main_part2 (F := F) d = seqK k3b (fn_uniform.body (F := F) (.of main_v102) (.of main_cst_24) (.of main_cst_25) main_call2 >>= fun _ =>
    seqK k10 (sc.run d 0 >>= fun _ => seq k11)) := rfl

/-- The host operations between the first two calls, -/
def kA : List (HloOp τ sig (Elt F)) := k1 ++ k2
/-- and between the second and the third. -/
def kB : List (HloOp τ sig (Elt F)) := k3a ++ (k3b ++ (k4 ++ ((k5 ++ (k6 ++ (k7 ++ k8))) ++ (k9 ++ k10))))

theorem main_eq (d : Dev nD) : main (F := F) d =
    (seq k0 >>= fun _ => Prog.lift (.customCall (SparseCore.inner (Pipeline.entry 0)) ()) >>= fun _ => seq kA >>= fun _ =>
      Prog.lift (.customCall (SparseCore.inner (Pipeline.entry 1)) ()) >>= fun _ => seq kB >>= fun _ => sc.run d 0 >>= fun _ => seq k11) := by
  unfold main kA kB
  rw [part0, part1, part2, uniform, threefry]
  simp only [← seq_bind_seqK, seq_append, bind_assoc]

end Cert.KernelIdeal.Host

end
-- ==== Proof.InRange.lean ====
/- The positions the SparseCore reads from are in range. -/
module

public import proofs.«01_k».proof.Proof.ProgK
public import Idealize.ShloMosaic.Lib.SortFacts

@[expose] public section

set_option maxRecDepth 100000

noncomputable section

/-!
The operations after the second call end in positions `b * 1024 + p`, `b` a row of thirty-two and `p` a position in a
row that a sort has moved. Whatever the sort does, `p` is below 1024, so every position is below 32768.
-/

namespace Cert.KernelIdeal.Host

open Cert.KernelIdeal Cert.Lines
open Idealize.ShloMosaic Idealize.ShloMosaic.StableHlo Idealize.SL.Sem

variable {F : FTy → Type} [FloatOps F]

/-- The operations between the two calls write buffers 63 to 148. -/
theorem kA_line : Line (kA (F := F)) 63 149 := k1_line.append k2_line

/-- The operations after the second call write buffers 150 to 439. -/
theorem kB_line : Line (kB (F := F)) 150 440 :=
  k3a_line.append (k3b_line.append (k4_line.append (((k5_line.append (k6_line.append (k7_line.append k8_line)))).append (k9_line.append k10_line))))

theorem iota_along (j : S32x1024.Idx) (k : Fin (S32x1024.size 1)) :
    iotaInDim S32x1024 32 1 (j.along 1 k) = BitVec.ofNat 32 k.val := by
  unfold iotaInDim Shape.Idx.along
  rw [Function.update_self]

/-- A sort of rows carrying the positions carries, at each place, a position of the row. -/
theorem sort2_positions {α : Type} (cmp : α × BitVec 32 → α × BitVec 32 → BitVec 1) (x : S32x1024.Idx → α) (j : S32x1024.Idx) :
    ∃ p : Fin (S32x1024.size 1), (Host.sort2 S32x1024 1 cmp x (iotaInDim S32x1024 32 1)).2 j = BitVec.ofNat 32 p.val := by
  unfold Host.sort2
  rw [dif_pos (show (1 : ℕ) < S32x1024.rank by decide)]
  exact ⟨_, iota_along j (sortedFrom (fun k k' => cmp (x (j.along 1 k), iotaInDim S32x1024 32 1 (j.along 1 k))
    (x (j.along 1 k'), iotaInDim S32x1024 32 1 (j.along 1 k')) == 1#1) (j 1))⟩

/-- A row's number times 1024 and a position of a row make a number below 32768. -/
theorem position_lt (b : Fin 32) (p : Fin 1024) :
    (BitVec.ofNat 32 b.val * 1024#32 + BitVec.ofNat 32 p.val).toNat = b.val * 1024 + p.val := by
  simp only [BitVec.toNat_add, BitVec.toNat_mul, BitVec.toNat_ofNat]
  omega

theorem k10_fixes {W : Valuation τ sig (Elt F)} (hf : ∀ op ∈ kB (F := F), Fixes op W) : ∀ op ∈ k10 (F := F), Fixes op W :=
  fun op h => hf op (by unfold kB; simp only [List.mem_append]; tauto)

/-- The position at row `b` and place `j`: the row's offset and the sorted payload there. -/
theorem v112_apply {W : Valuation τ sig (Elt F)} (hf : ∀ op ∈ k10 (F := F), Fixes op W) (x : S32x1024.Idx) :
    (W (Proc.devRef .tc main_v112) : IVec S32x1024 32) x =
      BitVec.ofNat 32 (x 0).val * 1024#32 + (W (Proc.devRef .tc main_v105) : IVec S32x1024 32) x := by
  rw [eq_binary hf 13 rfl, eq_unary hf 12 rfl, eq_binary hf 11 rfl, eq_unary hf 8 rfl, eq_nullary hf 7 rfl, eq_unary hf 10 rfl,
    eq_nullary hf 9 rfl]
  rfl

/-- The positions the SparseCore reads from are below the length of the masks' buffer. -/
theorem v94_lt (V : Valuation τ sig (Elt F)) (x : S32768.Idx) :
    ((after kB V (Proc.devRef .tc main_v113) : IVec S32768 32) x).toNat < 32768 := by
  have hf := k10_fixes (kB_line.fixes V)
  rw [eq_reshape hf 14 rfl]
  change ((after kB V (Proc.devRef .tc main_v112) : IVec S32x1024 32) (Shape.reshapeEquiv _ x)).toNat < 32768
  generalize Shape.reshapeEquiv _ x = y
  rw [v112_apply hf, eq_binary hf 5 rfl, eq_nullary hf 3 rfl]
  obtain ⟨p, hp⟩ := sort2_positions comparator_i32_i32_d1 (after kB V (Proc.devRef .tc main_v104)) y
  have e := position_lt (y 0) p
  rw [← hp] at e
  have h0 : (y 0).val < 32 := (y 0).isLt
  exact lt_of_eq_of_lt e (by have := p.isLt; omega)

end Cert.KernelIdeal.Host
-- ==== Proof.Calls.lean ====
/- The TensorCore's steps in the launched program: a pipelined call, and the SparseCore call's arrays dealt to its tiles and joined. -/
module

public import proofs.«01_k».proof.Proof.Tile
public import proofs.«01_k».proof.Proof.Region1
public import proofs.«01_k».proof.Proof.InRange

@[expose] public section

set_option maxRecDepth 100000

noncomputable section

namespace Cert.KernelIdeal.Run

open Cert.KernelIdeal Cert.KernelIdeal.Gen
open Idealize.ShloMosaic
open Idealize.ShloMosaic.Pipeline (afterRegion pin cellsGhost toksInit PLaunchFacts Dat)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## A pipelined call -/

/-- The waits a core may have recorded before the SparseCore call: those of no call's round. -/
def Bd : Set (SemLoc sig × HIx 1) := {p | (K (F := F)).lev (T (0 : Dev nD), p.1) p.2 ≤ 8 * SparseCore.Cfg.Blocks.fst (Q := 1) (N := 1) 0}

omit [FloatOps F] [∀ e, Nonempty (Elt F e)] in
theorem Otc_none (d : Dev nD) (g : GSem nD τ sig) : (K (F := F)).Otc (N := 1) d 0 g none = 0 := by
  by_contra h
  have := (K (F := F)).lev_of_Otc_pos (N := 1) (n := 0) (ι := none) (Nat.pos_of_ne_zero h)
  rw [show (K (F := F)).lev g none = 0 from rfl] at this
  omega

omit [FloatOps F] [∀ e, Nonempty (Elt F e)] in
theorem Bd_none (s : SemLoc sig) : (s, (none : HIx 1)) ∈ Bd (F := F) :=
  show (K (F := F)).lev (T (0 : Dev nD), s) none ≤ _ from Nat.zero_le _

variable {p : Fin 2} {pdats : (p : Fin 2) → (c : Dev nD) → Dat τ (Elt F) (HIx 1) ℕ UU ℕ (pin (pcfgs (F := F)) adm p) c}
  {O : Dev nD → CellTallies nD τ sig (HIx 1)} {B : Set (SemLoc sig × HIx 1)} {W : Dev nD → Valuation τ sig (Elt F)}

set_option backward.isDefEq.respectTransparency.types false in
/-- A pipelined call in the launched program takes every unscoped buffer to what the pipeline leaves. -/
theorem Use.wp (h : Use p pdats O B W) (kit : PLaunchFacts (nD := nD) (τ := τ) (pcfgs (F := F)) p) (hK : (pcfgs (F := F) p).pre.K = 0) (d : Dev nD) :
    iprop(boundary (T d) ∗ StableHlo.held (T d) ucRefs (W d) ∗ owing d (O d) B ∗ levAts (K (F := F)).L (K (F := F)).lev
        ∗ cellsGhost (pin (pcfgs (F := F)) adm) EP p d ∗ toksInit (pin (pcfgs (F := F)) adm) EP p d)
      ⊢ wp frame (wpE ((K (F := F)).defs (D (F := F))) 𝒱 (T d) none) Set.univ
          (Prog.lift (.customCall (SparseCore.inner (Pipeline.entry p)) ()))
          fun _ => (iprop(boundary (T d) ∗ StableHlo.held (T d) ucRefs (afterRegion (pdats p d) (W d)) ∗ owing d (O d) B) : sProp 𝕄) := by
  refine BIBase.Entails.trans ?_ ((K (F := F)).wp_liftProg (D (F := F)) 𝒱 (T d) Set.univ none (Prog.lift (.customCall (Pipeline.entry p) ())) _)
  have key := Pipeline.RegionSeg.wp (pcfgs (F := F)) adm pdats none Gen.cellOf_inj EP defs₀ 𝒱₀ (K (F := F)).L (K (F := F)).lev (h.seg kit hK) d
    none (fun _ h => nomatch h) (fun _ => (.ret PUnit.unit : Prog _ PUnit))
    (fun _ => iprop(boundary (T d) ∗ StableHlo.held (T d) ucRefs (afterRegion (pdats p d) (W d)) ∗ owing d (O d) B))
  rw [show (h.seg kit hK).pre d = iprop(StableHlo.held (T d) ucRefs (W d) ∗ owing d (O d) B) from rfl,
    show (h.seg kit hK).post d = iprop(StableHlo.held (T d) ucRefs (afterRegion (pdats p d) (W d)) ∗ owing d (O d) B) from rfl] at key
  refine BIBase.Entails.trans ?_ key
  iintro ⟨Hb, Hh, HO, Hl, Hc, Ht⟩
  isplitr
  · rw [wp_ret]
    iintro ⟨Hb, Hh, HO⟩
    imodintro
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hc]; · iexact Hc
  iexact Ht

/-! ## The SparseCore call's arrays -/

variable (mask : Dev nD → Vec F S32768 .f32) (idx : Dev nD → IVec S32768 32) (o : Dev nD → Vec F S32768 .f32)

omit [FloatOps F] [∀ e, Nonempty (Elt F e)] in
theorem rows_disjoint : ∀ p ∈ (Finset.univ : Finset (Fin 2 × Fin 16)), ∀ q ∈ (Finset.univ : Finset (Fin 2 × Fin 16)), p ≠ q →
    Disjoint (rowSet p) (rowSet q) := by
  intro p _ q _ hpq
  rw [Finset.disjoint_left]
  intro x hx hy
  have h1 := (Finset.mem_filter.mp hx).2
  have h2 := (Finset.mem_filter.mp hy).2
  have e : 2 * p.2.val + p.1.val = 2 * q.2.val + q.1.val := h1.symm.trans h2
  have a := p.1.isLt; have b := q.1.isLt
  exact hpq (Prod.ext (Fin.ext (by omega)) (Fin.ext (by omega)))

omit [FloatOps F] [∀ e, Nonempty (Elt F e)] in
theorem rows_cover : (Finset.univ : Finset (Fin 2 × Fin 16)).biUnion rowSet = Finset.univ := by
  ext x
  simp only [Finset.mem_biUnion, Finset.mem_univ, true_and, iff_true]
  have hx : (x 0).val < 32768 := (x 0).isLt
  refine ⟨(⟨(x 0).val / 1024 % 2, by omega⟩, ⟨(x 0).val / 1024 / 2, by omega⟩), Finset.mem_filter.mpr ⟨Finset.mem_univ _, ?_⟩⟩
  show (x 0).val / 1024 = 2 * ((x 0).val / 1024 / 2) + (x 0).val / 1024 % 2
  omega

omit [FloatOps F] [∀ e, Nonempty (Elt F e)] in
theorem i_rows (d : Dev nD) (f : IVec S32768 32) :
    (bigSep Finset.univ fun p : Fin 2 × Fin 16 => (iLoc d ↦[rowSet p]{fullShare} f : sProp 𝕄)) = (iLoc d ↦{fullShare} f) := by
  rw [← pointsTo_biUnion Finset.univ (ℓ := iLoc d) rowSet rows_disjoint, rows_cover]

omit [FloatOps F] [∀ e, Nonempty (Elt F e)] in
theorem o_rows (d : Dev nD) (f : Vec F S32768 .f32) :
    (bigSep Finset.univ fun p : Fin 2 × Fin 16 => (oLoc d ↦[rowSet p]{fullShare} f : sProp 𝕄)) = (oLoc d ↦{fullShare} f) := by
  rw [← pointsTo_biUnion Finset.univ (ℓ := oLoc d) rowSet rows_disjoint, rows_cover]

omit [FloatOps F] [∀ e, Nonempty (Elt F e)] in
theorem m_shares (d : Dev nD) (f : Vec F S32768 .f32) :
    (bigSep Finset.univ fun p : Fin 2 × Fin 16 => (mLoc d ↦{mShare p} f : sProp 𝕄)) = (mLoc d ↦{fullShare} f) :=
  (Transfers.pointsTo_deal (Finset.univ : Finset (Fin 2 ×ₗ Fin 16)) Finset.univ_nonempty fullShare).symm

/-- The arrays as the tiles hold them are the arrays. -/
theorem dealt (d : Dev nD) (g : Vec F S32768 .f32) :
    (bigSep Finset.univ fun c : Fin 2 => bigSep Finset.univ fun i : Fin 16 => iprop((mLoc d ↦{mShare (c, i)} mask d)
        ∗ (iLoc d ↦[rowSet (c, i)]{fullShare} idx d) ∗ (oLoc d ↦[rowSet (c, i)]{fullShare} g)))
      = (iprop((mLoc d ↦{fullShare} mask d) ∗ (iLoc d ↦{fullShare} idx d) ∗ (oLoc d ↦{fullShare} g)) : sProp 𝕄) := by
  rw [← bigSep_univ_prod (fun p : Fin 2 × Fin 16 => iprop((mLoc d ↦{mShare p} mask d)
        ∗ (iLoc d ↦[rowSet p]{fullShare} idx d) ∗ (oLoc d ↦[rowSet p]{fullShare} g))),
    bigSep_sep', bigSep_sep', m_shares, i_rows, o_rows]

theorem st_eq (d : Dev nD) : (bigSep Finset.univ fun c : Fin ((K (F := F)).nCore 0) => (P mask idx o).st 0 d c)
    = (iprop((mLoc d ↦{fullShare} mask d) ∗ (iLoc d ↦{fullShare} idx d) ∗ (oLoc d ↦{fullShare} o d)) : sProp 𝕄) := dealt mask idx d (o d)

theorem dn_eq (d : Dev nD) : (bigSep Finset.univ fun c : Fin ((K (F := F)).nCore 0) => (P mask idx o).dn 0 d c)
    = (iprop((mLoc d ↦{fullShare} mask d) ∗ (iLoc d ↦{fullShare} idx d) ∗ (oLoc d ↦{fullShare} gath (mask d) (idx d))) : sProp 𝕄) :=
  dealt mask idx d (gath (mask d) (idx d))

theorem vecSplit : (K (F := F)).VecSplit' (P mask idx o) 0 := by
  intro d c
  show (bigSep Finset.univ fun i : Fin 16 => iprop((mLoc d ↦{mShare (c, i)} mask d) ∗ (iLoc d ↦[rowSet (c, i)]{fullShare} idx d) ∗ (oLoc d ↦[rowSet (c, i)]{fullShare} o d)) : sProp 𝕄)
    ⊢ |={Set.univ}=> iprop((bigSep Finset.univ fun i : Fin 16 => iprop((mLoc d ↦{mShare (c, i)} mask d) ∗ (iLoc d ↦[rowSet (c, i)]{fullShare} idx d) ∗ (oLoc d ↦[rowSet (c, i)]{fullShare} o d)))
      ∗ ((bigSep Finset.univ fun i : Fin 16 => iprop((mLoc d ↦{mShare (c, i)} mask d) ∗ (iLoc d ↦[rowSet (c, i)]{fullShare} idx d) ∗ (oLoc d ↦[rowSet (c, i)]{fullShare} gath (mask d) (idx d))))
        -∗ bigSep Finset.univ fun i : Fin 16 => iprop((mLoc d ↦{mShare (c, i)} mask d) ∗ (iLoc d ↦[rowSet (c, i)]{fullShare} idx d) ∗ (oLoc d ↦[rowSet (c, i)]{fullShare} gath (mask d) (idx d)))))
  iintro H; imodintro
  isplitl [H]; · iexact H
  iintro H; iexact H

/-! ## A tile's obligation -/

/-- The grid point of tile `s` of SparseCore `c`. -/
def tileAt (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_k (tileAt c s)
          mV (Memref.isWhole_whole _) iV (Memref.isWhole_whole _) oV (Memref.isWhole_whole _)
          sM (Memref.isWhole_whole _) sI (Memref.isWhole_whole _) sO (Memref.isWhole_whole _) cc2_scoped0 cc2_scoped1 cc2_scoped2) ⟨⟩ c s := rfl

omit [FloatOps F] [∀ e, Nonempty (Elt F e)] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hidx : ∀ d x, (idx d x).toNat < 32768) : (K (F := F)).TileObl (D (F := F)) 𝒱 (P mask idx o) v₀ 0 := by
  intro d c i O W hO _ _
  simp only [show (P mask idx o).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  refine BIBase.Entails.trans ?_ ((tile_body d (tileAt ⟨_, hc.1⟩ ⟨_, hc.2⟩) (mask d) (idx d) facts (hidx d) (mShare (c, i)) (o d) O W hO).trans
    (wp_mono frame _ _ fun _ => obl_post))
  rw [show (P mask idx o).go 0 d c i = iprop((mLoc d ↦{mShare (c, i)} mask d)
      ∗ (iLoc d ↦[rowSet (pair (tileAt ⟨_, hc.1⟩ ⟨_, hc.2⟩))]{fullShare} idx d) ∗ (oLoc d ↦[rowSet (pair (tileAt ⟨_, hc.1⟩ ⟨_, hc.2⟩))]{fullShare} o d)) from rfl]
  iintro ⟨Hl, -, Hg, Hb, Hs, HO⟩
  isplitl [Hl]; · iexact Hl
  isplitl [Hg]; · iexact Hg
  isplitl [Hb]; · iexact Hb
  isplitl [Hs]; · iexact Hs
  iexact HO

end Cert.KernelIdeal.Run

end
-- ==== Proof.Launch.lean ====
/- The launched program: what its run leaves in every unscoped buffer. -/
module

public import proofs.«01_k».proof.Proof.Calls

@[expose] public section

set_option maxRecDepth 100000

noncomputable section

namespace Cert.KernelIdeal.Run

open Cert.KernelIdeal Cert.KernelIdeal.Gen Cert.KernelIdeal.Host Cert.Lines
open Idealize.ShloMosaic
open Idealize.ShloMosaic.StableHlo (after seq held launchContents)
open Idealize.ShloMosaic.Pipeline (afterRegion pin cellsGhost toksInit cells launchToks)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The contents along the run -/

/-- What a core owes until the SparseCore call. -/
abbrev O₀ (d : Dev nD) : CellTallies nD τ sig (HIx 1) := (K (F := F)).Otc d 0

/-- After the host operations before the first call, -/
def W1 (d : Dev nD) : Valuation τ sig (Elt F) := after k0 (launchContents m d)
/-- after the first call, -/
def W2 (d : Dev nD) : Valuation τ sig (Elt F) := afterRegion (dats (W1 m) (O₀ (F := F)) (Bd (F := F)) 0 d) (W1 m d)
/-- up to the second, -/
def W3 (d : Dev nD) : Valuation τ sig (Elt F) := after kA (W2 m d)
/-- after the second, -/
def W4 (d : Dev nD) : Valuation τ sig (Elt F) := afterRegion (dats (W3 m) (O₀ (F := F)) (Bd (F := F)) 1 d) (W3 m d)
/-- up to the third, -/
def W5 (d : Dev nD) : Valuation τ sig (Elt F) := after kB (W4 m d)
/-- the masks' buffer and the positions there, -/
def maskAt (d : Dev nD) : Vec F S32768 .f32 := W5 m d (Proc.devRef .tc main_v114)
def idxAt (d : Dev nD) : IVec S32768 32 := W5 m d (Proc.devRef .tc main_v113)
def oldAt (d : Dev nD) : Vec F S32768 .f32 := W5 m d (Proc.devRef .tc main_v115)
/-- after the third, -/
def W6 (d : Dev nD) : Valuation τ sig (Elt F) := Function.update (W5 m d) (Proc.devRef .tc main_v115) (gath (maskAt m d) (idxAt m d))
/-- and at the end. -/
def W7 (d : Dev nD) : Valuation τ sig (Elt F) := after k11 (W6 m d)

theorem idxAt_lt (d : Dev nD) (x) : (idxAt m d x).toNat < 32768 := v94_lt (W4 m d) x

/-! ## Host operations -/

omit [FloatOps F] [∀ e, Nonempty (Elt F e)] in
/-- A line's operations touch unscoped buffers alone. -/
theorem line_bufs {ops : List (HloOp τ sig (Elt F))} {lo hi : ℕ} (h : Line ops lo hi) : ∀ op ∈ ops, op.bufs ⊆ ucRefs := fun op ho b hb =>
  Finset.mem_filter.mpr ⟨h.bufs op ho hb, by rw [op.no_scoped b hb]; exact Bool.false_ne_true⟩

/-- A line of host operations in the launched program. -/
theorem wp_line {ops : List (HloOp τ sig (Elt F))} {lo hi : ℕ} (h : Line ops lo hi) (d : Dev nD) (V : Valuation τ sig (Elt F)) :
    iprop(boundary (T d) ∗ held (T d) ucRefs V)
      ⊢ wp frame (wpE ((K (F := F)).defs (D (F := F))) 𝒱 (T d) none) Set.univ (seq ops)
          fun _ => (iprop(boundary (T d) ∗ held (T d) ucRefs (after ops V)) : sProp 𝕄) := by
  rw [← bind_pure (seq ops)]
  iintro H
  iapply (StableHlo.wp_seq 𝒱 none Set.univ d ucRefs _ ops (line_bufs h) h.fresh V) $$ H
  rw [wp_pure]
  iintro H
  imodintro
  iexact H

/-! ## The SparseCore call's buffers among the others -/

/-- The masks' buffer, the positions', the result's. -/
def callRefs : Finset (DevRef τ sig) := {Proc.devRef .tc main_v114, Proc.devRef .tc main_v113, Proc.devRef .tc main_v115}

theorem callRefs_sub : callRefs ⊆ ucRefs := by
  intro b hb
  unfold callRefs at hb
  simp only [Finset.mem_insert, Finset.mem_singleton] at hb
  rcases hb with rfl | rfl | rfl <;> exact Finset.mem_filter.mpr ⟨StableHlo.devRef_mem_tcRefs _, by decide⟩

omit [FloatOps F] [∀ e, Nonempty (Elt F e)] in
theorem held_call (d : Dev nD) (V : Valuation τ sig (Elt F)) : (held (T d) callRefs V : sProp 𝕄)
    = iprop((mLoc d ↦{fullShare} V (Proc.devRef .tc main_v114)) ∗ (iLoc d ↦{fullShare} V (Proc.devRef .tc main_v113))
        ∗ (oLoc d ↦{fullShare} V (Proc.devRef .tc main_v115))) := by
  unfold held callRefs
  rw [SparseCore.bigSep_insert' (by decide), SparseCore.bigSep_insert' (by decide), bigSep_singleton]

theorem held_after_call (d : Dev nD) : (held (T d) ucRefs (W6 m d) : sProp 𝕄)
    = iprop(((mLoc d ↦{fullShare} maskAt m d) ∗ (iLoc d ↦{fullShare} idxAt m d) ∗ (oLoc d ↦{fullShare} gath (maskAt m d) (idxAt m d)))
        ∗ held (T d) (ucRefs \ callRefs) (W5 m d)) := by
  rw [StableHlo.held_sub_split (T d) callRefs_sub (W6 m d), held_call,
    StableHlo.held_congr (T d) (S := ucRefs \ callRefs) (V := W6 m d) (V' := W5 m d) (fun b hb => Function.update_of_ne (fun e => by
      subst e; exact (Finset.mem_sdiff.mp hb).2 (by decide)) _ _)]
  unfold W6
  rw [Function.update_self, Function.update_of_ne (by decide), Function.update_of_ne (by decide)]
  rfl

/-! ## The launch's ghost state -/

omit [FloatOps F] [∀ e, Nonempty (Elt F e)] in
theorem bigSep_two (Φ : Fin 2 → sProp 𝕄) : bigSep Finset.univ Φ = iprop(Φ 0 ∗ Φ 1) := bigSep_fin_two Φ

/-- What @main's proof starts from: both pipelines' rounds. -/
def extra (d : Dev nD) : sProp 𝕄 :=
  iprop((bigSep Finset.univ fun p : Fin 2 => cellsGhost (pin (pcfgs (F := F)) adm) EP p d)
    ∗ (bigSep Finset.univ fun p : Fin 2 => toksInit (pin (pcfgs (F := F)) adm) EP p d))

def u₀ : UU := (initOf (K (F := F)).hsCells (K (F := F)).hsToks,
  (initOf (cells (pin (pcfgs (F := F)) adm) Gen.cellOf_inj) (launchToks (pin (pcfgs (F := F)) adm) Gen.cellOf_inj), 1))

omit [FloatOps F] [∀ e, Nonempty (Elt F e)] in
theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

variable (mask : Dev nD → Vec F S32768 .f32) (idx : Dev nD → IVec S32768 32) (o : Dev nD → Vec F S32768 .f32)

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => extra (F := F) d)
        ∗ bigSep Finset.univ fun thr : Thread nD τ => bigSep Finset.univ fun q : Fin 1 => (P mask idx o).x q thr) := by
  unfold u₀
  iintro Hu
  ihave H := (ownU_split _ _) $$ Hu
  icases H with ⟨HH, HP⟩
  imod (Pipeline.fund_ghost (pin (pcfgs (F := F)) adm) EP Gen.cellOf_inj) $$ HP with ⟨Hc, Ht⟩
  imodintro
  isplitl [HH]; · iexact HH
  isplitl [Hc Ht]
  · unfold extra
    rw [bigSep_sep']
    isplitl [Hc]; · iexact Hc
    iexact Ht
  rw [show (fun thr : Thread nD τ => bigSep Finset.univ fun q : Fin 1 => (P (F := F) mask idx o).x q thr) = fun _ => iprop(emp) from
    funext fun thr => bigSep_emp_const _]
  rw [show (bigSep Finset.univ fun _ : Thread nD τ => iprop(emp)) = (iprop(emp) : sProp 𝕄) from bigSep_emp_const _]
  iempintro

/-! ## @main on the TensorCore -/

theorem owing_eq (d : Dev nD) : (owing d (O₀ (F := F) d) (Bd (F := F)) : sProp 𝕄)
    = iprop(∃ W, ⌜(K (F := F)).WBelow (T d) W (8 * SparseCore.Cfg.Blocks.fst (Q := 1) (N := 1) 0)⌝ ∗ owes (T d) ((K (F := F)).Otc d 0) W) := by
  obtain rfl : d = 0 := Subsingleton.elim _ _
  rfl

/-- The handshake state before the SparseCore call, apart from what the core owes. -/
theorem tcSt_owing (d : Dev nD) : ((K (F := F)).tcSt EH d 0 : sProp 𝕄)
    ⊢ iprop(owing d (O₀ (F := F) d) (Bd (F := F)) ∗ (owing d (O₀ (F := F) d) (Bd (F := F)) -∗ (K (F := F)).tcSt EH d 0)) := by
  rw [owing_eq]
  unfold SparseCore.Cfg.tcSt
  iintro ⟨HO, Hst⟩
  isplitl [HO]; · iexact HO
  iintro HO
  isplitl [HO]; · iexact HO
  iexact Hst

/-- What @main leaves. -/
abbrev FIN (d : Dev nD) : sProp 𝕄 := held (T d) ucRefs (W7 m d)

set_option backward.isDefEq.respectTransparency.types false in
/-- @main: three lines of host operations with the two pipelined calls between them, the SparseCore call, and the last operation. -/
theorem hmain (κ : GSem nD τ sig → ℕ) (d : Dev nD) :
    iprop((K (F := F)).ctx EH (P (maskAt m) (idxAt m) (oldAt m)) κ ∗ (K (F := F)).tcSt EH d 0 ∗ (K (F := F)).tcRes m ρ d ∗ extra d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd extra
  rw [main_eq, bigSep_two, bigSep_two, unscopedBufs_held d (launchContents m d)]
  simp only [wp_bind]
  iintro ⟨#Hctx, Hst, ⟨Hb, Hh, Hts, -⟩, ⟨Hc0, Hc1⟩, ⟨Ht0, Ht1⟩⟩
  ihave #Hlv := (SparseCore.Cfg.ctx_levAts κ) $$ Hctx
  -- the first line
  iapply (wp_wand_r frame _ Set.univ)
  isplitl [Hb Hh]
  · iapply (wp_line k0_line d (launchContents m d)); isplitl [Hb]; · iexact Hb
    iexact Hh
  iintro %_ ⟨Hb, Hh⟩
  ihave Hst := (tcSt_owing d) $$ Hst
  icases Hst with ⟨HO, Hst⟩
  -- the first call
  iapply (wp_wand_r frame _ Set.univ)
  isplitl [Hb Hh HO Hc0 Ht0]
  · iapply ((use0 (W1 m) (O := O₀ (F := F)) (B := Bd (F := F)) (fun c g => Otc_none c g) Bd_none).wp Gen.launch0.toP rfl d)
    isplitl [Hb]; · iexact Hb
    isplitl [Hh]; · iexact Hh
    isplitl [HO]; · iexact HO
    isplitr; · iexact Hlv
    isplitl [Hc0]; · iexact Hc0
    iexact Ht0
  iintro %_ ⟨Hb, Hh, HO⟩
  -- the second line
  iapply (wp_wand_r frame _ Set.univ)
  isplitl [Hb Hh]
  · iapply (wp_line kA_line d (W2 m d)); isplitl [Hb]; · iexact Hb
    iexact Hh
  iintro %_ ⟨Hb, Hh⟩
  -- the second call
  iapply (wp_wand_r frame _ Set.univ)
  isplitl [Hb Hh HO Hc1 Ht1]
  · iapply ((use1 (W3 m) (O := O₀ (F := F)) (B := Bd (F := F)) (fun c g => Otc_none c g) Bd_none).wp Gen.launch1.toP rfl d)
    isplitl [Hb]; · iexact Hb
    isplitl [Hh]; · iexact Hh
    isplitl [HO]; · iexact HO
    isplitr; · iexact Hlv
    isplitl [Hc1]; · iexact Hc1
    iexact Ht1
  iintro %_ ⟨Hb, Hh, HO⟩
  -- the third line
  iapply (wp_wand_r frame _ Set.univ)
  isplitl [Hb Hh]
  · iapply (wp_line kB_line d (W4 m d)); isplitl [Hb]; · iexact Hb
    iexact Hh
  iintro %_ ⟨Hb, Hh⟩
  -- the SparseCore call
  rw [show after kB (W4 m d) = W5 m d from rfl]
  ihave Hh := (Entails.of_eq (StableHlo.held_sub_split (T d) callRefs_sub (W5 m d))) $$ Hh
  icases Hh with ⟨Hh, Hr⟩
  ihave Hh := (Entails.of_eq (held_call d (W5 m d))) $$ Hh
  iapply ((K (F := F)).wp_run (D (F := F)) 𝒱 (EH := EH) (P := P (maskAt m) (idxAt m) (oldAt m)) κ d 0) $$ [Hst HO Hh Hr Hb Hts]
  isplitr; · iexact Hctx
  isplitl [Hst HO]
  · iapply Hst; iexact HO
  isplitl [Hh]
  · rw [st_eq]; iexact Hh
  iintro ⟨Hst, Hh⟩
  ihave Hh := (Entails.of_eq (dn_eq (maskAt m) (idxAt m) (oldAt m) d)) $$ Hh
  -- the last operation
  iapply (wp_wand_r frame _ Set.univ)
  isplitl [Hb Hh Hr]
  · iapply (wp_line k11_line d (W6 m d)); isplitl [Hb]; · iexact Hb
    rw [held_after_call]
    isplitl [Hh]; · iexact Hh
    iexact Hr
  iintro %_ ⟨Hb, Hh⟩
  isplitl [Hst]; · iexact Hst
  isplitl [Hh]; · iexact Hh
  isplitl [Hb]; · iexact Hb
  iexact Hts

/-! ## The run -/

/-- Every unscoped buffer of the TensorCore at what @main leaves there. -/
def fq (d : Dev nD) (s' : Phys nD τ sig (Elt F)) : Prop :=
  ∀ b ∈ (ucRefs : Finset (DevRef τ sig)), s'.mem.mem (d, b) = W7 m d b

theorem hfin (d : Dev nD) (s' : Phys nD τ sig (Elt F)) : iprop(FIN m d ∗ SI s') ⊢ (⌜fq m d s'⌝ : sProp 𝕄) := by
  unfold FIN held fq
  iintro ⟨H, HSI⟩
  ihave %h := (SI_pointsTo_bufs_agree (qs := fun _ => fullShare) ucRefs) $$ [HSI H]
  · isplitl [HSI]; · iexact HSI
    iexact H
  ipureintro
  exact fun b hb => h b hb

def QC : PUnit × MemSt nD τ sig (Elt F) → Prop := fun r =>
  (∀ d : Dev nD, ∀ b ∈ (ucRefs : Finset (DevRef τ sig)), r.2.mem (d, b) = W7 m d b) ∧ r.2.sem = fun _ => 0

theorem run_main : θ_run (defs (F := F)) (threads (F := F)) ⟨m, fun _ => 0, ρ⟩ (QC m) :=
  SparseCore.Cfg.θ_run_sc_quiescent (K := K (F := F)) (D := D (F := F)) (𝒱 := 𝒱) (EH := EH) (P := P (maskAt m) (idxAt m) (oldAt m)) (A := ∅) facts v₀
    (fun q hq => match q with | 0 => nomatch hq)
    (fun q _ => match q with | 0 => tileObl (maskAt m) (idxAt m) (oldAt m) (idxAt_lt m))
    (fun q _ => match q with | 0 => SparseCore.Cfg.VecSplit.of_plain (vecSplit (maskAt m) (idxAt m) (oldAt m)))
    m ρ main (fun d => extra d) (FIN m) (u₀ (F := F)) (sep_elim_left.trans (hu₀ (maskAt m) (idxAt m) (oldAt m))) (hmain m ρ) (fq m) (hfin m) (QC m)
    (fun _ h hz => ⟨h, hz⟩)

end Cert.KernelIdeal.Run

end
-- ==== Proof.HostR.lean ====
/- The reference program's operations, in lines, with the buffers each writes. -/
module

public import proofs.«01_k».proof.Proof.Gen.ReferenceIdeal
public import proofs.«01_k».proof.Proof.Lines

@[expose] public section

noncomputable section

namespace Cert.ReferenceIdeal.Host

open Cert.ReferenceIdeal
open Idealize.ShloMosaic Idealize.ShloMosaic.StableHlo Idealize.SL.Sem
open Cert.Lines (T Line Fixes)
open Cert.Lines
open Facts₀ Facts

variable {F : FTy → Type} [FloatOps F]

/-- Operations that write the buffers 6 to 65. -/
def r0 : List (HloOp τ sig (Elt F)) := [
  nullary main_cst (fun i => FloatOps.ofBits .f32 (lit0 (S512.rowMajor i))),
  nullary main_cst_0 (fun i => FloatOps.ofBits .f32 (lit1 (S512.rowMajor i))),
  nullary main_v0 (iotaInDim S512x512 32 0),
  nullary main_v1 (iotaInDim S512x512 32 1),
  binary main_v0 main_v1 main_v2 (muli : T F S512x512 .i32 → T F S512x512 .i32 → T F S512x512 .i32),
  nullary main_c (constantI S_ 32 511#32),
  unary main_c main_v3 (broadcastInDim S512x512 ![] bcast_S_S512x512 : T F S_ .i32 → T F S512x512 .i32),
  binary main_v2 main_v3 main_v4 (andi : T F S512x512 .i32 → T F S512x512 .i32 → T F S512x512 .i32),
  nullary main_c_1 (constantI S_ 32 0#32),
  unary main_c_1 main_v5 (broadcastInDim S512x512 ![] bcast_S_S512x512 : T F S_ .i32 → T F S512x512 .i32),
  binary main_v4 main_v5 main_v6 (cmpi .slt : T F S512x512 .i32 → T F S512x512 .i32 → T F S512x512 .i1),
  nullary main_c_2 (constantI S_ 32 512#32),
  unary main_c_2 main_v7 (broadcastInDim S512x512 ![] bcast_S_S512x512 : T F S_ .i32 → T F S512x512 .i32),
  binary main_v4 main_v7 main_v8 (addi : T F S512x512 .i32 → T F S512x512 .i32 → T F S512x512 .i32),
  ternary main_v6 main_v8 main_v4 main_v9 (select : T F S512x512 .i1 → T F S512x512 .i32 → T F S512x512 .i32 → T F S512x512 .i32),
  unary main_v9 main_v10 (broadcastInDim S512x512x1 ![0, 1] bcast_S512x512_S512x512x1_0_1 : T F S512x512 .i32 → T F S512x512x1 .i32),
  binary main_cst main_v10 main_v11 ((fun x i => Host.gather gather_S512_S512x512x1_S512x512_n_0_n_n_0_2_1 x i) : T F S512 .f32 → T F S512x512x1 .i32 → T F S512x512 .f32),
  nullary main_c_3 (constantI S_ 32 0#32),
  unary main_c_3 main_v12 (broadcastInDim S512x512 ![] bcast_S_S512x512 : T F S_ .i32 → T F S512x512 .i32),
  binary main_v4 main_v12 main_v13 (cmpi .slt : T F S512x512 .i32 → T F S512x512 .i32 → T F S512x512 .i1),
  nullary main_c_4 (constantI S_ 32 512#32),
  unary main_c_4 main_v14 (broadcastInDim S512x512 ![] bcast_S_S512x512 : T F S_ .i32 → T F S512x512 .i32),
  binary main_v4 main_v14 main_v15 (addi : T F S512x512 .i32 → T F S512x512 .i32 → T F S512x512 .i32),
  ternary main_v13 main_v15 main_v4 main_v16 (select : T F S512x512 .i1 → T F S512x512 .i32 → T F S512x512 .i32 → T F S512x512 .i32),
  unary main_v16 main_v17 (broadcastInDim S512x512x1 ![0, 1] bcast_S512x512_S512x512x1_0_1 : T F S512x512 .i32 → T F S512x512x1 .i32),
  binary main_cst_0 main_v17 main_v18 ((fun x i => Host.gather gather_S512_S512x512x1_S512x512_n_0_n_n_0_2_1 x i) : T F S512 .f32 → T F S512x512x1 .i32 → T F S512x512 .f32),
  binary main_arg0 main_v11 main_v19 ((fun l r => Host.dotGeneral dot_S32x3x512x512_S512x512_S32x3x512x512_2_1_013_0_n_n none l r) : T F S32x3x512x512 .f32 → T F S512x512 .f32 → T F S32x3x512x512 .f32),
  unary main_v19 main_v20 ((transpose S32x3x512x512 [0, 1, 3, 2] · transposes_S32x3x512x512_S32x3x512x512_0_1_3_2) : T F S32x3x512x512 .f32 → T F S32x3x512x512 .f32),
  binary main_arg0 main_v18 main_v21 ((fun l r => Host.dotGeneral dot_S32x3x512x512_S512x512_S32x3x512x512_2_1_013_0_n_n none l r) : T F S32x3x512x512 .f32 → T F S512x512 .f32 → T F S32x3x512x512 .f32),
  unary main_v21 main_v22 ((transpose S32x3x512x512 [0, 1, 3, 2] · transposes_S32x3x512x512_S32x3x512x512_0_1_3_2) : T F S32x3x512x512 .f32 → T F S32x3x512x512 .f32),
  binary main_v20 main_v11 main_v23 ((fun l r => Host.dotGeneral dot_S32x3x512x512_S512x512_S32x3x512x512_3_0_012_1_n_n none l r) : T F S32x3x512x512 .f32 → T F S512x512 .f32 → T F S32x3x512x512 .f32),
  binary main_v22 main_v18 main_v24 ((fun l r => Host.dotGeneral dot_S32x3x512x512_S512x512_S32x3x512x512_3_0_012_1_n_n none l r) : T F S32x3x512x512 .f32 → T F S512x512 .f32 → T F S32x3x512x512 .f32),
  binary main_v23 main_v24 main_v25 (subf : T F S32x3x512x512 .f32 → T F S32x3x512x512 .f32 → T F S32x3x512x512 .f32),
  binary main_v20 main_v18 main_v26 ((fun l r => Host.dotGeneral dot_S32x3x512x512_S512x512_S32x3x512x512_3_0_012_1_n_n none l r) : T F S32x3x512x512 .f32 → T F S512x512 .f32 → T F S32x3x512x512 .f32),
  binary main_v22 main_v11 main_v27 ((fun l r => Host.dotGeneral dot_S32x3x512x512_S512x512_S32x3x512x512_3_0_012_1_n_n none l r) : T F S32x3x512x512 .f32 → T F S512x512 .f32 → T F S32x3x512x512 .f32),
  binary main_v26 main_v27 main_v28 (addf : T F S32x3x512x512 .f32 → T F S32x3x512x512 .f32 → T F S32x3x512x512 .f32),
  unary main_v28 main_v29 (Host.negf : T F S32x3x512x512 .f32 → T F S32x3x512x512 .f32),
  binary main_v25 main_v25 main_v30 (mulf : T F S32x3x512x512 .f32 → T F S32x3x512x512 .f32 → T F S32x3x512x512 .f32),
  binary main_v29 main_v29 main_v31 (mulf : T F S32x3x512x512 .f32 → T F S32x3x512x512 .f32 → T F S32x3x512x512 .f32),
  binary main_v30 main_v31 main_v32 (addf : T F S32x3x512x512 .f32 → T F S32x3x512x512 .f32 → T F S32x3x512x512 .f32),
  unary main_v32 main_v33 (Host.sqrt : T F S32x3x512x512 .f32 → T F S32x3x512x512 .f32),
  nullary main_cst_5 (constant S_ .f32 0x44000000#32),
  unary main_cst_5 main_v34 (broadcastInDim S32x3x512x512 ![] bcast_S_S32x3x512x512 : T F S_ .f32 → T F S32x3x512x512 .f32),
  binary main_v33 main_v34 main_v35 (Host.divf : T F S32x3x512x512 .f32 → T F S32x3x512x512 .f32 → T F S32x3x512x512 .f32),
  reshape main_v35 main_v36 (rfl : (.f32 : EltTy) = .f32) shapeCasts_S32x3x512x512_S32x3x32x16x32x16,
  unary main_v36 main_v37 ((transpose S32x3x32x32x16x16 [0, 1, 2, 4, 3, 5] · transposes_S32x3x32x16x32x16_S32x3x32x32x16x16_0_1_2_4_3_5) : T F S32x3x32x16x32x16 .f32 → T F S32x3x32x32x16x16 .f32),
  reshape main_v37 main_v38 (rfl : (.f32 : EltTy) = .f32) shapeCasts_S32x3x32x32x16x16_S32x3x1024x16x16,
  nullary main_cst_6 (constant S_ .f32 0x00000000#32),
  binary main_v38 main_cst_6 main_v39 ((fun x v => Host.reduceAdd x v reducesTo_S32x3x1024x16x16_S32x3x1024_d3_4 h_S_) : T F S32x3x1024x16x16 .f32 → T F S_ .f32 → T F S32x3x1024 .f32),
  nullary main_cst_7 (constant S_ .f32 0x43800000#32),
  unary main_cst_7 main_v40 (broadcastInDim S32x3x1024 ![] bcast_S_S32x3x1024 : T F S_ .f32 → T F S32x3x1024 .f32),
  binary main_v39 main_v40 main_v41 (Host.divf : T F S32x3x1024 .f32 → T F S32x3x1024 .f32 → T F S32x3x1024 .f32),
  nullary main_cst_8 (constant S_ .f32 0x00000000#32),
  binary main_v41 main_cst_8 main_v42 ((fun x v => Host.reduceAdd x v reducesTo_S32x3x1024_S32x1024_d1 h_S_) : T F S32x3x1024 .f32 → T F S_ .f32 → T F S32x1024 .f32),
  nullary main_cst_9 (constant S_ .f32 0x40400000#32),
  unary main_cst_9 main_v43 (broadcastInDim S32x1024 ![] bcast_S_S32x1024 : T F S_ .f32 → T F S32x1024 .f32),
  binary main_v42 main_v43 main_v44 (Host.divf : T F S32x1024 .f32 → T F S32x1024 .f32 → T F S32x1024 .f32),
  binary main_arg1 main_v35 main_v45 ((fun l r => Host.dotGeneral dot_S16x3_S32x3x512x512_S16x32x512x512_1_1_0_023_n_n none l r) : T F S16x3 .f32 → T F S32x3x512x512 .f32 → T F S16x32x512x512 .f32),
  unary main_v45 main_v46 ((transpose S32x16x512x512 [1, 0, 2, 3] · transposes_S16x32x512x512_S32x16x512x512_1_0_2_3) : T F S16x32x512x512 .f32 → T F S32x16x512x512 .f32),
  nullary main_cst_10 (constant S_ .f32 0x00000000#32)]

theorem r0_line : Line (r0 (F := F)) 6 66 := by
  unfold r0
  exact .cons (.nullary rfl rfl)<|
  .cons (.nullary rfl rfl)<|
  .cons (.nullary rfl rfl)<|
  .cons (.nullary rfl rfl)<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.ternary rfl rfl rfl (by decide) rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.ternary rfl rfl rfl (by decide) rfl (by decide) rfl (by decide))<|
  .cons (.unary rfl rfl rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.nullary rfl rfl)<|
  .cons (.unary rfl rfl rfl (by decide))<|
  .cons (.binary rfl rfl rfl (by decide) rfl (by decide))<|
  .cons (.reshape rfl rfl rfl (by decide))<|
  .cons (.unary rfl rfl rfl (by decide))<|
  .cons (.reshape rfl rfl rfl (by decide))<|
  .cons (.nullary rfl rfl)<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.unary rfl rfl rfl (by decide))<|
  .cons (.nullary rfl rfl)<| .nil _

/-- Operations that write the buffers 66 to 148. -/
def r1 : List (HloOp τ sig (Elt F)) := [
  binary main_v46 main_cst_10 main_v47 ((fun x v => Host.reduceAdd x v reducesTo_S32x16x512x512_S16_d0_2_3 h_S_) : T F S32x16x512x512 .f32 → T F S_ .f32 → T F S16 .f32),
  nullary main_cst_11 (constant S_ .f32 0x4B000000#32),
  unary main_cst_11 main_v48 (broadcastInDim S16 ![] bcast_S_S16 : T F S_ .f32 → T F S16 .f32),
  binary main_v47 main_v48 main_v49 (Host.divf : T F S16 .f32 → T F S16 .f32 → T F S16 .f32),
  nullary main_c_12 (constantI S_ 32 0#32),
  nullary main_call0_cst ((constant S_ .f32 0x00000000#32) : T F S_ .f32),
  binary main_v46 main_call0_cst main_call0_v0 ((fun x v => Host.reduceAdd x v reducesTo_S32x16x512x512_S16_d0_2_3 h_S_) : T F S32x16x512x512 .f32 → T F S_ .f32 → T F S16 .f32),
  unary main_call0_v0 main_call0_v1 ((broadcastInDim S1x16x1x1 ![1] bcast_S16_S1x16x1x1_1) : T F S16 .f32 → T F S1x16x1x1 .f32),
  nullary main_call0_cst_0 ((constant S_ .f32 0x4B000000#32) : T F S_ .f32),
  unary main_call0_cst_0 main_call0_v2 ((broadcastInDim S1x16x1x1 ![] bcast_S_S1x16x1x1) : T F S_ .f32 → T F S1x16x1x1 .f32),
  binary main_call0_v1 main_call0_v2 main_call0_v3 (Host.divf : T F S1x16x1x1 .f32 → T F S1x16x1x1 .f32 → T F S1x16x1x1 .f32),
  unary main_call0_v3 main_call0_v4 ((broadcastInDim S32x16x512x512 ![0, 1, 2, 3] bcast_S1x16x1x1_S32x16x512x512_0_1_2_3) : T F S1x16x1x1 .f32 → T F S32x16x512x512 .f32),
  binary main_v46 main_call0_v4 main_call0_v5 (subf : T F S32x16x512x512 .f32 → T F S32x16x512x512 .f32 → T F S32x16x512x512 .f32),
  binary main_call0_v5 main_call0_v5 main_call0_v6 (mulf : T F S32x16x512x512 .f32 → T F S32x16x512x512 .f32 → T F S32x16x512x512 .f32),
  unary main_c_12 main_call0_v7 ((sitofp .f32) : T F S_ .i32 → T F S_ .f32),
  nullary main_call0_cst_1 ((constant S_ .f32 0x4B000000#32) : T F S_ .f32),
  binary main_call0_cst_1 main_call0_v7 main_call0_v8 (subf : T F S_ .f32 → T F S_ .f32 → T F S_ .f32),
  nullary main_call0_cst_2 ((constant S_ .f32 0x00000000#32) : T F S_ .f32),
  binary main_call0_v6 main_call0_cst_2 main_call0_v9 ((fun x v => Host.reduceAdd x v reducesTo_S32x16x512x512_S16_d0_2_3 h_S_) : T F S32x16x512x512 .f32 → T F S_ .f32 → T F S16 .f32),
  unary main_call0_v8 main_call0_v10 ((broadcastInDim S16 ![] bcast_S_S16) : T F S_ .f32 → T F S16 .f32),
  binary main_call0_v9 main_call0_v10 main_call0_v11 (Host.divf : T F S16 .f32 → T F S16 .f32 → T F S16 .f32),
  nullary main_call0_cst_3 ((constant S_ .f32 0x00000000#32) : T F S_ .f32),
  binary main_call0_v8 main_call0_cst_3 main_call0_v12 ((cmpf .ogt) : T F S_ .f32 → T F S_ .f32 → T F S_ .i1),
  nullary main_call0_cst_4 ((constant S_ .f32 0x7FC00000#32) : T F S_ .f32),
  unary main_call0_cst_4 main_call0_call0_v0 (id : T F S_ .f32 → T F S_ .f32),
  unary main_call0_call0_v0 main_call0_call0_v1 ((broadcastInDim S16 ![] bcast_S_S16) : T F S_ .f32 → T F S16 .f32),
  ternary main_call0_v12 main_call0_v11 main_call0_call0_v1 main_v50 ((fun p a b => select (broadcastInDim S16 ![] bcast_S_S16 p) a b) : T F S_ .i1 → T F S16 .f32 → T F S16 .f32 → T F S16 .f32),
  unary main_v49 main_v51 (broadcastInDim S1x16x1x1 ![1] bcast_S16_S1x16x1x1_1 : T F S16 .f32 → T F S1x16x1x1 .f32),
  unary main_v51 main_v52 (broadcastInDim S32x16x512x512 ![0, 1, 2, 3] bcast_S1x16x1x1_S32x16x512x512_0_1_2_3 : T F S1x16x1x1 .f32 → T F S32x16x512x512 .f32),
  binary main_v46 main_v52 main_v53 (subf : T F S32x16x512x512 .f32 → T F S32x16x512x512 .f32 → T F S32x16x512x512 .f32),
  unary main_v50 main_v54 (broadcastInDim S1x16x1x1 ![1] bcast_S16_S1x16x1x1_1 : T F S16 .f32 → T F S1x16x1x1 .f32),
  nullary main_cst_13 (constant S_ .f32 0x3727C5AC#32),
  unary main_cst_13 main_v55 (broadcastInDim S1x16x1x1 ![] bcast_S_S1x16x1x1 : T F S_ .f32 → T F S1x16x1x1 .f32),
  binary main_v54 main_v55 main_v56 (addf : T F S1x16x1x1 .f32 → T F S1x16x1x1 .f32 → T F S1x16x1x1 .f32),
  unary main_v56 main_v57 (Host.sqrt : T F S1x16x1x1 .f32 → T F S1x16x1x1 .f32),
  unary main_v57 main_v58 (broadcastInDim S32x16x512x512 ![0, 1, 2, 3] bcast_S1x16x1x1_S32x16x512x512_0_1_2_3 : T F S1x16x1x1 .f32 → T F S32x16x512x512 .f32),
  binary main_v53 main_v58 main_v59 (Host.divf : T F S32x16x512x512 .f32 → T F S32x16x512x512 .f32 → T F S32x16x512x512 .f32),
  unary main_arg2 main_v60 (broadcastInDim S1x16x1x1 ![1] bcast_S16_S1x16x1x1_1 : T F S16 .f32 → T F S1x16x1x1 .f32),
  unary main_v60 main_v61 (broadcastInDim S32x16x512x512 ![0, 1, 2, 3] bcast_S1x16x1x1_S32x16x512x512_0_1_2_3 : T F S1x16x1x1 .f32 → T F S32x16x512x512 .f32),
  binary main_v59 main_v61 main_v62 (mulf : T F S32x16x512x512 .f32 → T F S32x16x512x512 .f32 → T F S32x16x512x512 .f32),
  unary main_arg3 main_v63 (broadcastInDim S1x16x1x1 ![1] bcast_S16_S1x16x1x1_1 : T F S16 .f32 → T F S1x16x1x1 .f32),
  unary main_v63 main_v64 (broadcastInDim S32x16x512x512 ![0, 1, 2, 3] bcast_S1x16x1x1_S32x16x512x512_0_1_2_3 : T F S1x16x1x1 .f32 → T F S32x16x512x512 .f32),
  binary main_v62 main_v64 main_v65 (addf : T F S32x16x512x512 .f32 → T F S32x16x512x512 .f32 → T F S32x16x512x512 .f32),
  nullary main_call1_cst ((constant S_ .f32 0x00000000#32) : T F S_ .f32),
  unary main_call1_cst main_call1_v0 ((broadcastInDim S32x16x512x512 ![] bcast_S_S32x16x512x512) : T F S_ .f32 → T F S32x16x512x512 .f32),
  binary main_v65 main_call1_v0 main_v66 (maximumf : T F S32x16x512x512 .f32 → T F S32x16x512x512 .f32 → T F S32x16x512x512 .f32),
  binary main_arg4 main_v66 main_v67 ((fun l r => Host.dotGeneral dot_S1x16_S32x16x512x512_S1x32x512x512_1_1_0_023_n_n none l r) : T F S1x16 .f32 → T F S32x16x512x512 .f32 → T F S1x32x512x512 .f32),
  unary main_v67 main_v68 ((transpose S32x1x512x512 [1, 0, 2, 3] · transposes_S1x32x512x512_S32x1x512x512_1_0_2_3) : T F S1x32x512x512 .f32 → T F S32x1x512x512 .f32),
  unary main_arg5 main_v69 (broadcastInDim S1x1x1x1 ![1] bcast_S1_S1x1x1x1_1 : T F S1 .f32 → T F S1x1x1x1 .f32),
  unary main_v69 main_v70 (broadcastInDim S32x1x512x512 ![0, 1, 2, 3] bcast_S1x1x1x1_S32x1x512x512_0_1_2_3 : T F S1x1x1x1 .f32 → T F S32x1x512x512 .f32),
  binary main_v68 main_v70 main_v71 (addf : T F S32x1x512x512 .f32 → T F S32x1x512x512 .f32 → T F S32x1x512x512 .f32),
  reshape main_v71 main_v72 (rfl : (.f32 : EltTy) = .f32) shapeCasts_S32x1x512x512_S32x1x32x16x32x16,
  unary main_v72 main_v73 ((transpose S32x1x32x32x16x16 [0, 1, 2, 4, 3, 5] · transposes_S32x1x32x16x32x16_S32x1x32x32x16x16_0_1_2_4_3_5) : T F S32x1x32x16x32x16 .f32 → T F S32x1x32x32x16x16 .f32),
  reshape main_v73 main_v74 (rfl : (.f32 : EltTy) = .f32) shapeCasts_S32x1x32x32x16x16_S32x1x1024x256,
  nullary main_cst_14 (constant S_ .f32 0x00000000#32),
  binary main_v74 main_cst_14 main_v75 ((fun x v => Host.reduceAdd x v reducesTo_S32x1x1024x256_S32x1x1024_d3 h_S_) : T F S32x1x1024x256 .f32 → T F S_ .f32 → T F S32x1x1024 .f32),
  nullary main_cst_15 (constant S_ .f32 0x43800000#32),
  unary main_cst_15 main_v76 (broadcastInDim S32x1x1024 ![] bcast_S_S32x1x1024 : T F S_ .f32 → T F S32x1x1024 .f32),
  binary main_v75 main_v76 main_v77 (Host.divf : T F S32x1x1024 .f32 → T F S32x1x1024 .f32 → T F S32x1x1024 .f32),
  reshape main_v77 main_v78 (rfl : (.f32 : EltTy) = .f32) shapeCasts_S32x1x1024_S32x1024,
  unary main_v78 main_v79 (Host.negf : T F S32x1024 .f32 → T F S32x1024 .f32),
  unary main_v79 main_v80 (Host.exp : T F S32x1024 .f32 → T F S32x1024 .f32),
  nullary main_cst_16 (constant S_ .f32 0x3F800000#32),
  unary main_cst_16 main_v81 (broadcastInDim S32x1024 ![] bcast_S_S32x1024 : T F S_ .f32 → T F S32x1024 .f32),
  binary main_v81 main_v80 main_v82 (addf : T F S32x1024 .f32 → T F S32x1024 .f32 → T F S32x1024 .f32),
  nullary main_cst_17 (constant S_ .f32 0x3F800000#32),
  unary main_cst_17 main_v83 (broadcastInDim S32x1024 ![] bcast_S_S32x1024 : T F S_ .f32 → T F S32x1024 .f32),
  binary main_v83 main_v82 main_v84 (Host.divf : T F S32x1024 .f32 → T F S32x1024 .f32 → T F S32x1024 .f32),
  binary main_v44 main_v84 main_v85 (mulf : T F S32x1024 .f32 → T F S32x1024 .f32 → T F S32x1024 .f32),
  nullary main_cst_18 (constant S_ .f32 0x7F800000#32),
  binary main_v85 main_cst_18 main_v86 ((fun x v => Host.reduce FloatOps.minimumf x v reducesTo_S32x1024_S_d0_1 h_S_) : T F S32x1024 .f32 → T F S_ .f32 → T F S_ .f32),
  unary main_v86 main_v87 (broadcastInDim S32x1024 ![] bcast_S_S32x1024 : T F S_ .f32 → T F S32x1024 .f32),
  binary main_v85 main_v87 main_v88 (subf : T F S32x1024 .f32 → T F S32x1024 .f32 → T F S32x1024 .f32),
  nullary main_cst_19 (constant S_ .f32 0xFF800000#32),
  binary main_v85 main_cst_19 main_v89 ((fun x v => Host.reduce FloatOps.maximumf x v reducesTo_S32x1024_S_d0_1 h_S_) : T F S32x1024 .f32 → T F S_ .f32 → T F S_ .f32),
  nullary main_cst_20 (constant S_ .f32 0x7F800000#32),
  binary main_v85 main_cst_20 main_v90 ((fun x v => Host.reduce FloatOps.minimumf x v reducesTo_S32x1024_S_d0_1 h_S_) : T F S32x1024 .f32 → T F S_ .f32 → T F S_ .f32),
  binary main_v89 main_v90 main_v91 (subf : T F S_ .f32 → T F S_ .f32 → T F S_ .f32),
  nullary main_cst_21 (constant S_ .f32 0x322BCC77#32),
  binary main_v91 main_cst_21 main_v92 (addf : T F S_ .f32 → T F S_ .f32 → T F S_ .f32),
  unary main_v92 main_v93 (broadcastInDim S32x1024 ![] bcast_S_S32x1024 : T F S_ .f32 → T F S32x1024 .f32),
  binary main_v88 main_v93 main_v94 (Host.divf : T F S32x1024 .f32 → T F S32x1024 .f32 → T F S32x1024 .f32),
  unary main_v94 main_v95 (Host.negf : T F S32x1024 .f32 → T F S32x1024 .f32)]

theorem r1_line : Line (r1 (F := F)) 66 149 := by
  unfold r1
  exact .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.nullary rfl rfl)<|
  .cons (.binary rfl rfl rfl (by decide) rfl (by decide))<|
  .cons (.unary rfl rfl rfl (by decide))<|
  .cons (.nullary rfl rfl)<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.binary rfl rfl rfl (by decide) rfl (by decide))<|
  .cons (.unary rfl rfl rfl (by decide))<|
  .cons (.nullary rfl rfl)<|
  .cons (.binary rfl rfl rfl (by decide) rfl (by decide))<|
  .cons (.nullary rfl rfl)<|
  .cons (.binary rfl rfl rfl (by decide) rfl (by decide))<|
  .cons (.unary rfl rfl rfl (by decide))<|
  .cons (.binary rfl rfl rfl (by decide) rfl (by decide))<|
  .cons (.nullary rfl rfl)<|
  .cons (.binary rfl rfl rfl (by decide) rfl (by decide))<|
  .cons (.nullary rfl rfl)<|
  .cons (.unary rfl rfl rfl (by decide))<|
  .cons (.unary rfl rfl rfl (by decide))<|
  .cons (.ternary rfl rfl rfl (by decide) rfl (by decide) rfl (by decide))<|
  .cons (.unary rfl rfl rfl (by decide))<|
  .cons (.unary rfl rfl rfl (by decide))<|
  .cons (.binary rfl rfl rfl (by decide) rfl (by decide))<|
  .cons (.unary rfl rfl rfl (by decide))<|
  .cons (.nullary rfl rfl)<|
  .cons (.unary rfl rfl rfl (by decide))<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.unary rfl rfl rfl (by decide))<|
  .cons (.unary rfl rfl rfl (by decide))<|
  .cons (.unary rfl rfl rfl (by decide))<|
  .cons (.binary rfl rfl rfl (by decide) rfl (by decide))<|
  .cons (.reshape rfl rfl rfl (by decide))<|
  .cons (.unary rfl rfl rfl (by decide))<|
  .cons (.reshape rfl rfl rfl (by decide))<|
  .cons (.nullary rfl rfl)<|
  .cons (.binary rfl rfl rfl (by decide) rfl (by decide))<|
  .cons (.nullary rfl rfl)<|
  .cons (.unary rfl rfl rfl (by decide))<|
  .cons (.binary rfl rfl rfl (by decide) rfl (by decide))<|
  .cons (.reshape rfl rfl rfl (by decide))<|
  .cons (.unary rfl rfl rfl (by decide))<|
  .cons (.unary rfl rfl rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.nullary rfl rfl)<|
  .cons (.binary rfl rfl rfl (by decide) rfl (by decide))<|
  .cons (.unary rfl rfl rfl (by decide))<|
  .cons (.binary rfl rfl rfl (by decide) rfl (by decide))<|
  .cons (.nullary rfl rfl)<|
  .cons (.binary rfl rfl rfl (by decide) rfl (by decide))<|
  .cons (.nullary rfl rfl)<|
  .cons (.binary rfl rfl rfl (by decide) rfl (by decide))<|
  .cons (.binary rfl rfl rfl (by decide) rfl (by decide))<|
  .cons (.nullary rfl rfl)<|
  .cons (.binary rfl rfl rfl (by decide) rfl (by decide))<|
  .cons (.unary rfl rfl rfl (by decide))<|
  .cons (.binary rfl rfl rfl (by decide) rfl (by decide))<|
  .cons (.unary rfl rfl rfl (by decide))<| .nil _

/-- Operations that write the buffers 149 to 189. -/
def r2 : List (HloOp τ sig (Elt F)) := [
  nullary main_call2_v0 ((iotaInDim S32x1024 32 1) : T F S32x1024 .i32),
  binary main_v95 main_call2_v0 main_call2_v1_0 ((fun x y => (Host.sort2 S32x1024 1 comparator_f32_i32_d1 x y).1) : T F S32x1024 .f32 → T F S32x1024 .i32 → T F S32x1024 .f32),
  binary main_v95 main_call2_v0 main_v96 ((fun x y => (Host.sort2 S32x1024 1 comparator_f32_i32_d1 x y).2) : T F S32x1024 .f32 → T F S32x1024 .i32 → T F S32x1024 .i32),
  nullary main_cst_22 (constant S_ .f32 0x00000000#32),
  unary main_cst_22 main_v97 (broadcastInDim S32x1024 ![] bcast_S_S32x1024 : T F S_ .f32 → T F S32x1024 .f32),
  nullary main_v98 (iotaInDim S32 32 0),
  unary main_v98 main_v99 (broadcastInDim S32x1 ![0] bcast_S32_S32x1_0 : T F S32 .i32 → T F S32x1 .i32),
  unary main_v96 main_v100 ((extractStridedSlice S32x768 ![0, 0] · slices_S32x1024_S32x768_0_0) : T F S32x1024 .i32 → T F S32x768 .i32),
  nullary main_c_23 (constantI S_ 32 0#32),
  unary main_c_23 main_v101 (broadcastInDim S32x1 ![] bcast_S_S32x1 : T F S_ .i32 → T F S32x1 .i32),
  binary main_v99 main_v101 main_v102 (cmpi .slt : T F S32x1 .i32 → T F S32x1 .i32 → T F S32x1 .i1),
  nullary main_c_24 (constantI S_ 32 32#32),
  unary main_c_24 main_v103 (broadcastInDim S32x1 ![] bcast_S_S32x1 : T F S_ .i32 → T F S32x1 .i32),
  binary main_v99 main_v103 main_v104 (addi : T F S32x1 .i32 → T F S32x1 .i32 → T F S32x1 .i32),
  ternary main_v102 main_v104 main_v99 main_v105 (select : T F S32x1 .i1 → T F S32x1 .i32 → T F S32x1 .i32 → T F S32x1 .i32),
  nullary main_c_25 (constantI S_ 32 0#32),
  unary main_c_25 main_v106 (broadcastInDim S32x768 ![] bcast_S_S32x768 : T F S_ .i32 → T F S32x768 .i32),
  binary main_v100 main_v106 main_v107 (cmpi .slt : T F S32x768 .i32 → T F S32x768 .i32 → T F S32x768 .i1),
  nullary main_c_26 (constantI S_ 32 1024#32),
  unary main_c_26 main_v108 (broadcastInDim S32x768 ![] bcast_S_S32x768 : T F S_ .i32 → T F S32x768 .i32),
  binary main_v100 main_v108 main_v109 (addi : T F S32x768 .i32 → T F S32x768 .i32 → T F S32x768 .i32),
  ternary main_v107 main_v109 main_v100 main_v110 (select : T F S32x768 .i1 → T F S32x768 .i32 → T F S32x768 .i32 → T F S32x768 .i32),
  unary main_v105 main_v111 (broadcastInDim S32x768 ![0, 1] bcast_S32x1_S32x768_0_1 : T F S32x1 .i32 → T F S32x768 .i32),
  unary main_v111 main_v112 (broadcastInDim S32x768x1 ![0, 1] bcast_S32x768_S32x768x1_0_1 : T F S32x768 .i32 → T F S32x768x1 .i32),
  unary main_v110 main_v113 (broadcastInDim S32x768x1 ![0, 1] bcast_S32x768_S32x768x1_0_1 : T F S32x768 .i32 → T F S32x768x1 .i32),
  binary main_v112 main_v113 main_v114 ((fun a b => concatenate S32x768x2 2 [⟨S32x768x1, a⟩, ⟨S32x768x1, b⟩] concatenates_S32x768x1_S32x768x1_S32x768x2_d2) : T F S32x768x1 .i32 → T F S32x768x1 .i32 → T F S32x768x2 .i32),
  nullary main_cst_27 (constant S_ .f32 0x3F800000#32),
  unary main_cst_27 main_v115 (broadcastInDim S32x768 ![] bcast_S_S32x768 : T F S_ .f32 → T F S32x768 .f32),
  ternary main_v97 main_v114 main_v115 main_v116 ((fun x i u => Host.scatter scatter_S32x1024_S32x768x2_S32x768_n_01_01_2 (fun _ b => b) x i u) : T F S32x1024 .f32 → T F S32x768x2 .i32 → T F S32x768 .f32 → T F S32x1024 .f32),
  nullary main_c_28 (constantI S_ 32 42#32),
  nullary main_c_29 (constantI S_ 32 32#32),
  binary main_c_28 main_c_29 main_v117 (Host.shrui : T F S_ .i32 → T F S_ .i32 → T F S_ .i32),
  unary main_v117 main_v118 (id : T F S_ .i32 → T F S_ .i32),
  unary main_v118 main_v119 (broadcastInDim S1 ![] bcast_S_S1 : T F S_ .i32 → T F S1 .i32),
  nullary main_c_30 (constantI S_ 32 4294967295#32),
  binary main_c_28 main_c_30 main_v120 (andi : T F S_ .i32 → T F S_ .i32 → T F S_ .i32),
  unary main_v120 main_v121 (id : T F S_ .i32 → T F S_ .i32),
  unary main_v121 main_v122 (broadcastInDim S1 ![] bcast_S_S1 : T F S_ .i32 → T F S1 .i32),
  binary main_v119 main_v122 main_v123 ((fun a b => concatenate S2 0 [⟨S1, a⟩, ⟨S1, b⟩] concatenates_S1_S1_S2_d0) : T F S1 .i32 → T F S1 .i32 → T F S2 .i32),
  nullary main_cst_31 (constant S_ .f32 0x00000000#32),
  nullary main_cst_32 (constant S_ .f32 0x3F800000#32)]

theorem r2_line : Line (r2 (F := F)) 149 190 := by
  unfold r2
  exact .cons (.nullary rfl rfl)<|
  .cons (.binary rfl rfl rfl (by decide) rfl (by decide))<|
  .cons (.binary rfl rfl rfl (by decide) rfl (by decide))<|
  .cons (.nullary rfl rfl)<|
  .cons (.unary rfl rfl rfl (by decide))<|
  .cons (.nullary rfl rfl)<|
  .cons (.unary rfl rfl rfl (by decide))<|
  .cons (.unary rfl rfl rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.ternary rfl rfl rfl (by decide) rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.ternary rfl rfl rfl (by decide) rfl (by decide) rfl (by decide))<|
  .cons (.unary rfl rfl rfl (by decide))<|
  .cons (.unary rfl rfl rfl (by decide))<|
  .cons (.unary rfl rfl rfl (by decide))<|
  .cons (.binary rfl rfl rfl (by decide) rfl (by decide))<|
  .cons (.nullary rfl rfl)<|
  .cons (.unary rfl rfl rfl (by decide))<|
  .cons (.ternary rfl rfl rfl (by decide) rfl (by decide) rfl (by decide))<|
  .cons (.nullary rfl rfl)<|
  .cons (.nullary rfl rfl)<|
  .cons (.binary rfl rfl rfl (by decide) rfl (by decide))<|
  .cons (.unary rfl rfl rfl (by decide))<|
  .cons (.unary rfl rfl rfl (by decide))<|
  .cons (.nullary rfl rfl)<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.nullary rfl rfl)<|
  .cons (.nullary rfl rfl)<| .nil _

/-- Operations that write the buffers 190 to 211. -/
def r3 : List (HloOp τ sig (Elt F)) := [
  unary main_cst_31 main_call3_v0 (id : T F S_ .f32 → T F S_ .f32),
  unary main_cst_32 main_call3_v1 (id : T F S_ .f32 → T F S_ .f32),
  unary main_call3_v0 main_call3_v2 ((broadcastInDim S1x1 ![] bcast_S_S1x1) : T F S_ .f32 → T F S1x1 .f32),
  unary main_call3_v1 main_call3_v3 ((broadcastInDim S1x1 ![] bcast_S_S1x1) : T F S_ .f32 → T F S1x1 .f32),
  unary main_v123 main_call3_v4 ((extractStridedSlice S1 ![0] · slices_S2_S1_0) : T F S2 .i32 → T F S1 .i32),
  reshape main_call3_v4 main_call3_v5 (rfl : (.i32 : EltTy) = .i32) shapeCasts_S1_S_,
  unary main_v123 main_call3_v6 ((extractStridedSlice S1 ![1] · slices_S2_S1_1) : T F S2 .i32 → T F S1 .i32),
  reshape main_call3_v6 main_call3_v7 (rfl : (.i32 : EltTy) = .i32) shapeCasts_S1_S_,
  nullary main_call3_v8 ((iotaInDim S32x1024 64 0) : T F S32x1024 .i64),
  nullary main_call3_v9 ((iotaInDim S32x1024 64 1) : T F S32x1024 .i64),
  nullary main_call3_c ((constantI S_ 64 1024#64) : T F S_ .i64),
  unary main_call3_c main_call3_v10 ((broadcastInDim S32x1024 ![] bcast_S_S32x1024) : T F S_ .i64 → T F S32x1024 .i64),
  binary main_call3_v10 main_call3_v8 main_call3_v11 (muli : T F S32x1024 .i64 → T F S32x1024 .i64 → T F S32x1024 .i64),
  nullary main_call3_c_0 ((constantI S_ 64 1#64) : T F S_ .i64),
  unary main_call3_c_0 main_call3_v12 ((broadcastInDim S32x1024 ![] bcast_S_S32x1024) : T F S_ .i64 → T F S32x1024 .i64),
  binary main_call3_v12 main_call3_v9 main_call3_v13 (muli : T F S32x1024 .i64 → T F S32x1024 .i64 → T F S32x1024 .i64),
  binary main_call3_v11 main_call3_v13 main_call3_v14 (addi : T F S32x1024 .i64 → T F S32x1024 .i64 → T F S32x1024 .i64),
  nullary main_call3_c_1 ((constantI S_ 64 32#64) : T F S_ .i64),
  unary main_call3_c_1 main_call3_v15 ((broadcastInDim S32x1024 ![] bcast_S_S32x1024) : T F S_ .i64 → T F S32x1024 .i64),
  binary main_call3_v14 main_call3_v15 main_call3_v16 (Host.shrui : T F S32x1024 .i64 → T F S32x1024 .i64 → T F S32x1024 .i64),
  unary main_call3_v14 main_call3_v17 ((trunci 32 · natLt_32_64) : T F S32x1024 .i64 → T F S32x1024 .i32),
  unary main_call3_v16 main_call3_v18 ((trunci 32 · natLt_32_64) : T F S32x1024 .i64 → T F S32x1024 .i32)]

theorem r3_line : Line (r3 (F := F)) 190 212 := by
  unfold r3
  exact .cons (.unary rfl rfl rfl (by decide))<|
  .cons (.unary rfl rfl rfl (by decide))<|
  .cons (.unary rfl rfl rfl (by decide))<|
  .cons (.unary rfl rfl rfl (by decide))<|
  .cons (.unary rfl rfl rfl (by decide))<|
  .cons (.reshape rfl rfl rfl (by decide))<|
  .cons (.unary rfl rfl rfl (by decide))<|
  .cons (.reshape rfl rfl rfl (by decide))<|
  .cons (.nullary rfl rfl)<|
  .cons (.nullary rfl rfl)<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.unary rfl rfl rfl (by decide))<|
  .cons (.unary rfl rfl rfl (by decide))<| .nil _

/-- Operations that write the buffers 212 to 271. -/
def r4 : List (HloOp τ sig (Elt F)) := [
  binary main_call3_v5 main_call3_v7 main_call3_call0_v0 (xori : T F S_ .i32 → T F S_ .i32 → T F S_ .i32),
  nullary main_call3_call0_c ((constantI S_ 32 466688986#32) : T F S_ .i32),
  binary main_call3_call0_v0 main_call3_call0_c main_call3_call0_v1 (xori : T F S_ .i32 → T F S_ .i32 → T F S_ .i32),
  unary main_call3_v5 main_call3_call0_v2 ((broadcastInDim S32x1024 ![] bcast_S_S32x1024) : T F S_ .i32 → T F S32x1024 .i32),
  binary main_call3_v18 main_call3_call0_v2 main_call3_call0_v3 (addi : T F S32x1024 .i32 → T F S32x1024 .i32 → T F S32x1024 .i32),
  unary main_call3_v7 main_call3_call0_v4 ((broadcastInDim S32x1024 ![] bcast_S_S32x1024) : T F S_ .i32 → T F S32x1024 .i32),
  binary main_call3_v17 main_call3_call0_v4 main_call3_call0_v5 (addi : T F S32x1024 .i32 → T F S32x1024 .i32 → T F S32x1024 .i32),
  binary main_call3_call0_v3 main_call3_call0_v5 main_call3_call0_v6 (addi : T F S32x1024 .i32 → T F S32x1024 .i32 → T F S32x1024 .i32),
  nullary main_call3_call0_c_0 ((constantI S_ 32 13#32) : T F S_ .i32),
  unary main_call3_call0_c_0 main_call3_call0_v7 ((broadcastInDim S32x1024 ![] bcast_S_S32x1024) : T F S_ .i32 → T F S32x1024 .i32),
  binary main_call3_call0_v5 main_call3_call0_v7 main_call3_call0_v8 (Host.shli : T F S32x1024 .i32 → T F S32x1024 .i32 → T F S32x1024 .i32),
  nullary main_call3_call0_c_1 ((constantI S_ 32 19#32) : T F S_ .i32),
  unary main_call3_call0_c_1 main_call3_call0_v9 ((broadcastInDim S32x1024 ![] bcast_S_S32x1024) : T F S_ .i32 → T F S32x1024 .i32),
  binary main_call3_call0_v5 main_call3_call0_v9 main_call3_call0_v10 (Host.shrui : T F S32x1024 .i32 → T F S32x1024 .i32 → T F S32x1024 .i32),
  binary main_call3_call0_v8 main_call3_call0_v10 main_call3_call0_v11 (ori : T F S32x1024 .i32 → T F S32x1024 .i32 → T F S32x1024 .i32),
  binary main_call3_call0_v6 main_call3_call0_v11 main_call3_call0_v12 (xori : T F S32x1024 .i32 → T F S32x1024 .i32 → T F S32x1024 .i32),
  binary main_call3_call0_v6 main_call3_call0_v12 main_call3_call0_v13 (addi : T F S32x1024 .i32 → T F S32x1024 .i32 → T F S32x1024 .i32),
  nullary main_call3_call0_c_2 ((constantI S_ 32 15#32) : T F S_ .i32),
  unary main_call3_call0_c_2 main_call3_call0_v14 ((broadcastInDim S32x1024 ![] bcast_S_S32x1024) : T F S_ .i32 → T F S32x1024 .i32),
  binary main_call3_call0_v12 main_call3_call0_v14 main_call3_call0_v15 (Host.shli : T F S32x1024 .i32 → T F S32x1024 .i32 → T F S32x1024 .i32),
  nullary main_call3_call0_c_3 ((constantI S_ 32 17#32) : T F S_ .i32),
  unary main_call3_call0_c_3 main_call3_call0_v16 ((broadcastInDim S32x1024 ![] bcast_S_S32x1024) : T F S_ .i32 → T F S32x1024 .i32),
  binary main_call3_call0_v12 main_call3_call0_v16 main_call3_call0_v17 (Host.shrui : T F S32x1024 .i32 → T F S32x1024 .i32 → T F S32x1024 .i32),
  binary main_call3_call0_v15 main_call3_call0_v17 main_call3_call0_v18 (ori : T F S32x1024 .i32 → T F S32x1024 .i32 → T F S32x1024 .i32),
  binary main_call3_call0_v13 main_call3_call0_v18 main_call3_call0_v19 (xori : T F S32x1024 .i32 → T F S32x1024 .i32 → T F S32x1024 .i32),
  binary main_call3_call0_v13 main_call3_call0_v19 main_call3_call0_v20 (addi : T F S32x1024 .i32 → T F S32x1024 .i32 → T F S32x1024 .i32),
  nullary main_call3_call0_c_4 ((constantI S_ 32 26#32) : T F S_ .i32),
  unary main_call3_call0_c_4 main_call3_call0_v21 ((broadcastInDim S32x1024 ![] bcast_S_S32x1024) : T F S_ .i32 → T F S32x1024 .i32),
  binary main_call3_call0_v19 main_call3_call0_v21 main_call3_call0_v22 (Host.shli : T F S32x1024 .i32 → T F S32x1024 .i32 → T F S32x1024 .i32),
  nullary main_call3_call0_c_5 ((constantI S_ 32 6#32) : T F S_ .i32),
  unary main_call3_call0_c_5 main_call3_call0_v23 ((broadcastInDim S32x1024 ![] bcast_S_S32x1024) : T F S_ .i32 → T F S32x1024 .i32),
  binary main_call3_call0_v19 main_call3_call0_v23 main_call3_call0_v24 (Host.shrui : T F S32x1024 .i32 → T F S32x1024 .i32 → T F S32x1024 .i32),
  binary main_call3_call0_v22 main_call3_call0_v24 main_call3_call0_v25 (ori : T F S32x1024 .i32 → T F S32x1024 .i32 → T F S32x1024 .i32),
  binary main_call3_call0_v20 main_call3_call0_v25 main_call3_call0_v26 (xori : T F S32x1024 .i32 → T F S32x1024 .i32 → T F S32x1024 .i32),
  binary main_call3_call0_v20 main_call3_call0_v26 main_call3_call0_v27 (addi : T F S32x1024 .i32 → T F S32x1024 .i32 → T F S32x1024 .i32),
  nullary main_call3_call0_c_6 ((constantI S_ 32 6#32) : T F S_ .i32),
  unary main_call3_call0_c_6 main_call3_call0_v28 ((broadcastInDim S32x1024 ![] bcast_S_S32x1024) : T F S_ .i32 → T F S32x1024 .i32),
  binary main_call3_call0_v26 main_call3_call0_v28 main_call3_call0_v29 (Host.shli : T F S32x1024 .i32 → T F S32x1024 .i32 → T F S32x1024 .i32),
  nullary main_call3_call0_c_7 ((constantI S_ 32 26#32) : T F S_ .i32),
  unary main_call3_call0_c_7 main_call3_call0_v30 ((broadcastInDim S32x1024 ![] bcast_S_S32x1024) : T F S_ .i32 → T F S32x1024 .i32),
  binary main_call3_call0_v26 main_call3_call0_v30 main_call3_call0_v31 (Host.shrui : T F S32x1024 .i32 → T F S32x1024 .i32 → T F S32x1024 .i32),
  binary main_call3_call0_v29 main_call3_call0_v31 main_call3_call0_v32 (ori : T F S32x1024 .i32 → T F S32x1024 .i32 → T F S32x1024 .i32),
  binary main_call3_call0_v27 main_call3_call0_v32 main_call3_call0_v33 (xori : T F S32x1024 .i32 → T F S32x1024 .i32 → T F S32x1024 .i32),
  unary main_call3_v7 main_call3_call0_v34 ((broadcastInDim S32x1024 ![] bcast_S_S32x1024) : T F S_ .i32 → T F S32x1024 .i32),
  binary main_call3_call0_v27 main_call3_call0_v34 main_call3_call0_v35 (addi : T F S32x1024 .i32 → T F S32x1024 .i32 → T F S32x1024 .i32),
  unary main_call3_call0_v1 main_call3_call0_v36 ((broadcastInDim S32x1024 ![] bcast_S_S32x1024) : T F S_ .i32 → T F S32x1024 .i32),
  binary main_call3_call0_v33 main_call3_call0_v36 main_call3_call0_v37 (addi : T F S32x1024 .i32 → T F S32x1024 .i32 → T F S32x1024 .i32),
  nullary main_call3_call0_c_8 ((constantI S_ 32 1#32) : T F S_ .i32),
  unary main_call3_call0_c_8 main_call3_call0_v38 ((broadcastInDim S32x1024 ![] bcast_S_S32x1024) : T F S_ .i32 → T F S32x1024 .i32),
  binary main_call3_call0_v37 main_call3_call0_v38 main_call3_call0_v39 (addi : T F S32x1024 .i32 → T F S32x1024 .i32 → T F S32x1024 .i32),
  binary main_call3_call0_v35 main_call3_call0_v39 main_call3_call0_v40 (addi : T F S32x1024 .i32 → T F S32x1024 .i32 → T F S32x1024 .i32),
  nullary main_call3_call0_c_9 ((constantI S_ 32 17#32) : T F S_ .i32),
  unary main_call3_call0_c_9 main_call3_call0_v41 ((broadcastInDim S32x1024 ![] bcast_S_S32x1024) : T F S_ .i32 → T F S32x1024 .i32),
  binary main_call3_call0_v39 main_call3_call0_v41 main_call3_call0_v42 (Host.shli : T F S32x1024 .i32 → T F S32x1024 .i32 → T F S32x1024 .i32),
  nullary main_call3_call0_c_10 ((constantI S_ 32 15#32) : T F S_ .i32),
  unary main_call3_call0_c_10 main_call3_call0_v43 ((broadcastInDim S32x1024 ![] bcast_S_S32x1024) : T F S_ .i32 → T F S32x1024 .i32),
  binary main_call3_call0_v39 main_call3_call0_v43 main_call3_call0_v44 (Host.shrui : T F S32x1024 .i32 → T F S32x1024 .i32 → T F S32x1024 .i32),
  binary main_call3_call0_v42 main_call3_call0_v44 main_call3_call0_v45 (ori : T F S32x1024 .i32 → T F S32x1024 .i32 → T F S32x1024 .i32),
  binary main_call3_call0_v40 main_call3_call0_v45 main_call3_call0_v46 (xori : T F S32x1024 .i32 → T F S32x1024 .i32 → T F S32x1024 .i32),
  binary main_call3_call0_v40 main_call3_call0_v46 main_call3_call0_v47 (addi : T F S32x1024 .i32 → T F S32x1024 .i32 → T F S32x1024 .i32)]

theorem r4_line : Line (r4 (F := F)) 212 272 := by
  unfold r4
  exact .cons (.binary rfl rfl rfl (by decide) rfl (by decide))<|
  .cons (.nullary rfl rfl)<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<| .nil _

/-- Operations that write the buffers 272 to 331. -/
def r5 : List (HloOp τ sig (Elt F)) := [
  nullary main_call3_call0_c_11 ((constantI S_ 32 29#32) : T F S_ .i32),
  unary main_call3_call0_c_11 main_call3_call0_v48 ((broadcastInDim S32x1024 ![] bcast_S_S32x1024) : T F S_ .i32 → T F S32x1024 .i32),
  binary main_call3_call0_v46 main_call3_call0_v48 main_call3_call0_v49 (Host.shli : T F S32x1024 .i32 → T F S32x1024 .i32 → T F S32x1024 .i32),
  nullary main_call3_call0_c_12 ((constantI S_ 32 3#32) : T F S_ .i32),
  unary main_call3_call0_c_12 main_call3_call0_v50 ((broadcastInDim S32x1024 ![] bcast_S_S32x1024) : T F S_ .i32 → T F S32x1024 .i32),
  binary main_call3_call0_v46 main_call3_call0_v50 main_call3_call0_v51 (Host.shrui : T F S32x1024 .i32 → T F S32x1024 .i32 → T F S32x1024 .i32),
  binary main_call3_call0_v49 main_call3_call0_v51 main_call3_call0_v52 (ori : T F S32x1024 .i32 → T F S32x1024 .i32 → T F S32x1024 .i32),
  binary main_call3_call0_v47 main_call3_call0_v52 main_call3_call0_v53 (xori : T F S32x1024 .i32 → T F S32x1024 .i32 → T F S32x1024 .i32),
  binary main_call3_call0_v47 main_call3_call0_v53 main_call3_call0_v54 (addi : T F S32x1024 .i32 → T F S32x1024 .i32 → T F S32x1024 .i32),
  nullary main_call3_call0_c_13 ((constantI S_ 32 16#32) : T F S_ .i32),
  unary main_call3_call0_c_13 main_call3_call0_v55 ((broadcastInDim S32x1024 ![] bcast_S_S32x1024) : T F S_ .i32 → T F S32x1024 .i32),
  binary main_call3_call0_v53 main_call3_call0_v55 main_call3_call0_v56 (Host.shli : T F S32x1024 .i32 → T F S32x1024 .i32 → T F S32x1024 .i32),
  nullary main_call3_call0_c_14 ((constantI S_ 32 16#32) : T F S_ .i32),
  unary main_call3_call0_c_14 main_call3_call0_v57 ((broadcastInDim S32x1024 ![] bcast_S_S32x1024) : T F S_ .i32 → T F S32x1024 .i32),
  binary main_call3_call0_v53 main_call3_call0_v57 main_call3_call0_v58 (Host.shrui : T F S32x1024 .i32 → T F S32x1024 .i32 → T F S32x1024 .i32),
  binary main_call3_call0_v56 main_call3_call0_v58 main_call3_call0_v59 (ori : T F S32x1024 .i32 → T F S32x1024 .i32 → T F S32x1024 .i32),
  binary main_call3_call0_v54 main_call3_call0_v59 main_call3_call0_v60 (xori : T F S32x1024 .i32 → T F S32x1024 .i32 → T F S32x1024 .i32),
  binary main_call3_call0_v54 main_call3_call0_v60 main_call3_call0_v61 (addi : T F S32x1024 .i32 → T F S32x1024 .i32 → T F S32x1024 .i32),
  nullary main_call3_call0_c_15 ((constantI S_ 32 24#32) : T F S_ .i32),
  unary main_call3_call0_c_15 main_call3_call0_v62 ((broadcastInDim S32x1024 ![] bcast_S_S32x1024) : T F S_ .i32 → T F S32x1024 .i32),
  binary main_call3_call0_v60 main_call3_call0_v62 main_call3_call0_v63 (Host.shli : T F S32x1024 .i32 → T F S32x1024 .i32 → T F S32x1024 .i32),
  nullary main_call3_call0_c_16 ((constantI S_ 32 8#32) : T F S_ .i32),
  unary main_call3_call0_c_16 main_call3_call0_v64 ((broadcastInDim S32x1024 ![] bcast_S_S32x1024) : T F S_ .i32 → T F S32x1024 .i32),
  binary main_call3_call0_v60 main_call3_call0_v64 main_call3_call0_v65 (Host.shrui : T F S32x1024 .i32 → T F S32x1024 .i32 → T F S32x1024 .i32),
  binary main_call3_call0_v63 main_call3_call0_v65 main_call3_call0_v66 (ori : T F S32x1024 .i32 → T F S32x1024 .i32 → T F S32x1024 .i32),
  binary main_call3_call0_v61 main_call3_call0_v66 main_call3_call0_v67 (xori : T F S32x1024 .i32 → T F S32x1024 .i32 → T F S32x1024 .i32),
  unary main_call3_call0_v1 main_call3_call0_v68 ((broadcastInDim S32x1024 ![] bcast_S_S32x1024) : T F S_ .i32 → T F S32x1024 .i32),
  binary main_call3_call0_v61 main_call3_call0_v68 main_call3_call0_v69 (addi : T F S32x1024 .i32 → T F S32x1024 .i32 → T F S32x1024 .i32),
  unary main_call3_v5 main_call3_call0_v70 ((broadcastInDim S32x1024 ![] bcast_S_S32x1024) : T F S_ .i32 → T F S32x1024 .i32),
  binary main_call3_call0_v67 main_call3_call0_v70 main_call3_call0_v71 (addi : T F S32x1024 .i32 → T F S32x1024 .i32 → T F S32x1024 .i32),
  nullary main_call3_call0_c_17 ((constantI S_ 32 2#32) : T F S_ .i32),
  unary main_call3_call0_c_17 main_call3_call0_v72 ((broadcastInDim S32x1024 ![] bcast_S_S32x1024) : T F S_ .i32 → T F S32x1024 .i32),
  binary main_call3_call0_v71 main_call3_call0_v72 main_call3_call0_v73 (addi : T F S32x1024 .i32 → T F S32x1024 .i32 → T F S32x1024 .i32),
  binary main_call3_call0_v69 main_call3_call0_v73 main_call3_call0_v74 (addi : T F S32x1024 .i32 → T F S32x1024 .i32 → T F S32x1024 .i32),
  nullary main_call3_call0_c_18 ((constantI S_ 32 13#32) : T F S_ .i32),
  unary main_call3_call0_c_18 main_call3_call0_v75 ((broadcastInDim S32x1024 ![] bcast_S_S32x1024) : T F S_ .i32 → T F S32x1024 .i32),
  binary main_call3_call0_v73 main_call3_call0_v75 main_call3_call0_v76 (Host.shli : T F S32x1024 .i32 → T F S32x1024 .i32 → T F S32x1024 .i32),
  nullary main_call3_call0_c_19 ((constantI S_ 32 19#32) : T F S_ .i32),
  unary main_call3_call0_c_19 main_call3_call0_v77 ((broadcastInDim S32x1024 ![] bcast_S_S32x1024) : T F S_ .i32 → T F S32x1024 .i32),
  binary main_call3_call0_v73 main_call3_call0_v77 main_call3_call0_v78 (Host.shrui : T F S32x1024 .i32 → T F S32x1024 .i32 → T F S32x1024 .i32),
  binary main_call3_call0_v76 main_call3_call0_v78 main_call3_call0_v79 (ori : T F S32x1024 .i32 → T F S32x1024 .i32 → T F S32x1024 .i32),
  binary main_call3_call0_v74 main_call3_call0_v79 main_call3_call0_v80 (xori : T F S32x1024 .i32 → T F S32x1024 .i32 → T F S32x1024 .i32),
  binary main_call3_call0_v74 main_call3_call0_v80 main_call3_call0_v81 (addi : T F S32x1024 .i32 → T F S32x1024 .i32 → T F S32x1024 .i32),
  nullary main_call3_call0_c_20 ((constantI S_ 32 15#32) : T F S_ .i32),
  unary main_call3_call0_c_20 main_call3_call0_v82 ((broadcastInDim S32x1024 ![] bcast_S_S32x1024) : T F S_ .i32 → T F S32x1024 .i32),
  binary main_call3_call0_v80 main_call3_call0_v82 main_call3_call0_v83 (Host.shli : T F S32x1024 .i32 → T F S32x1024 .i32 → T F S32x1024 .i32),
  nullary main_call3_call0_c_21 ((constantI S_ 32 17#32) : T F S_ .i32),
  unary main_call3_call0_c_21 main_call3_call0_v84 ((broadcastInDim S32x1024 ![] bcast_S_S32x1024) : T F S_ .i32 → T F S32x1024 .i32),
  binary main_call3_call0_v80 main_call3_call0_v84 main_call3_call0_v85 (Host.shrui : T F S32x1024 .i32 → T F S32x1024 .i32 → T F S32x1024 .i32),
  binary main_call3_call0_v83 main_call3_call0_v85 main_call3_call0_v86 (ori : T F S32x1024 .i32 → T F S32x1024 .i32 → T F S32x1024 .i32),
  binary main_call3_call0_v81 main_call3_call0_v86 main_call3_call0_v87 (xori : T F S32x1024 .i32 → T F S32x1024 .i32 → T F S32x1024 .i32),
  binary main_call3_call0_v81 main_call3_call0_v87 main_call3_call0_v88 (addi : T F S32x1024 .i32 → T F S32x1024 .i32 → T F S32x1024 .i32),
  nullary main_call3_call0_c_22 ((constantI S_ 32 26#32) : T F S_ .i32),
  unary main_call3_call0_c_22 main_call3_call0_v89 ((broadcastInDim S32x1024 ![] bcast_S_S32x1024) : T F S_ .i32 → T F S32x1024 .i32),
  binary main_call3_call0_v87 main_call3_call0_v89 main_call3_call0_v90 (Host.shli : T F S32x1024 .i32 → T F S32x1024 .i32 → T F S32x1024 .i32),
  nullary main_call3_call0_c_23 ((constantI S_ 32 6#32) : T F S_ .i32),
  unary main_call3_call0_c_23 main_call3_call0_v91 ((broadcastInDim S32x1024 ![] bcast_S_S32x1024) : T F S_ .i32 → T F S32x1024 .i32),
  binary main_call3_call0_v87 main_call3_call0_v91 main_call3_call0_v92 (Host.shrui : T F S32x1024 .i32 → T F S32x1024 .i32 → T F S32x1024 .i32),
  binary main_call3_call0_v90 main_call3_call0_v92 main_call3_call0_v93 (ori : T F S32x1024 .i32 → T F S32x1024 .i32 → T F S32x1024 .i32),
  binary main_call3_call0_v88 main_call3_call0_v93 main_call3_call0_v94 (xori : T F S32x1024 .i32 → T F S32x1024 .i32 → T F S32x1024 .i32)]

theorem r5_line : Line (r5 (F := F)) 272 332 := by
  unfold r5
  exact .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<| .nil _

/-- Operations that write the buffers 332 to 391. -/
def r6 : List (HloOp τ sig (Elt F)) := [
  binary main_call3_call0_v88 main_call3_call0_v94 main_call3_call0_v95 (addi : T F S32x1024 .i32 → T F S32x1024 .i32 → T F S32x1024 .i32),
  nullary main_call3_call0_c_24 ((constantI S_ 32 6#32) : T F S_ .i32),
  unary main_call3_call0_c_24 main_call3_call0_v96 ((broadcastInDim S32x1024 ![] bcast_S_S32x1024) : T F S_ .i32 → T F S32x1024 .i32),
  binary main_call3_call0_v94 main_call3_call0_v96 main_call3_call0_v97 (Host.shli : T F S32x1024 .i32 → T F S32x1024 .i32 → T F S32x1024 .i32),
  nullary main_call3_call0_c_25 ((constantI S_ 32 26#32) : T F S_ .i32),
  unary main_call3_call0_c_25 main_call3_call0_v98 ((broadcastInDim S32x1024 ![] bcast_S_S32x1024) : T F S_ .i32 → T F S32x1024 .i32),
  binary main_call3_call0_v94 main_call3_call0_v98 main_call3_call0_v99 (Host.shrui : T F S32x1024 .i32 → T F S32x1024 .i32 → T F S32x1024 .i32),
  binary main_call3_call0_v97 main_call3_call0_v99 main_call3_call0_v100 (ori : T F S32x1024 .i32 → T F S32x1024 .i32 → T F S32x1024 .i32),
  binary main_call3_call0_v95 main_call3_call0_v100 main_call3_call0_v101 (xori : T F S32x1024 .i32 → T F S32x1024 .i32 → T F S32x1024 .i32),
  unary main_call3_v5 main_call3_call0_v102 ((broadcastInDim S32x1024 ![] bcast_S_S32x1024) : T F S_ .i32 → T F S32x1024 .i32),
  binary main_call3_call0_v95 main_call3_call0_v102 main_call3_call0_v103 (addi : T F S32x1024 .i32 → T F S32x1024 .i32 → T F S32x1024 .i32),
  unary main_call3_v7 main_call3_call0_v104 ((broadcastInDim S32x1024 ![] bcast_S_S32x1024) : T F S_ .i32 → T F S32x1024 .i32),
  binary main_call3_call0_v101 main_call3_call0_v104 main_call3_call0_v105 (addi : T F S32x1024 .i32 → T F S32x1024 .i32 → T F S32x1024 .i32),
  nullary main_call3_call0_c_26 ((constantI S_ 32 3#32) : T F S_ .i32),
  unary main_call3_call0_c_26 main_call3_call0_v106 ((broadcastInDim S32x1024 ![] bcast_S_S32x1024) : T F S_ .i32 → T F S32x1024 .i32),
  binary main_call3_call0_v105 main_call3_call0_v106 main_call3_call0_v107 (addi : T F S32x1024 .i32 → T F S32x1024 .i32 → T F S32x1024 .i32),
  binary main_call3_call0_v103 main_call3_call0_v107 main_call3_call0_v108 (addi : T F S32x1024 .i32 → T F S32x1024 .i32 → T F S32x1024 .i32),
  nullary main_call3_call0_c_27 ((constantI S_ 32 17#32) : T F S_ .i32),
  unary main_call3_call0_c_27 main_call3_call0_v109 ((broadcastInDim S32x1024 ![] bcast_S_S32x1024) : T F S_ .i32 → T F S32x1024 .i32),
  binary main_call3_call0_v107 main_call3_call0_v109 main_call3_call0_v110 (Host.shli : T F S32x1024 .i32 → T F S32x1024 .i32 → T F S32x1024 .i32),
  nullary main_call3_call0_c_28 ((constantI S_ 32 15#32) : T F S_ .i32),
  unary main_call3_call0_c_28 main_call3_call0_v111 ((broadcastInDim S32x1024 ![] bcast_S_S32x1024) : T F S_ .i32 → T F S32x1024 .i32),
  binary main_call3_call0_v107 main_call3_call0_v111 main_call3_call0_v112 (Host.shrui : T F S32x1024 .i32 → T F S32x1024 .i32 → T F S32x1024 .i32),
  binary main_call3_call0_v110 main_call3_call0_v112 main_call3_call0_v113 (ori : T F S32x1024 .i32 → T F S32x1024 .i32 → T F S32x1024 .i32),
  binary main_call3_call0_v108 main_call3_call0_v113 main_call3_call0_v114 (xori : T F S32x1024 .i32 → T F S32x1024 .i32 → T F S32x1024 .i32),
  binary main_call3_call0_v108 main_call3_call0_v114 main_call3_call0_v115 (addi : T F S32x1024 .i32 → T F S32x1024 .i32 → T F S32x1024 .i32),
  nullary main_call3_call0_c_29 ((constantI S_ 32 29#32) : T F S_ .i32),
  unary main_call3_call0_c_29 main_call3_call0_v116 ((broadcastInDim S32x1024 ![] bcast_S_S32x1024) : T F S_ .i32 → T F S32x1024 .i32),
  binary main_call3_call0_v114 main_call3_call0_v116 main_call3_call0_v117 (Host.shli : T F S32x1024 .i32 → T F S32x1024 .i32 → T F S32x1024 .i32),
  nullary main_call3_call0_c_30 ((constantI S_ 32 3#32) : T F S_ .i32),
  unary main_call3_call0_c_30 main_call3_call0_v118 ((broadcastInDim S32x1024 ![] bcast_S_S32x1024) : T F S_ .i32 → T F S32x1024 .i32),
  binary main_call3_call0_v114 main_call3_call0_v118 main_call3_call0_v119 (Host.shrui : T F S32x1024 .i32 → T F S32x1024 .i32 → T F S32x1024 .i32),
  binary main_call3_call0_v117 main_call3_call0_v119 main_call3_call0_v120 (ori : T F S32x1024 .i32 → T F S32x1024 .i32 → T F S32x1024 .i32),
  binary main_call3_call0_v115 main_call3_call0_v120 main_call3_call0_v121 (xori : T F S32x1024 .i32 → T F S32x1024 .i32 → T F S32x1024 .i32),
  binary main_call3_call0_v115 main_call3_call0_v121 main_call3_call0_v122 (addi : T F S32x1024 .i32 → T F S32x1024 .i32 → T F S32x1024 .i32),
  nullary main_call3_call0_c_31 ((constantI S_ 32 16#32) : T F S_ .i32),
  unary main_call3_call0_c_31 main_call3_call0_v123 ((broadcastInDim S32x1024 ![] bcast_S_S32x1024) : T F S_ .i32 → T F S32x1024 .i32),
  binary main_call3_call0_v121 main_call3_call0_v123 main_call3_call0_v124 (Host.shli : T F S32x1024 .i32 → T F S32x1024 .i32 → T F S32x1024 .i32),
  nullary main_call3_call0_c_32 ((constantI S_ 32 16#32) : T F S_ .i32),
  unary main_call3_call0_c_32 main_call3_call0_v125 ((broadcastInDim S32x1024 ![] bcast_S_S32x1024) : T F S_ .i32 → T F S32x1024 .i32),
  binary main_call3_call0_v121 main_call3_call0_v125 main_call3_call0_v126 (Host.shrui : T F S32x1024 .i32 → T F S32x1024 .i32 → T F S32x1024 .i32),
  binary main_call3_call0_v124 main_call3_call0_v126 main_call3_call0_v127 (ori : T F S32x1024 .i32 → T F S32x1024 .i32 → T F S32x1024 .i32),
  binary main_call3_call0_v122 main_call3_call0_v127 main_call3_call0_v128 (xori : T F S32x1024 .i32 → T F S32x1024 .i32 → T F S32x1024 .i32),
  binary main_call3_call0_v122 main_call3_call0_v128 main_call3_call0_v129 (addi : T F S32x1024 .i32 → T F S32x1024 .i32 → T F S32x1024 .i32),
  nullary main_call3_call0_c_33 ((constantI S_ 32 24#32) : T F S_ .i32),
  unary main_call3_call0_c_33 main_call3_call0_v130 ((broadcastInDim S32x1024 ![] bcast_S_S32x1024) : T F S_ .i32 → T F S32x1024 .i32),
  binary main_call3_call0_v128 main_call3_call0_v130 main_call3_call0_v131 (Host.shli : T F S32x1024 .i32 → T F S32x1024 .i32 → T F S32x1024 .i32),
  nullary main_call3_call0_c_34 ((constantI S_ 32 8#32) : T F S_ .i32),
  unary main_call3_call0_c_34 main_call3_call0_v132 ((broadcastInDim S32x1024 ![] bcast_S_S32x1024) : T F S_ .i32 → T F S32x1024 .i32),
  binary main_call3_call0_v128 main_call3_call0_v132 main_call3_call0_v133 (Host.shrui : T F S32x1024 .i32 → T F S32x1024 .i32 → T F S32x1024 .i32),
  binary main_call3_call0_v131 main_call3_call0_v133 main_call3_call0_v134 (ori : T F S32x1024 .i32 → T F S32x1024 .i32 → T F S32x1024 .i32),
  binary main_call3_call0_v129 main_call3_call0_v134 main_call3_call0_v135 (xori : T F S32x1024 .i32 → T F S32x1024 .i32 → T F S32x1024 .i32),
  unary main_call3_v7 main_call3_call0_v136 ((broadcastInDim S32x1024 ![] bcast_S_S32x1024) : T F S_ .i32 → T F S32x1024 .i32),
  binary main_call3_call0_v129 main_call3_call0_v136 main_call3_call0_v137 (addi : T F S32x1024 .i32 → T F S32x1024 .i32 → T F S32x1024 .i32),
  unary main_call3_call0_v1 main_call3_call0_v138 ((broadcastInDim S32x1024 ![] bcast_S_S32x1024) : T F S_ .i32 → T F S32x1024 .i32),
  binary main_call3_call0_v135 main_call3_call0_v138 main_call3_call0_v139 (addi : T F S32x1024 .i32 → T F S32x1024 .i32 → T F S32x1024 .i32),
  nullary main_call3_call0_c_35 ((constantI S_ 32 4#32) : T F S_ .i32),
  unary main_call3_call0_c_35 main_call3_call0_v140 ((broadcastInDim S32x1024 ![] bcast_S_S32x1024) : T F S_ .i32 → T F S32x1024 .i32),
  binary main_call3_call0_v139 main_call3_call0_v140 main_call3_call0_v141 (addi : T F S32x1024 .i32 → T F S32x1024 .i32 → T F S32x1024 .i32),
  binary main_call3_call0_v137 main_call3_call0_v141 main_call3_call0_v142 (addi : T F S32x1024 .i32 → T F S32x1024 .i32 → T F S32x1024 .i32)]

theorem r6_line : Line (r6 (F := F)) 332 392 := by
  unfold r6
  exact .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<| .nil _

/-- Operations that write the buffers 392 to 433. -/
def r7 : List (HloOp τ sig (Elt F)) := [
  nullary main_call3_call0_c_36 ((constantI S_ 32 13#32) : T F S_ .i32),
  unary main_call3_call0_c_36 main_call3_call0_v143 ((broadcastInDim S32x1024 ![] bcast_S_S32x1024) : T F S_ .i32 → T F S32x1024 .i32),
  binary main_call3_call0_v141 main_call3_call0_v143 main_call3_call0_v144 (Host.shli : T F S32x1024 .i32 → T F S32x1024 .i32 → T F S32x1024 .i32),
  nullary main_call3_call0_c_37 ((constantI S_ 32 19#32) : T F S_ .i32),
  unary main_call3_call0_c_37 main_call3_call0_v145 ((broadcastInDim S32x1024 ![] bcast_S_S32x1024) : T F S_ .i32 → T F S32x1024 .i32),
  binary main_call3_call0_v141 main_call3_call0_v145 main_call3_call0_v146 (Host.shrui : T F S32x1024 .i32 → T F S32x1024 .i32 → T F S32x1024 .i32),
  binary main_call3_call0_v144 main_call3_call0_v146 main_call3_call0_v147 (ori : T F S32x1024 .i32 → T F S32x1024 .i32 → T F S32x1024 .i32),
  binary main_call3_call0_v142 main_call3_call0_v147 main_call3_call0_v148 (xori : T F S32x1024 .i32 → T F S32x1024 .i32 → T F S32x1024 .i32),
  binary main_call3_call0_v142 main_call3_call0_v148 main_call3_call0_v149 (addi : T F S32x1024 .i32 → T F S32x1024 .i32 → T F S32x1024 .i32),
  nullary main_call3_call0_c_38 ((constantI S_ 32 15#32) : T F S_ .i32),
  unary main_call3_call0_c_38 main_call3_call0_v150 ((broadcastInDim S32x1024 ![] bcast_S_S32x1024) : T F S_ .i32 → T F S32x1024 .i32),
  binary main_call3_call0_v148 main_call3_call0_v150 main_call3_call0_v151 (Host.shli : T F S32x1024 .i32 → T F S32x1024 .i32 → T F S32x1024 .i32),
  nullary main_call3_call0_c_39 ((constantI S_ 32 17#32) : T F S_ .i32),
  unary main_call3_call0_c_39 main_call3_call0_v152 ((broadcastInDim S32x1024 ![] bcast_S_S32x1024) : T F S_ .i32 → T F S32x1024 .i32),
  binary main_call3_call0_v148 main_call3_call0_v152 main_call3_call0_v153 (Host.shrui : T F S32x1024 .i32 → T F S32x1024 .i32 → T F S32x1024 .i32),
  binary main_call3_call0_v151 main_call3_call0_v153 main_call3_call0_v154 (ori : T F S32x1024 .i32 → T F S32x1024 .i32 → T F S32x1024 .i32),
  binary main_call3_call0_v149 main_call3_call0_v154 main_call3_call0_v155 (xori : T F S32x1024 .i32 → T F S32x1024 .i32 → T F S32x1024 .i32),
  binary main_call3_call0_v149 main_call3_call0_v155 main_call3_call0_v156 (addi : T F S32x1024 .i32 → T F S32x1024 .i32 → T F S32x1024 .i32),
  nullary main_call3_call0_c_40 ((constantI S_ 32 26#32) : T F S_ .i32),
  unary main_call3_call0_c_40 main_call3_call0_v157 ((broadcastInDim S32x1024 ![] bcast_S_S32x1024) : T F S_ .i32 → T F S32x1024 .i32),
  binary main_call3_call0_v155 main_call3_call0_v157 main_call3_call0_v158 (Host.shli : T F S32x1024 .i32 → T F S32x1024 .i32 → T F S32x1024 .i32),
  nullary main_call3_call0_c_41 ((constantI S_ 32 6#32) : T F S_ .i32),
  unary main_call3_call0_c_41 main_call3_call0_v159 ((broadcastInDim S32x1024 ![] bcast_S_S32x1024) : T F S_ .i32 → T F S32x1024 .i32),
  binary main_call3_call0_v155 main_call3_call0_v159 main_call3_call0_v160 (Host.shrui : T F S32x1024 .i32 → T F S32x1024 .i32 → T F S32x1024 .i32),
  binary main_call3_call0_v158 main_call3_call0_v160 main_call3_call0_v161 (ori : T F S32x1024 .i32 → T F S32x1024 .i32 → T F S32x1024 .i32),
  binary main_call3_call0_v156 main_call3_call0_v161 main_call3_call0_v162 (xori : T F S32x1024 .i32 → T F S32x1024 .i32 → T F S32x1024 .i32),
  binary main_call3_call0_v156 main_call3_call0_v162 main_call3_call0_v163 (addi : T F S32x1024 .i32 → T F S32x1024 .i32 → T F S32x1024 .i32),
  nullary main_call3_call0_c_42 ((constantI S_ 32 6#32) : T F S_ .i32),
  unary main_call3_call0_c_42 main_call3_call0_v164 ((broadcastInDim S32x1024 ![] bcast_S_S32x1024) : T F S_ .i32 → T F S32x1024 .i32),
  binary main_call3_call0_v162 main_call3_call0_v164 main_call3_call0_v165 (Host.shli : T F S32x1024 .i32 → T F S32x1024 .i32 → T F S32x1024 .i32),
  nullary main_call3_call0_c_43 ((constantI S_ 32 26#32) : T F S_ .i32),
  unary main_call3_call0_c_43 main_call3_call0_v166 ((broadcastInDim S32x1024 ![] bcast_S_S32x1024) : T F S_ .i32 → T F S32x1024 .i32),
  binary main_call3_call0_v162 main_call3_call0_v166 main_call3_call0_v167 (Host.shrui : T F S32x1024 .i32 → T F S32x1024 .i32 → T F S32x1024 .i32),
  binary main_call3_call0_v165 main_call3_call0_v167 main_call3_call0_v168 (ori : T F S32x1024 .i32 → T F S32x1024 .i32 → T F S32x1024 .i32),
  binary main_call3_call0_v163 main_call3_call0_v168 main_call3_call0_v169 (xori : T F S32x1024 .i32 → T F S32x1024 .i32 → T F S32x1024 .i32),
  unary main_call3_call0_v1 main_call3_call0_v170 ((broadcastInDim S32x1024 ![] bcast_S_S32x1024) : T F S_ .i32 → T F S32x1024 .i32),
  binary main_call3_call0_v163 main_call3_call0_v170 main_call3_v19_0 (addi : T F S32x1024 .i32 → T F S32x1024 .i32 → T F S32x1024 .i32),
  unary main_call3_v5 main_call3_call0_v172 ((broadcastInDim S32x1024 ![] bcast_S_S32x1024) : T F S_ .i32 → T F S32x1024 .i32),
  binary main_call3_call0_v169 main_call3_call0_v172 main_call3_call0_v173 (addi : T F S32x1024 .i32 → T F S32x1024 .i32 → T F S32x1024 .i32),
  nullary main_call3_call0_c_44 ((constantI S_ 32 5#32) : T F S_ .i32),
  unary main_call3_call0_c_44 main_call3_call0_v174 ((broadcastInDim S32x1024 ![] bcast_S_S32x1024) : T F S_ .i32 → T F S32x1024 .i32),
  binary main_call3_call0_v173 main_call3_call0_v174 main_call3_v19_1 (addi : T F S32x1024 .i32 → T F S32x1024 .i32 → T F S32x1024 .i32)]

theorem r7_line : Line (r7 (F := F)) 392 434 := by
  unfold r7
  exact .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<| .nil _

/-- Operations that write the buffers 434 to 451. -/
def r8 : List (HloOp τ sig (Elt F)) := [
  binary main_call3_v19_0 main_call3_v19_1 main_call3_v20 (xori : T F S32x1024 .i32 → T F S32x1024 .i32 → T F S32x1024 .i32),
  nullary main_call3_c_2 ((constantI S_ 32 9#32) : T F S_ .i32),
  unary main_call3_c_2 main_call3_v21 ((broadcastInDim S32x1024 ![] bcast_S_S32x1024) : T F S_ .i32 → T F S32x1024 .i32),
  binary main_call3_v20 main_call3_v21 main_call3_v22 (Host.shrui : T F S32x1024 .i32 → T F S32x1024 .i32 → T F S32x1024 .i32),
  nullary main_call3_c_3 ((constantI S_ 32 1065353216#32) : T F S_ .i32),
  unary main_call3_c_3 main_call3_v23 ((broadcastInDim S32x1024 ![] bcast_S_S32x1024) : T F S_ .i32 → T F S32x1024 .i32),
  binary main_call3_v22 main_call3_v23 main_call3_v24 (ori : T F S32x1024 .i32 → T F S32x1024 .i32 → T F S32x1024 .i32),
  unary main_call3_v24 main_call3_v25 ((bitcastToFloat .f32) : T F S32x1024 .i32 → T F S32x1024 .f32),
  nullary main_call3_cst ((constant S_ .f32 0x3F800000#32) : T F S_ .f32),
  unary main_call3_cst main_call3_v26 ((broadcastInDim S32x1024 ![] bcast_S_S32x1024) : T F S_ .f32 → T F S32x1024 .f32),
  binary main_call3_v25 main_call3_v26 main_call3_v27 (subf : T F S32x1024 .f32 → T F S32x1024 .f32 → T F S32x1024 .f32),
  binary main_call3_v3 main_call3_v2 main_call3_v28 (subf : T F S1x1 .f32 → T F S1x1 .f32 → T F S1x1 .f32),
  unary main_call3_v28 main_call3_v29 ((broadcastInDim S32x1024 ![0, 1] bcast_S1x1_S32x1024_0_1) : T F S1x1 .f32 → T F S32x1024 .f32),
  binary main_call3_v27 main_call3_v29 main_call3_v30 (mulf : T F S32x1024 .f32 → T F S32x1024 .f32 → T F S32x1024 .f32),
  unary main_call3_v2 main_call3_v31 ((broadcastInDim S32x1024 ![0, 1] bcast_S1x1_S32x1024_0_1) : T F S1x1 .f32 → T F S32x1024 .f32),
  binary main_call3_v30 main_call3_v31 main_call3_v32 (addf : T F S32x1024 .f32 → T F S32x1024 .f32 → T F S32x1024 .f32),
  unary main_call3_v2 main_call3_v33 ((broadcastInDim S32x1024 ![0, 1] bcast_S1x1_S32x1024_0_1) : T F S1x1 .f32 → T F S32x1024 .f32),
  binary main_call3_v33 main_call3_v32 main_v124 (maximumf : T F S32x1024 .f32 → T F S32x1024 .f32 → T F S32x1024 .f32)]

theorem r8_line : Line (r8 (F := F)) 434 452 := by
  unfold r8
  exact .cons (.binary rfl rfl rfl (by decide) rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.unary rfl rfl rfl (by decide))<|
  .cons (.nullary rfl rfl)<|
  .cons (.unary rfl rfl rfl (by decide))<|
  .cons (.binary rfl rfl rfl (by decide) rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<|
  .cons (.unary rfl rfl rfl (by decide))<|
  .cons (.binary rfl rfl rfl (by decide) rfl (by decide))<| .nil _

/-- Operations that write the buffers 452 to 480. -/
def r9 : List (HloOp τ sig (Elt F)) := [
  nullary main_call4_v0 ((iotaInDim S32x1024 32 1) : T F S32x1024 .i32),
  binary main_v124 main_call4_v0 main_call4_v1_0 ((fun x y => (Host.sort2 S32x1024 1 comparator_f32_i32_d1 x y).1) : T F S32x1024 .f32 → T F S32x1024 .i32 → T F S32x1024 .f32),
  binary main_v124 main_call4_v0 main_v125 ((fun x y => (Host.sort2 S32x1024 1 comparator_f32_i32_d1 x y).2) : T F S32x1024 .f32 → T F S32x1024 .i32 → T F S32x1024 .i32),
  nullary main_call5_v0 ((iotaInDim S32x1024 32 1) : T F S32x1024 .i32),
  binary main_v125 main_call5_v0 main_call5_v1_0 ((fun x y => (Host.sort2 S32x1024 1 comparator_i32_i32_d1 x y).1) : T F S32x1024 .i32 → T F S32x1024 .i32 → T F S32x1024 .i32),
  binary main_v125 main_call5_v0 main_v126 ((fun x y => (Host.sort2 S32x1024 1 comparator_i32_i32_d1 x y).2) : T F S32x1024 .i32 → T F S32x1024 .i32 → T F S32x1024 .i32),
  unary main_v125 main_v127 ((extractStridedSlice S32x256 ![0, 0] · slices_S32x1024_S32x256_0_0) : T F S32x1024 .i32 → T F S32x256 .i32),
  nullary main_call6_c ((constantI S_ 32 0#32) : T F S_ .i32),
  unary main_call6_c main_call6_v0 ((broadcastInDim S32x1024 ![] bcast_S_S32x1024) : T F S_ .i32 → T F S32x1024 .i32),
  binary main_v126 main_call6_v0 main_call6_v1 ((cmpi .slt) : T F S32x1024 .i32 → T F S32x1024 .i32 → T F S32x1024 .i1),
  nullary main_call6_c_0 ((constantI S_ 32 1024#32) : T F S_ .i32),
  unary main_call6_c_0 main_call6_v2 ((broadcastInDim S32x1024 ![] bcast_S_S32x1024) : T F S_ .i32 → T F S32x1024 .i32),
  binary main_v126 main_call6_v2 main_call6_v3 (addi : T F S32x1024 .i32 → T F S32x1024 .i32 → T F S32x1024 .i32),
  ternary main_call6_v1 main_call6_v3 main_v126 main_call6_v4 (select : T F S32x1024 .i1 → T F S32x1024 .i32 → T F S32x1024 .i32 → T F S32x1024 .i32),
  reshape main_call6_v4 main_call6_v5 (rfl : (.i32 : EltTy) = .i32) shapeCasts_S32x1024_S32x1024x1,
  nullary main_call6_c_1 ((constantI S1 32 1023#32) : T F S1 .i32),
  nullary main_call6_c_2 ((constantI S_ 32 0#32) : T F S_ .i32),
  unary main_call6_c_2 main_call6_v6 ((broadcastInDim S32x1024x1 ![] bcast_S_S32x1024x1) : T F S_ .i32 → T F S32x1024x1 .i32),
  binary main_call6_v5 main_call6_v6 main_call6_v7 ((cmpi .sge) : T F S32x1024x1 .i32 → T F S32x1024x1 .i32 → T F S32x1024x1 .i1),
  unary main_call6_c_1 main_call6_v8 ((broadcastInDim S1x1x1 ![2] bcast_S1_S1x1x1_2) : T F S1 .i32 → T F S1x1x1 .i32),
  unary main_call6_v8 main_call6_v9 ((broadcastInDim S32x1024x1 ![0, 1, 2] bcast_S1x1x1_S32x1024x1_0_1_2) : T F S1x1x1 .i32 → T F S32x1024x1 .i32),
  binary main_call6_v5 main_call6_v9 main_call6_v10 ((cmpi .sle) : T F S32x1024x1 .i32 → T F S32x1024x1 .i32 → T F S32x1024x1 .i1),
  binary main_call6_v7 main_call6_v10 main_call6_v11 (andi : T F S32x1024x1 .i1 → T F S32x1024x1 .i1 → T F S32x1024x1 .i1),
  nullary main_call6_c_3 ((constantI S_ 1 1#1) : T F S_ .i1),
  binary main_call6_v11 main_call6_c_3 main_call6_v12 ((fun x v => Host.reduce IntOp.andi x v reducesTo_S32x1024x1_S32x1024_d2 h_S_) : T F S32x1024x1 .i1 → T F S_ .i1 → T F S32x1024 .i1),
  binary main_v116 main_call6_v5 main_call6_v13 ((fun x i => Host.gather gather_S32x1024_S32x1024x1_S32x1024_n_1_0_0_1_2_11 x i) : T F S32x1024 .f32 → T F S32x1024x1 .i32 → T F S32x1024 .f32),
  nullary main_call6_cst ((constant S_ .f32 0x7FC00000#32) : T F S_ .f32),
  unary main_call6_cst main_call6_v14 ((broadcastInDim S32x1024 ![] bcast_S_S32x1024) : T F S_ .f32 → T F S32x1024 .f32),
  ternary main_call6_v12 main_call6_v13 main_call6_v14 main_v128 (select : T F S32x1024 .i1 → T F S32x1024 .f32 → T F S32x1024 .f32 → T F S32x1024 .f32)]

theorem r9_line : Line (r9 (F := F)) 452 481 := by
  unfold r9
  exact .cons (.nullary rfl rfl)<|
  .cons (.binary rfl rfl rfl (by decide) rfl (by decide))<|
  .cons (.binary rfl rfl rfl (by decide) rfl (by decide))<|
  .cons (.nullary rfl rfl)<|
  .cons (.binary rfl rfl rfl (by decide) rfl (by decide))<|
  .cons (.binary rfl rfl rfl (by decide) rfl (by decide))<|
  .cons (.unary rfl rfl rfl (by decide))<|
  .cons (.nullary rfl rfl)<|
  .cons (.unary rfl rfl rfl (by decide))<|
  .cons (.binary rfl rfl rfl (by decide) rfl (by decide))<|
  .cons (.nullary rfl rfl)<|
  .cons (.unary rfl rfl rfl (by decide))<|
  .cons (.binary rfl rfl rfl (by decide) rfl (by decide))<|
  .cons (.ternary rfl rfl rfl (by decide) rfl (by decide) rfl (by decide))<|
  .cons (.reshape rfl rfl rfl (by decide))<|
  .cons (.nullary rfl rfl)<|
  .cons (.nullary rfl rfl)<|
  .cons (.unary rfl rfl rfl (by decide))<|
  .cons (.binary rfl rfl rfl (by decide) rfl (by decide))<|
  .cons (.unary rfl rfl rfl (by decide))<|
  .cons (.unary rfl rfl rfl (by decide))<|
  .cons (.binary rfl rfl rfl (by decide) rfl (by decide))<|
  .cons (.binary rfl rfl rfl (by decide) rfl (by decide))<|
  .cons (.nullary rfl rfl)<|
  .cons (.binary rfl rfl rfl (by decide) rfl (by decide))<|
  .cons (.binary rfl rfl rfl (by decide) rfl (by decide))<|
  .cons (.nullary rfl rfl)<|
  .cons (.unary rfl rfl rfl (by decide))<|
  .cons (.ternary rfl rfl rfl (by decide) rfl (by decide) rfl (by decide))<| .nil _

end Cert.ReferenceIdeal.Host
-- ==== Proof.ProgR.lean ====
/- The reference's program is one run of host operations; what its run leaves in every buffer. -/
module

public import proofs.«01_k».proof.Proof.HostR
public import Idealize.ShloMosaic.Lib.StableHlo.Run

@[expose] public section

set_option maxRecDepth 100000

noncomputable section

namespace Cert.ReferenceIdeal.Host

open Cert.ReferenceIdeal Cert.Lines
open Idealize.ShloMosaic Idealize.ShloMosaic.StableHlo Idealize.SL.Sem

variable {F : FTy → Type} [FloatOps F]

theorem threefry0 : fn_threefry2x32.body_part0 (F := F) main_call3.v5 main_call3.v7 main_call3.v18 main_call3.v17 main_call3.call0 = seq r4 := rfl
theorem threefry1 : fn_threefry2x32.body_part1 (F := F) main_call3.v5 main_call3.v7 main_call3.v18 main_call3.v17 main_call3.call0 = seq r5 := rfl
theorem threefry2 : fn_threefry2x32.body_part2 (F := F) main_call3.v5 main_call3.v7 main_call3.v18 main_call3.v17 main_call3.call0 = seq r6 := rfl
theorem threefry3 : fn_threefry2x32.body_part3 (F := F) main_call3.v5 main_call3.v7 main_call3.v18 main_call3.v17 main_call3.call0 = seq r7 := rfl

theorem threefry : fn_threefry2x32.body (F := F) main_call3.v5 main_call3.v7 main_call3.v18 main_call3.v17 main_call3.call0 = seq (r4 ++ (r5 ++ (r6 ++ r7))) := by
  unfold fn_threefry2x32.body
  rw [threefry0, threefry1, threefry2, threefry3, seq_append, seq_append, seq_append]

theorem uniform : fn_uniform.body (F := F) (.of main_v123) (.of main_cst_31) (.of main_cst_32) main_call3 =
    seqK r3 (fn_threefry2x32.body (F := F) main_call3.v5 main_call3.v7 main_call3.v18 main_call3.v17 main_call3.call0 >>= fun _ => seq r8) := rfl

theorem part0 (d : Dev nD) : main_part0 (F := F) d = seq r0 := rfl

theorem part1 (d : Dev nD) : main_part1 (F := F) d = seq r1 := rfl

theorem part2 (d : Dev nD) : main_part2 (F := F) d =
    seqK r2 (fn_uniform.body (F := F) (.of main_v123) (.of main_cst_31) (.of main_cst_32) main_call3 >>= fun _ => seq r9) := rfl

/-- All the program's operations. -/
def rAll : List (HloOp τ sig (Elt F)) := r0 ++ (r1 ++ (r2 ++ ((r3 ++ ((r4 ++ (r5 ++ (r6 ++ r7))) ++ r8)) ++ r9)))

theorem rAll_line : Line (rAll (F := F)) 6 481 :=
  r0_line.append (r1_line.append (r2_line.append
    ((r3_line.append ((r4_line.append (r5_line.append (r6_line.append r7_line))).append r8_line)).append r9_line)))

theorem main_eq (d : Dev nD) : main (F := F) d = seq rAll := by
  unfold main rAll
  rw [part0, part1, part2, uniform, threefry]
  simp only [← seq_bind_seqK, seq_append, bind_assoc]

/-- Every run of the program leaves in each buffer what its operations, in order, put there. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after rAll (launchContents m d) (Proc.devRef .tc b) :=
  run_seq (by decide) (by decide) defs main (fun _ => rAll) main_eq (fun _ => List.forall_iff_forall_mem.mpr rAll_line.bufs) m ρ
    (fun _ => rAll_line.fresh)

end Cert.ReferenceIdeal.Host

end
-- ==== Proof.Frames.lean ====
/- The three programs' frames. -/
module

public import proofs.«01_k».proof.Proof.Launch
public import proofs.«01_k».proof.Proof.ProgR

@[expose] public section

set_option maxRecDepth 100000

noncomputable section

namespace Cert.KernelIdeal.Run

open Cert.KernelIdeal Cert.KernelIdeal.Gen Cert.KernelIdeal.Host Cert.Lines
open Idealize.ShloMosaic
open Idealize.ShloMosaic.TcCoe
open Idealize.ShloMosaic.StableHlo (after launchContents)
open Idealize.ShloMosaic.Pipeline (afterRegion pin arrRef)
open Idealize.ShloMosaic.SparseCore.Cfg (HIx)
open Idealize.SL.Sem

variable {F : FTy → Type} [FloatOps F] [∀ e, Nonempty (Elt F e)]
variable (m : (ℓ : Loc nD τ sig) → Buf (Elt F) ℓ)

/-- The first call leaves an argument as it was, -/
theorem W2_keep (d : Dev nD) {r : Ref sig .tc} (h : ∀ w : Fin 12, arrRef cfg0.spec w = r → (cfg0.win w).isOut = false) :
    W2 m d (Proc.devRef .tc r) = W1 m d (Proc.devRef .tc r) :=
  Pipeline.afterRegion_keeps (dats (W1 m) (O₀ (F := F)) (Bd (F := F)) 0 d) (W1 m d) Gen.launch0.win.arr_inj
    (fun w => arr0 (W1 m) d w) r h

/-- and so does the second. -/
theorem W4_keep (d : Dev nD) {r : Ref sig .tc} (h : ∀ w : Fin 2, arrRef cfg1.spec w = r → (cfg1.win w).isOut = false) :
    W4 m d (Proc.devRef .tc r) = W3 m d (Proc.devRef .tc r) :=
  Pipeline.afterRegion_keeps (dats (W3 m) (O₀ (F := F)) (Bd (F := F)) 1 d) (W3 m d) Gen.launch1.win.arr_inj
    (fun w => arr1 (W3 m) d w) r h

/-- An argument's buffer ends as launched. -/
theorem W7_arg (d : Dev nD) {r : Ref sig .tc} {j : ℕ} (hr : IsAt r j) (hj : j < 6)
    (h0 : ∀ w : Fin 12, arrRef cfg0.spec w = r → (cfg0.win w).isOut = false)
    (h1 : ∀ w : Fin 2, arrRef cfg1.spec w = r → (cfg1.win w).isOut = false) :
    W7 m d (Proc.devRef .tc r) = m (d, Proc.devRef .tc r) := by
  have hne : Proc.devRef .tc r ≠ (Proc.devRef .tc main_v115 : DevRef τ sig) := fun e => by
    have e' : r = main_v115 := Proc.devRef_injective _ e
    subst e'
    have := hr.2
    exact absurd (show (440 : ℕ) = j from this) (by omega)
  unfold W7
  rw [k11_line.keep _ hr (by omega)]
  unfold W6
  rw [Function.update_of_ne hne]
  unfold W5
  rw [kB_line.keep _ hr (by omega), W4_keep m d h1]
  unfold W3
  rw [kA_line.keep _ hr (by omega), W2_keep m d h0]
  unfold W1
  rw [k0_line.keep _ hr (by omega)]

/-- What the run claims of the arguments and the semaphores. -/
theorem frame_of (r : PUnit × MemSt nD τ sig (Elt F)) (h : QC m r) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  ⟨fun c => ⟨(h.1 c _ (Finset.mem_filter.mpr ⟨StableHlo.devRef_mem_tcRefs _, by decide⟩)).trans (W7_arg m c (j := 0) ⟨rfl, rfl⟩ (by decide) (by decide) (by decide)),
    (h.1 c _ (Finset.mem_filter.mpr ⟨StableHlo.devRef_mem_tcRefs _, by decide⟩)).trans (W7_arg m c (j := 1) ⟨rfl, rfl⟩ (by decide) (by decide) (by decide)),
    (h.1 c _ (Finset.mem_filter.mpr ⟨StableHlo.devRef_mem_tcRefs _, by decide⟩)).trans (W7_arg m c (j := 2) ⟨rfl, rfl⟩ (by decide) (by decide) (by decide)),
    (h.1 c _ (Finset.mem_filter.mpr ⟨StableHlo.devRef_mem_tcRefs _, by decide⟩)).trans (W7_arg m c (j := 3) ⟨rfl, rfl⟩ (by decide) (by decide) (by decide)),
    (h.1 c _ (Finset.mem_filter.mpr ⟨StableHlo.devRef_mem_tcRefs _, by decide⟩)).trans (W7_arg m c (j := 4) ⟨rfl, rfl⟩ (by decide) (by decide) (by decide)),
    (h.1 c _ (Finset.mem_filter.mpr ⟨StableHlo.devRef_mem_tcRefs _, by decide⟩)).trans (W7_arg m c (j := 5) ⟨rfl, rfl⟩ (by decide) (by decide) (by decide))⟩, h.2⟩

end Cert.KernelIdeal.Run

namespace Cert.ReferenceIdeal.Host

open Cert.ReferenceIdeal Cert.Lines
open Idealize.ShloMosaic
open Idealize.ShloMosaic.TcCoe
open Idealize.ShloMosaic.StableHlo (after launchContents)
open Idealize.SL.Sem

variable {F : FTy → Type} [FloatOps F]
variable (m : (ℓ : Loc nD τ sig) → Buf (Elt F) ℓ)

/-- What the reference's run claims of its arguments. -/
theorem frame_of (r : PUnit × MemSt nD τ sig (Elt F))
    (h : ∀ (d : Dev nD) (b : Ref sig .tc), r.2.mem ((d.tc : Thread nD τ).loc b) = after rAll (launchContents m d) (Proc.devRef .tc b)) :
    ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := fun c =>
  ⟨(h c _).trans (rAll_line.keep _ (j := 0) ⟨rfl, rfl⟩ (by decide)), (h c _).trans (rAll_line.keep _ (j := 1) ⟨rfl, rfl⟩ (by decide)),
    (h c _).trans (rAll_line.keep _ (j := 2) ⟨rfl, rfl⟩ (by decide)), (h c _).trans (rAll_line.keep _ (j := 3) ⟨rfl, rfl⟩ (by decide)),
    (h c _).trans (rAll_line.keep _ (j := 4) ⟨rfl, rfl⟩ (by decide)), (h c _).trans (rAll_line.keep _ (j := 5) ⟨rfl, rfl⟩ (by decide))⟩

end Cert.ReferenceIdeal.Host

end
-- ==== Proof.SameTables.lean ====
/- The kernel's tables and its main function's first part are those of the kernel with its casts read as identities. -/
module

public import proofs.«01_k».proof.Proof.Gen.Kernel
public import proofs.«01_k».proof.Proof.ProgK

@[expose] public section

set_option maxHeartbeats 0
set_option maxRecDepth 100000

noncomputable section

namespace Cert.SameText

open Idealize.ShloMosaic Idealize.ShloMosaic.StableHlo Idealize.SL.Sem
open Cert.Kernel
open Cert.KernelIdeal.Host (k0 k1 k2 k3a k3b k4 k5 k6 k7 k8 k9 k10 k11)

variable {F : FTy → Type} [FloatOps F]

/-! The tables are the same numbers. -/

theorem lit0_eq : Cert.Kernel.lit0 = Cert.KernelIdeal.lit0 := rfl
theorem lit1_eq : Cert.Kernel.lit1 = Cert.KernelIdeal.lit1 := rfl
theorem lit2_eq : Cert.Kernel.lit2 = Cert.KernelIdeal.lit2 := rfl
theorem lit3_eq : Cert.Kernel.lit3 = Cert.KernelIdeal.lit3 := rfl
theorem lit4_eq : Cert.Kernel.lit4 = Cert.KernelIdeal.lit4 := rfl

/-! The main function is the same runs of operations and the same calls. -/

theorem part0 (d : Dev nD) : main_part0 (F := F) d = seqK k0 (Prog.lift (.customCall (SparseCore.inner (Pipeline.entry 0)) ()) >>= fun _ => seq k1) := by
  unfold main_part0
  rw [lit0_eq, lit1_eq, lit2_eq, lit3_eq, lit4_eq]
  rfl

end Cert.SameText

end
-- ==== Proof.SameHash.lean ====
/- The random words' hash is the same text in the kernel and in the kernel with its casts read as identities. -/
module

public import proofs.«01_k».proof.Proof.Gen.Kernel
public import proofs.«01_k».proof.Proof.ProgK

@[expose] public section

set_option maxHeartbeats 0
set_option maxRecDepth 100000

noncomputable section

namespace Cert.SameText

open Idealize.ShloMosaic Idealize.ShloMosaic.StableHlo Idealize.SL.Sem
open Cert.Kernel
open Cert.KernelIdeal.Host (k0 k1 k2 k3a k3b k4 k5 k6 k7 k8 k9 k10 k11)

variable {F : FTy → Type} [FloatOps F]

theorem threefry0 : fn_threefry2x32.body_part0 (F := F) main_call2.v5 main_call2.v7 main_call2.v18 main_call2.v17 main_call2.call0 = seq k5 := rfl
theorem threefry1 : fn_threefry2x32.body_part1 (F := F) main_call2.v5 main_call2.v7 main_call2.v18 main_call2.v17 main_call2.call0 = seq k6 := rfl
theorem threefry2 : fn_threefry2x32.body_part2 (F := F) main_call2.v5 main_call2.v7 main_call2.v18 main_call2.v17 main_call2.call0 = seq k7 := rfl
theorem threefry3 : fn_threefry2x32.body_part3 (F := F) main_call2.v5 main_call2.v7 main_call2.v18 main_call2.v17 main_call2.call0 = seq k8 := rfl

theorem threefry : fn_threefry2x32.body (F := F) main_call2.v5 main_call2.v7 main_call2.v18 main_call2.v17 main_call2.call0 = seq (k5 ++ (k6 ++ (k7 ++ k8))) := by
  unfold fn_threefry2x32.body
  rw [threefry0, threefry1, threefry2, threefry3, seq_append, seq_append, seq_append]

end Cert.SameText

end
-- ==== Proof.SameCalls.lean ====
/-
  The kernel as written and the kernel with its casts read as identities: the stretches of the program about its calls.
-/
module

public import proofs.«01_k».proof.Defs
public import proofs.«01_k».proof.Proof.Gen.Kernel
public import proofs.«01_k».proof.Proof.Frames
public import proofs.«01_k».proof.Proof.SameTables
public import proofs.«01_k».proof.Proof.SameHash

@[expose] public section

set_option maxHeartbeats 0
set_option maxRecDepth 100000

noncomputable section

namespace Cert.SameText

open Idealize.ShloMosaic Idealize.ShloMosaic.StableHlo Idealize.SL.Sem
open Cert.Kernel
open Cert.KernelIdeal.Host (k0 k1 k2 k3a k3b k4 k5 k6 k7 k8 k9 k10 k11)

variable {F : FTy → Type} [FloatOps F]

theorem uniform : fn_uniform.body (F := F) (.of main_v102) (.of main_cst_24) (.of main_cst_25) main_call2 =
    seqK k4 (fn_threefry2x32.body (F := F) main_call2.v5 main_call2.v7 main_call2.v18 main_call2.v17 main_call2.call0 >>= fun _ => seq k9) := rfl

theorem part1 (d : Dev nD) : main_part1 (F := F) d = seqK k2 (Prog.lift (.customCall (SparseCore.inner (Pipeline.entry 1)) ()) >>= fun _ =>
    seq k3a) := rfl

theorem part2 (d : Dev nD) : main_part2 (F := F) d = seqK k3b (fn_uniform.body (F := F) (.of main_v102) (.of main_cst_24) (.of main_cst_25) main_call2 >>= fun _ =>
    seqK k10 (Cert.KernelIdeal.sc.run d 0 >>= fun _ => seq k11)) := rfl

end Cert.SameText

end
-- ==== Proof.SameText.lean ====
/-
  The kernel as written and the kernel with its casts read as identities are one text: the same host operations, the same
  calls, the same bodies. So a run of one is a run of the other.
-/
module

public import proofs.«01_k».proof.Defs
public import proofs.«01_k».proof.Proof.Gen.Kernel
public import proofs.«01_k».proof.Proof.Frames
public import proofs.«01_k».proof.Proof.SameCalls

@[expose] public section

set_option maxHeartbeats 0
set_option maxRecDepth 100000

noncomputable section

namespace Cert.SameText

open Idealize.ShloMosaic Idealize.ShloMosaic.StableHlo Idealize.SL.Sem
open Cert.Kernel
open Cert.KernelIdeal.Host (k0 k1 k2 k3a k3b k4 k5 k6 k7 k8 k9 k10 k11)

variable {F : FTy → Type} [FloatOps F]

theorem same0 (d : Dev nD) : main_part0 (F := F) d = Cert.KernelIdeal.main_part0 d := (part0 d).trans (Cert.KernelIdeal.Host.part0 d).symm

theorem same1 (d : Dev nD) : main_part1 (F := F) d = Cert.KernelIdeal.main_part1 d := (part1 d).trans (Cert.KernelIdeal.Host.part1 d).symm

theorem same2 (d : Dev nD) : main_part2 (F := F) d = Cert.KernelIdeal.main_part2 d := by
  have e := Cert.KernelIdeal.Host.part2 (F := F) d
  rw [Cert.KernelIdeal.Host.uniform, Cert.KernelIdeal.Host.threefry] at e
  refine Eq.trans ?_ e.symm
  rw [part2, uniform, threefry]
  rfl

theorem main_eq (d : Dev nD) : Cert.Kernel.main (F := F) d = Cert.KernelIdeal.main d := by
  unfold Cert.Kernel.main
  rw [same0, same1, same2]
  rfl

/-! The bodies are the same. -/

theorem defs₀_eq : Cert.Kernel.defs₀ (F := F) = Cert.KernelIdeal.defs₀ (F := F) := by
  funext p l a
  match p, l, a with
  | .tc, 0, (t, s) => rfl
  | .tc, 1, (t, s) => rfl
  | .tc, 2, _ => rfl
  | .scVector c s, 0, _ => rfl
  | .scVector c s, 1, _ => rfl
  | .scVector c s, 2, _ => rfl
  | .scScalar c, 0, _ => rfl
  | .scScalar c, 1, _ => rfl
  | .scScalar c, 2, _ => rfl

theorem defs_eq : Cert.Kernel.defs (F := F) = Cert.KernelIdeal.defs (F := F) := by
  show Cert.Kernel.sc.defs (Pipeline.defs Cert.Kernel.pcfgs Cert.Kernel.defs₀) = Cert.KernelIdeal.sc.defs (Pipeline.defs Cert.KernelIdeal.pcfgs Cert.KernelIdeal.defs₀)
  rw [defs₀_eq]
  rfl

theorem threads_eq : Cert.Kernel.threads (F := F) = Cert.KernelIdeal.threads (F := F) := by
  show Cert.Kernel.sc.threads Cert.Kernel.main = Cert.KernelIdeal.sc.threads Cert.KernelIdeal.main
  rw [show Cert.Kernel.main (F := F) = Cert.KernelIdeal.main (F := F) from funext main_eq]
  rfl

/-- The kernel's frame is the one already shown. -/
theorem frame_kernel : Cert.quiescent_Kernel := fun m ρ _ => by
  rw [defs_eq, threads_eq]
  exact (θ_run Cert.KernelIdeal.defs _ _).mono (fun r h => Cert.KernelIdeal.Run.frame_of (F := Bits) m r h) (Cert.KernelIdeal.Run.run_main (F := Bits) m ρ)

end Cert.SameText

end
-- ==== Proof.Stacked.lean ====
/-
  A matrix product of a matrix split into three pieces, side by side in the kernel's order, over the extended reals. A
  change of format rounds nothing there, so a finite number is its own first piece and the other two are zero: of the
  six products of pieces only the first one is left.
-/
module

public import proofs.«01_k».proof.Proof.Gen.KernelIdeal.Skeleton
public import Idealize.ShloMosaic.Lib.MatmulPlain
public import Idealize.ShloMosaic.Lib.Pipeline.Value
public import Idealize.ShloMosaic.Lib.Pointwise.SelectCore

@[expose] public section

noncomputable section

namespace Cert.Stacked

open Cert.KernelIdeal Cert.KernelIdeal.Gen
open Idealize.ShloMosaic
open scoped BigOperators

/-! ## Finite extended reals -/

/-- An extended real that is a real number. -/
def Fin' (a : EReal) : Prop := a ≠ ⊥ ∧ a ≠ ⊤

theorem Fin'.coe (r : ℝ) : Fin' (r : EReal) := ⟨EReal.coe_ne_bot r, EReal.coe_ne_top r⟩

theorem Fin'.exists_real {a : EReal} (h : Fin' a) : ∃ r : ℝ, a = (r : EReal) := ⟨a.toReal, (EReal.coe_toReal h.2 h.1).symm⟩

theorem Fin'.add {a b : EReal} (ha : Fin' a) (hb : Fin' b) : Fin' (a + b) := by
  obtain ⟨x, rfl⟩ := ha.exists_real; obtain ⟨y, rfl⟩ := hb.exists_real
  rw [← EReal.coe_add]; exact Fin'.coe _

theorem Fin'.mul {a b : EReal} (ha : Fin' a) (hb : Fin' b) : Fin' (a * b) := by
  obtain ⟨x, rfl⟩ := ha.exists_real; obtain ⟨y, rfl⟩ := hb.exists_real
  rw [← EReal.coe_mul]; exact Fin'.coe _

theorem Fin'.sub {a b : EReal} (ha : Fin' a) (hb : Fin' b) : Fin' (a - b) := by
  obtain ⟨x, rfl⟩ := ha.exists_real; obtain ⟨y, rfl⟩ := hb.exists_real
  rw [← EReal.coe_sub]; exact Fin'.coe _

theorem Fin'.neg {a : EReal} (ha : Fin' a) : Fin' (-a) := by
  obtain ⟨x, rfl⟩ := ha.exists_real
  rw [← EReal.coe_neg]; exact Fin'.coe _

theorem Fin'.sum {ι : Type} (s : Finset ι) (f : ι → EReal) (h : ∀ i ∈ s, Fin' (f i)) : Fin' (∑ i ∈ s, f i) := by
  classical
  induction s using Finset.induction_on with
  | empty => rw [Finset.sum_empty]; exact Fin'.coe 0
  | insert a s ha ih =>
    rw [Finset.sum_insert ha]
    exact (h a (Finset.mem_insert_self a s)).add (ih fun i hi => h i (Finset.mem_insert_of_mem hi))

theorem Fin'.sub_self {a : EReal} (h : Fin' a) : a - a = 0 := by
  obtain ⟨x, rfl⟩ := h.exists_real
  rw [← EReal.coe_sub, _root_.sub_self]; rfl

/-- The root of a sum of two squares of finite numbers is finite. -/
theorem Fin'.sqrt_sq_add_sq {a b : EReal} (ha : Fin' a) (hb : Fin' b) : Fin' (Ideal.sqrt (a * a + b * b)) := by
  obtain ⟨x, rfl⟩ := ha.exists_real; obtain ⟨y, rfl⟩ := hb.exists_real
  rw [← EReal.coe_mul, ← EReal.coe_mul, ← EReal.coe_add, Ideal.sqrt_coe, if_neg (not_lt.mpr (add_nonneg (mul_self_nonneg x) (mul_self_nonneg y)))]
  exact Fin'.coe _

/-! ## The stacked product -/

/-- Six square pieces side by side, -/
def wide (x : Fin 6 → S512x512.Idx → EReal) : S512x3072.Idx → EReal :=
  concatenate S512x3072 1 [⟨S512x512, x 0⟩, ⟨S512x512, x 1⟩, ⟨S512x512, x 2⟩, ⟨S512x512, x 3⟩, ⟨S512x512, x 4⟩, ⟨S512x512, x 5⟩]
    concatenates_S512x512_S512x512_S512x512_S512x512_S512x512_S512x512_S512x3072_d1

/-- and six of them one above the other. -/
def tall (x : Fin 6 → S512x512.Idx → EReal) : S3072x512.Idx → EReal :=
  concatenate S3072x512 0 [⟨S512x512, x 0⟩, ⟨S512x512, x 1⟩, ⟨S512x512, x 2⟩, ⟨S512x512, x 3⟩, ⟨S512x512, x 4⟩, ⟨S512x512, x 5⟩]
    concatenates_S512x512_S512x512_S512x512_S512x512_S512x512_S512x512_S3072x512_d0

/-- Place `q` of piece `p` along the stacked axis. -/
def at' (p : Fin 6) (q : Fin 512) : Fin 3072 := ⟨q.val + 512 * p.val, by omega⟩

theorem wide_at (x : Fin 6 → S512x512.Idx → EReal) (r : Fin 512) (p : Fin 6) (q : Fin 512) :
    wide x (ValueIdx.ix2 r (at' p q)) = x p (ValueIdx.ix2 r q) := by
  refine concatenate_ofFn_apply (t := S512x3072) (s₁ := S512x512) 1 x concatenates_S512x512_S512x512_S512x512_S512x512_S512x512_S512x512_S512x3072_d1 rfl 512 rfl
    (ValueIdx.ix2 r (at' p q)) p ?_ (ValueIdx.ix2 r q) ?_ ?_
  · show (q.val + 512 * p.val) / 512 = p.val
    omega
  · show q.val = (q.val + 512 * p.val) % 512
    omega
  · intro b hb
    match b, hb with
    | ⟨0, _⟩, _ => rfl
    | ⟨1, _⟩, hb => exact absurd rfl hb

theorem tall_at (x : Fin 6 → S512x512.Idx → EReal) (c : Fin 512) (p : Fin 6) (q : Fin 512) :
    tall x (ValueIdx.ix2 (at' p q) c) = x p (ValueIdx.ix2 q c) := by
  refine concatenate_ofFn_apply (t := S3072x512) (s₁ := S512x512) 0 x concatenates_S512x512_S512x512_S512x512_S512x512_S512x512_S512x512_S3072x512_d0 rfl 512 rfl
    (ValueIdx.ix2 (at' p q) c) p ?_ (ValueIdx.ix2 q c) ?_ ?_
  · show (q.val + 512 * p.val) / 512 = p.val
    omega
  · show q.val = (q.val + 512 * p.val) % 512
    omega
  · intro b hb
    match b, hb with
    | ⟨0, _⟩, hb => exact absurd rfl hb
    | ⟨1, _⟩, _ => rfl

/-- A sum over the stacked axis, piece by piece. -/
theorem sum_at (f : Fin 3072 → EReal) : ∑ k, f k = ∑ p : Fin 6, ∑ q : Fin 512, f (at' p q) := by
  rw [← Fintype.sum_prod_type', ← Equiv.sum_comp (finProdFinEquiv (m := 6) (n := 512))]
  rfl

/-- The matrix product of two square matrices. -/
def mul (a b : S512x512.Idx → EReal) : S512x512.Idx → EReal := fun j => ∑ k : Fin 512, a (ValueIdx.ix2 (j 0) k) * b (ValueIdx.ix2 k (j 1))

theorem mul_finite {a b : S512x512.Idx → EReal} (ha : ∀ i, Fin' (a i)) (hb : ∀ i, Fin' (b i)) (j) : Fin' (mul a b j) :=
  Fin'.sum _ _ fun _ _ => (ha _).mul (hb _)

/-- A matrix of finite numbers cut into its pieces: itself, and what is left, nothing, twice. -/
structure Cut (x0 x1 x2 : S512x512.Idx → EReal) (x : S512x512.Idx → EReal) : Prop where
  e0 : x0 = x
  e1 : x1 = fun _ => 0
  e2 : x2 = fun _ => 0

/-- **The stacked product is the product.** -/
theorem matmul_stacked (a0 a1 a2 a b0 b1 b2 b : S512x512.Idx → EReal) (ha : Cut a0 a1 a2 a) (hb : Cut b0 b1 b2 b) :
    FloatOps.matmul (F := Ideal) (φ₁ := .bf16) (φ₂ := .bf16) dot_S512x3072_S3072x512_S512x512_1_0_0_1_n_n none
      (wide ![a0, a0, a1, a0, a1, a2]) (tall ![b0, b1, b0, b2, b1, b0]) (constant S512x512 .f32 0x00000000#32) = mul a b := by
  obtain ⟨rfl, rfl, rfl⟩ := ha
  obtain ⟨rfl, rfl, rfl⟩ := hb
  funext j
  obtain ⟨r, c, rfl⟩ : ∃ r c : Fin 512, j = ValueIdx.ix2 r c := ⟨j 0, j 1, by
    funext i
    match i with
    | ⟨0, _⟩ => rfl
    | ⟨1, _⟩ => rfl⟩
  rw [show dot_S512x3072_S3072x512_S512x512_1_0_0_1_n_n = DotDims.plain 512 3072 512 from rfl]
  refine (Ideal.matmul_plain_apply (M := 512) (K := 3072) (N := 512) (φ₁ := .bf16) (φ₂ := .bf16) none _ _ _ r c).trans ?_
  rw [show (constant (F := Ideal) S512x512 .f32 0x00000000#32) (ValueIdx.ix2 r c) = 0 from Ideal.ofBits_zero_f32, zero_add, sum_at]
  have hw : ∀ (x : Fin 6 → S512x512.Idx → EReal) (p : Fin 6) (q : Fin 512), wide x (ValueIdx.ix2 r (at' p q)) = x p (ValueIdx.ix2 r q) := fun x p q => wide_at x r p q
  have ht : ∀ (x : Fin 6 → S512x512.Idx → EReal) (p : Fin 6) (q : Fin 512), tall x (ValueIdx.ix2 (at' p q) c) = x p (ValueIdx.ix2 q c) := fun x p q => tall_at x c p q
  refine (Finset.sum_congr rfl fun p _ => Finset.sum_congr rfl fun q _ => congrArg₂ (· * ·) (hw _ p q) (ht _ p q)).trans ?_
  rw [Fin.sum_univ_six]
  have z : ∀ a : S512x512.Idx → EReal, (∑ q : Fin 512, a (ValueIdx.ix2 r q) * (0 : EReal)) = 0 := fun a => by simp
  have z' : ∀ a : S512x512.Idx → EReal, (∑ q : Fin 512, (0 : EReal) * a (ValueIdx.ix2 q c)) = 0 := fun a => by simp
  have z'' : (∑ q : Fin 512, (0 : EReal) * (0 : EReal)) = 0 := by simp
  show (∑ q : Fin 512, a0 (ValueIdx.ix2 r q) * b0 (ValueIdx.ix2 q c)) + (∑ q : Fin 512, a0 (ValueIdx.ix2 r q) * (0 : EReal))
    + (∑ q : Fin 512, (0 : EReal) * b0 (ValueIdx.ix2 q c)) + (∑ q : Fin 512, a0 (ValueIdx.ix2 r q) * (0 : EReal))
    + (∑ q : Fin 512, (0 : EReal) * (0 : EReal)) + (∑ q : Fin 512, (0 : EReal) * b0 (ValueIdx.ix2 q c)) = _
  rw [z, z', z'']
  simp only [add_zero]
  rfl

/-- The kernel's three pieces of a matrix of finite numbers. -/
theorem cut_split (x : FVec Ideal S512x512 .f32) (h : ∀ i, Fin' (x i)) :
    Cut (truncf .bf16 x bitsLt_bf16_f32) (truncf .bf16 (subf x (extf .f32 (truncf .bf16 x bitsLt_bf16_f32) bitsLt_bf16_f32)) bitsLt_bf16_f32)
      (truncf .bf16 (subf (subf x (extf .f32 (truncf .bf16 x bitsLt_bf16_f32) bitsLt_bf16_f32))
        (extf .f32 (truncf .bf16 (subf x (extf .f32 (truncf .bf16 x bitsLt_bf16_f32) bitsLt_bf16_f32)) bitsLt_bf16_f32) bitsLt_bf16_f32)) bitsLt_bf16_f32) x where
  e0 := rfl
  e1 := by
    funext i
    exact (h i).sub_self
  e2 := by
    funext i
    show (x i - x i) - (x i - x i) = (0 : EReal)
    rw [(h i).sub_self, _root_.sub_zero]

/-! ## The first call's body -/

/-- The zero matrix. -/
def zero : S512x512.Idx → EReal := fun _ => 0

/-- The two stackings of a matrix whose second and third pieces are zero. -/
def across (a : S512x512.Idx → EReal) : S512x3072.Idx → EReal := wide ![a, a, zero, a, zero, zero]
def down (b : S512x512.Idx → EReal) : S3072x512.Idx → EReal := tall ![b, zero, b, zero, zero, b]

theorem matmul_across_down (a b : S512x512.Idx → EReal) :
    matmul (F := Ideal) (φ₁ := .bf16) (φ₂ := .bf16) dot_S512x3072_S3072x512_S512x512_1_0_0_1_n_n none
      (across a) (down b) (constant S512x512 .f32 0x00000000#32) = mul a b :=
  matmul_stacked a zero zero a b zero zero b ⟨rfl, rfl, rfl⟩ ⟨rfl, rfl, rfl⟩

/-- A matrix cut and stacked side by side, -/
theorem side (x : FVec Ideal S512x512 .f32) (h : ∀ i, Fin' (x i)) :
    concatenate S512x3072 1 [⟨S512x512, truncf .bf16 x bitsLt_bf16_f32⟩, ⟨S512x512, truncf .bf16 x bitsLt_bf16_f32⟩,
      ⟨S512x512, truncf .bf16 (subf x (extf .f32 (truncf .bf16 x bitsLt_bf16_f32) bitsLt_bf16_f32)) bitsLt_bf16_f32⟩,
      ⟨S512x512, truncf .bf16 x bitsLt_bf16_f32⟩,
      ⟨S512x512, truncf .bf16 (subf x (extf .f32 (truncf .bf16 x bitsLt_bf16_f32) bitsLt_bf16_f32)) bitsLt_bf16_f32⟩,
      ⟨S512x512, truncf .bf16 (subf (subf x (extf .f32 (truncf .bf16 x bitsLt_bf16_f32) bitsLt_bf16_f32))
        (extf .f32 (truncf .bf16 (subf x (extf .f32 (truncf .bf16 x bitsLt_bf16_f32) bitsLt_bf16_f32)) bitsLt_bf16_f32) bitsLt_bf16_f32)) bitsLt_bf16_f32⟩]
      concatenates_S512x512_S512x512_S512x512_S512x512_S512x512_S512x512_S512x3072_d1 = across x := by
  have hc := cut_split x h
  rw [hc.e2, hc.e1, hc.e0]
  rfl

/-- and one above the other. -/
theorem above (x : FVec Ideal S512x512 .f32) (h : ∀ i, Fin' (x i)) :
    concatenate S3072x512 0 [⟨S512x512, truncf .bf16 x bitsLt_bf16_f32⟩,
      ⟨S512x512, truncf .bf16 (subf x (extf .f32 (truncf .bf16 x bitsLt_bf16_f32) bitsLt_bf16_f32)) bitsLt_bf16_f32⟩,
      ⟨S512x512, truncf .bf16 x bitsLt_bf16_f32⟩,
      ⟨S512x512, truncf .bf16 (subf (subf x (extf .f32 (truncf .bf16 x bitsLt_bf16_f32) bitsLt_bf16_f32))
        (extf .f32 (truncf .bf16 (subf x (extf .f32 (truncf .bf16 x bitsLt_bf16_f32) bitsLt_bf16_f32)) bitsLt_bf16_f32) bitsLt_bf16_f32)) bitsLt_bf16_f32⟩,
      ⟨S512x512, truncf .bf16 (subf x (extf .f32 (truncf .bf16 x bitsLt_bf16_f32) bitsLt_bf16_f32)) bitsLt_bf16_f32⟩,
      ⟨S512x512, truncf .bf16 x bitsLt_bf16_f32⟩]
      concatenates_S512x512_S512x512_S512x512_S512x512_S512x512_S512x512_S3072x512_d0 = down x := by
  have hc := cut_split x h
  rw [hc.e2, hc.e1, hc.e0]
  rfl

/-- The real part of the transform, its imaginary part, -/
def re (C S X : S512x512.Idx → EReal) : S512x512.Idx → EReal := fun j => mul (mul C X) C j - mul (mul S X) S j
def im (C S X : S512x512.Idx → EReal) : S512x512.Idx → EReal := fun j => mul (mul C X) S j + mul (mul S X) C j

/-- and its magnitude over 512. -/
def mag (C S X : S512x512.Idx → EReal) : S512x512.Idx → EReal := fun j =>
  Ideal.sqrt (re C S X j * re C S X j + im C S X j * im C S X j) * Ideal.ofBits .f32 0x3B000000#32

/-- One channel as the body computes it, from the image's matrix and the stacked tables. -/
theorem channel (C S : S512x512.Idx → EReal) (hC : ∀ i, Fin' (C i)) (hS : ∀ i, Fin' (S i)) (v : Vec Ideal S1x1x512x512 .f32)
    (hv : ∀ i, Fin' (shapeCast S512x512 v shapeCasts_S1x1x512x512_S512x512 i)) :
    k0_pay17 (F := Ideal) (across S) (down C) (down S) (k0_pay15 v) (k0_pay16 (across C) v)
      = mag C S (shapeCast S512x512 v shapeCasts_S1x1x512x512_S512x512) := by
  have e15 : k0_pay15 v = down (shapeCast S512x512 v shapeCasts_S1x1x512x512_S512x512) := above _ hv
  have e16 : k0_pay16 (across C) v = mul C (shapeCast S512x512 v shapeCasts_S1x1x512x512_S512x512) := by
    unfold k0_pay16
    rw [e15]
    exact matmul_across_down _ _
  rw [e15, e16]
  generalize hX : shapeCast S512x512 v shapeCasts_S1x1x512x512_S512x512 = X at hv ⊢
  unfold k0_pay17
  dsimp only
  rw [matmul_across_down S X, side (mul C X) (mul_finite hC hv), side (mul S X) (mul_finite hS hv), matmul_across_down, matmul_across_down,
    matmul_across_down, matmul_across_down]
  rfl

/-- The three channels' payloads are one text. -/
theorem channel0 (v0 v2 : Vec Ideal S512x3072 .bf16) (v4 v6 : Vec Ideal S3072x512 .bf16) (v : Vec Ideal S1x1x512x512 .f32) :
    k0_pay13 (F := Ideal) (k0_pay9 v0 v2 v4 v6 v) (k0_pay10 v0 v6 v) (k0_pay11 v2 v4 v)
      = shapeCast S1x1x512x512 (k0_pay17 (k0_pay3 v2) (k0_pay4 v4) (k0_pay5 v6) (k0_pay15 v) (k0_pay16 (k0_pay2 v0) v)) shapeCasts_S512x512_S1x1x512x512 := rfl
theorem channel1 (v0 v2 : Vec Ideal S512x3072 .bf16) (v4 v6 : Vec Ideal S3072x512 .bf16) (v : Vec Ideal S1x1x512x512 .f32) :
    k0_pay18 (F := Ideal) (k0_pay3 v2) (k0_pay4 v4) (k0_pay5 v6) (k0_pay15 v) (k0_pay16 (k0_pay2 v0) v)
      = shapeCast S1x1x512x512 (k0_pay17 (k0_pay3 v2) (k0_pay4 v4) (k0_pay5 v6) (k0_pay15 v) (k0_pay16 (k0_pay2 v0) v)) shapeCasts_S512x512_S1x1x512x512 := rfl
theorem channel2 (v0 v2 : Vec Ideal S512x3072 .bf16) (v4 v6 : Vec Ideal S3072x512 .bf16) (v : Vec Ideal S1x1x512x512 .f32) :
    k0_pay25 (F := Ideal) (k0_pay23 (k0_pay2 v0) (k0_pay3 v2) (k0_pay4 v4) (k0_pay5 v6) v) (FloatOps.ofBits FTy.f32 0x3B000000#32)
      = shapeCast S1x1x512x512 (k0_pay17 (k0_pay3 v2) (k0_pay4 v4) (k0_pay5 v6) (k0_pay15 v) (k0_pay16 (k0_pay2 v0) v)) shapeCasts_S512x512_S1x1x512x512 := rfl

end Cert.Stacked

end
-- ==== Proof.Block0.lean ====
/- The first TensorCore call's magnitudes: what its body leaves in the block of one image, and the array of all of them. -/
module

public import proofs.«01_k».proof.Proof.Region0
public import proofs.«01_k».proof.Proof.Stacked
public import Idealize.ShloMosaic.Lib.WholeRead
public import Idealize.ShloMosaic.Lib.Writes
public import Idealize.ShloMosaic.Lib.ValueLayout

@[expose] public section

set_option maxRecDepth 100000

noncomputable section

namespace Cert.KernelIdeal.Run

open Cert.KernelIdeal Cert.KernelIdeal.Gen Cert.Stacked
open Idealize.ShloMosaic
open Idealize.ShloMosaic.TcCoe

/-- Channel `k` of one image, as a matrix, -/
def chan (X : S1x3x512x512.Idx → EReal) (k : Fin 3) : S512x512.Idx → EReal := fun p => X (ValueIdx.ix4 (0 : Fin 1) k (p 0) (p 1))

/-- and the magnitudes of one image. -/
def magOf (C S : S512x512.Idx → EReal) (X : S1x3x512x512.Idx → EReal) : S1x3x512x512.Idx → EReal := fun y =>
  mag C S (chan X (y 1)) (ValueIdx.ix2 (y 2) (y 3))

theorem mat_chan (X : S1x3x512x512.Idx → EReal) (k : Fin 3) (v : S1x1x512x512.Idx → EReal)
    (hv : ∀ (r c : Fin 512), v (ValueIdx.ix4 (0 : Fin 1) (0 : Fin 1) r c) = X (ValueIdx.ix4 (0 : Fin 1) k r c)) :
    shapeCast S512x512 v shapeCasts_S1x1x512x512_S512x512 = chan X k := by
  funext j
  obtain ⟨r, c, rfl⟩ : ∃ r c : Fin 512, j = ValueIdx.ix2 r c := ⟨j 0, j 1, by funext a; fin_cases a <;> rfl⟩
  rw [shapeCast_apply v shapeCasts_S1x1x512x512_S512x512 _ (ValueIdx.ix4 (0 : Fin 1) (0 : Fin 1) r c), hv]
  · rfl
  · rw [Shape.rowMajor_val_four, Shape.rowMajor_val_two]
    show ((0 * 1 + 0) * 512 + r.val) * 512 + c.val = r.val * 512 + c.val
    omega

theorem unmat (m : S512x512.Idx → EReal) (x : S1x1x512x512.Idx) :
    shapeCast S1x1x512x512 m shapeCasts_S512x512_S1x1x512x512 x = m (ValueIdx.ix2 (x 2) (x 3)) := by
  refine shapeCast_apply m _ _ _ ?_
  rw [Shape.rowMajor_val_four, Shape.rowMajor_val_two]
  have h0 : (x 0).val = 0 := by have := (x 0).isLt; change _ < 1 at this; omega
  have h1 : (x 1).val = 0 := by have := (x 1).isLt; change _ < 1 at this; omega
  show (x 2).val * 512 + (x 3).val = (((x 0).val * 1 + (x 1).val) * 512 + (x 2).val) * 512 + (x 3).val
  rw [h0, h1]; omega

/-- One channel's payload. -/
theorem payload (C S : S512x512.Idx → EReal) (hC : ∀ i, Fin' (C i)) (hS : ∀ i, Fin' (S i)) (X : S1x3x512x512.Idx → EReal)
    (hX : ∀ i, Fin' (X i)) (k : Fin 3) (v : Vec Ideal S1x1x512x512 .f32)
    (hv : ∀ (r c : Fin 512), v (ValueIdx.ix4 (0 : Fin 1) (0 : Fin 1) r c) = X (ValueIdx.ix4 (0 : Fin 1) k r c)) :
    shapeCast S1x1x512x512 (k0_pay17 (F := Ideal) (k0_pay3 (across S)) (k0_pay4 (down C)) (k0_pay5 (down S)) (k0_pay15 v) (k0_pay16 (k0_pay2 (across C)) v))
        shapeCasts_S512x512_S1x1x512x512
      = fun x => mag C S (chan X k) (ValueIdx.ix2 (x 2) (x 3)) := by
  have e2 : k0_pay2 (F := Ideal) (across C) = across C := shapeCast_self _ _
  have e3 : k0_pay3 (F := Ideal) (across S) = across S := shapeCast_self _ _
  have e4 : k0_pay4 (F := Ideal) (down C) = down C := shapeCast_self _ _
  have e5 : k0_pay5 (F := Ideal) (down S) = down S := shapeCast_self _ _
  rw [e2, e3, e4, e5]
  have hm := mat_chan X k v hv
  rw [channel C S hC hS v (by rw [hm]; exact fun i => hX _), hm]
  funext x
  exact unmat _ x

/-! Loads of a whole table and of one channel, the place of one channel's store. -/

theorem whole_wide (M : Memref sig .tc .vmem S512x3072 .bf16) (h : M.IsWhole) (X : S512x3072.Idx → EReal) :
    View.readAt (Elt Ideal) M.view (Rect.unit ![0, 0] ![512, 3072] inb_S512x3072_S512x3072_0_0).toLoadRect (h.unread (Val := Elt Ideal) X) = X := by
  funext x
  refine (h.readAt_unread (Val := Elt Ideal) X _ x).trans (congrArg X ?_)
  funext a
  fin_cases a <;> exact Fin.ext (by show 0 + 1 * _ = _; rw [Nat.one_mul, Nat.zero_add])

theorem whole_tall (M : Memref sig .tc .vmem S3072x512 .bf16) (h : M.IsWhole) (X : S3072x512.Idx → EReal) :
    View.readAt (Elt Ideal) M.view (Rect.unit ![0, 0] ![3072, 512] inb_S3072x512_S3072x512_0_0).toLoadRect (h.unread (Val := Elt Ideal) X) = X := by
  funext x
  refine (h.readAt_unread (Val := Elt Ideal) X _ x).trans (congrArg X ?_)
  funext a
  fin_cases a <;> exact Fin.ext (by show 0 + 1 * _ = _; rw [Nat.one_mul, Nat.zero_add])

theorem part (M : Memref sig .tc .vmem S1x3x512x512 .f32) (h : M.IsWhole) (X : S1x3x512x512.Idx → EReal) (k : Fin 3)
    (inb : ∀ a, (![0, k.val, 0, 0] : Fin 4 → ℕ) a + (![1, 1, 512, 512] : Fin 4 → ℕ) a ≤ S1x3x512x512.size a) (r c : Fin 512) :
    View.readAt (Elt Ideal) M.view (Rect.unit (s := S1x3x512x512) ![0, k.val, 0, 0] ![1, 1, 512, 512] inb).toLoadRect (h.unread (Val := Elt Ideal) X)
        (ValueIdx.ix4 (0 : Fin 1) (0 : Fin 1) r c) = X (ValueIdx.ix4 (0 : Fin 1) k r c) := by
  refine (h.readAt_unread (Val := Elt Ideal) X _ _).trans (congrArg X ?_)
  funext a
  fin_cases a
  · exact Fin.ext (by show 0 + 1 * 0 = 0; rfl)
  · exact Fin.ext (by show k.val + 1 * 0 = k.val; omega)
  · exact Fin.ext (by show 0 + 1 * r.val = r.val; omega)
  · exact Fin.ext (by show 0 + 1 * c.val = c.val; omega)

theorem placed (C S : S512x512.Idx → EReal) (X : S1x3x512x512.Idx → EReal) (k : Fin 3)
    (inb : ∀ a, (![0, k.val, 0, 0] : Fin 4 → ℕ) a + (![1, 1, 512, 512] : Fin 4 → ℕ) a ≤ S1x3x512x512.size a) (x : S1x1x512x512.Idx) :
    mag C S (chan X k) (ValueIdx.ix2 (x 2) (x 3))
      = magOf C S X ((Rect.unit (s := S1x3x512x512) ![0, k.val, 0, 0] ![1, 1, 512, 512] inb).emb x) := by
  have h1 : (x 1).val = 0 := by have := (x 1).isLt; change _ < 1 at this; omega
  have e1 : ((Rect.unit (s := S1x3x512x512) ![0, k.val, 0, 0] ![1, 1, 512, 512] inb).emb x) 1 = k :=
    Fin.ext (by show k.val + 1 * (x 1).val = k.val; omega)
  have e2 : ((Rect.unit (s := S1x3x512x512) ![0, k.val, 0, 0] ![1, 1, 512, 512] inb).emb x) 2 = x 2 :=
    Fin.ext (by show 0 + 1 * (x 2).val = (x 2).val; omega)
  have e3 : ((Rect.unit (s := S1x3x512x512) ![0, k.val, 0, 0] ![1, 1, 512, 512] inb).emb x) 3 = x 3 :=
    Fin.ext (by show 0 + 1 * (x 3).val = (x 3).val; omega)
  unfold magOf
  rw [e1, e2, e3]

theorem covered (y : S1x3x512x512.Idx) (k : Fin 3) (h : (y 1).val = k.val)
    (inb : ∀ a, (![0, k.val, 0, 0] : Fin 4 → ℕ) a + (![1, 1, 512, 512] : Fin 4 → ℕ) a ≤ S1x3x512x512.size a) :
    y ∈ (Rect.unit (s := S1x3x512x512) ![0, k.val, 0, 0] ![1, 1, 512, 512] inb).set := by
  rw [← Rect.map_emb_univ]
  refine Finset.mem_map.mpr ⟨ValueIdx.ix4 (0 : Fin 1) (0 : Fin 1) (y 2) (y 3), Finset.mem_univ _, ?_⟩
  have h0 : (y 0).val = 0 := by have := (y 0).isLt; change _ < 1 at this; omega
  funext a
  fin_cases a
  · exact Fin.ext (by show 0 + 1 * 0 = (y 0).val; omega)
  · exact Fin.ext (by show k.val + 1 * 0 = (y 1).val; omega)
  · exact Fin.ext (by show 0 + 1 * (y 2).val = (y 2).val; omega)
  · exact Fin.ext (by show 0 + 1 * (y 3).val = (y 3).val; omega)

/-- What the run leaves in the magnitudes' buffer: three stores, one for each channel. -/
theorem run0_mag {F : FTy → Type} [FloatOps F] (c : Dev nD) (i : grid0.Coords)
    (M1 : Memref sig .tc .vmem S1x3x512x512 .f32) (h1 : M1.IsWhole)
    (M2 : Memref sig .tc .vmem S512x3072 .bf16) (h2 : M2.IsWhole) (M3 : Memref sig .tc .vmem S512x3072 .bf16) (h3 : M3.IsWhole)
    (M4 : Memref sig .tc .vmem S3072x512 .bf16) (h4 : M4.IsWhole) (M5 : Memref sig .tc .vmem S3072x512 .bf16) (h5 : M5.IsWhole)
    (M6 : Memref sig .tc .vmem S32x1536 .bf16) (h6 : M6.IsWhole) (M7 : Memref sig .tc .vmem S1536x32 .bf16) (h7 : M7.IsWhole)
    (M8 : Memref sig .tc .vmem S8x96 .bf16) (h8 : M8.IsWhole) (M9 : Memref sig .tc .vmem S864x16 .bf16) (h9 : M9.IsWhole)
    (M10 : Memref sig .tc .vmem S1x3x512x512 .f32) (h10 : M10.IsWhole) (M11 : Memref sig .tc .vmem S1x32x32 .f32) (h11 : M11.IsWhole)
    (M12 : Memref sig .tc .vmem S1x1x16 .f32) (h12 : M12.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) :
    (run0 (F := F) c i M1 h1 M2 h2 M3 h3 M4 h4 M5 h5 M6 h6 M7 h7 M8 h8 M9 h9 M10 h10 M11 h11 M12 h12 f1 f2 f3 f4 f5 f6 f7 f8 f9).1.1
      = M10.view.writes (Elt F) M10.view.junk (run0.sl.H10_3 (F := F) c M1 M2 M3 M4 M5 f1 f2 f3 f4 f5) := by
  unfold run0
  dsimp only

/-- The body's run leaves the magnitudes of the image it was given, from the tables side by side and one above the other. -/
theorem block (c : Dev nD) (i : grid0.Coords)
    (M1 : Memref sig .tc .vmem S1x3x512x512 .f32) (h1 : M1.IsWhole)
    (M2 : Memref sig .tc .vmem S512x3072 .bf16) (h2 : M2.IsWhole) (M3 : Memref sig .tc .vmem S512x3072 .bf16) (h3 : M3.IsWhole)
    (M4 : Memref sig .tc .vmem S3072x512 .bf16) (h4 : M4.IsWhole) (M5 : Memref sig .tc .vmem S3072x512 .bf16) (h5 : M5.IsWhole)
    (M6 : Memref sig .tc .vmem S32x1536 .bf16) (h6 : M6.IsWhole) (M7 : Memref sig .tc .vmem S1536x32 .bf16) (h7 : M7.IsWhole)
    (M8 : Memref sig .tc .vmem S8x96 .bf16) (h8 : M8.IsWhole) (M9 : Memref sig .tc .vmem S864x16 .bf16) (h9 : M9.IsWhole)
    (M10 : Memref sig .tc .vmem S1x3x512x512 .f32) (h10 : M10.IsWhole) (M11 : Memref sig .tc .vmem S1x32x32 .f32) (h11 : M11.IsWhole)
    (M12 : Memref sig .tc .vmem S1x1x16 .f32) (h12 : M12.IsWhole)
    (f6 : Bf (F := Ideal) c M6) (f7 : Bf (F := Ideal) c M7) (f8 : Bf (F := Ideal) c M8) (f9 : Bf (F := Ideal) c M9)
    (C S : S512x512.Idx → EReal) (hC : ∀ i, Fin' (C i)) (hS : ∀ i, Fin' (S i)) (X : S1x3x512x512.Idx → EReal) (hX : ∀ i, Fin' (X i))
    (y : S1x3x512x512.Idx) :
    M10.view.read (Elt Ideal) (run0 (F := Ideal) c i M1 h1 M2 h2 M3 h3 M4 h4 M5 h5 M6 h6 M7 h7 M8 h8 M9 h9 M10 h10 M11 h11 M12 h12
      (h1.unread (e := .f32) (Val := Elt Ideal) X) (h2.unread (Val := Elt Ideal) (across C)) (h3.unread (Val := Elt Ideal) (across S)) (h4.unread (Val := Elt Ideal) (down C)) (h5.unread (Val := Elt Ideal) (down S)) f6 f7 f8 f9).1.1 y
      = magOf C S X y := by
  rw [run0_mag]
  refine View.read_writes_apply_of_pieces M10.view M10.view.junk (magOf C S X) (run0.sl.H10_3 (F := Ideal) c M1 M2 M3 M4 M5
    (h1.unread (Val := Elt Ideal) X) (h2.unread (Val := Elt Ideal) (across C)) (h3.unread (Val := Elt Ideal) (across S)) (h4.unread (Val := Elt Ideal) (down C)) (h5.unread (Val := Elt Ideal) (down S))) ?_ y ?_
  · intro p hp
    have e2 := whole_wide M2 h2 (across C)
    have e3 := whole_wide M3 h3 (across S)
    have e4 := whole_tall M4 h4 (down C)
    have e5 := whole_tall M5 h5 (down S)
    simp only [run0.sl.H10_3, List.mem_cons, List.not_mem_nil, or_false] at hp
    rw [e2, e3, e4, e5] at hp
    rcases hp with rfl | rfl | rfl
    · intro x
      refine (congrFun ((channel2 (across C) (across S) (down C) (down S) _).trans (payload C S hC hS X hX 2 _ (fun r c => ?_))) x).trans (placed C S X 2 inb_S1x3x512x512_S1x1x512x512_0_2_0_0 x)
      exact part M1 h1 X 2 inb_S1x3x512x512_S1x1x512x512_0_2_0_0 r c
    · intro x
      refine (congrFun ((channel1 (across C) (across S) (down C) (down S) _).trans (payload C S hC hS X hX 1 _ (fun r c => ?_))) x).trans (placed C S X 1 inb_S1x3x512x512_S1x1x512x512_0_1_0_0 x)
      exact part M1 h1 X 1 inb_S1x3x512x512_S1x1x512x512_0_1_0_0 r c
    · intro x
      refine (congrFun ((channel0 (across C) (across S) (down C) (down S) _).trans (payload C S hC hS X hX 0 _ (fun r c => ?_))) x).trans (placed C S X 0 inb_S1x3x512x512_S1x1x512x512_0_0_0_0 x)
      exact part M1 h1 X 0 inb_S1x3x512x512_S1x1x512x512_0_0_0_0 r c
  · have hy : (y 1).val < 3 := (y 1).isLt
    simp only [run0.sl.H10_3, List.mem_cons, List.not_mem_nil, or_false, exists_eq_or_imp, exists_eq_left]
    rcases (show (y 1).val = 2 ∨ (y 1).val = 1 ∨ (y 1).val = 0 by omega) with h | h | h
    · exact Or.inl (covered y 2 h _)
    · exact Or.inr (Or.inl (covered y 1 h _))
    · exact Or.inr (Or.inr (covered y 0 h _))

end Cert.KernelIdeal.Run

end
-- ==== Proof.Array0.lean ====
/- The first TensorCore call's magnitudes: the array of all the images'. -/
module

public import proofs.«01_k».proof.Proof.Block0
public import Idealize.ShloMosaic.Lib.Pipeline.ValueKit.Geometry

@[expose] public section

set_option maxRecDepth 100000

noncomputable section

namespace Cert.KernelIdeal.Run

open Cert.KernelIdeal Cert.KernelIdeal.Gen Cert.Stacked
open Idealize.ShloMosaic
open Idealize.ShloMosaic.TcCoe
open Idealize.ShloMosaic.SparseCore.Cfg (HIx)

theorem ix0 : ∀ t : Fin cfg0.N, win0_0.index t = ![(grid0.coords t 0).val, 0, 0, 0] := (by decide +kernel : ∀ t : Fin grid0.N, _)
theorem ix9 : ∀ t : Fin cfg0.N, win0_9.index t = ![(grid0.coords t 0).val, 0, 0, 0] := (by decide +kernel : ∀ t : Fin grid0.N, _)
theorem ixT1 : ∀ t : Fin cfg0.N, win0_1.index t = ![0, 0] := (by decide +kernel : ∀ t : Fin grid0.N, _)
theorem ixT2 : ∀ t : Fin cfg0.N, win0_2.index t = ![0, 0] := (by decide +kernel : ∀ t : Fin grid0.N, _)
theorem ixT3 : ∀ t : Fin cfg0.N, win0_3.index t = ![0, 0] := (by decide +kernel : ∀ t : Fin grid0.N, _)
theorem ixT4 : ∀ t : Fin cfg0.N, win0_4.index t = ![0, 0] := (by decide +kernel : ∀ t : Fin grid0.N, _)

/-- The magnitudes of all the images. -/
def mags (C S : S512x512.Idx → EReal) (A : S32x3x512x512.Idx → EReal) : S32x3x512x512.Idx → EReal := fun y =>
  mag C S (fun p => A (ValueIdx.ix4 (y 0) (y 1) (p 0) (p 1))) (ValueIdx.ix2 (y 2) (y 3))

variable (V : Dev nD → Valuation τ sig (Elt Ideal)) (O : CellTallies nD τ sig (HIx 1)) (B : Set (SemLoc sig × HIx 1))

theorem tbl1 (c : Dev nD) (t : Fin cfg0.N) : (stg0_1 V c t : S512x3072.Idx → EReal) = V c (Proc.devRef .tc main_v33) := by
  funext x
  refine congrArg (V c (Proc.devRef .tc main_v33) : S512x3072.Idx → EReal) ?_
  blk_ext [ixT1]
theorem tbl2 (c : Dev nD) (t : Fin cfg0.N) : (stg0_2 V c t : S512x3072.Idx → EReal) = V c (Proc.devRef .tc main_v34) := by
  funext x
  refine congrArg (V c (Proc.devRef .tc main_v34) : S512x3072.Idx → EReal) ?_
  blk_ext [ixT2]
theorem tbl3 (c : Dev nD) (t : Fin cfg0.N) : (stg0_3 V c t : S3072x512.Idx → EReal) = V c (Proc.devRef .tc main_v35) := by
  funext x
  refine congrArg (V c (Proc.devRef .tc main_v35) : S3072x512.Idx → EReal) ?_
  blk_ext [ixT3]
theorem tbl4 (c : Dev nD) (t : Fin cfg0.N) : (stg0_4 V c t : S3072x512.Idx → EReal) = V c (Proc.devRef .tc main_v36) := by
  funext x
  refine congrArg (V c (Proc.devRef .tc main_v36) : S3072x512.Idx → EReal) ?_
  blk_ext [ixT4]

theorem img0 (c : Dev nD) (t : Fin cfg0.N) (x : S1x3x512x512.Idx) :
    (stg0_0 V c t : S1x3x512x512.Idx → EReal) x
      = (V c (Proc.devRef .tc main_arg0) : S32x3x512x512.Idx → EReal) (ValueIdx.ix4 (grid0.coords t 0) (x 1) (x 2) (x 3)) := by
  refine congrArg (V c (Proc.devRef .tc main_arg0) : S32x3x512x512.Idx → EReal) ?_
  idx_bounds x
  blk_ext [ix0]

/-- After the call the magnitudes' array holds the magnitudes of the images. -/
theorem arr_mag (c : Dev nD) (C S : S512x512.Idx → EReal) (hC : ∀ i, Fin' (C i)) (hS : ∀ i, Fin' (S i))
    (h14 : V c (Proc.devRef .tc main_v33) = across C) (h15 : V c (Proc.devRef .tc main_v34) = across S)
    (h16 : V c (Proc.devRef .tc main_v35) = down C) (h17 : V c (Proc.devRef .tc main_v36) = down S)
    (A : S32x3x512x512.Idx → EReal) (hA : V c (Proc.devRef .tc main_arg0) = A) (hF : ∀ i, Fin' (A i)) :
    (dat0 (F := Ideal) V O B c).arrAt 9 cfg0.N = mags C S A := by
  refine (dat0 (F := Ideal) V O B c).arrAt_eq_of_covers 9 _ (by decide +kernel) fun t hf y => ?_
  have e1 := (tbl1 V c t).trans h14
  have e2 := (tbl2 V c t).trans h15
  have e3 := (tbl3 V c t).trans h16
  have e4 := (tbl4 V c t).trans h17
  have key : ∀ x : S1x3x512x512.Idx, (dat0 (F := Ideal) V O B c).after 9 t x = magOf C S (stg0_0 V c t) x := fun x => by
    show (win0_9.stage (cfg0.slots t 9)).view.read (Elt Ideal) (K0 V c t).1.1 x = _
    unfold K0
    rw [e1, e2, e3, e4]
    refine block c _ _ _ _ _ _ _ _ _ _ _ _ _ _ _ _ _ _ _ _ _ _ _ _ _ _ _ _ _ C S hC hS (stg0_0 V c t) (fun i => ?_) x
    rw [img0, hA]
    exact hF _
  blk_simp
  rw [key]
  have hz : ((win0_9.blk t).view.emb y : S32x3x512x512.Idx) = ValueIdx.ix4 (grid0.coords t 0) (y 1) (y 2) (y 3) := by
    idx_bounds y
    blk_ext [ix9]
  refine Eq.trans ?_ (congrArg (mags C S A) hz).symm
  show mag C S (chan (stg0_0 V c t) (y 1)) (ValueIdx.ix2 (y 2) (y 3))
    = mag C S (fun p => A (ValueIdx.ix4 (grid0.coords t 0) (y 1) (p 0) (p 1))) (ValueIdx.ix2 (y 2) (y 3))
  refine congrArg (fun M => mag C S M (ValueIdx.ix2 (y 2) (y 3))) (funext fun p => ?_)
  refine (img0 V c t _).trans ?_
  rw [hA]

end Cert.KernelIdeal.Run

end
-- ==== Proof.RefMag.lean ====
/- The reference's magnitudes are the same transform of the image, over the extended reals. -/
module

public import proofs.«01_k».proof.Proof.HostR
public import proofs.«01_k».proof.Proof.Array0
public import Idealize.ShloMosaic.Lib.IdealHost
public import Idealize.ShloMosaic.Lib.StackMember

@[expose] public section

set_option maxRecDepth 100000

noncomputable section

namespace Cert.RefMag

open Cert.Stacked Cert.Lines
open Idealize.ShloMosaic Idealize.ShloMosaic.StableHlo Idealize.SL.Sem
open Cert.ReferenceIdeal (S512x512 S32x3x512x512)
open scoped BigOperators

/-- The product that contracts the image's rows, -/
theorem rows (A : S32x3x512x512.Idx → EReal) (B : S512x512.Idx → EReal) (b : Fin 32) (ch : Fin 3) (w i : Fin 512) :
    Host.dotGeneral (F := Ideal) (φ₁ := .f32) (φ₂ := .f32) Cert.ReferenceIdeal.dot_S32x3x512x512_S512x512_S32x3x512x512_2_1_013_0_n_n none A B (ValueIdx.ix4 b ch w i)
      = ∑ h : Fin 512, A (ValueIdx.ix4 b ch h w) * B (ValueIdx.ix2 i h) := by
  unfold Host.dotGeneral
  set D := Cert.ReferenceIdeal.dot_S32x3x512x512_S512x512_S32x3x512x512_2_1_013_0_n_n with hD
  rw [Ideal.dotGeneral_apply, ← Equiv.sum_comp (ValueIdx.contrEquiv1 D 512 rfl rfl).symm]
  refine Finset.sum_congr rfl fun c _ => ?_
  have c2 := ValueIdx.contrEquiv1_symm_val D 512 rfl rfl c
  have l2 : D.lhsIdx (ValueIdx.ix4 b ch w i) ((ValueIdx.contrEquiv1 D 512 rfl rfl).symm c) = ValueIdx.ix4 b ch c w := by
    funext ax; apply Fin.ext
    match ax with
    | ⟨0, _⟩ => rfl
    | ⟨1, _⟩ => rfl
    | ⟨2, _⟩ => exact c2
    | ⟨3, _⟩ => rfl
  have r2 : D.rhsIdx (ValueIdx.ix4 b ch w i) ((ValueIdx.contrEquiv1 D 512 rfl rfl).symm c) = ValueIdx.ix2 i c := by
    funext ax; apply Fin.ext
    match ax with
    | ⟨0, _⟩ => rfl
    | ⟨1, _⟩ => exact c2
  rw [l2, r2]

/-- and the one that contracts the columns. -/
theorem cols (A : S32x3x512x512.Idx → EReal) (B : S512x512.Idx → EReal) (b : Fin 32) (ch : Fin 3) (i l : Fin 512) :
    Host.dotGeneral (F := Ideal) (φ₁ := .f32) (φ₂ := .f32) Cert.ReferenceIdeal.dot_S32x3x512x512_S512x512_S32x3x512x512_3_0_012_1_n_n none A B (ValueIdx.ix4 b ch i l)
      = ∑ w : Fin 512, A (ValueIdx.ix4 b ch i w) * B (ValueIdx.ix2 w l) := by
  unfold Host.dotGeneral
  set D := Cert.ReferenceIdeal.dot_S32x3x512x512_S512x512_S32x3x512x512_3_0_012_1_n_n with hD
  rw [Ideal.dotGeneral_apply, ← Equiv.sum_comp (ValueIdx.contrEquiv1 D 512 rfl rfl).symm]
  refine Finset.sum_congr rfl fun c _ => ?_
  have c2 := ValueIdx.contrEquiv1_symm_val D 512 rfl rfl c
  have l2 : D.lhsIdx (ValueIdx.ix4 b ch i l) ((ValueIdx.contrEquiv1 D 512 rfl rfl).symm c) = ValueIdx.ix4 b ch i c := by
    funext ax; apply Fin.ext
    match ax with
    | ⟨0, _⟩ => rfl
    | ⟨1, _⟩ => rfl
    | ⟨2, _⟩ => rfl
    | ⟨3, _⟩ => exact c2
  have r2 : D.rhsIdx (ValueIdx.ix4 b ch i l) ((ValueIdx.contrEquiv1 D 512 rfl rfl).symm c) = ValueIdx.ix2 c l := by
    funext ax; apply Fin.ext
    match ax with
    | ⟨0, _⟩ => exact c2
    | ⟨1, _⟩ => rfl
  rw [l2, r2]

theorem bits_512 : Ideal.ofBits .f32 0x44000000#32 = ((512 : ℝ) : EReal) := by
  simp [Ideal.ofBits, Ideal.ieee]
  rw [← EReal.coe_mul]; norm_num

theorem bits_512th : Ideal.ofBits .f32 0x3B000000#32 = (((512 : ℝ)⁻¹ : ℝ) : EReal) := by
  simp [Ideal.ofBits, Ideal.ieee]
  rw [← EReal.coe_mul]; norm_num

/-- Over 512 is times the word for one 512th. -/
theorem over_512 (x : EReal) : Ideal.div x (Ideal.ofBits .f32 0x44000000#32) = x * Ideal.ofBits .f32 0x3B000000#32 := by
  rw [bits_512, bits_512th]
  unfold Ideal.div
  rw [if_neg (by rw [← EReal.coe_zero, EReal.coe_eq_coe_iff]; norm_num), EReal.coe_inv]

/-- One image's channel. -/
abbrev pic (A : S32x3x512x512.Idx → EReal) (b : Fin 32) (ch : Fin 3) : S512x512.Idx → EReal := fun p => A (ValueIdx.ix4 b ch (p 0) (p 1))

variable {V : Valuation ReferenceIdeal.τ ReferenceIdeal.sig (Elt Ideal)} (hf : ∀ op ∈ ReferenceIdeal.Host.r0 (F := Ideal), Fixes op V)
  {C S : S512x512.Idx → EReal} (hc : V (Proc.devRef .tc ReferenceIdeal.main_v11) = C) (hs : V (Proc.devRef .tc ReferenceIdeal.main_v18) = S)
include hf hc hs

theorem v1 (A : S32x3x512x512.Idx → EReal) (hA : V (Proc.devRef .tc ReferenceIdeal.main_arg0) = A) (b : Fin 32) (ch : Fin 3) (i w : Fin 512) :
    (V (Proc.devRef .tc ReferenceIdeal.main_v20) : S32x3x512x512.Idx → EReal) (ValueIdx.ix4 b ch i w) = mul C (pic A b ch) (ValueIdx.ix2 i w) := by
  rw [eq_unary hf 27 rfl, eq_binary hf 26 rfl, hc, hA]
  refine (transpose_apply _ _ _ (ValueIdx.ix4 b ch i w) (ValueIdx.ix4 b ch w i) ?_).trans ?_
  · intro a; fin_cases a <;> rfl
  · exact (rows A C b ch w i).trans (Finset.sum_congr rfl fun h _ => mul_comm _ _)

theorem v3 (A : S32x3x512x512.Idx → EReal) (hA : V (Proc.devRef .tc ReferenceIdeal.main_arg0) = A) (b : Fin 32) (ch : Fin 3) (i w : Fin 512) :
    (V (Proc.devRef .tc ReferenceIdeal.main_v22) : S32x3x512x512.Idx → EReal) (ValueIdx.ix4 b ch i w) = mul S (pic A b ch) (ValueIdx.ix2 i w) := by
  rw [eq_unary hf 29 rfl, eq_binary hf 28 rfl, hs, hA]
  refine (transpose_apply _ _ _ (ValueIdx.ix4 b ch i w) (ValueIdx.ix4 b ch w i) ?_).trans ?_
  · intro a; fin_cases a <;> rfl
  · exact (rows A S b ch w i).trans (Finset.sum_congr rfl fun h _ => mul_comm _ _)

theorem v6 (A : S32x3x512x512.Idx → EReal) (hA : V (Proc.devRef .tc ReferenceIdeal.main_arg0) = A) (b : Fin 32) (ch : Fin 3) (i l : Fin 512) :
    (V (Proc.devRef .tc ReferenceIdeal.main_v25) : S32x3x512x512.Idx → EReal) (ValueIdx.ix4 b ch i l) = re C S (pic A b ch) (ValueIdx.ix2 i l) := by
  have e4 : (V (Proc.devRef .tc ReferenceIdeal.main_v23) : S32x3x512x512.Idx → EReal) (ValueIdx.ix4 b ch i l) = mul (mul C (pic A b ch)) C (ValueIdx.ix2 i l) := by
    rw [eq_binary hf 30 rfl, hc]
    refine (cols _ C b ch i l).trans (Finset.sum_congr rfl fun w _ => ?_)
    rw [v1 hf hc hs A hA]
  have e5 : (V (Proc.devRef .tc ReferenceIdeal.main_v24) : S32x3x512x512.Idx → EReal) (ValueIdx.ix4 b ch i l) = mul (mul S (pic A b ch)) S (ValueIdx.ix2 i l) := by
    rw [eq_binary hf 31 rfl, hs]
    refine (cols _ S b ch i l).trans (Finset.sum_congr rfl fun w _ => ?_)
    rw [v3 hf hc hs A hA]
  rw [eq_binary hf 32 rfl]
  exact congrArg₂ (fun x y : EReal => x - y) e4 e5

theorem v9 (A : S32x3x512x512.Idx → EReal) (hA : V (Proc.devRef .tc ReferenceIdeal.main_arg0) = A) (b : Fin 32) (ch : Fin 3) (i l : Fin 512) :
    (V (Proc.devRef .tc ReferenceIdeal.main_v28) : S32x3x512x512.Idx → EReal) (ValueIdx.ix4 b ch i l) = im C S (pic A b ch) (ValueIdx.ix2 i l) := by
  have e7 : (V (Proc.devRef .tc ReferenceIdeal.main_v26) : S32x3x512x512.Idx → EReal) (ValueIdx.ix4 b ch i l) = mul (mul C (pic A b ch)) S (ValueIdx.ix2 i l) := by
    rw [eq_binary hf 33 rfl, hs]
    refine (cols _ S b ch i l).trans (Finset.sum_congr rfl fun w _ => ?_)
    rw [v1 hf hc hs A hA]
  have e8 : (V (Proc.devRef .tc ReferenceIdeal.main_v27) : S32x3x512x512.Idx → EReal) (ValueIdx.ix4 b ch i l) = mul (mul S (pic A b ch)) C (ValueIdx.ix2 i l) := by
    rw [eq_binary hf 34 rfl, hc]
    refine (cols _ C b ch i l).trans (Finset.sum_congr rfl fun w _ => ?_)
    rw [v3 hf hc hs A hA]
  rw [eq_binary hf 35 rfl]
  exact congrArg₂ (fun x y : EReal => x + y) e7 e8

/-- The reference's magnitudes. -/
theorem magnitude (A : S32x3x512x512.Idx → EReal) (hA : V (Proc.devRef .tc ReferenceIdeal.main_arg0) = A) :
    (V (Proc.devRef .tc ReferenceIdeal.main_v35) : S32x3x512x512.Idx → EReal) = Cert.KernelIdeal.Run.mags C S A := by
  funext y
  obtain ⟨b, ch, i, l, rfl⟩ : ∃ (b : Fin 32) (ch : Fin 3) (i l : Fin 512), y = ValueIdx.ix4 b ch i l :=
    ⟨y 0, y 1, y 2, y 3, by funext a; fin_cases a <;> rfl⟩
  have h6 := v6 hf hc hs A hA b ch i l
  have h9 := v9 hf hc hs A hA b ch i l
  have e11 : (V (Proc.devRef .tc ReferenceIdeal.main_v30) : S32x3x512x512.Idx → EReal) (ValueIdx.ix4 b ch i l) = re C S (pic A b ch) (ValueIdx.ix2 i l) * re C S (pic A b ch) (ValueIdx.ix2 i l) := by
    rw [eq_binary hf 37 rfl]
    exact congrArg₂ (fun x y : EReal => x * y) h6 h6
  have e12 : (V (Proc.devRef .tc ReferenceIdeal.main_v31) : S32x3x512x512.Idx → EReal) (ValueIdx.ix4 b ch i l) = im C S (pic A b ch) (ValueIdx.ix2 i l) * im C S (pic A b ch) (ValueIdx.ix2 i l) := by
    rw [eq_binary hf 38 rfl, eq_unary hf 36 rfl]
    refine (congrArg₂ (fun x y : EReal => -x * -y) h9 h9).trans ?_
    exact neg_mul_neg _ _
  have e14 : (V (Proc.devRef .tc ReferenceIdeal.main_v33) : S32x3x512x512.Idx → EReal) (ValueIdx.ix4 b ch i l)
      = Ideal.sqrt (re C S (pic A b ch) (ValueIdx.ix2 i l) * re C S (pic A b ch) (ValueIdx.ix2 i l) + im C S (pic A b ch) (ValueIdx.ix2 i l) * im C S (pic A b ch) (ValueIdx.ix2 i l)) := by
    rw [eq_unary hf 40 rfl, eq_binary hf 39 rfl]
    exact congrArg₂ (fun x y : EReal => Ideal.sqrt (x + y)) e11 e12
  have e15 : (V (Proc.devRef .tc ReferenceIdeal.main_v34) : S32x3x512x512.Idx → EReal) (ValueIdx.ix4 b ch i l) = Ideal.ofBits .f32 0x44000000#32 := by
    rw [eq_unary hf 42 rfl, eq_nullary hf 41 rfl]
    rfl
  rw [eq_binary hf 43 rfl]
  refine (congrArg₂ Ideal.div e14 e15).trans ?_
  rw [over_512]
  rfl

end Cert.RefMag

end
-- ==== Proof.Tables.lean ====
/- Every word of the two tables of cosines and sines is a finite number's, and the two programs' tables are the same words. -/
module

public import proofs.«01_k».proof.KernelIdeal
public import proofs.«01_k».proof.ReferenceIdeal

@[expose] public section

set_option maxRecDepth 100000

noncomputable section

namespace Cert.Tables

open Cert.KernelIdeal

/-- A word whose exponent is not the largest one. -/
def okW (b : BitVec 32) : Bool := !(Nat.beq (b.toNat / 8388608 % 256) 255)

theorem lit0_ok : ∀ i, okW (lit0 i) = true := by decide +kernel
theorem lit1_ok : ∀ i, okW (lit1 i) = true := by decide +kernel

theorem lit0_same : Cert.ReferenceIdeal.lit0 = Cert.KernelIdeal.lit0 := by rfl
theorem lit1_same : Cert.ReferenceIdeal.lit1 = Cert.KernelIdeal.lit1 := by rfl

end Cert.Tables

end
-- ==== Proof.Mag.lean ====
/- The first call of the kernel program ends with the reference's magnitudes. -/
module

public import proofs.«01_k».proof.Proof.RefMag
public import proofs.«01_k».proof.Proof.Tables
public import proofs.«01_k».proof.Proof.Frames

@[expose] public section

set_option maxRecDepth 100000

noncomputable section

namespace Cert.KernelIdeal.Run

open Cert.Lines Cert.Stacked Cert.KernelIdeal.Host Cert.KernelIdeal.Gen
open Idealize.ShloMosaic Idealize.ShloMosaic.StableHlo Idealize.SL.Sem

/-- A word whose exponent is not all ones is a finite number. -/
theorem word_finite {b : BitVec 32} (h : Cert.Tables.okW b = true) : Fin' (Ideal.ofBits .f32 b) := by
  have h' : b.toNat / 8388608 % 256 ≠ 255 := by
    intro e
    rw [Cert.Tables.okW, e] at h
    exact absurd h (by decide)
  have hex : (b.extractLsb' 23 8).toNat ≠ 2 ^ 8 - 1 := by
    rw [BitVec.extractLsb'_toNat, Nat.shiftRight_eq_div_pow]
    exact h'
  show Fin' (Ideal.ieee 8 23 b)
  unfold Ideal.ieee
  dsimp only
  rw [if_neg hex]
  split
  · exact Fin'.coe _
  · exact Fin'.coe _

/-- The places looked up in the tables: `j·k mod 512`. -/
def places : IVec S512x512x1 32 :=
  let p := andi (muli (iotaInDim S512x512 32 0) (iotaInDim S512x512 32 1)) (broadcastInDim S512x512 ![] bcast_S_S512x512 (constantI S_ 32 511#32))
  broadcastInDim S512x512x1 ![0, 1] bcast_S512x512_S512x512x1_0_1
    (select (cmpi .slt p (broadcastInDim S512x512 ![] bcast_S_S512x512 (constantI S_ 32 0#32)))
      (addi p (broadcastInDim S512x512 ![] bcast_S_S512x512 (constantI S_ 32 512#32))) p)

/-- The cosines' table, -/
def cosines : S512x512.Idx → EReal :=
  Host.gather gather_S512_S512x512x1_S512x512_n_0_n_n_0_2_1 (fun i => Ideal.ofBits .f32 (lit0 (S512.rowMajor i))) places
/-- and the sines'. -/
def sines : S512x512.Idx → EReal :=
  Host.gather gather_S512_S512x512x1_S512x512_n_0_n_n_0_2_1 (fun i => Ideal.ofBits .f32 (lit1 (S512.rowMajor i))) places

theorem cosines_finite (i) : Fin' (cosines i) := word_finite (Cert.Tables.lit0_ok _)
theorem sines_finite (i) : Fin' (sines i) := word_finite (Cert.Tables.lit1_ok _)

section Tables
variable {W : Valuation τ sig (Elt Ideal)} (hf : ∀ op ∈ k0 (F := Ideal), Fixes op W)
include hf

theorem t_v4 : (W (Proc.devRef .tc main_v4) : T Ideal S512x512 .i32) = andi (muli (iotaInDim S512x512 32 0) (iotaInDim S512x512 32 1)) (broadcastInDim S512x512 ![] bcast_S_S512x512 (constantI S_ 32 511#32)) := by
  rw [eq_binary hf 10 rfl, eq_unary hf 9 rfl, eq_nullary hf 8 rfl, eq_binary hf 7 rfl, eq_nullary hf 6 rfl, eq_nullary hf 5 rfl]

theorem t_cst : (W (Proc.devRef .tc main_v11) : T Ideal S512x512 .f32) = cosines := by
  rw [eq_binary hf 19 rfl, eq_unary hf 18 rfl, eq_ternary hf 17 rfl, eq_binary hf 16 rfl, eq_unary hf 15 rfl, eq_nullary hf 14 rfl,
    eq_binary hf 13 rfl, eq_unary hf 12 rfl, eq_nullary hf 11 rfl, t_v4 hf, eq_nullary hf 0 rfl]
  rfl
theorem t_cst_0 : (W (Proc.devRef .tc main_v18) : T Ideal S512x512 .f32) = sines := by
  rw [eq_binary hf 28 rfl, eq_unary hf 27 rfl, eq_ternary hf 26 rfl, eq_binary hf 25 rfl, eq_unary hf 24 rfl, eq_nullary hf 23 rfl,
    eq_binary hf 22 rfl, eq_unary hf 21 rfl, eq_nullary hf 20 rfl, t_v4 hf, eq_nullary hf 1 rfl]
  rfl

variable {C : S512x512.Idx → EReal}

theorem t_v0 (h : (W (Proc.devRef .tc main_v11) : T Ideal S512x512 .f32) = C) :
    (W (Proc.devRef .tc main_v19) : T Ideal S512x512 .bf16) = truncf (F := Ideal) (φ := .f32) .bf16 C bitsLt_bf16_f32 := by
  rw [eq_unary hf 29 rfl, h]
theorem t_v2 (h : (W (Proc.devRef .tc main_v11) : T Ideal S512x512 .f32) = C) :
    (W (Proc.devRef .tc main_v21) : T Ideal S512x512 .f32) = subf (F := Ideal) (φ := .f32) C (extf .f32 (truncf (F := Ideal) (φ := .f32) .bf16 C bitsLt_bf16_f32) bitsLt_bf16_f32) := by
  rw [eq_binary hf 31 rfl, eq_unary hf 30 rfl, t_v0 hf h, h]
theorem t_v3 (h : (W (Proc.devRef .tc main_v11) : T Ideal S512x512 .f32) = C) :
    (W (Proc.devRef .tc main_v22) : T Ideal S512x512 .bf16) = truncf .bf16 (subf (F := Ideal) (φ := .f32) C (extf .f32 (truncf (F := Ideal) (φ := .f32) .bf16 C bitsLt_bf16_f32) bitsLt_bf16_f32)) bitsLt_bf16_f32 := by
  rw [eq_unary hf 32 rfl, t_v2 hf h]
theorem t_v6 (h : (W (Proc.devRef .tc main_v11) : T Ideal S512x512 .f32) = C) :
    (W (Proc.devRef .tc main_v25) : T Ideal S512x512 .bf16) = truncf .bf16 (subf (subf (F := Ideal) (φ := .f32) C (extf .f32 (truncf (F := Ideal) (φ := .f32) .bf16 C bitsLt_bf16_f32) bitsLt_bf16_f32))
        (extf .f32 (truncf .bf16 (subf (F := Ideal) (φ := .f32) C (extf .f32 (truncf (F := Ideal) (φ := .f32) .bf16 C bitsLt_bf16_f32) bitsLt_bf16_f32)) bitsLt_bf16_f32) bitsLt_bf16_f32)) bitsLt_bf16_f32 := by
  rw [eq_unary hf 35 rfl, eq_binary hf 34 rfl, eq_unary hf 33 rfl, t_v3 hf h, t_v2 hf h]

theorem t_v7 (h : (W (Proc.devRef .tc main_v18) : T Ideal S512x512 .f32) = C) :
    (W (Proc.devRef .tc main_v26) : T Ideal S512x512 .bf16) = truncf (F := Ideal) (φ := .f32) .bf16 C bitsLt_bf16_f32 := by
  rw [eq_unary hf 36 rfl, h]
theorem t_v9 (h : (W (Proc.devRef .tc main_v18) : T Ideal S512x512 .f32) = C) :
    (W (Proc.devRef .tc main_v28) : T Ideal S512x512 .f32) = subf (F := Ideal) (φ := .f32) C (extf .f32 (truncf (F := Ideal) (φ := .f32) .bf16 C bitsLt_bf16_f32) bitsLt_bf16_f32) := by
  rw [eq_binary hf 38 rfl, eq_unary hf 37 rfl, t_v7 hf h, h]
theorem t_v10 (h : (W (Proc.devRef .tc main_v18) : T Ideal S512x512 .f32) = C) :
    (W (Proc.devRef .tc main_v29) : T Ideal S512x512 .bf16) = truncf .bf16 (subf (F := Ideal) (φ := .f32) C (extf .f32 (truncf (F := Ideal) (φ := .f32) .bf16 C bitsLt_bf16_f32) bitsLt_bf16_f32)) bitsLt_bf16_f32 := by
  rw [eq_unary hf 39 rfl, t_v9 hf h]
theorem t_v13 (h : (W (Proc.devRef .tc main_v18) : T Ideal S512x512 .f32) = C) :
    (W (Proc.devRef .tc main_v32) : T Ideal S512x512 .bf16) = truncf .bf16 (subf (subf (F := Ideal) (φ := .f32) C (extf .f32 (truncf (F := Ideal) (φ := .f32) .bf16 C bitsLt_bf16_f32) bitsLt_bf16_f32))
        (extf .f32 (truncf .bf16 (subf (F := Ideal) (φ := .f32) C (extf .f32 (truncf (F := Ideal) (φ := .f32) .bf16 C bitsLt_bf16_f32) bitsLt_bf16_f32)) bitsLt_bf16_f32) bitsLt_bf16_f32)) bitsLt_bf16_f32 := by
  rw [eq_unary hf 42 rfl, eq_binary hf 41 rfl, eq_unary hf 40 rfl, t_v10 hf h, t_v9 hf h]

variable (hC : ∀ i, Fin' (C i))
include hC

theorem t_v14 (h : (W (Proc.devRef .tc main_v11) : T Ideal S512x512 .f32) = C) : W (Proc.devRef .tc main_v33) = across C := by
  rw [eq_nary hf 43 rfl, ← side C hC, ← t_v6 hf h, ← t_v3 hf h, ← t_v0 hf h]
  rfl
theorem t_v15 (h : (W (Proc.devRef .tc main_v18) : T Ideal S512x512 .f32) = C) : W (Proc.devRef .tc main_v34) = across C := by
  rw [eq_nary hf 44 rfl, ← side C hC, ← t_v13 hf h, ← t_v10 hf h, ← t_v7 hf h]
  rfl
theorem t_v16 (h : (W (Proc.devRef .tc main_v11) : T Ideal S512x512 .f32) = C) : W (Proc.devRef .tc main_v35) = down C := by
  rw [eq_nary hf 45 rfl, ← above C hC, ← t_v6 hf h, ← t_v3 hf h, ← t_v0 hf h]
  rfl
theorem t_v17 (h : (W (Proc.devRef .tc main_v18) : T Ideal S512x512 .f32) = C) : W (Proc.devRef .tc main_v36) = down C := by
  rw [eq_nary hf 46 rfl, ← above C hC, ← t_v13 hf h, ← t_v10 hf h, ← t_v7 hf h]
  rfl
end Tables

/-! The reference's tables are the same. -/

section RefTables
variable {V : Valuation ReferenceIdeal.τ ReferenceIdeal.sig (Elt Ideal)} (hf : ∀ op ∈ ReferenceIdeal.Host.r0 (F := Ideal), Fixes op V)
include hf

theorem r_v4 : (V (Proc.devRef .tc ReferenceIdeal.main_v4) : T Ideal S512x512 .i32) = andi (muli (iotaInDim S512x512 32 0) (iotaInDim S512x512 32 1)) (broadcastInDim S512x512 ![] bcast_S_S512x512 (constantI S_ 32 511#32)) := by
  rw [eq_binary hf 7 rfl, eq_unary hf 6 rfl, eq_nullary hf 5 rfl, eq_binary hf 4 rfl, eq_nullary hf 3 rfl, eq_nullary hf 2 rfl]

theorem r_cst : (V (Proc.devRef .tc ReferenceIdeal.main_v11) : S512x512.Idx → EReal) = cosines := by
  rw [eq_binary hf 16 rfl, eq_unary hf 15 rfl, eq_ternary hf 14 rfl, eq_binary hf 13 rfl, eq_unary hf 12 rfl, eq_nullary hf 11 rfl,
    eq_binary hf 10 rfl, eq_unary hf 9 rfl, eq_nullary hf 8 rfl, r_v4 hf, eq_nullary hf 0 rfl, Cert.Tables.lit0_same]
  rfl
theorem r_cst_0 : (V (Proc.devRef .tc ReferenceIdeal.main_v18) : S512x512.Idx → EReal) = sines := by
  rw [eq_binary hf 25 rfl, eq_unary hf 24 rfl, eq_ternary hf 23 rfl, eq_binary hf 22 rfl, eq_unary hf 21 rfl, eq_nullary hf 20 rfl,
    eq_binary hf 19 rfl, eq_unary hf 18 rfl, eq_nullary hf 17 rfl, r_v4 hf, eq_nullary hf 1 rfl, Cert.Tables.lit1_same]
  rfl
end RefTables

variable (m : (ℓ : Loc nD τ sig) → Buf (Elt Ideal) ℓ)

theorem k0_fixes (d : Dev nD) : ∀ op ∈ k0 (F := Ideal), Fixes op (W1 m d) := k0_line.fixes (launchContents m d)

/-- The magnitudes after the first call. -/
theorem W2_mag (d : Dev nD) (A : S32x3x512x512.Idx → EReal) (hA : m (d, Proc.devRef .tc main_arg0) = A) (hF : ∀ i, Fin' (A i)) :
    (W2 m d (Proc.devRef .tc main_v43_0) : S32x3x512x512.Idx → EReal) = mags cosines sines A := by
  have hf := k0_fixes m d
  have a := Pipeline.afterRegion_arr (dats (W1 m) (O₀ (F := Ideal)) (Bd (F := Ideal)) 0 d) (W1 m d) Gen.launch0.win.arr_inj 9
  refine Eq.trans a ?_
  refine arr_mag (W1 m) (O₀ (F := Ideal) d) (Bd (F := Ideal)) d cosines sines cosines_finite sines_finite ?_ ?_ ?_ ?_ A ?_ hF
  · exact t_v14 hf cosines_finite (t_cst hf)
  · exact t_v15 hf sines_finite (t_cst_0 hf)
  · exact t_v16 hf cosines_finite (t_cst hf)
  · exact t_v17 hf sines_finite (t_cst_0 hf)
  · rw [← hA]
    unfold W1
    exact k0_line.keep _ (show IsAt main_arg0 0 from ⟨rfl, rfl⟩) (by omega)

/-- The magnitudes are finite. -/
theorem mags_finite (A : S32x3x512x512.Idx → EReal) (hF : ∀ i, Fin' (A i)) (y) : Fin' (mags cosines sines A y) := by
  have hX : ∀ p : S512x512.Idx, Fin' (A (ValueIdx.ix4 (y 0) (y 1) (p 0) (p 1))) := fun p => hF _
  have hc := mul_finite cosines_finite hX
  have hs := mul_finite sines_finite hX
  exact Fin'.mul (Fin'.sqrt_sq_add_sq (Fin'.sub (mul_finite hc cosines_finite _) (mul_finite hs sines_finite _))
    (Fin'.add (mul_finite hc sines_finite _) (mul_finite hs cosines_finite _))) (word_finite rfl)

end Cert.KernelIdeal.Run

end
-- ==== Proof.Rank.lean ====
/- The second TensorCore call: a patch is marked when fewer than 768 patches come before it. -/
module

public import proofs.«01_k».proof.Proof.Mag
public import Idealize.ShloMosaic.Lib.Pointwise
public import Idealize.ShloMosaic.PureOps.Ideal.Laws
public import Idealize.ShloMosaic.Lib.ValueLayout
public import proofs.«01_k».proof.Proof.Array0

@[expose] public section

set_option maxRecDepth 100000

noncomputable section

namespace Cert.Rank

open Cert.KernelIdeal Cert.KernelIdeal.Gen
open Idealize.ShloMosaic

/-- The mark of entry `j`: one when fewer than 768 entries are larger, or equal and earlier. -/
def mark (e : Fin 1024 → EReal) (j : Fin 1024) : EReal :=
  if (Finset.univ.filter fun k : Fin 1024 => e j < e k ∨ e k = e j ∧ k < j).card < 768 then 1 else 0

/-- A truth value as a number. -/
theorem num (P : Prop) [Decidable P] : (((BitVec.setWidth 32 (BitVec.ofBool (decide P))).toInt : ℝ) : EReal) = if P then 1 else 0 := by
  by_cases h : P
  · rw [decide_eq_true h, if_pos h]
    show ((((1 : ℤ) : ℝ)) : EReal) = 1
    simp
  · rw [decide_eq_false h, if_neg h]
    show ((((0 : ℤ) : ℝ)) : EReal) = 0
    simp

/-- Adding truth values counts. -/
theorem count {n : ℕ} (P Q : Fin n → Prop) [DecidablePred P] [DecidablePred Q] (h : ∀ k, P k → ¬ Q k) :
    ∑ k : Fin n, ((if P k then (1 : EReal) else 0) + (if Q k then 1 else 0)) = ((Finset.univ.filter fun k => P k ∨ Q k).card : EReal) := by
  have e : ∀ k, ((if P k then (1 : EReal) else 0) + (if Q k then 1 else 0)) = if P k ∨ Q k then 1 else 0 := fun k => by
    by_cases hp : P k
    · simp [hp, h k hp]
    · simp [hp]
  rw [Finset.sum_congr rfl fun k _ => e k, Finset.sum_ite, Finset.sum_const_zero, add_zero, Finset.sum_const, nsmul_one]

theorem w768 : Ideal.ofBits .f32 0x44400000#32 = ((768 : ℕ) : EReal) := by
  have : Ideal.ofBits .f32 0x44400000#32 = ((768 : ℝ) : EReal) := by
    simp [Ideal.ofBits, Ideal.ieee]
    rw [← EReal.coe_mul]
    norm_num
  rw [this]
  norm_cast

theorem lift_row (h : S1024x1024.Reduces [1] S1024) (i : S1024.Idx) (k : Fin 1024) : h.lift i k = ValueIdx.ix2 (i 0) k := by
  funext c
  apply Fin.ext
  fin_cases c <;> rfl

/-- Adding along a row. -/
theorem row_sum (x : FVec Ideal S1024x1024 .f32) (i : Fin 1024) :
    multiReduction (F := Ideal) .add [1] S1024 x 0x00000000#32 reduces_S1024x1024_S1024 (.inl rfl) rfl (ValueIdx.ix1 i)
      = ∑ k : Fin 1024, (x (ValueIdx.ix2 i k) : EReal) := by
  refine (Ideal.multiReduction_add_single x 0x00000000#32 reduces_S1024x1024_S1024 (.inl rfl) rfl (ValueIdx.ix1 i)).trans ?_
  exact Finset.sum_congr rfl fun k _ => congrArg x (lift_row reduces_S1024x1024_S1024 (ValueIdx.ix1 i) k)

/-- A column broadcast along the rows. -/
theorem col_apply (v : S1024.Idx → EReal) (i k : Fin 1024) :
    broadcastTo S1024x1024 (shapeCast S1024x1 v shapeCasts_S1024_S1024x1) broadcasts_S1024x1_S1024x1024 (ValueIdx.ix2 i k) = v (ValueIdx.ix1 i) := by
  rw [broadcastTo_apply _ _ _ (ValueIdx.ix2 i (0 : Fin 1))]
  · refine shapeCast_apply v _ _ _ ?_
    rw [Shape.rowMajor_val_one, Shape.rowMajor_val_two]
    show i.val = i.val * 1 + 0
    omega
  · intro a
    fin_cases a <;> rfl

theorem row_apply (v : S1x1x1024.Idx → EReal) (i k : Fin 1024) :
    broadcastTo S1024x1024 (shapeCast S1x1024 (shapeCast S1x1024 v shapeCasts_S1x1x1024_S1x1024) shapeCasts_S1x1024_S1x1024) broadcasts_S1x1024_S1024x1024 (ValueIdx.ix2 i k)
      = v (ValueIdx.ix3 (0 : Fin 1) (0 : Fin 1) k) := by
  rw [broadcastTo_apply _ _ _ (ValueIdx.ix2 (0 : Fin 1) k)]
  · rw [shapeCast_apply _ shapeCasts_S1x1024_S1x1024 _ (ValueIdx.ix2 (0 : Fin 1) k) rfl]
    refine shapeCast_apply v _ _ _ ?_
    rw [Shape.rowMajor_val_three, Shape.rowMajor_val_two]
    show (0 * 1 + 0) * 1024 + k.val = 0 * 1024 + k.val
    omega
  · intro a
    fin_cases a <;> rfl

theorem lane_lt (i k : Fin 1024) : (BitVec.ofNat 32 k.val).slt (BitVec.ofNat 32 i.val) = decide (k < i) := by
  have hi := i.isLt
  have hk := k.isLt
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact decide_eq_decide.mpr (by rw [Fin.lt_def]; omega)

theorem lane_eq (i k : Fin 1024) : (BitVec.ofNat 32 i.val = BitVec.ofNat 32 k.val) ↔ i = k := by
  have hi := i.isLt
  have hk := k.isLt
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- The diagonal's entries, picked out of the rows. -/
theorem diag (x : FVec Ideal S1024x1024 .f32) (i : Fin 1024) :
    multiReduction (F := Ideal) .add [1] S1024
      (select (cmpi .eq (iota .tc S1024x1024 32 [0] iota_S1024x1024_d0_w32) (iota .tc S1024x1024 32 [1] iota_S1024x1024_d1_w32)) x
        (broadcast S1024x1024 (Scalar.ofBits (F := Ideal) .f32 0x00000000#32)))
      0x00000000#32 reduces_S1024x1024_S1024 (.inl rfl) rfl (ValueIdx.ix1 i) = (x (ValueIdx.ix2 i i) : EReal) := by
  rw [row_sum]
  refine (Finset.sum_congr rfl fun k _ => ?_).trans (Finset.sum_ite_eq Finset.univ i fun k => (x (ValueIdx.ix2 i k) : EReal)) |>.trans (if_pos (Finset.mem_univ i))
  show (if BitVec.ofBool (decide (BitVec.ofNat 32 (0 * 1024 + i.val) = BitVec.ofNat 32 (0 * 1024 + k.val))) = 1#1 then x (ValueIdx.ix2 i k) else Ideal.ofBits .f32 0x00000000#32) = _
  rw [Nat.zero_mul, Nat.zero_add, Nat.zero_add, Ideal.ofBits_zero_f32]
  by_cases h : i = k
  · rw [if_pos h, decide_eq_true ((lane_eq i k).mpr h)]; rfl
  · rw [if_neg h, decide_eq_false (fun e => h ((lane_eq i k).mp e))]; rfl

/-- The stored value, from the row of scores. -/
theorem payload (v0 : Vec Ideal S1x1x1024 .f32) (j : Fin 1024) :
    k1_pay1 (F := Ideal) v0 (ValueIdx.ix3 (0 : Fin 1) j (0 : Fin 1)) = mark (fun k => (v0 (ValueIdx.ix3 (0 : Fin 1) (0 : Fin 1) k) : EReal)) j := by
  unfold k1_pay1
  dsimp only
  rw [shapeCast_apply _ shapeCasts_S1024x1_S1x1024x1 _ (ValueIdx.ix2 j (0 : Fin 1)) (by
    rw [Shape.rowMajor_val_three, Shape.rowMajor_val_two]
    show j.val * 1 + 0 = (0 * 1024 + j.val) * 1 + 0
    omega)]
  refine (num _).trans ?_
  unfold mark
  refine if_congr ?_ rfl rfl
  show (shapeCast S1024x1 _ shapeCasts_S1024_S1024x1 (ValueIdx.ix2 j (0 : Fin 1)) : EReal) < Ideal.ofBits .f32 0x44400000#32 ↔ _
  rw [shapeCast_apply _ shapeCasts_S1024_S1024x1 _ (ValueIdx.ix1 j) (by
    rw [Shape.rowMajor_val_one, Shape.rowMajor_val_two]
    show j.val = j.val * 1 + 0
    omega), w768]
  refine (Iff.of_eq (congrArg (· < ((768 : ℕ) : EReal)) ((row_sum _ j).trans ((Finset.sum_congr rfl fun k _ => ?_).trans
    (count (fun k : Fin 1024 => (v0 (ValueIdx.ix3 (0 : Fin 1) (0 : Fin 1) j) : EReal) < v0 (ValueIdx.ix3 (0 : Fin 1) (0 : Fin 1) k))
      (fun k => (v0 (ValueIdx.ix3 (0 : Fin 1) (0 : Fin 1) k) : EReal) = v0 (ValueIdx.ix3 (0 : Fin 1) (0 : Fin 1) j) ∧ k < j)
      fun k h h' => (ne_of_lt h) h'.1.symm))))).trans ?_
  · refine congrArg₂ (· + ·) ?_ ?_
    · refine (num _).trans (if_congr ?_ rfl rfl)
      exact Iff.of_eq (congrArg₂ (fun a b : EReal => b < a) (row_apply v0 j k)
        ((col_apply _ j k).trans ((diag _ j).trans (row_apply v0 j j))))
    · refine Eq.trans (congrArg (fun b : BitVec 1 => (((BitVec.setWidth 32 b).toInt : ℝ) : EReal)) ?_) (num _)
      refine Eq.trans (congrArg₂ (fun a b : EReal => BitVec.ofBool (decide (a = b)) &&& BitVec.ofBool (BitVec.slt (BitVec.ofNat 32 (0 * 1024 + k.val)) (BitVec.ofNat 32 (0 * 1024 + j.val))))
        (row_apply v0 j k) ((col_apply _ j k).trans ((diag _ j).trans (row_apply v0 j j)))) ?_
      rw [Nat.zero_mul, Nat.zero_add, Nat.zero_add, lane_lt,
        show ∀ a b : Bool, BitVec.ofBool a &&& BitVec.ofBool b = BitVec.ofBool (a && b) by decide, ← Bool.decide_and]
  · exact Nat.cast_lt

end Cert.Rank

namespace Cert.KernelIdeal.Run

open Cert.KernelIdeal Cert.KernelIdeal.Gen Cert.Rank
open Idealize.ShloMosaic
open Idealize.ShloMosaic.TcCoe
open Idealize.ShloMosaic.SparseCore.Cfg (HIx)

theorem ixA : ∀ t : Fin cfg1.N, win1_0.index t = ![(grid1.coords t 0).val, 0, 0] := (by decide +kernel : ∀ t : Fin grid1.N, _)
theorem ixB : ∀ t : Fin cfg1.N, win1_1.index t = ![(grid1.coords t 0).val, 0, 0] := (by decide +kernel : ∀ t : Fin grid1.N, _)

/-- Loading a whole row. -/
theorem whole_row (M : Memref sig .tc .vmem S1x1x1024 .f32) (h : M.IsWhole) (X : S1x1x1024.Idx → EReal) :
    View.readAt (Elt Ideal) M.view (Rect.unit ![0, 0, 0] ![1, 1, 1024] inb_S1x1x1024_S1x1x1024_0_0_0).toLoadRect (h.unread (e := .f32) (Val := Elt Ideal) X) = X := by
  funext x
  refine (h.readAt_unread (e := .f32) (Val := Elt Ideal) X _ x).trans (congrArg X ?_)
  funext a
  fin_cases a <;> exact Fin.ext (by show 0 + 1 * _ = _; rw [Nat.one_mul, Nat.zero_add])

theorem middle (x : S1x1024x1.Idx) : ∃ l : Fin 1024, x = ValueIdx.ix3 (0 : Fin 1) l (0 : Fin 1) := ⟨x 1, by
  funext a
  have h := (x a).isLt
  fin_cases a
  · exact Fin.ext (by change (x 0).val < 1 at h; show (x 0).val = 0; omega)
  · rfl
  · exact Fin.ext (by change (x 2).val < 1 at h; show (x 2).val = 0; omega)⟩

/-- The body's run leaves the marks of the row it was given. -/
theorem block1 (c : Dev nD) (i : grid1.Coords) (M1 : Memref sig .tc .vmem S1x1x1024 .f32) (h1 : M1.IsWhole) (M2 : Memref sig .tc .vmem S1x1024x1 .f32) (h2 : M2.IsWhole)
    (X : S1x1x1024.Idx → EReal) (j : Fin 1024) :
    M2.view.read (Elt Ideal) (run1 (F := Ideal) c i M1 h1 M2 h2 (h1.unread (e := .f32) (Val := Elt Ideal) X)).1 (ValueIdx.ix3 (0 : Fin 1) j (0 : Fin 1))
      = mark (fun k => X (ValueIdx.ix3 (0 : Fin 1) (0 : Fin 1) k)) j := by
  unfold run1
  dsimp only
  refine View.read_writes_apply_of_pieces (Val := Elt Ideal) M2.view M2.view.junk (fun y : S1x1024x1.Idx => (mark (fun k => X (ValueIdx.ix3 (0 : Fin 1) (0 : Fin 1) k)) (y 1) : Elt Ideal .f32)) _ ?_ _ ?_
  · intro p hp
    have e1 := whole_row M1 h1 X
    simp only [run1.sl.H2_1, List.mem_cons, List.not_mem_nil, or_false] at hp
    rw [e1] at hp
    subst hp
    intro x
    obtain ⟨l, rfl⟩ := middle x
    refine (Cert.Rank.payload X l).trans (congrArg (mark _) (Fin.ext (by show l.val = 0 + 1 * l.val; omega)))
  · refine ⟨_, by simp only [run1.sl.H2_1]; exact List.mem_cons_self, ?_⟩
    rw [← Rect.map_emb_univ]
    refine Finset.mem_map.mpr ⟨ValueIdx.ix3 (0 : Fin 1) j (0 : Fin 1), Finset.mem_univ _, ?_⟩
    funext a
    fin_cases a <;> exact Fin.ext (by show 0 + 1 * _ = _; rw [Nat.one_mul, Nat.zero_add])

theorem scoreRow (V : Dev nD → Valuation τ sig (Elt Ideal)) (c : Dev nD) (t : Fin cfg1.N) (k : Fin 1024) :
    (stg1_0 V c t : S1x1x1024.Idx → EReal) (ValueIdx.ix3 (0 : Fin 1) (0 : Fin 1) k)
      = (V c (Proc.devRef .tc main_v94) : S32x1x1024.Idx → EReal) (ValueIdx.ix3 (grid1.coords t 0) (0 : Fin 1) k) := by
  refine congrArg (V c (Proc.devRef .tc main_v94) : S32x1x1024.Idx → EReal) ?_
  blk_ext [ixA]

/-- After the call its array holds the marks of every row. -/
theorem arr_mark (V : Dev nD → Valuation τ sig (Elt Ideal)) (O : CellTallies nD τ sig (HIx 1)) (B : Set (SemLoc sig × HIx 1)) (c : Dev nD) :
    (dat1 (F := Ideal) V O B c).arrAt 1 cfg1.N = (fun y : S32x1024x1.Idx =>
      mark (fun k => (V c (Proc.devRef .tc main_v94) : S32x1x1024.Idx → EReal) (ValueIdx.ix3 (y 0) (0 : Fin 1) k)) (y 1)) := by
  refine (dat1 (F := Ideal) V O B c).arrAt_eq_of_covers 1 _ (by decide +kernel) fun t hf y => ?_
  have key : ∀ j : Fin 1024, (dat1 (F := Ideal) V O B c).after 1 t (ValueIdx.ix3 (0 : Fin 1) j (0 : Fin 1)) = mark (fun k => (stg1_0 V c t : S1x1x1024.Idx → EReal) (ValueIdx.ix3 (0 : Fin 1) (0 : Fin 1) k)) j := fun j => by
    show (win1_1.stage (cfg1.slots t 1)).view.read (Elt Ideal) (K1 V c t).1 _ = _
    unfold K1
    exact block1 c _ _ _ _ _ (stg1_0 V c t) j
  obtain ⟨j, rfl⟩ := middle y
  blk_simp
  rw [key]
  have hz : ((win1_1.blk t).view.emb (ValueIdx.ix3 (0 : Fin 1) j (0 : Fin 1)) : S32x1024x1.Idx) = ValueIdx.ix3 (grid1.coords t 0) j (0 : Fin 1) := by
    blk_ext [ixB]
  refine Eq.trans ?_ (congrArg (fun y : S32x1024x1.Idx =>
      mark (fun k => (V c (Proc.devRef .tc main_v94) : S32x1x1024.Idx → EReal) (ValueIdx.ix3 (y 0) (0 : Fin 1) k)) (y 1)) hz).symm
  exact congrArg (fun e => mark e j) (funext fun k => scoreRow V c t k)

end Cert.KernelIdeal.Run

end
-- ==== Proof.Result.lean ====
/- What the kernel program's first result holds: at each place the mark of the position restored there. -/
module

public import proofs.«01_k».proof.Proof.Rank
public import proofs.«01_k».proof.Proof.Frames

@[expose] public section

set_option maxRecDepth 100000

noncomputable section

namespace Cert.KernelIdeal.Run

open Cert.KernelIdeal Cert.KernelIdeal.Gen Cert.KernelIdeal.Host Cert.Lines
open Idealize.ShloMosaic Idealize.ShloMosaic.StableHlo Idealize.SL.Sem
open Idealize.ShloMosaic.Pipeline (afterRegion pin arrRef)

section Any
variable {F : FTy → Type} [FloatOps F] [∀ e, Nonempty (Elt F e)]
variable (m : (ℓ : Loc nD τ sig) → Buf (Elt F) ℓ) (d : Dev nD)

theorem kA_fixes : ∀ op ∈ kA (F := F), Fixes op (W3 m d) := kA_line.fixes (W2 m d)
theorem kB_fixes : ∀ op ∈ kB (F := F), Fixes op (W5 m d) := kB_line.fixes (W4 m d)
theorem k2_fixes : ∀ op ∈ k2 (F := F), Fixes op (W3 m d) := fun op h => kA_fixes m d op (List.mem_append_right _ h)

/-- An argument's buffer is as launched before the second call. -/
theorem W3_arg {r : Ref sig .tc} {j : ℕ} (hr : IsAt r j) (hj : j < 6)
    (h0 : ∀ w : Fin 12, arrRef cfg0.spec w = r → (cfg0.win w).isOut = false) :
    W3 m d (Proc.devRef .tc r) = m (d, Proc.devRef .tc r) := by
  unfold W3
  rw [kA_line.keep _ hr (by omega), W2_keep m d h0]
  unfold W1
  rw [k0_line.keep _ hr (by omega)]

/-- After the third call the other buffers are as before it. -/
theorem W7_keep {r : Ref sig .tc} {j : ℕ} (hr : IsAt r j) (hj : j < 440) : W7 m d (Proc.devRef .tc r) = W5 m d (Proc.devRef .tc r) := by
  have hne : Proc.devRef .tc r ≠ (Proc.devRef .tc main_v115 : DevRef τ sig) := fun e => by
    have e' : r = main_v115 := Proc.devRef_injective _ e
    subst e'
    have := hr.2
    exact absurd (show (440 : ℕ) = j from this) (by omega)
  unfold W7
  rw [k11_line.keep _ hr (by omega)]
  unfold W6
  rw [Function.update_of_ne hne]

/-- The place of row `b`'s position `i` when the rows lie one after the other. -/
def flat (b : Fin 32) (i : Fin 1024) : S32768.Idx := ValueIdx.ix1 (⟨b.val * 1024 + i.val, by omega⟩ : Fin 32768)

theorem mask_flat (b : Fin 32) (p : Fin 1024) : maskAt m d (flat b p) = (W5 m d (Proc.devRef .tc main_v95) : Vec F S32x1024x1 .f32) (ValueIdx.ix3 b p (0 : Fin 1)) := by
  unfold maskAt
  rw [eq_reshape (k10_fixes (kB_fixes m d)) 15 rfl]
  refine shapeCast_apply (W5 m d (Proc.devRef .tc main_v95) : Vec F S32x1024x1 .f32) _ _ _ ?_
  refine (Shape.rowMajor_val_three (ValueIdx.ix3 b p (0 : Fin 1))).trans (Eq.trans ?_ (Shape.rowMajor_val_one (flat b p)).symm)
  show (b.val * 1024 + p.val) * 1 + 0 = b.val * 1024 + p.val
  omega

theorem idx_flat (b : Fin 32) (i : Fin 1024) : idxAt m d (flat b i) = (W5 m d (Proc.devRef .tc main_v112) : IVec S32x1024 32) (ValueIdx.ix2 b i) := by
  unfold idxAt
  rw [eq_reshape (k10_fixes (kB_fixes m d)) 14 rfl]
  refine shapeCast_apply (W5 m d (Proc.devRef .tc main_v112) : IVec S32x1024 32) _ _ _ ?_
  exact (Shape.rowMajor_val_two (ValueIdx.ix2 b i)).trans (Shape.rowMajor_val_one (flat b i)).symm

/-- The first result at a place is the mask at the position restored there. -/
theorem W7_result (b : Fin 32) (i p : Fin 1024) (hp : (W5 m d (Proc.devRef .tc main_v105) : IVec S32x1024 32) (ValueIdx.ix2 b i) = BitVec.ofNat 32 p.val) :
    (W7 m d (Proc.devRef .tc main_v116) : Vec F S32x1024 .f32) (ValueIdx.ix2 b i) = (W5 m d (Proc.devRef .tc main_v95) : Vec F S32x1024x1 .f32) (ValueIdx.ix3 b p (0 : Fin 1)) := by
  have hf : ∀ op ∈ k11 (F := F), Fixes op (W7 m d) := k11_line.fixes (W6 m d)
  have e : W7 m d (Proc.devRef .tc main_v115) = gath (maskAt m d) (idxAt m d) :=
    (k11_line.keep (W6 m d) (r := main_v115) (j := 440) ⟨rfl, rfl⟩ (by omega)).trans (Function.update_self _ _ _)
  rw [eq_reshape hf 0 rfl, e]
  refine (shapeCast_apply (gath (maskAt m d) (idxAt m d)) _ _ (flat b i)
    ((Shape.rowMajor_val_one (flat b i)).trans (Shape.rowMajor_val_two (ValueIdx.ix2 b i)).symm)).trans ?_
  rw [← mask_flat m d b p]
  unfold gath
  refine congrArg (maskAt m d) (funext fun a => Fin.ext ?_)
  have hn : (idxAt m d (flat b i)).toNat = b.val * 1024 + p.val := by
    rw [idx_flat, v112_apply (k10_fixes (kB_fixes m d)), hp]
    exact position_lt b p
  match a with
  | ⟨0, _⟩ =>
    show (idxAt m d (flat b i)).toNat % 32768 = b.val * 1024 + p.val
    rw [hn]
    omega

end Any

variable (m : (ℓ : Loc nD τ sig) → Buf (Elt Ideal) ℓ) (d : Dev nD)

/-- The second call's array: the marks of the energies. -/
theorem W5_marks (b : Fin 32) (p : Fin 1024) : (W5 m d (Proc.devRef .tc main_v95) : S32x1024x1.Idx → EReal) (ValueIdx.ix3 b p (0 : Fin 1))
    = Cert.Rank.mark (fun k => (W3 m d (Proc.devRef .tc main_v93) : S32x1024.Idx → EReal) (ValueIdx.ix2 b k)) p := by
  have a := Pipeline.afterRegion_arr (dats (W3 m) (O₀ (F := Ideal)) (Bd (F := Ideal)) 1 d) (W3 m d) Gen.launch1.win.arr_inj 1
  have k : W5 m d (Proc.devRef .tc main_v95) = W4 m d (Proc.devRef .tc main_v95) := kB_line.keep _ (j := 149) ⟨rfl, rfl⟩ (by omega)
  have r := (k.trans a).trans (arr_mark (W3 m) (O₀ (F := Ideal) d) (Bd (F := Ideal)) d)
  refine (congrFun r (ValueIdx.ix3 b p (0 : Fin 1))).trans ?_
  refine congrArg (fun f : Fin 1024 → EReal => Cert.Rank.mark f p) (funext fun q => ?_)
  rw [eq_reshape (k2_fixes m d) 80 rfl]
  refine shapeCast_apply (W3 m d (Proc.devRef .tc main_v93) : S32x1024.Idx → EReal) _ _ _ ?_
  refine (Shape.rowMajor_val_two (ValueIdx.ix2 b q)).trans (Eq.trans ?_ (Shape.rowMajor_val_three (ValueIdx.ix3 b (0 : Fin 1) q)).symm)
  show b.val * 1024 + q.val = (b.val * 1 + 0) * 1024 + q.val
  omega

end Cert.KernelIdeal.Run

end
-- ==== Proof.Order.lean ====
/- The normalization keeps the order of the energies: facts on the extended reals. Nothing here mentions a program. -/
module

public import proofs.«01_k».proof.Proof.Stacked
public import Idealize.ShloMosaic.Lib.ReduceAll
public import Idealize.ShloMosaic.Lib.IdealHost

@[expose] public section

noncomputable section

namespace Cert.Order

open Cert.Stacked (Fin')
open Idealize.ShloMosaic

/-- A left fold by `min`: below its start and every element, and one of them. -/
theorem fold_min {ι : Type} (f : ι → EReal) : ∀ (l : List ι) (b : EReal),
    (l.foldl (fun r n => min r (f n)) b ≤ b ∧ ∀ n ∈ l, l.foldl (fun r n => min r (f n)) b ≤ f n)
      ∧ (l.foldl (fun r n => min r (f n)) b = b ∨ ∃ n ∈ l, l.foldl (fun r n => min r (f n)) b = f n)
  | [], b => ⟨⟨le_refl _, fun _ h => nomatch h⟩, .inl rfl⟩
  | a :: l, b => by
    obtain ⟨⟨h1, h2⟩, h3⟩ := fold_min f l (min b (f a))
    rw [List.foldl_cons]
    refine ⟨⟨h1.trans (min_le_left _ _), fun n hn => ?_⟩, ?_⟩
    · rcases List.mem_cons.mp hn with rfl | hn
      · exact h1.trans (min_le_right _ _)
      · exact h2 n hn
    · rcases h3 with h3 | ⟨n, hn, h3⟩
      · rcases min_choice b (f a) with h | h
        · exact .inl (h3.trans h)
        · exact .inr ⟨a, List.mem_cons_self, h3.trans h⟩
      · exact .inr ⟨n, List.mem_cons_of_mem _ hn, h3⟩

/-- A left fold by `max`: above its start and every element, and one of them. -/
theorem fold_max {ι : Type} (f : ι → EReal) : ∀ (l : List ι) (b : EReal),
    (b ≤ l.foldl (fun r n => max r (f n)) b ∧ ∀ n ∈ l, f n ≤ l.foldl (fun r n => max r (f n)) b)
      ∧ (l.foldl (fun r n => max r (f n)) b = b ∨ ∃ n ∈ l, l.foldl (fun r n => max r (f n)) b = f n)
  | [], b => ⟨⟨le_refl _, fun _ h => nomatch h⟩, .inl rfl⟩
  | a :: l, b => by
    obtain ⟨⟨h1, h2⟩, h3⟩ := fold_max f l (max b (f a))
    rw [List.foldl_cons]
    refine ⟨⟨(le_max_left _ _).trans h1, fun n hn => ?_⟩, ?_⟩
    · rcases List.mem_cons.mp hn with rfl | hn
      · exact (le_max_right _ _).trans h1
      · exact h2 n hn
    · rcases h3 with h3 | ⟨n, hn, h3⟩
      · rcases max_choice b (f a) with h | h
        · exact .inl (h3.trans h)
        · exact .inr ⟨a, List.mem_cons_self, h3.trans h⟩
      · exact .inr ⟨n, List.mem_cons_of_mem _ hn, h3⟩

variable {s t u : Shape} {axes : List (Fin s.rank)}

theorem mem_all [Subsingleton t.Idx] (h : s.ReducesTo axes t) (j : t.Idx) (i : s.Idx) :
    i ∈ ((List.finRange s.numel).map s.rowMajor.symm).filter fun i => h.drop i = j := by
  rw [List.mem_filter]
  exact ⟨List.mem_map.2 ⟨s.rowMajor i, List.mem_finRange _, Equiv.symm_apply_apply _ _⟩, by simp [Subsingleton.elim (h.drop i) j]⟩

/-- The least of finite numbers is finite and below each. -/
theorem least [Subsingleton t.Idx] (x : FVec Ideal s .f32) (init : FVec Ideal u .f32) (h : s.ReducesTo axes t) (hu : 0 < u.numel) (j : t.Idx)
    (hi : init (Shape.Idx.first hu) = (⊤ : EReal)) (hx : ∀ i, Fin' (x i)) (i₀ : s.Idx) :
    Fin' (Host.reduce (FloatOps.minimumf (F := Ideal) (φ := .f32)) x init h hu j) ∧ ∀ i, (Host.reduce (FloatOps.minimumf (F := Ideal) (φ := .f32)) x init h hu j : EReal) ≤ x i := by
  rw [Host.reduce_eq_foldl, hi]
  obtain ⟨⟨h1, h2⟩, h3⟩ := fold_min x (((List.finRange s.numel).map s.rowMajor.symm).filter fun i => h.drop i = j) ⊤
  refine ⟨?_, fun i => h2 i (mem_all h j i)⟩
  rcases h3 with h3 | ⟨n, _, h3⟩
  · have h4 := h2 i₀ (mem_all h j i₀)
    rw [h3] at h4
    exact absurd (top_le_iff.mp h4) (hx i₀).2
  · exact h3 ▸ hx n

/-- The greatest of finite numbers is finite and above each. -/
theorem greatest [Subsingleton t.Idx] (x : FVec Ideal s .f32) (init : FVec Ideal u .f32) (h : s.ReducesTo axes t) (hu : 0 < u.numel) (j : t.Idx)
    (hi : init (Shape.Idx.first hu) = (⊥ : EReal)) (hx : ∀ i, Fin' (x i)) (i₀ : s.Idx) :
    Fin' (Host.reduce (FloatOps.maximumf (F := Ideal) (φ := .f32)) x init h hu j) ∧ ∀ i, x i ≤ (Host.reduce (FloatOps.maximumf (F := Ideal) (φ := .f32)) x init h hu j : EReal) := by
  rw [Host.reduce_eq_foldl, hi]
  obtain ⟨⟨h1, h2⟩, h3⟩ := fold_max x (((List.finRange s.numel).map s.rowMajor.symm).filter fun i => h.drop i = j) ⊥
  refine ⟨?_, fun i => h2 i (mem_all h j i)⟩
  rcases h3 with h3 | ⟨n, _, h3⟩
  · have h4 := h2 i₀ (mem_all h j i₀)
    rw [h3] at h4
    exact absurd (le_bot_iff.mp h4) (hx i₀).1
  · exact h3 ▸ hx n

/-- A finite number over a finite positive one is finite. -/
theorem div_finite {x : EReal} {d : ℝ} (hx : Fin' x) (hd : 0 < d) : Fin' (Ideal.div x d) := by
  obtain ⟨r, rfl⟩ := hx.exists_real
  rw [Ideal.div_coe hd.ne', ← EReal.coe_mul]
  exact Fin'.coe _

/-- The logistic function's values are finite. -/
theorem logistic_finite (z : EReal) : Fin' (Ideal.div 1 (1 + Ideal.exp z)) := by
  induction z with
  | bot =>
    show Fin' (Ideal.div 1 (1 + 0))
    rw [add_zero, show (1 : EReal) = ((1 : ℝ) : EReal) from rfl]
    exact div_finite (Fin'.coe 1) one_pos
  | top =>
    show Fin' (Ideal.div 1 (1 + ⊤))
    have e : (1 : EReal) + ⊤ = ⊤ := by
      rw [show (1 : EReal) = ((1 : ℝ) : EReal) from rfl]; exact EReal.coe_add_top 1
    rw [e]
    unfold Ideal.div
    rw [if_neg (by simp), EReal.inv_top, mul_zero]
    exact Fin'.coe 0
  | coe r =>
    show Fin' (Ideal.div 1 (1 + ((Real.exp r : ℝ) : EReal)))
    rw [show (1 : EReal) = ((1 : ℝ) : EReal) from rfl, ← EReal.coe_add]
    exact div_finite (Fin'.coe 1) (by positivity)

/-- Reversed, shifted and scaled by a positive number, finite numbers keep their order, reversed. -/
theorem order {x y lo hi eps : EReal} (hx : Fin' x) (hy : Fin' y) (hlo : Fin' lo) (hhi : Fin' hi) (heps : Fin' eps)
    (hle : lo ≤ hi) (hpos : 0 < eps) :
    -(Ideal.div (x - lo) (hi - lo + eps)) < -(Ideal.div (y - lo) (hi - lo + eps)) ↔ y < x := by
  obtain ⟨x, rfl⟩ := hx.exists_real
  obtain ⟨y, rfl⟩ := hy.exists_real
  obtain ⟨lo, rfl⟩ := hlo.exists_real
  obtain ⟨hi, rfl⟩ := hhi.exists_real
  obtain ⟨eps, rfl⟩ := heps.exists_real
  have hle' : lo ≤ hi := by exact_mod_cast hle
  have hpos' : 0 < eps := by exact_mod_cast hpos
  have hd : 0 < hi - lo + eps := by linarith
  rw [← EReal.coe_sub, ← EReal.coe_sub, ← EReal.coe_sub, ← EReal.coe_add, Ideal.div_coe hd.ne', Ideal.div_coe hd.ne',
    ← EReal.coe_mul, ← EReal.coe_mul, EReal.neg_lt_neg_iff, EReal.coe_lt_coe_iff, EReal.coe_lt_coe_iff,
    mul_lt_mul_iff_left₀ (one_div_pos.mpr hd), sub_lt_sub_iff_right]

end Cert.Order

end
-- ==== Proof.Energy.lean ====
/- The reference's energies are finite, and its normalization reverses their order. -/
module

public import proofs.«01_k».proof.Proof.Mag
public import proofs.«01_k».proof.Proof.Order
public import proofs.«01_k».proof.Proof.ProgR

@[expose] public section

set_option maxRecDepth 100000

noncomputable section

namespace Cert.Energy

open Cert.Stacked (Fin')
open Cert.Lines Cert.ReferenceIdeal Cert.KernelIdeal.Run
open Idealize.ShloMosaic Idealize.ShloMosaic.StableHlo Idealize.SL.Sem

/-- A normal word without a sign is a positive number. -/
theorem word_pos {b : BitVec 32} (hs : (b.extractLsb' (8 + 23) 1 == 1#1) = false) (he : (b.extractLsb' 23 8).toNat ≠ 2 ^ 8 - 1)
    (h0 : (b.extractLsb' 23 8).toNat ≠ 0) : ∃ r : ℝ, 0 < r ∧ Ideal.ofBits .f32 b = (r : EReal) := by
  show ∃ r : ℝ, 0 < r ∧ Ideal.ieee 8 23 b = (r : EReal)
  unfold Ideal.ieee
  dsimp only
  rw [if_neg he, if_neg h0]
  refine ⟨_, ?_, rfl⟩
  rw [if_neg (by rw [hs]; decide)]
  positivity

theorem top_word : Ideal.ofBits .f32 0x7F800000#32 = ⊤ := by simp [Ideal.ofBits, Ideal.ieee]
theorem bot_word : Ideal.ofBits .f32 0xFF800000#32 = ⊥ := by simp [Ideal.ofBits, Ideal.ieee]

theorem sum_finite {s t u : Shape} {axes : List (Fin s.rank)} (x : FVec Ideal s .f32) (init : FVec Ideal u .f32) (h : s.ReducesTo axes t)
    (hu : 0 < u.numel) (hi : Fin' (init (Shape.Idx.first hu))) (hx : ∀ i, Fin' (x i)) (j : t.Idx) : Fin' (Host.reduceAdd x init h hu j) := by
  show Fin' (Ideal.hostReduceAdd h x (init (Shape.Idx.first hu)) j)
  exact hi.add (Fin'.sum _ _ fun i _ => hx i)

theorem over_finite {x d : EReal} (hx : Fin' x) (hd : ∃ r : ℝ, 0 < r ∧ d = (r : EReal)) : Fin' (Ideal.div x d) := by
  obtain ⟨r, hr, rfl⟩ := hd
  exact Cert.Order.div_finite hx hr

variable {V : Valuation τ sig (Elt Ideal)} (h0 : ∀ op ∈ Host.r0 (F := Ideal), Fixes op V) (h1 : ∀ op ∈ Host.r1 (F := Ideal), Fixes op V)

section Mean
include h0
variable (hm : ∀ i, Fin' ((V (Proc.devRef .tc main_v35) : S32x3x512x512.Idx → EReal) i))
include hm

theorem v38_finite (i) : Fin' ((V (Proc.devRef .tc main_v38) : S32x3x1024x16x16.Idx → EReal) i) := by
  rw [eq_reshape h0 46 rfl, eq_unary h0 45 rfl, eq_reshape h0 44 rfl]
  exact hm _

theorem v41_finite (i) : Fin' ((V (Proc.devRef .tc main_v41) : S32x3x1024.Idx → EReal) i) := by
  rw [eq_binary h0 51 rfl, eq_unary h0 50 rfl, eq_nullary h0 49 rfl, eq_binary h0 48 rfl, eq_nullary h0 47 rfl]
  exact over_finite (sum_finite _ _ _ _ (word_finite (b := 0x00000000#32) rfl) (v38_finite h0 hm) _) (word_pos (b := 0x43800000#32) (by decide) (by decide) (by decide))

theorem v44_finite (i) : Fin' ((V (Proc.devRef .tc main_v44) : S32x1024.Idx → EReal) i) := by
  rw [eq_binary h0 56 rfl, eq_unary h0 55 rfl, eq_nullary h0 54 rfl, eq_binary h0 53 rfl, eq_nullary h0 52 rfl]
  exact over_finite (sum_finite _ _ _ _ (word_finite (b := 0x00000000#32) rfl) (v41_finite h0 hm) _) (word_pos (b := 0x40400000#32) (by decide) (by decide) (by decide))

include h1

theorem v84_finite (i) : Fin' ((V (Proc.devRef .tc main_v84) : S32x1024.Idx → EReal) i) := by
  have e : (V (Proc.devRef .tc main_v84) : S32x1024.Idx → EReal) i
      = Ideal.div (Ideal.ofBits .f32 0x3F800000#32) (Ideal.ofBits .f32 0x3F800000#32 + Ideal.exp ((V (Proc.devRef .tc main_v79) : S32x1024.Idx → EReal) i)) := by
    rw [eq_binary h1 67 rfl, eq_unary h1 66 rfl, eq_nullary h1 65 rfl, eq_binary h1 64 rfl, eq_unary h1 63 rfl, eq_nullary h1 62 rfl, eq_unary h1 61 rfl]
    rfl
  rw [e, Ideal.ofBits_one_f32]
  exact Cert.Order.logistic_finite _

/-- The energies are finite. -/
theorem v85_finite (i) : Fin' ((V (Proc.devRef .tc main_v85) : S32x1024.Idx → EReal) i) := by
  rw [eq_binary h1 68 rfl]
  exact (v44_finite h0 hm i).mul (v84_finite h0 h1 hm i)

end Mean

/-- The energies, -/
abbrev energy (V : Valuation τ sig (Elt Ideal)) : S32x1024.Idx → EReal := V (Proc.devRef .tc main_v85)
/-- the sort's keys, -/
abbrev sortKey (V : Valuation τ sig (Elt Ideal)) : S32x1024.Idx → EReal := V (Proc.devRef .tc main_v95)

/-- the least energy -/
def lo (E : FVec Ideal S32x1024 .f32) : EReal :=
  Host.reduce (FloatOps.minimumf (F := Ideal) (φ := .f32)) E (constant (F := Ideal) S_ .f32 0x7F800000#32) Gen.facts.reducesTo_S32x1024_S_d0_1 Gen.facts.h_S_ ValueIdx.ix0
/-- and the greatest. -/
def hi (E : FVec Ideal S32x1024 .f32) : EReal :=
  Host.reduce (FloatOps.maximumf (F := Ideal) (φ := .f32)) E (constant (F := Ideal) S_ .f32 0xFF800000#32) Gen.facts.reducesTo_S32x1024_S_d0_1 Gen.facts.h_S_ ValueIdx.ix0

theorem ends (E : FVec Ideal S32x1024 .f32) (he : ∀ i, Fin' (E i)) (x : S32x1024.Idx) : Fin' (lo E) ∧ Fin' (hi E) ∧ lo E ≤ hi E := by
  haveI : Subsingleton S_.Idx := ⟨fun a b => funext fun k => k.elim0⟩
  obtain ⟨l1, l2⟩ := Cert.Order.least E (constant (F := Ideal) S_ .f32 0x7F800000#32) Gen.facts.reducesTo_S32x1024_S_d0_1 Gen.facts.h_S_ ValueIdx.ix0 top_word he x
  obtain ⟨g1, g2⟩ := Cert.Order.greatest E (constant (F := Ideal) S_ .f32 0xFF800000#32) Gen.facts.reducesTo_S32x1024_S_d0_1 Gen.facts.h_S_ ValueIdx.ix0 bot_word he x
  exact ⟨l1, g1, (l2 x).trans (g2 x)⟩

include h1

theorem v86_at : (V (Proc.devRef .tc main_v86) : S_.Idx → EReal) ValueIdx.ix0 = lo (energy V) := by
  rw [eq_binary h1 70 rfl, eq_nullary h1 69 rfl]; rfl
theorem v90_at : (V (Proc.devRef .tc main_v90) : S_.Idx → EReal) ValueIdx.ix0 = lo (energy V) := by
  rw [eq_binary h1 76 rfl, eq_nullary h1 75 rfl]; rfl
theorem v89_at : (V (Proc.devRef .tc main_v89) : S_.Idx → EReal) ValueIdx.ix0 = hi (energy V) := by
  rw [eq_binary h1 74 rfl, eq_nullary h1 73 rfl]; rfl

theorem v87_at (z) : (V (Proc.devRef .tc main_v87) : S32x1024.Idx → EReal) z = lo (energy V) := by
  rw [eq_unary h1 71 rfl, ← v86_at h1]
  exact ValueIdx.broadcastInDim_scalar_apply _ _ _

theorem v92_at : (V (Proc.devRef .tc main_v92) : S_.Idx → EReal) ValueIdx.ix0 = hi (energy V) - lo (energy V) + Ideal.ofBits .f32 0x322BCC77#32 := by
  rw [eq_binary h1 79 rfl, eq_nullary h1 78 rfl, eq_binary h1 77 rfl, ← v89_at h1, ← v90_at h1]
  rfl

theorem v93_at (z) : (V (Proc.devRef .tc main_v93) : S32x1024.Idx → EReal) z = hi (energy V) - lo (energy V) + Ideal.ofBits .f32 0x322BCC77#32 := by
  rw [eq_unary h1 80 rfl, ← v92_at h1]
  exact ValueIdx.broadcastInDim_scalar_apply _ _ _

theorem key_at (z) : sortKey V z = -(Ideal.div (energy V z - lo (energy V)) (hi (energy V) - lo (energy V) + Ideal.ofBits .f32 0x322BCC77#32)) := by
  unfold sortKey
  rw [← v93_at h1 z, ← v87_at h1 z, eq_unary h1 82 rfl, eq_binary h1 81 rfl, eq_binary h1 72 rfl]
  rfl

/-- The sort's keys are reversed, shifted and scaled energies: they keep the order, reversed. -/
theorem keys (he : ∀ i, Fin' (energy V i)) (x y : S32x1024.Idx) : sortKey V x < sortKey V y ↔ energy V y < energy V x := by
  obtain ⟨r, hr, hw⟩ := word_pos (b := 0x322BCC77#32) (by decide) (by decide) (by decide)
  obtain ⟨l1, g1, hle⟩ := ends (energy V) he x
  rw [key_at h1 x, key_at h1 y]
  refine Cert.Order.order (he x) (he y) l1 g1 (hw ▸ Fin'.coe r) hle ?_
  rw [hw]
  exact_mod_cast hr

end Cert.Energy

end
-- ==== Proof.SortRank.lean ====
/-
  The position an element takes in the host's stable sort: the number of elements with a smaller key, plus the number of
  elements with the same key that stand before it. Nothing here mentions a program.
-/
module

public import Idealize.ShloMosaic.Lib.SortFacts

@[expose] public section

namespace Cert.SortRank

open Idealize.ShloMosaic

variable {κ : Type} [LinearOrder κ] {n : Nat}

/-- `i` comes before `j`: by the key, then by the position. -/
def earlier (key : Fin n → κ) (i j : Fin n) : Prop := key i < key j ∨ key i = key j ∧ i < j

theorem earlier_trans (key : Fin n → κ) {i j k : Fin n} (h : earlier key i j) (h' : earlier key j k) : earlier key i k := by
  unfold earlier at *
  rcases h with h | ⟨h, hl⟩ <;> rcases h' with h' | ⟨h', hl'⟩
  · exact .inl (h.trans h')
  · exact .inl (h' ▸ h)
  · exact .inl (h ▸ h')
  · exact .inr ⟨h.trans h', hl.trans hl'⟩

theorem earlier_irrefl (key : Fin n → κ) (i : Fin n) : ¬ earlier key i i := by
  unfold earlier; rintro (h | ⟨-, h⟩) <;> exact lt_irrefl _ h

/-- Inserting a position below all of a sorted list's positions keeps the list sorted by key and position. -/
theorem insert_sorted (key : Fin n → κ) (a : Fin n) (l : List (Fin n)) (hl : l.Pairwise (earlier key)) (ha : ∀ b ∈ l, a < b) :
    (insertBefore (fun i j => decide (key i < key j)) a l).Pairwise (earlier key) := by
  induction l with
  | nil => exact List.pairwise_singleton _ _
  | cons b l ih =>
    obtain ⟨hb, hl'⟩ := List.pairwise_cons.mp hl
    unfold insertBefore
    split
    · rename_i hlt
      refine List.pairwise_cons.mpr ⟨fun x hx => ?_, ih hl' fun x hx => ha x (List.mem_cons_of_mem _ hx)⟩
      rcases List.mem_cons.mp ((perm_insertBefore _ a l).mem_iff.mp hx) with rfl | hx
      · exact .inl (of_decide_eq_true hlt)
      · exact hb x hx
    · rename_i hlt
      have hab : earlier key a b := by
        have hle : key a ≤ key b := not_lt.mp fun h => hlt (decide_eq_true h)
        rcases lt_or_eq_of_le hle with h | h
        · exact .inl h
        · exact .inr ⟨h, ha b List.mem_cons_self⟩
      refine List.pairwise_cons.mpr ⟨fun x hx => ?_, hl⟩
      rcases List.mem_cons.mp hx with rfl | hx
      · exact hab
      · exact earlier_trans key hab (hb x hx)

/-- A stable sort of ascending positions is sorted by key and position. -/
theorem stableSort_sorted (key : Fin n → κ) (l : List (Fin n)) (hl : l.Pairwise (· < ·)) :
    (stableSort (fun i j => decide (key i < key j)) l).Pairwise (earlier key) := by
  induction l with
  | nil => exact List.Pairwise.nil
  | cons a l ih =>
    obtain ⟨ha, hl'⟩ := List.pairwise_cons.mp hl
    exact insert_sorted key a _ (ih hl') fun b hb => ha b ((perm_stableSort _ l).mem_iff.mp hb)

theorem sortedFrom_mono (key : Fin n → κ) {p q : Fin n} (h : p < q) :
    earlier key (sortedFrom (fun i j => decide (key i < key j)) p) (sortedFrom (fun i j => decide (key i < key j)) q) := by
  have hs := stableSort_sorted key (List.finRange n) (List.pairwise_lt_finRange n)
  exact List.pairwise_iff_get.mp hs _ _ h

theorem earlier_iff (key : Fin n → κ) (p q : Fin n) :
    earlier key (sortedFrom (fun i j => decide (key i < key j)) p) (sortedFrom (fun i j => decide (key i < key j)) q) ↔ p < q := by
  refine ⟨fun h => ?_, sortedFrom_mono key⟩
  rcases lt_trichotomy p q with h' | rfl | h'
  · exact h'
  · exact absurd h (earlier_irrefl key _)
  · exact absurd (earlier_trans key h (sortedFrom_mono key h')) (earlier_irrefl key _)

open Classical in
/-- The element the sort puts at `p` has exactly `p` elements before it. -/
theorem card_earlier (key : Fin n → κ) (p : Fin n) :
    (Finset.univ.filter fun i => earlier key i (sortedFrom (fun i j => decide (key i < key j)) p)).card = p.val := by
  set s := sortedFrom (fun i j => decide (key i < key j)) with hs
  have hinj : Function.Injective s := sortedFrom_injective _
  have hsurj : Function.Surjective s := sortedFrom_surjective _
  have e : (Finset.univ.filter fun i => earlier key i (s p)) = (Finset.Iio p).map ⟨s, hinj⟩ := by
    ext i
    obtain ⟨q, rfl⟩ := hsurj i
    simp only [Finset.mem_filter, Finset.mem_univ, true_and, Finset.mem_map, Finset.mem_Iio, Function.Embedding.coeFn_mk]
    refine ⟨fun h => ⟨q, (earlier_iff key q p).mp h, rfl⟩, ?_⟩
    rintro ⟨q', h, e⟩
    rw [← e]; exact (earlier_iff key q' p).mpr h
  rw [e, Finset.card_map, Fin.card_Iio]

end Cert.SortRank
-- ==== Proof.RefMask.lean ====
/- The reference's mask: one at the patches its sort puts in the first 768 places, by the rank the kernel counts. -/
module

public import proofs.«01_k».proof.Proof.Energy
public import proofs.«01_k».proof.Proof.Rank
public import proofs.«01_k».proof.Proof.SortRank
public import proofs.«01_k».proof.Proof.InRange
public import Idealize.ShloMosaic.Lib.Routing.OpsPair
public import Idealize.ShloMosaic.Lib.Routing.OpsSet
public import Idealize.ShloMosaic.Lib.WordCmp
public import Idealize.ShloMosaic.Lib.Pipeline.Value

@[expose] public section

set_option maxRecDepth 100000

noncomputable section

namespace Cert.RefMask

open Cert.Stacked (Fin')
open Cert.Lines Cert.ReferenceIdeal Cert.ReferenceIdeal.Host Cert.Energy
open Idealize.ShloMosaic Idealize.ShloMosaic.StableHlo Idealize.SL.Sem

/-- Over the extended reals the sort's comparison is the order of the keys. -/
theorem compare (l r : EReal × BitVec 32) : comparator_f32_i32_d1 (F := Ideal) l r = BitVec.ofBool (decide (l.1 < r.1)) := by
  have clean : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := fun x => by
    have h1 : Ideal.cmp .une x x = 0#1 := by
      show BitVec.ofBool (decide (x ≠ x)) = 0#1
      rw [decide_eq_false (fun h => h rfl)]; rfl
    rw [h1, Ideal.ofBits_zero_f32]
    show (if BitVec.ofBool (decide (x = 0)) = 1#1 then (0 : EReal) else x) = x
    by_cases h : x = 0
    · rw [decide_eq_true h, h]; rfl
    · rw [decide_eq_false h]; rfl
  exact congrArg₂ (Ideal.cmp .olt) (clean l.1) (clean r.1)

/-- A word that is not negative is left by the repair of negative positions. -/
theorem keep_word (w x : BitVec 32) (h : w.toNat < 2 ^ 31) : Scalar.select (IntOp.cmpi .slt w 0#32) x w = w := by
  rw [WordCmp.cmpi_slt_zero, WordCmp.select_decide, if_neg (by omega)]

variable {V : Valuation τ sig (Elt Ideal)}

/-- The places of a row in the order of the keys. -/
abbrev places (V : Valuation τ sig (Elt Ideal)) (b : Fin 32) : Fin 1024 → Fin 1024 :=
  sortedFrom fun k k' : Fin 1024 => decide (sortKey V (ValueIdx.ix2 b k) < sortKey V (ValueIdx.ix2 b k'))

variable (h2 : ∀ op ∈ Host.r2 (F := Ideal), Fixes op V)
include h2

theorem v96_at (b : Fin 32) (p : Fin 1024) : (V (Proc.devRef .tc main_v96) : IVec S32x1024 32) (ValueIdx.ix2 b p) = BitVec.ofNat 32 (places V b p).val := by
  have al : ∀ k : Fin 1024, Shape.Idx.along (s := S32x1024) (ValueIdx.ix2 b p) 1 k = ValueIdx.ix2 b k := fun k => by
    funext a
    fin_cases a <;> rfl
  rw [eq_binary h2 2 rfl, eq_nullary h2 0 rfl]
  show (Host.sort2 S32x1024 1 (comparator_f32_i32_d1 (F := Ideal)) (V (Proc.devRef .tc main_v95)) (iotaInDim S32x1024 32 1)).2 (ValueIdx.ix2 b p) = _
  unfold Host.sort2
  rw [dif_pos (show (1 : ℕ) < S32x1024.rank by decide)]
  refine (Cert.KernelIdeal.Host.iota_along (ValueIdx.ix2 b p) _).trans ?_
  refine congrArg (fun f : Fin 1024 → Fin 1024 → Bool => BitVec.ofNat 32 (sortedFrom f p).val) (funext fun k => funext fun k' => ?_)
  refine (congrArg (· == 1#1) (compare _ _)).trans ?_
  refine (congrArg₂ (fun u v : S32x1024.Idx => (BitVec.ofBool (decide (sortKey V u < sortKey V v)) == 1#1)) (al k) (al k')).trans ?_
  exact (by decide : ∀ d : Bool, (BitVec.ofBool d == 1#1) = d) _

theorem v100_at (b : Fin 32) (p : Fin 768) : (V (Proc.devRef .tc main_v100) : IVec S32x768 32) (ValueIdx.ix2 b p) = BitVec.ofNat 32 (places V b ⟨p.val, by omega⟩).val := by
  rw [eq_unary h2 7 rfl, ← v96_at h2]
  refine congrArg (V (Proc.devRef .tc main_v96) : IVec S32x1024 32) ?_
  funext a
  fin_cases a
  · exact Fin.ext (by show 0 + b.val = b.val; omega)
  · exact Fin.ext (by show 0 + p.val = p.val; omega)

theorem v105_at (b : Fin 32) : (V (Proc.devRef .tc main_v105) : IVec S32x1 32) (ValueIdx.ix2 b (0 : Fin 1)) = BitVec.ofNat 32 b.val := by
  have e : (V (Proc.devRef .tc main_v99) : IVec S32x1 32) (ValueIdx.ix2 b (0 : Fin 1)) = BitVec.ofNat 32 b.val := by
    rw [eq_unary h2 6 rfl, eq_nullary h2 5 rfl]
    rfl
  rw [eq_ternary h2 14 rfl, eq_binary h2 10 rfl, eq_unary h2 9 rfl, eq_nullary h2 8 rfl]
  show Scalar.select (IntOp.cmpi .slt ((V (Proc.devRef .tc main_v99) : IVec S32x1 32) (ValueIdx.ix2 b (0 : Fin 1))) 0#32) _ ((V (Proc.devRef .tc main_v99) : IVec S32x1 32) (ValueIdx.ix2 b (0 : Fin 1))) = _
  rw [e]
  exact keep_word _ _ (by rw [BitVec.toNat_ofNat]; omega)

theorem v110_at (b : Fin 32) (p : Fin 768) : (V (Proc.devRef .tc main_v110) : IVec S32x768 32) (ValueIdx.ix2 b p) = BitVec.ofNat 32 (places V b ⟨p.val, by omega⟩).val := by
  rw [eq_ternary h2 21 rfl, eq_binary h2 17 rfl, eq_unary h2 16 rfl, eq_nullary h2 15 rfl]
  show Scalar.select (IntOp.cmpi .slt ((V (Proc.devRef .tc main_v100) : IVec S32x768 32) (ValueIdx.ix2 b p)) 0#32) _ ((V (Proc.devRef .tc main_v100) : IVec S32x768 32) (ValueIdx.ix2 b p)) = _
  rw [v100_at h2]
  exact keep_word _ _ (by rw [BitVec.toNat_ofNat]; omega)

theorem v112_at (b : Fin 32) (p : Fin 768) : (V (Proc.devRef .tc main_v112) : IVec S32x768x1 32) (ValueIdx.ix3 b p (0 : Fin 1)) = BitVec.ofNat 32 b.val := by
  rw [eq_unary h2 23 rfl, eq_unary h2 22 rfl, ← v105_at h2]
  show (V (Proc.devRef .tc main_v105) : IVec S32x1 32) _ = _
  refine congrArg (V (Proc.devRef .tc main_v105) : IVec S32x1 32) ?_
  funext a
  fin_cases a <;> rfl

theorem v113_at (b : Fin 32) (p : Fin 768) : (V (Proc.devRef .tc main_v113) : IVec S32x768x1 32) (ValueIdx.ix3 b p (0 : Fin 1)) = BitVec.ofNat 32 (places V b ⟨p.val, by omega⟩).val := by
  rw [eq_unary h2 24 rfl, ← v110_at h2]
  refine congrArg (V (Proc.devRef .tc main_v110) : IVec S32x768 32) ?_
  funext a
  fin_cases a <;> rfl

theorem v114_row (b : Fin 32) (p : Fin 768) : (V (Proc.devRef .tc main_v114) : IVec S32x768x2 32) (ValueIdx.ix3 b p (0 : Fin 2)) = BitVec.ofNat 32 b.val := by
  rw [eq_binary h2 25 rfl, ← v112_at h2 b p]
  refine concatenate_pair_apply_left (t := S32x768x2) (s₁ := S32x768x1) (s₂ := S32x768x1) 2 _ _ _ _ rfl (ValueIdx.ix3 b p (0 : Fin 1)) fun c => ?_
  fin_cases c <;> rfl

theorem v114_col (b : Fin 32) (p : Fin 768) : (V (Proc.devRef .tc main_v114) : IVec S32x768x2 32) (ValueIdx.ix3 b p (1 : Fin 2)) = BitVec.ofNat 32 (places V b ⟨p.val, by omega⟩).val := by
  rw [eq_binary h2 25 rfl, ← v113_at h2 b p]
  refine concatenate_pair_apply_right (t := S32x768x2) (s₁ := S32x768x1) (s₂ := S32x768x1) 2 _ _ _ _ rfl rfl (ValueIdx.ix3 b p (0 : Fin 1)) (fun c hc => ?_) rfl
  fin_cases c
  · rfl
  · rfl
  · exact absurd rfl hc

theorem lands (a : Fin 32) (p : Fin 768) (b : Fin 32) (j : Fin 1024) :
    scatter_S32x1024_S32x768x2_S32x768_n_01_01_2.resultIdx? (ValueIdx.ix2 a p) (V (Proc.devRef .tc main_v114) : IVec S32x768x2 32) = some (ValueIdx.ix2 b j)
      ↔ a = b ∧ places V a ⟨p.val, by omega⟩ = j := by
  refine (Routing.scatter_lands2 scatter_S32x1024_S32x768x2_S32x768_n_01_01_2 rfl rfl rfl _ a p b j).trans ?_
  rw [v114_row h2, v114_col h2]
  have small : ∀ n : ℕ, n < 1024 → (BitVec.ofNat 32 n).toInt = (n : ℤ) := fun n hn => by
    rw [BitVec.toInt_eq_toNat_of_lt (by rw [BitVec.toNat_ofNat]; omega), BitVec.toNat_ofNat, Nat.mod_eq_of_lt (by omega)]
  rw [small _ (by omega), small _ (Fin.isLt _)]
  refine and_congr ?_ ?_
  · rw [Fin.ext_iff]; omega
  · rw [Fin.ext_iff]; omega

theorem zeros_at (y : S32x1024.Idx) : (V (Proc.devRef .tc main_v97) : S32x1024.Idx → EReal) y = (0 : EReal) := by
  rw [eq_unary h2 4 rfl, eq_nullary h2 3 rfl]
  exact (ValueIdx.broadcastInDim_scalar_apply _ _ _).trans Ideal.ofBits_zero_f32
theorem ones_at (y : S32x768.Idx) : (V (Proc.devRef .tc main_v115) : S32x768.Idx → EReal) y = (1 : EReal) := by
  rw [eq_unary h2 27 rfl, eq_nullary h2 26 rfl]
  exact (ValueIdx.broadcastInDim_scalar_apply _ _ _).trans Ideal.ofBits_one_f32

/-- The mask holds one at a patch exactly when one of the first 768 places holds it. -/
theorem scattered (b : Fin 32) (p : Fin 1024) :
    (V (Proc.devRef .tc main_v116) : S32x1024.Idx → EReal) (ValueIdx.ix2 b (places V b p)) = if p.val < 768 then (1 : EReal) else 0 := by
  rw [eq_ternary h2 28 rfl]
  by_cases hp : p.val < 768
  · rw [if_pos hp]
    exact Routing.scatter_set_hit _ _ _ _ _ (1 : EReal) (fun k _ => ones_at h2 k) (ValueIdx.ix2 b (⟨p.val, hp⟩ : Fin 768)) ((lands h2 b ⟨p.val, hp⟩ b _).mpr ⟨rfl, rfl⟩)
  · rw [if_neg hp, ← zeros_at h2 (ValueIdx.ix2 b (places V b p))]
    refine Routing.scatter_set_miss _ _ _ _ _ fun k hk => ?_
    obtain ⟨a, q, rfl⟩ : ∃ (a : Fin 32) (q : Fin 768), k = ValueIdx.ix2 a q := ⟨k 0, k 1, by funext c; fin_cases c <;> rfl⟩
    obtain ⟨rfl, e⟩ := (lands h2 a q b _).mp hk
    have := congrArg Fin.val (sortedFrom_injective _ e)
    have hq := q.isLt
    change q.val = p.val at this
    omega

/-- The reference's mask is the kernel's marks. -/
theorem mask (h1 : ∀ op ∈ Host.r1 (F := Ideal), Fixes op V) (he : ∀ i, Fin' (energy V i)) (b : Fin 32) (j : Fin 1024) :
    (V (Proc.devRef .tc main_v116) : S32x1024.Idx → EReal) (ValueIdx.ix2 b j) = Cert.Rank.mark (fun k => energy V (ValueIdx.ix2 b k)) j := by
  classical
  obtain ⟨p, rfl⟩ := sortedFrom_surjective (fun k k' : Fin 1024 => decide (sortKey V (ValueIdx.ix2 b k) < sortKey V (ValueIdx.ix2 b k'))) j
  rw [scattered h2 b p]
  unfold Cert.Rank.mark
  refine if_congr (Iff.of_eq (congrArg (· < 768) ?_)) rfl rfl
  refine (Cert.SortRank.card_earlier (fun k => sortKey V (ValueIdx.ix2 b k)) p).symm.trans (congrArg Finset.card (Finset.ext fun k => ?_))
  rw [Finset.mem_filter, Finset.mem_filter]
  refine and_congr_right' ?_
  unfold Cert.SortRank.earlier
  have e : ∀ x y, sortKey V x = sortKey V y ↔ energy V x = energy V y := fun x y => by
    have a := keys h1 he x y
    have b := keys h1 he y x
    constructor
    · intro h
      rw [h] at a b
      exact le_antisymm (not_lt.mp fun c => lt_irrefl _ (a.mpr c)) (not_lt.mp fun c => lt_irrefl _ (b.mpr c)) |>.symm |>.symm
    · intro h
      rw [h] at a b
      exact le_antisymm (not_lt.mp fun c => lt_irrefl _ (b.mp c)) (not_lt.mp fun c => lt_irrefl _ (a.mp c))
  exact or_congr (keys h1 he _ _) (and_congr_left' (e _ _))

end Cert.RefMask

end
-- ==== Proof.Picked.lean ====
/- The reference's last result: the mask read at the restored positions. -/
module

public import proofs.«01_k».proof.Proof.RefMask
public import Idealize.ShloMosaic.Lib.ReduceAll

@[expose] public section

set_option maxRecDepth 100000

noncomputable section

namespace Cert.Picked

open Cert.Lines Cert.ReferenceIdeal Cert.ReferenceIdeal.Host Cert.RefMask
open Idealize.ShloMosaic Idealize.ShloMosaic.StableHlo Idealize.SL.Sem

/-- The gather along the rows, at positions inside them. -/
theorem gather_row (x : S32x1024.Idx → EReal) (idx : IVec S32x1024x1 32) (b : Fin 32) (i p : Fin 1024)
    (h : idx (ValueIdx.ix3 b i (0 : Fin 1)) = BitVec.ofNat 32 p.val) :
    Host.gather gather_S32x1024_S32x1024x1_S32x1024_n_1_0_0_1_2_11 x idx (ValueIdx.ix2 b i) = x (ValueIdx.ix2 b p) := by
  unfold Host.gather
  refine congrArg x (funext fun a => Fin.ext ?_)
  show gather_S32x1024_S32x1024x1_S32x1024_n_1_0_0_1_2_11.start (ValueIdx.ix2 b i) idx a
    + gather_S32x1024_S32x1024x1_S32x1024_n_1_0_0_1_2_11.batchCoord (ValueIdx.ix2 b i) a
    + gather_S32x1024_S32x1024x1_S32x1024_n_1_0_0_1_2_11.offCoord (ValueIdx.ix2 b i) a = _
  have hb : gather_S32x1024_S32x1024x1_S32x1024_n_1_0_0_1_2_11.batchCoord (ValueIdx.ix2 b i) (0 : Fin 2) = b.val := by
    unfold GatherDims.batchCoord
    exact (dif_pos (show (0 : Fin 2) ∈ gather_S32x1024_S32x1024x1_S32x1024_n_1_0_0_1_2_11.operandBatchingDims from List.mem_singleton.mpr rfl)).trans rfl
  have hs : gather_S32x1024_S32x1024x1_S32x1024_n_1_0_0_1_2_11.start (ValueIdx.ix2 b i) idx (1 : Fin 2) = p.val := by
    have hsi : ∀ q, gather_S32x1024_S32x1024x1_S32x1024_n_1_0_0_1_2_11.siIdx (ValueIdx.ix2 b i) q = ValueIdx.ix3 b i (0 : Fin 1) := fun q => by
      funext c
      refine Fin.ext ?_
      have hq : q.val = 0 := by have := q.isLt; change _ < 1 at this; omega
      match c with
      | ⟨0, _⟩ => rfl
      | ⟨1, _⟩ => rfl
      | ⟨2, _⟩ => exact hq
    unfold GatherDims.start
    refine (dif_pos (show (1 : Fin 2) ∈ gather_S32x1024_S32x1024x1_S32x1024_n_1_0_0_1_2_11.startIndexMap from List.mem_singleton.mpr rfl)).trans ?_
    rw [hsi, h, BitVec.toInt_eq_toNat_of_lt (by rw [BitVec.toNat_ofNat]; omega), BitVec.toNat_ofNat, Nat.mod_eq_of_lt (by omega)]
    show min (Int.toNat (p.val : ℤ)) (1024 - 1) = p.val
    rw [Int.toNat_natCast]
    omega
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    refine (congrArg (fun n => 0 + n + 0) hb).trans ?_
    show 0 + b.val + 0 = b.val
    omega
  | ⟨1, _⟩ =>
    rw [GatherDims.batchCoord_eq_zero _ _ _ (fun h => absurd (congrArg Fin.val (List.mem_singleton.mp h)) (show ¬ (1 : ℕ) = 0 by decide)),
      GatherDims.offCoord_eq_zero _ _ _ (fun h => ((GatherDims.mem_sKept _ _).mp h).1 (List.mem_singleton.mpr rfl))]
    exact hs

variable {V : Valuation τ sig (Elt Ideal)} (h9 : ∀ op ∈ Host.r9 (F := Ideal), Fixes op V)
include h9

/-- The restored positions are positions of a row. -/
theorem v126_pos (y : S32x1024.Idx) : ∃ p : Fin 1024, (V (Proc.devRef .tc main_v126) : IVec S32x1024 32) y = BitVec.ofNat 32 p.val := by
  rw [eq_binary h9 5 rfl, eq_nullary h9 3 rfl]
  exact Cert.KernelIdeal.Host.sort2_positions comparator_i32_i32_d1 (V (Proc.devRef .tc main_v125)) y

theorem v4_at (y : S32x1024.Idx) : (V (Proc.devRef .tc main_call6_v4) : IVec S32x1024 32) y = (V (Proc.devRef .tc main_v126) : IVec S32x1024 32) y := by
  obtain ⟨p, hp⟩ := v126_pos h9 y
  rw [eq_ternary h9 13 rfl, eq_binary h9 9 rfl, eq_unary h9 8 rfl, eq_nullary h9 7 rfl]
  exact keep_word _ _ (by rw [hp, BitVec.toNat_ofNat]; omega)

theorem v5_at (b : Fin 32) (i : Fin 1024) : (V (Proc.devRef .tc main_call6_v5) : IVec S32x1024x1 32) (ValueIdx.ix3 b i (0 : Fin 1)) = (V (Proc.devRef .tc main_v126) : IVec S32x1024 32) (ValueIdx.ix2 b i) := by
  rw [eq_reshape h9 14 rfl]
  refine Eq.trans (b := (V (Proc.devRef .tc main_call6_v4) : IVec S32x1024 32) (ValueIdx.ix2 b i)) ?_ (v4_at h9 _)
  refine shapeCast_apply (V (Proc.devRef .tc main_call6_v4) : IVec S32x1024 32) _ _ _ ?_
  refine (Shape.rowMajor_val_two (ValueIdx.ix2 b i)).trans (Eq.trans ?_ (Shape.rowMajor_val_three (ValueIdx.ix3 b i (0 : Fin 1))).symm)
  show b.val * 1024 + i.val = (b.val * 1024 + i.val) * 1 + 0
  omega

theorem inside (y : S32x1024x1.Idx) : (V (Proc.devRef .tc main_call6_v11) : IVec S32x1024x1 1) y = 1#1 := by
  obtain ⟨b, i, rfl⟩ : ∃ (b : Fin 32) (i : Fin 1024), y = ValueIdx.ix3 b i (0 : Fin 1) := ⟨y 0, y 1, by
    funext c
    have h := (y c).isLt
    fin_cases c
    · rfl
    · rfl
    · exact Fin.ext (by change (y 2).val < 1 at h; show (y 2).val = 0; omega)⟩
  obtain ⟨p, hp⟩ := v126_pos h9 (ValueIdx.ix2 b i)
  rw [eq_binary h9 22 rfl, eq_binary h9 18 rfl, eq_unary h9 17 rfl, eq_nullary h9 16 rfl, eq_binary h9 21 rfl, eq_unary h9 20 rfl, eq_unary h9 19 rfl, eq_nullary h9 15 rfl]
  show IntOp.andi (IntOp.cmpi .sge ((V (Proc.devRef .tc main_call6_v5) : IVec S32x1024x1 32) (ValueIdx.ix3 b i (0 : Fin 1))) 0#32)
    (IntOp.cmpi .sle ((V (Proc.devRef .tc main_call6_v5) : IVec S32x1024x1 32) (ValueIdx.ix3 b i (0 : Fin 1))) 1023#32) = 1#1
  rw [v5_at h9, hp]
  have ht : (BitVec.ofNat 32 p.val).toInt = (p.val : ℤ) := by
    rw [BitVec.toInt_eq_toNat_of_lt (by rw [BitVec.toNat_ofNat]; omega), BitVec.toNat_ofNat, Nat.mod_eq_of_lt (by omega)]
  have a : IntOp.cmpi .sge (BitVec.ofNat 32 p.val) 0#32 = 1#1 := by
    show BitVec.ofBool (BitVec.sle 0#32 (BitVec.ofNat 32 p.val)) = 1#1
    rw [BitVec.sle_eq_decide, ht, decide_eq_true (show (0#32).toInt ≤ (p.val : ℤ) by show (0 : ℤ) ≤ _; omega)]
    rfl
  have c : IntOp.cmpi .sle (BitVec.ofNat 32 p.val) 1023#32 = 1#1 := by
    show BitVec.ofBool (BitVec.sle (BitVec.ofNat 32 p.val) 1023#32) = 1#1
    rw [BitVec.sle_eq_decide, ht, decide_eq_true (show (p.val : ℤ) ≤ (1023#32).toInt by show _ ≤ (1023 : ℤ); omega)]
    rfl
  rw [a, c]
  rfl

/-- The last result at a place: the mask at the position restored there. -/
theorem picked (b : Fin 32) (i p : Fin 1024) (hp : (V (Proc.devRef .tc main_v126) : IVec S32x1024 32) (ValueIdx.ix2 b i) = BitVec.ofNat 32 p.val) :
    (V (Proc.devRef .tc main_v128) : S32x1024.Idx → EReal) (ValueIdx.ix2 b i) = (V (Proc.devRef .tc main_v116) : S32x1024.Idx → EReal) (ValueIdx.ix2 b p) := by
  have t : (V (Proc.devRef .tc main_call6_v12) : IVec S32x1024 1) (ValueIdx.ix2 b i) = 1#1 := by
    rw [eq_binary h9 24 rfl, eq_nullary h9 23 rfl]
    exact Host.reduce_andi_one _ _ _ _ _ rfl (inside h9)
  rw [eq_ternary h9 28 rfl]
  show Scalar.select ((V (Proc.devRef .tc main_call6_v12) : IVec S32x1024 1) (ValueIdx.ix2 b i)) ((V (Proc.devRef .tc main_call6_v13) : S32x1024.Idx → EReal) (ValueIdx.ix2 b i)) _ = _
  rw [t, eq_binary h9 25 rfl]
  exact gather_row _ _ b i p ((v5_at h9 b i).trans hp)

end Cert.Picked

end
-- ==== Proof.PairNoise.lean ====
/- The kernel program and the reference make their noise, its order and the kept positions by the same operations. -/
module

public import proofs.«01_k».proof.Proof.InRange
public import proofs.«01_k».proof.Proof.ProgR

@[expose] public section

set_option maxRecDepth 100000

noncomputable section

namespace Cert.Pairs

open Cert.Lines
open Idealize.ShloMosaic Idealize.ShloMosaic.StableHlo Idealize.SL.Sem

variable {F : FTy → Type} [FloatOps F]

/-- The noise lines of both programs have run. -/
structure Noise (W : Valuation KernelIdeal.τ KernelIdeal.sig (Elt F)) (V : Valuation ReferenceIdeal.τ ReferenceIdeal.sig (Elt F)) : Prop where
  k3a : ∀ op ∈ KernelIdeal.Host.k3a (F := F), Fixes op W
  k3b : ∀ op ∈ KernelIdeal.Host.k3b (F := F), Fixes op W
  k4 : ∀ op ∈ KernelIdeal.Host.k4 (F := F), Fixes op W
  k5 : ∀ op ∈ KernelIdeal.Host.k5 (F := F), Fixes op W
  k6 : ∀ op ∈ KernelIdeal.Host.k6 (F := F), Fixes op W
  k7 : ∀ op ∈ KernelIdeal.Host.k7 (F := F), Fixes op W
  k8 : ∀ op ∈ KernelIdeal.Host.k8 (F := F), Fixes op W
  k9 : ∀ op ∈ KernelIdeal.Host.k9 (F := F), Fixes op W
  k10 : ∀ op ∈ KernelIdeal.Host.k10 (F := F), Fixes op W
  r2 : ∀ op ∈ ReferenceIdeal.Host.r2 (F := F), Fixes op V
  r3 : ∀ op ∈ ReferenceIdeal.Host.r3 (F := F), Fixes op V
  r4 : ∀ op ∈ ReferenceIdeal.Host.r4 (F := F), Fixes op V
  r5 : ∀ op ∈ ReferenceIdeal.Host.r5 (F := F), Fixes op V
  r6 : ∀ op ∈ ReferenceIdeal.Host.r6 (F := F), Fixes op V
  r7 : ∀ op ∈ ReferenceIdeal.Host.r7 (F := F), Fixes op V
  r8 : ∀ op ∈ ReferenceIdeal.Host.r8 (F := F), Fixes op V
  r9 : ∀ op ∈ ReferenceIdeal.Host.r9 (F := F), Fixes op V

variable {W : Valuation KernelIdeal.τ KernelIdeal.sig (Elt F)} {V : Valuation ReferenceIdeal.τ ReferenceIdeal.sig (Elt F)} (h : Noise W V)
include h

theorem p_c_21 : W (Proc.devRef .tc KernelIdeal.main_c_21) = V (Proc.devRef .tc ReferenceIdeal.main_c_28) := by
  rw [eq_nullary h.k3a 0 rfl, eq_nullary h.r2 29 rfl] <;> rfl
theorem p_c_22 : W (Proc.devRef .tc KernelIdeal.main_c_22) = V (Proc.devRef .tc ReferenceIdeal.main_c_29) := by
  rw [eq_nullary h.k3b 0 rfl, eq_nullary h.r2 30 rfl] <;> rfl
theorem p_v96 : W (Proc.devRef .tc KernelIdeal.main_v96) = V (Proc.devRef .tc ReferenceIdeal.main_v117) := by
  rw [eq_binary h.k3b 1 rfl, eq_binary h.r2 31 rfl, (p_c_21 h), (p_c_22 h)] <;> rfl
theorem p_v97 : W (Proc.devRef .tc KernelIdeal.main_v97) = V (Proc.devRef .tc ReferenceIdeal.main_v118) := by
  rw [eq_unary h.k3b 2 rfl, eq_unary h.r2 32 rfl, (p_v96 h)] <;> rfl
theorem p_v98 : W (Proc.devRef .tc KernelIdeal.main_v98) = V (Proc.devRef .tc ReferenceIdeal.main_v119) := by
  rw [eq_unary h.k3b 3 rfl, eq_unary h.r2 33 rfl, (p_v97 h)] <;> rfl
theorem p_c_23 : W (Proc.devRef .tc KernelIdeal.main_c_23) = V (Proc.devRef .tc ReferenceIdeal.main_c_30) := by
  rw [eq_nullary h.k3b 4 rfl, eq_nullary h.r2 34 rfl] <;> rfl
theorem p_v99 : W (Proc.devRef .tc KernelIdeal.main_v99) = V (Proc.devRef .tc ReferenceIdeal.main_v120) := by
  rw [eq_binary h.k3b 5 rfl, eq_binary h.r2 35 rfl, (p_c_21 h), (p_c_23 h)] <;> rfl
theorem p_v100 : W (Proc.devRef .tc KernelIdeal.main_v100) = V (Proc.devRef .tc ReferenceIdeal.main_v121) := by
  rw [eq_unary h.k3b 6 rfl, eq_unary h.r2 36 rfl, (p_v99 h)] <;> rfl
theorem p_v101 : W (Proc.devRef .tc KernelIdeal.main_v101) = V (Proc.devRef .tc ReferenceIdeal.main_v122) := by
  rw [eq_unary h.k3b 7 rfl, eq_unary h.r2 37 rfl, (p_v100 h)] <;> rfl
theorem p_v102 : W (Proc.devRef .tc KernelIdeal.main_v102) = V (Proc.devRef .tc ReferenceIdeal.main_v123) := by
  rw [eq_binary h.k3b 8 rfl, eq_binary h.r2 38 rfl, (p_v98 h), (p_v101 h)] <;> rfl
theorem p_cst_24 : W (Proc.devRef .tc KernelIdeal.main_cst_24) = V (Proc.devRef .tc ReferenceIdeal.main_cst_31) := by
  rw [eq_nullary h.k3b 9 rfl, eq_nullary h.r2 39 rfl] <;> rfl
theorem p_cst_25 : W (Proc.devRef .tc KernelIdeal.main_cst_25) = V (Proc.devRef .tc ReferenceIdeal.main_cst_32) := by
  rw [eq_nullary h.k3b 10 rfl, eq_nullary h.r2 40 rfl] <;> rfl
theorem p_call2_v0 : W (Proc.devRef .tc KernelIdeal.main_call2_v0) = V (Proc.devRef .tc ReferenceIdeal.main_call3_v0) := by
  rw [eq_unary h.k4 0 rfl, eq_unary h.r3 0 rfl, (p_cst_24 h)] <;> rfl
theorem p_call2_v1 : W (Proc.devRef .tc KernelIdeal.main_call2_v1) = V (Proc.devRef .tc ReferenceIdeal.main_call3_v1) := by
  rw [eq_unary h.k4 1 rfl, eq_unary h.r3 1 rfl, (p_cst_25 h)] <;> rfl
theorem p_call2_v2 : W (Proc.devRef .tc KernelIdeal.main_call2_v2) = V (Proc.devRef .tc ReferenceIdeal.main_call3_v2) := by
  rw [eq_unary h.k4 2 rfl, eq_unary h.r3 2 rfl, (p_call2_v0 h)] <;> rfl
theorem p_call2_v3 : W (Proc.devRef .tc KernelIdeal.main_call2_v3) = V (Proc.devRef .tc ReferenceIdeal.main_call3_v3) := by
  rw [eq_unary h.k4 3 rfl, eq_unary h.r3 3 rfl, (p_call2_v1 h)] <;> rfl
theorem p_call2_v4 : W (Proc.devRef .tc KernelIdeal.main_call2_v4) = V (Proc.devRef .tc ReferenceIdeal.main_call3_v4) := by
  rw [eq_unary h.k4 4 rfl, eq_unary h.r3 4 rfl, (p_v102 h)] <;> rfl
theorem p_call2_v5 : W (Proc.devRef .tc KernelIdeal.main_call2_v5) = V (Proc.devRef .tc ReferenceIdeal.main_call3_v5) := by
  rw [eq_reshape h.k4 5 rfl, eq_reshape h.r3 5 rfl, (p_call2_v4 h)] <;> rfl
theorem p_call2_v6 : W (Proc.devRef .tc KernelIdeal.main_call2_v6) = V (Proc.devRef .tc ReferenceIdeal.main_call3_v6) := by
  rw [eq_unary h.k4 6 rfl, eq_unary h.r3 6 rfl, (p_v102 h)] <;> rfl
theorem p_call2_v7 : W (Proc.devRef .tc KernelIdeal.main_call2_v7) = V (Proc.devRef .tc ReferenceIdeal.main_call3_v7) := by
  rw [eq_reshape h.k4 7 rfl, eq_reshape h.r3 7 rfl, (p_call2_v6 h)] <;> rfl
theorem p_call2_v8 : W (Proc.devRef .tc KernelIdeal.main_call2_v8) = V (Proc.devRef .tc ReferenceIdeal.main_call3_v8) := by
  rw [eq_nullary h.k4 8 rfl, eq_nullary h.r3 8 rfl] <;> rfl
theorem p_call2_v9 : W (Proc.devRef .tc KernelIdeal.main_call2_v9) = V (Proc.devRef .tc ReferenceIdeal.main_call3_v9) := by
  rw [eq_nullary h.k4 9 rfl, eq_nullary h.r3 9 rfl] <;> rfl
theorem p_call2_c : W (Proc.devRef .tc KernelIdeal.main_call2_c) = V (Proc.devRef .tc ReferenceIdeal.main_call3_c) := by
  rw [eq_nullary h.k4 10 rfl, eq_nullary h.r3 10 rfl] <;> rfl
theorem p_call2_v10 : W (Proc.devRef .tc KernelIdeal.main_call2_v10) = V (Proc.devRef .tc ReferenceIdeal.main_call3_v10) := by
  rw [eq_unary h.k4 11 rfl, eq_unary h.r3 11 rfl, (p_call2_c h)] <;> rfl
theorem p_call2_v11 : W (Proc.devRef .tc KernelIdeal.main_call2_v11) = V (Proc.devRef .tc ReferenceIdeal.main_call3_v11) := by
  rw [eq_binary h.k4 12 rfl, eq_binary h.r3 12 rfl, (p_call2_v10 h), (p_call2_v8 h)] <;> rfl
theorem p_call2_c_0 : W (Proc.devRef .tc KernelIdeal.main_call2_c_0) = V (Proc.devRef .tc ReferenceIdeal.main_call3_c_0) := by
  rw [eq_nullary h.k4 13 rfl, eq_nullary h.r3 13 rfl] <;> rfl
theorem p_call2_v12 : W (Proc.devRef .tc KernelIdeal.main_call2_v12) = V (Proc.devRef .tc ReferenceIdeal.main_call3_v12) := by
  rw [eq_unary h.k4 14 rfl, eq_unary h.r3 14 rfl, (p_call2_c_0 h)] <;> rfl
theorem p_call2_v13 : W (Proc.devRef .tc KernelIdeal.main_call2_v13) = V (Proc.devRef .tc ReferenceIdeal.main_call3_v13) := by
  rw [eq_binary h.k4 15 rfl, eq_binary h.r3 15 rfl, (p_call2_v12 h), (p_call2_v9 h)] <;> rfl
theorem p_call2_v14 : W (Proc.devRef .tc KernelIdeal.main_call2_v14) = V (Proc.devRef .tc ReferenceIdeal.main_call3_v14) := by
  rw [eq_binary h.k4 16 rfl, eq_binary h.r3 16 rfl, (p_call2_v11 h), (p_call2_v13 h)] <;> rfl
theorem p_call2_c_1 : W (Proc.devRef .tc KernelIdeal.main_call2_c_1) = V (Proc.devRef .tc ReferenceIdeal.main_call3_c_1) := by
  rw [eq_nullary h.k4 17 rfl, eq_nullary h.r3 17 rfl] <;> rfl
theorem p_call2_v15 : W (Proc.devRef .tc KernelIdeal.main_call2_v15) = V (Proc.devRef .tc ReferenceIdeal.main_call3_v15) := by
  rw [eq_unary h.k4 18 rfl, eq_unary h.r3 18 rfl, (p_call2_c_1 h)] <;> rfl
theorem p_call2_v16 : W (Proc.devRef .tc KernelIdeal.main_call2_v16) = V (Proc.devRef .tc ReferenceIdeal.main_call3_v16) := by
  rw [eq_binary h.k4 19 rfl, eq_binary h.r3 19 rfl, (p_call2_v14 h), (p_call2_v15 h)] <;> rfl
theorem p_call2_v17 : W (Proc.devRef .tc KernelIdeal.main_call2_v17) = V (Proc.devRef .tc ReferenceIdeal.main_call3_v17) := by
  rw [eq_unary h.k4 20 rfl, eq_unary h.r3 20 rfl, (p_call2_v14 h)] <;> rfl
theorem p_call2_v18 : W (Proc.devRef .tc KernelIdeal.main_call2_v18) = V (Proc.devRef .tc ReferenceIdeal.main_call3_v18) := by
  rw [eq_unary h.k4 21 rfl, eq_unary h.r3 21 rfl, (p_call2_v16 h)] <;> rfl
theorem p_call2_call0_v0 : W (Proc.devRef .tc KernelIdeal.main_call2_call0_v0) = V (Proc.devRef .tc ReferenceIdeal.main_call3_call0_v0) := by
  rw [eq_binary h.k5 0 rfl, eq_binary h.r4 0 rfl, (p_call2_v5 h), (p_call2_v7 h)] <;> rfl
theorem p_call2_call0_c : W (Proc.devRef .tc KernelIdeal.main_call2_call0_c) = V (Proc.devRef .tc ReferenceIdeal.main_call3_call0_c) := by
  rw [eq_nullary h.k5 1 rfl, eq_nullary h.r4 1 rfl] <;> rfl
theorem p_call2_call0_v1 : W (Proc.devRef .tc KernelIdeal.main_call2_call0_v1) = V (Proc.devRef .tc ReferenceIdeal.main_call3_call0_v1) := by
  rw [eq_binary h.k5 2 rfl, eq_binary h.r4 2 rfl, (p_call2_call0_v0 h), (p_call2_call0_c h)] <;> rfl
theorem p_call2_call0_v2 : W (Proc.devRef .tc KernelIdeal.main_call2_call0_v2) = V (Proc.devRef .tc ReferenceIdeal.main_call3_call0_v2) := by
  rw [eq_unary h.k5 3 rfl, eq_unary h.r4 3 rfl, (p_call2_v5 h)] <;> rfl
theorem p_call2_call0_v3 : W (Proc.devRef .tc KernelIdeal.main_call2_call0_v3) = V (Proc.devRef .tc ReferenceIdeal.main_call3_call0_v3) := by
  rw [eq_binary h.k5 4 rfl, eq_binary h.r4 4 rfl, (p_call2_v18 h), (p_call2_call0_v2 h)] <;> rfl
theorem p_call2_call0_v4 : W (Proc.devRef .tc KernelIdeal.main_call2_call0_v4) = V (Proc.devRef .tc ReferenceIdeal.main_call3_call0_v4) := by
  rw [eq_unary h.k5 5 rfl, eq_unary h.r4 5 rfl, (p_call2_v7 h)] <;> rfl
theorem p_call2_call0_v5 : W (Proc.devRef .tc KernelIdeal.main_call2_call0_v5) = V (Proc.devRef .tc ReferenceIdeal.main_call3_call0_v5) := by
  rw [eq_binary h.k5 6 rfl, eq_binary h.r4 6 rfl, (p_call2_v17 h), (p_call2_call0_v4 h)] <;> rfl
theorem p_call2_call0_v6 : W (Proc.devRef .tc KernelIdeal.main_call2_call0_v6) = V (Proc.devRef .tc ReferenceIdeal.main_call3_call0_v6) := by
  rw [eq_binary h.k5 7 rfl, eq_binary h.r4 7 rfl, (p_call2_call0_v3 h), (p_call2_call0_v5 h)] <;> rfl
theorem p_call2_call0_c_0 : W (Proc.devRef .tc KernelIdeal.main_call2_call0_c_0) = V (Proc.devRef .tc ReferenceIdeal.main_call3_call0_c_0) := by
  rw [eq_nullary h.k5 8 rfl, eq_nullary h.r4 8 rfl] <;> rfl
theorem p_call2_call0_v7 : W (Proc.devRef .tc KernelIdeal.main_call2_call0_v7) = V (Proc.devRef .tc ReferenceIdeal.main_call3_call0_v7) := by
  rw [eq_unary h.k5 9 rfl, eq_unary h.r4 9 rfl, (p_call2_call0_c_0 h)] <;> rfl
theorem p_call2_call0_v8 : W (Proc.devRef .tc KernelIdeal.main_call2_call0_v8) = V (Proc.devRef .tc ReferenceIdeal.main_call3_call0_v8) := by
  rw [eq_binary h.k5 10 rfl, eq_binary h.r4 10 rfl, (p_call2_call0_v5 h), (p_call2_call0_v7 h)] <;> rfl
theorem p_call2_call0_c_1 : W (Proc.devRef .tc KernelIdeal.main_call2_call0_c_1) = V (Proc.devRef .tc ReferenceIdeal.main_call3_call0_c_1) := by
  rw [eq_nullary h.k5 11 rfl, eq_nullary h.r4 11 rfl] <;> rfl
theorem p_call2_call0_v9 : W (Proc.devRef .tc KernelIdeal.main_call2_call0_v9) = V (Proc.devRef .tc ReferenceIdeal.main_call3_call0_v9) := by
  rw [eq_unary h.k5 12 rfl, eq_unary h.r4 12 rfl, (p_call2_call0_c_1 h)] <;> rfl
theorem p_call2_call0_v10 : W (Proc.devRef .tc KernelIdeal.main_call2_call0_v10) = V (Proc.devRef .tc ReferenceIdeal.main_call3_call0_v10) := by
  rw [eq_binary h.k5 13 rfl, eq_binary h.r4 13 rfl, (p_call2_call0_v5 h), (p_call2_call0_v9 h)] <;> rfl
theorem p_call2_call0_v11 : W (Proc.devRef .tc KernelIdeal.main_call2_call0_v11) = V (Proc.devRef .tc ReferenceIdeal.main_call3_call0_v11) := by
  rw [eq_binary h.k5 14 rfl, eq_binary h.r4 14 rfl, (p_call2_call0_v8 h), (p_call2_call0_v10 h)] <;> rfl
theorem p_call2_call0_v12 : W (Proc.devRef .tc KernelIdeal.main_call2_call0_v12) = V (Proc.devRef .tc ReferenceIdeal.main_call3_call0_v12) := by
  rw [eq_binary h.k5 15 rfl, eq_binary h.r4 15 rfl, (p_call2_call0_v6 h), (p_call2_call0_v11 h)] <;> rfl
theorem p_call2_call0_v13 : W (Proc.devRef .tc KernelIdeal.main_call2_call0_v13) = V (Proc.devRef .tc ReferenceIdeal.main_call3_call0_v13) := by
  rw [eq_binary h.k5 16 rfl, eq_binary h.r4 16 rfl, (p_call2_call0_v6 h), (p_call2_call0_v12 h)] <;> rfl
theorem p_call2_call0_c_2 : W (Proc.devRef .tc KernelIdeal.main_call2_call0_c_2) = V (Proc.devRef .tc ReferenceIdeal.main_call3_call0_c_2) := by
  rw [eq_nullary h.k5 17 rfl, eq_nullary h.r4 17 rfl] <;> rfl
theorem p_call2_call0_v14 : W (Proc.devRef .tc KernelIdeal.main_call2_call0_v14) = V (Proc.devRef .tc ReferenceIdeal.main_call3_call0_v14) := by
  rw [eq_unary h.k5 18 rfl, eq_unary h.r4 18 rfl, (p_call2_call0_c_2 h)] <;> rfl
theorem p_call2_call0_v15 : W (Proc.devRef .tc KernelIdeal.main_call2_call0_v15) = V (Proc.devRef .tc ReferenceIdeal.main_call3_call0_v15) := by
  rw [eq_binary h.k5 19 rfl, eq_binary h.r4 19 rfl, (p_call2_call0_v12 h), (p_call2_call0_v14 h)] <;> rfl
theorem p_call2_call0_c_3 : W (Proc.devRef .tc KernelIdeal.main_call2_call0_c_3) = V (Proc.devRef .tc ReferenceIdeal.main_call3_call0_c_3) := by
  rw [eq_nullary h.k5 20 rfl, eq_nullary h.r4 20 rfl] <;> rfl
theorem p_call2_call0_v16 : W (Proc.devRef .tc KernelIdeal.main_call2_call0_v16) = V (Proc.devRef .tc ReferenceIdeal.main_call3_call0_v16) := by
  rw [eq_unary h.k5 21 rfl, eq_unary h.r4 21 rfl, (p_call2_call0_c_3 h)] <;> rfl
theorem p_call2_call0_v17 : W (Proc.devRef .tc KernelIdeal.main_call2_call0_v17) = V (Proc.devRef .tc ReferenceIdeal.main_call3_call0_v17) := by
  rw [eq_binary h.k5 22 rfl, eq_binary h.r4 22 rfl, (p_call2_call0_v12 h), (p_call2_call0_v16 h)] <;> rfl
theorem p_call2_call0_v18 : W (Proc.devRef .tc KernelIdeal.main_call2_call0_v18) = V (Proc.devRef .tc ReferenceIdeal.main_call3_call0_v18) := by
  rw [eq_binary h.k5 23 rfl, eq_binary h.r4 23 rfl, (p_call2_call0_v15 h), (p_call2_call0_v17 h)] <;> rfl
theorem p_call2_call0_v19 : W (Proc.devRef .tc KernelIdeal.main_call2_call0_v19) = V (Proc.devRef .tc ReferenceIdeal.main_call3_call0_v19) := by
  rw [eq_binary h.k5 24 rfl, eq_binary h.r4 24 rfl, (p_call2_call0_v13 h), (p_call2_call0_v18 h)] <;> rfl
theorem p_call2_call0_v20 : W (Proc.devRef .tc KernelIdeal.main_call2_call0_v20) = V (Proc.devRef .tc ReferenceIdeal.main_call3_call0_v20) := by
  rw [eq_binary h.k5 25 rfl, eq_binary h.r4 25 rfl, (p_call2_call0_v13 h), (p_call2_call0_v19 h)] <;> rfl
theorem p_call2_call0_c_4 : W (Proc.devRef .tc KernelIdeal.main_call2_call0_c_4) = V (Proc.devRef .tc ReferenceIdeal.main_call3_call0_c_4) := by
  rw [eq_nullary h.k5 26 rfl, eq_nullary h.r4 26 rfl] <;> rfl
theorem p_call2_call0_v21 : W (Proc.devRef .tc KernelIdeal.main_call2_call0_v21) = V (Proc.devRef .tc ReferenceIdeal.main_call3_call0_v21) := by
  rw [eq_unary h.k5 27 rfl, eq_unary h.r4 27 rfl, (p_call2_call0_c_4 h)] <;> rfl
theorem p_call2_call0_v22 : W (Proc.devRef .tc KernelIdeal.main_call2_call0_v22) = V (Proc.devRef .tc ReferenceIdeal.main_call3_call0_v22) := by
  rw [eq_binary h.k5 28 rfl, eq_binary h.r4 28 rfl, (p_call2_call0_v19 h), (p_call2_call0_v21 h)] <;> rfl
theorem p_call2_call0_c_5 : W (Proc.devRef .tc KernelIdeal.main_call2_call0_c_5) = V (Proc.devRef .tc ReferenceIdeal.main_call3_call0_c_5) := by
  rw [eq_nullary h.k5 29 rfl, eq_nullary h.r4 29 rfl] <;> rfl
theorem p_call2_call0_v23 : W (Proc.devRef .tc KernelIdeal.main_call2_call0_v23) = V (Proc.devRef .tc ReferenceIdeal.main_call3_call0_v23) := by
  rw [eq_unary h.k5 30 rfl, eq_unary h.r4 30 rfl, (p_call2_call0_c_5 h)] <;> rfl
theorem p_call2_call0_v24 : W (Proc.devRef .tc KernelIdeal.main_call2_call0_v24) = V (Proc.devRef .tc ReferenceIdeal.main_call3_call0_v24) := by
  rw [eq_binary h.k5 31 rfl, eq_binary h.r4 31 rfl, (p_call2_call0_v19 h), (p_call2_call0_v23 h)] <;> rfl
theorem p_call2_call0_v25 : W (Proc.devRef .tc KernelIdeal.main_call2_call0_v25) = V (Proc.devRef .tc ReferenceIdeal.main_call3_call0_v25) := by
  rw [eq_binary h.k5 32 rfl, eq_binary h.r4 32 rfl, (p_call2_call0_v22 h), (p_call2_call0_v24 h)] <;> rfl
theorem p_call2_call0_v26 : W (Proc.devRef .tc KernelIdeal.main_call2_call0_v26) = V (Proc.devRef .tc ReferenceIdeal.main_call3_call0_v26) := by
  rw [eq_binary h.k5 33 rfl, eq_binary h.r4 33 rfl, (p_call2_call0_v20 h), (p_call2_call0_v25 h)] <;> rfl
theorem p_call2_call0_v27 : W (Proc.devRef .tc KernelIdeal.main_call2_call0_v27) = V (Proc.devRef .tc ReferenceIdeal.main_call3_call0_v27) := by
  rw [eq_binary h.k5 34 rfl, eq_binary h.r4 34 rfl, (p_call2_call0_v20 h), (p_call2_call0_v26 h)] <;> rfl
theorem p_call2_call0_c_6 : W (Proc.devRef .tc KernelIdeal.main_call2_call0_c_6) = V (Proc.devRef .tc ReferenceIdeal.main_call3_call0_c_6) := by
  rw [eq_nullary h.k5 35 rfl, eq_nullary h.r4 35 rfl] <;> rfl
theorem p_call2_call0_v28 : W (Proc.devRef .tc KernelIdeal.main_call2_call0_v28) = V (Proc.devRef .tc ReferenceIdeal.main_call3_call0_v28) := by
  rw [eq_unary h.k5 36 rfl, eq_unary h.r4 36 rfl, (p_call2_call0_c_6 h)] <;> rfl
theorem p_call2_call0_v29 : W (Proc.devRef .tc KernelIdeal.main_call2_call0_v29) = V (Proc.devRef .tc ReferenceIdeal.main_call3_call0_v29) := by
  rw [eq_binary h.k5 37 rfl, eq_binary h.r4 37 rfl, (p_call2_call0_v26 h), (p_call2_call0_v28 h)] <;> rfl
theorem p_call2_call0_c_7 : W (Proc.devRef .tc KernelIdeal.main_call2_call0_c_7) = V (Proc.devRef .tc ReferenceIdeal.main_call3_call0_c_7) := by
  rw [eq_nullary h.k5 38 rfl, eq_nullary h.r4 38 rfl] <;> rfl
theorem p_call2_call0_v30 : W (Proc.devRef .tc KernelIdeal.main_call2_call0_v30) = V (Proc.devRef .tc ReferenceIdeal.main_call3_call0_v30) := by
  rw [eq_unary h.k5 39 rfl, eq_unary h.r4 39 rfl, (p_call2_call0_c_7 h)] <;> rfl
theorem p_call2_call0_v31 : W (Proc.devRef .tc KernelIdeal.main_call2_call0_v31) = V (Proc.devRef .tc ReferenceIdeal.main_call3_call0_v31) := by
  rw [eq_binary h.k5 40 rfl, eq_binary h.r4 40 rfl, (p_call2_call0_v26 h), (p_call2_call0_v30 h)] <;> rfl
theorem p_call2_call0_v32 : W (Proc.devRef .tc KernelIdeal.main_call2_call0_v32) = V (Proc.devRef .tc ReferenceIdeal.main_call3_call0_v32) := by
  rw [eq_binary h.k5 41 rfl, eq_binary h.r4 41 rfl, (p_call2_call0_v29 h), (p_call2_call0_v31 h)] <;> rfl
theorem p_call2_call0_v33 : W (Proc.devRef .tc KernelIdeal.main_call2_call0_v33) = V (Proc.devRef .tc ReferenceIdeal.main_call3_call0_v33) := by
  rw [eq_binary h.k5 42 rfl, eq_binary h.r4 42 rfl, (p_call2_call0_v27 h), (p_call2_call0_v32 h)] <;> rfl
theorem p_call2_call0_v34 : W (Proc.devRef .tc KernelIdeal.main_call2_call0_v34) = V (Proc.devRef .tc ReferenceIdeal.main_call3_call0_v34) := by
  rw [eq_unary h.k5 43 rfl, eq_unary h.r4 43 rfl, (p_call2_v7 h)] <;> rfl
theorem p_call2_call0_v35 : W (Proc.devRef .tc KernelIdeal.main_call2_call0_v35) = V (Proc.devRef .tc ReferenceIdeal.main_call3_call0_v35) := by
  rw [eq_binary h.k5 44 rfl, eq_binary h.r4 44 rfl, (p_call2_call0_v27 h), (p_call2_call0_v34 h)] <;> rfl
theorem p_call2_call0_v36 : W (Proc.devRef .tc KernelIdeal.main_call2_call0_v36) = V (Proc.devRef .tc ReferenceIdeal.main_call3_call0_v36) := by
  rw [eq_unary h.k5 45 rfl, eq_unary h.r4 45 rfl, (p_call2_call0_v1 h)] <;> rfl
theorem p_call2_call0_v37 : W (Proc.devRef .tc KernelIdeal.main_call2_call0_v37) = V (Proc.devRef .tc ReferenceIdeal.main_call3_call0_v37) := by
  rw [eq_binary h.k5 46 rfl, eq_binary h.r4 46 rfl, (p_call2_call0_v33 h), (p_call2_call0_v36 h)] <;> rfl
theorem p_call2_call0_c_8 : W (Proc.devRef .tc KernelIdeal.main_call2_call0_c_8) = V (Proc.devRef .tc ReferenceIdeal.main_call3_call0_c_8) := by
  rw [eq_nullary h.k5 47 rfl, eq_nullary h.r4 47 rfl] <;> rfl
theorem p_call2_call0_v38 : W (Proc.devRef .tc KernelIdeal.main_call2_call0_v38) = V (Proc.devRef .tc ReferenceIdeal.main_call3_call0_v38) := by
  rw [eq_unary h.k5 48 rfl, eq_unary h.r4 48 rfl, (p_call2_call0_c_8 h)] <;> rfl
theorem p_call2_call0_v39 : W (Proc.devRef .tc KernelIdeal.main_call2_call0_v39) = V (Proc.devRef .tc ReferenceIdeal.main_call3_call0_v39) := by
  rw [eq_binary h.k5 49 rfl, eq_binary h.r4 49 rfl, (p_call2_call0_v37 h), (p_call2_call0_v38 h)] <;> rfl
theorem p_call2_call0_v40 : W (Proc.devRef .tc KernelIdeal.main_call2_call0_v40) = V (Proc.devRef .tc ReferenceIdeal.main_call3_call0_v40) := by
  rw [eq_binary h.k5 50 rfl, eq_binary h.r4 50 rfl, (p_call2_call0_v35 h), (p_call2_call0_v39 h)] <;> rfl
theorem p_call2_call0_c_9 : W (Proc.devRef .tc KernelIdeal.main_call2_call0_c_9) = V (Proc.devRef .tc ReferenceIdeal.main_call3_call0_c_9) := by
  rw [eq_nullary h.k5 51 rfl, eq_nullary h.r4 51 rfl] <;> rfl
theorem p_call2_call0_v41 : W (Proc.devRef .tc KernelIdeal.main_call2_call0_v41) = V (Proc.devRef .tc ReferenceIdeal.main_call3_call0_v41) := by
  rw [eq_unary h.k5 52 rfl, eq_unary h.r4 52 rfl, (p_call2_call0_c_9 h)] <;> rfl
theorem p_call2_call0_v42 : W (Proc.devRef .tc KernelIdeal.main_call2_call0_v42) = V (Proc.devRef .tc ReferenceIdeal.main_call3_call0_v42) := by
  rw [eq_binary h.k5 53 rfl, eq_binary h.r4 53 rfl, (p_call2_call0_v39 h), (p_call2_call0_v41 h)] <;> rfl
theorem p_call2_call0_c_10 : W (Proc.devRef .tc KernelIdeal.main_call2_call0_c_10) = V (Proc.devRef .tc ReferenceIdeal.main_call3_call0_c_10) := by
  rw [eq_nullary h.k5 54 rfl, eq_nullary h.r4 54 rfl] <;> rfl
theorem p_call2_call0_v43 : W (Proc.devRef .tc KernelIdeal.main_call2_call0_v43) = V (Proc.devRef .tc ReferenceIdeal.main_call3_call0_v43) := by
  rw [eq_unary h.k5 55 rfl, eq_unary h.r4 55 rfl, (p_call2_call0_c_10 h)] <;> rfl
theorem p_call2_call0_v44 : W (Proc.devRef .tc KernelIdeal.main_call2_call0_v44) = V (Proc.devRef .tc ReferenceIdeal.main_call3_call0_v44) := by
  rw [eq_binary h.k5 56 rfl, eq_binary h.r4 56 rfl, (p_call2_call0_v39 h), (p_call2_call0_v43 h)] <;> rfl
theorem p_call2_call0_v45 : W (Proc.devRef .tc KernelIdeal.main_call2_call0_v45) = V (Proc.devRef .tc ReferenceIdeal.main_call3_call0_v45) := by
  rw [eq_binary h.k5 57 rfl, eq_binary h.r4 57 rfl, (p_call2_call0_v42 h), (p_call2_call0_v44 h)] <;> rfl
theorem p_call2_call0_v46 : W (Proc.devRef .tc KernelIdeal.main_call2_call0_v46) = V (Proc.devRef .tc ReferenceIdeal.main_call3_call0_v46) := by
  rw [eq_binary h.k5 58 rfl, eq_binary h.r4 58 rfl, (p_call2_call0_v40 h), (p_call2_call0_v45 h)] <;> rfl
theorem p_call2_call0_v47 : W (Proc.devRef .tc KernelIdeal.main_call2_call0_v47) = V (Proc.devRef .tc ReferenceIdeal.main_call3_call0_v47) := by
  rw [eq_binary h.k5 59 rfl, eq_binary h.r4 59 rfl, (p_call2_call0_v40 h), (p_call2_call0_v46 h)] <;> rfl
theorem p_call2_call0_c_11 : W (Proc.devRef .tc KernelIdeal.main_call2_call0_c_11) = V (Proc.devRef .tc ReferenceIdeal.main_call3_call0_c_11) := by
  rw [eq_nullary h.k6 0 rfl, eq_nullary h.r5 0 rfl] <;> rfl
theorem p_call2_call0_v48 : W (Proc.devRef .tc KernelIdeal.main_call2_call0_v48) = V (Proc.devRef .tc ReferenceIdeal.main_call3_call0_v48) := by
  rw [eq_unary h.k6 1 rfl, eq_unary h.r5 1 rfl, (p_call2_call0_c_11 h)] <;> rfl
theorem p_call2_call0_v49 : W (Proc.devRef .tc KernelIdeal.main_call2_call0_v49) = V (Proc.devRef .tc ReferenceIdeal.main_call3_call0_v49) := by
  rw [eq_binary h.k6 2 rfl, eq_binary h.r5 2 rfl, (p_call2_call0_v46 h), (p_call2_call0_v48 h)] <;> rfl
theorem p_call2_call0_c_12 : W (Proc.devRef .tc KernelIdeal.main_call2_call0_c_12) = V (Proc.devRef .tc ReferenceIdeal.main_call3_call0_c_12) := by
  rw [eq_nullary h.k6 3 rfl, eq_nullary h.r5 3 rfl] <;> rfl
theorem p_call2_call0_v50 : W (Proc.devRef .tc KernelIdeal.main_call2_call0_v50) = V (Proc.devRef .tc ReferenceIdeal.main_call3_call0_v50) := by
  rw [eq_unary h.k6 4 rfl, eq_unary h.r5 4 rfl, (p_call2_call0_c_12 h)] <;> rfl
theorem p_call2_call0_v51 : W (Proc.devRef .tc KernelIdeal.main_call2_call0_v51) = V (Proc.devRef .tc ReferenceIdeal.main_call3_call0_v51) := by
  rw [eq_binary h.k6 5 rfl, eq_binary h.r5 5 rfl, (p_call2_call0_v46 h), (p_call2_call0_v50 h)] <;> rfl
theorem p_call2_call0_v52 : W (Proc.devRef .tc KernelIdeal.main_call2_call0_v52) = V (Proc.devRef .tc ReferenceIdeal.main_call3_call0_v52) := by
  rw [eq_binary h.k6 6 rfl, eq_binary h.r5 6 rfl, (p_call2_call0_v49 h), (p_call2_call0_v51 h)] <;> rfl
theorem p_call2_call0_v53 : W (Proc.devRef .tc KernelIdeal.main_call2_call0_v53) = V (Proc.devRef .tc ReferenceIdeal.main_call3_call0_v53) := by
  rw [eq_binary h.k6 7 rfl, eq_binary h.r5 7 rfl, (p_call2_call0_v47 h), (p_call2_call0_v52 h)] <;> rfl
theorem p_call2_call0_v54 : W (Proc.devRef .tc KernelIdeal.main_call2_call0_v54) = V (Proc.devRef .tc ReferenceIdeal.main_call3_call0_v54) := by
  rw [eq_binary h.k6 8 rfl, eq_binary h.r5 8 rfl, (p_call2_call0_v47 h), (p_call2_call0_v53 h)] <;> rfl
theorem p_call2_call0_c_13 : W (Proc.devRef .tc KernelIdeal.main_call2_call0_c_13) = V (Proc.devRef .tc ReferenceIdeal.main_call3_call0_c_13) := by
  rw [eq_nullary h.k6 9 rfl, eq_nullary h.r5 9 rfl] <;> rfl
theorem p_call2_call0_v55 : W (Proc.devRef .tc KernelIdeal.main_call2_call0_v55) = V (Proc.devRef .tc ReferenceIdeal.main_call3_call0_v55) := by
  rw [eq_unary h.k6 10 rfl, eq_unary h.r5 10 rfl, (p_call2_call0_c_13 h)] <;> rfl
theorem p_call2_call0_v56 : W (Proc.devRef .tc KernelIdeal.main_call2_call0_v56) = V (Proc.devRef .tc ReferenceIdeal.main_call3_call0_v56) := by
  rw [eq_binary h.k6 11 rfl, eq_binary h.r5 11 rfl, (p_call2_call0_v53 h), (p_call2_call0_v55 h)] <;> rfl
theorem p_call2_call0_c_14 : W (Proc.devRef .tc KernelIdeal.main_call2_call0_c_14) = V (Proc.devRef .tc ReferenceIdeal.main_call3_call0_c_14) := by
  rw [eq_nullary h.k6 12 rfl, eq_nullary h.r5 12 rfl] <;> rfl
theorem p_call2_call0_v57 : W (Proc.devRef .tc KernelIdeal.main_call2_call0_v57) = V (Proc.devRef .tc ReferenceIdeal.main_call3_call0_v57) := by
  rw [eq_unary h.k6 13 rfl, eq_unary h.r5 13 rfl, (p_call2_call0_c_14 h)] <;> rfl
theorem p_call2_call0_v58 : W (Proc.devRef .tc KernelIdeal.main_call2_call0_v58) = V (Proc.devRef .tc ReferenceIdeal.main_call3_call0_v58) := by
  rw [eq_binary h.k6 14 rfl, eq_binary h.r5 14 rfl, (p_call2_call0_v53 h), (p_call2_call0_v57 h)] <;> rfl
theorem p_call2_call0_v59 : W (Proc.devRef .tc KernelIdeal.main_call2_call0_v59) = V (Proc.devRef .tc ReferenceIdeal.main_call3_call0_v59) := by
  rw [eq_binary h.k6 15 rfl, eq_binary h.r5 15 rfl, (p_call2_call0_v56 h), (p_call2_call0_v58 h)] <;> rfl
theorem p_call2_call0_v60 : W (Proc.devRef .tc KernelIdeal.main_call2_call0_v60) = V (Proc.devRef .tc ReferenceIdeal.main_call3_call0_v60) := by
  rw [eq_binary h.k6 16 rfl, eq_binary h.r5 16 rfl, (p_call2_call0_v54 h), (p_call2_call0_v59 h)] <;> rfl
theorem p_call2_call0_v61 : W (Proc.devRef .tc KernelIdeal.main_call2_call0_v61) = V (Proc.devRef .tc ReferenceIdeal.main_call3_call0_v61) := by
  rw [eq_binary h.k6 17 rfl, eq_binary h.r5 17 rfl, (p_call2_call0_v54 h), (p_call2_call0_v60 h)] <;> rfl
theorem p_call2_call0_c_15 : W (Proc.devRef .tc KernelIdeal.main_call2_call0_c_15) = V (Proc.devRef .tc ReferenceIdeal.main_call3_call0_c_15) := by
  rw [eq_nullary h.k6 18 rfl, eq_nullary h.r5 18 rfl] <;> rfl
theorem p_call2_call0_v62 : W (Proc.devRef .tc KernelIdeal.main_call2_call0_v62) = V (Proc.devRef .tc ReferenceIdeal.main_call3_call0_v62) := by
  rw [eq_unary h.k6 19 rfl, eq_unary h.r5 19 rfl, (p_call2_call0_c_15 h)] <;> rfl
theorem p_call2_call0_v63 : W (Proc.devRef .tc KernelIdeal.main_call2_call0_v63) = V (Proc.devRef .tc ReferenceIdeal.main_call3_call0_v63) := by
  rw [eq_binary h.k6 20 rfl, eq_binary h.r5 20 rfl, (p_call2_call0_v60 h), (p_call2_call0_v62 h)] <;> rfl
theorem p_call2_call0_c_16 : W (Proc.devRef .tc KernelIdeal.main_call2_call0_c_16) = V (Proc.devRef .tc ReferenceIdeal.main_call3_call0_c_16) := by
  rw [eq_nullary h.k6 21 rfl, eq_nullary h.r5 21 rfl] <;> rfl
theorem p_call2_call0_v64 : W (Proc.devRef .tc KernelIdeal.main_call2_call0_v64) = V (Proc.devRef .tc ReferenceIdeal.main_call3_call0_v64) := by
  rw [eq_unary h.k6 22 rfl, eq_unary h.r5 22 rfl, (p_call2_call0_c_16 h)] <;> rfl
theorem p_call2_call0_v65 : W (Proc.devRef .tc KernelIdeal.main_call2_call0_v65) = V (Proc.devRef .tc ReferenceIdeal.main_call3_call0_v65) := by
  rw [eq_binary h.k6 23 rfl, eq_binary h.r5 23 rfl, (p_call2_call0_v60 h), (p_call2_call0_v64 h)] <;> rfl
theorem p_call2_call0_v66 : W (Proc.devRef .tc KernelIdeal.main_call2_call0_v66) = V (Proc.devRef .tc ReferenceIdeal.main_call3_call0_v66) := by
  rw [eq_binary h.k6 24 rfl, eq_binary h.r5 24 rfl, (p_call2_call0_v63 h), (p_call2_call0_v65 h)] <;> rfl
theorem p_call2_call0_v67 : W (Proc.devRef .tc KernelIdeal.main_call2_call0_v67) = V (Proc.devRef .tc ReferenceIdeal.main_call3_call0_v67) := by
  rw [eq_binary h.k6 25 rfl, eq_binary h.r5 25 rfl, (p_call2_call0_v61 h), (p_call2_call0_v66 h)] <;> rfl
theorem p_call2_call0_v68 : W (Proc.devRef .tc KernelIdeal.main_call2_call0_v68) = V (Proc.devRef .tc ReferenceIdeal.main_call3_call0_v68) := by
  rw [eq_unary h.k6 26 rfl, eq_unary h.r5 26 rfl, (p_call2_call0_v1 h)] <;> rfl
theorem p_call2_call0_v69 : W (Proc.devRef .tc KernelIdeal.main_call2_call0_v69) = V (Proc.devRef .tc ReferenceIdeal.main_call3_call0_v69) := by
  rw [eq_binary h.k6 27 rfl, eq_binary h.r5 27 rfl, (p_call2_call0_v61 h), (p_call2_call0_v68 h)] <;> rfl
theorem p_call2_call0_v70 : W (Proc.devRef .tc KernelIdeal.main_call2_call0_v70) = V (Proc.devRef .tc ReferenceIdeal.main_call3_call0_v70) := by
  rw [eq_unary h.k6 28 rfl, eq_unary h.r5 28 rfl, (p_call2_v5 h)] <;> rfl
theorem p_call2_call0_v71 : W (Proc.devRef .tc KernelIdeal.main_call2_call0_v71) = V (Proc.devRef .tc ReferenceIdeal.main_call3_call0_v71) := by
  rw [eq_binary h.k6 29 rfl, eq_binary h.r5 29 rfl, (p_call2_call0_v67 h), (p_call2_call0_v70 h)] <;> rfl
theorem p_call2_call0_c_17 : W (Proc.devRef .tc KernelIdeal.main_call2_call0_c_17) = V (Proc.devRef .tc ReferenceIdeal.main_call3_call0_c_17) := by
  rw [eq_nullary h.k6 30 rfl, eq_nullary h.r5 30 rfl] <;> rfl
theorem p_call2_call0_v72 : W (Proc.devRef .tc KernelIdeal.main_call2_call0_v72) = V (Proc.devRef .tc ReferenceIdeal.main_call3_call0_v72) := by
  rw [eq_unary h.k6 31 rfl, eq_unary h.r5 31 rfl, (p_call2_call0_c_17 h)] <;> rfl
theorem p_call2_call0_v73 : W (Proc.devRef .tc KernelIdeal.main_call2_call0_v73) = V (Proc.devRef .tc ReferenceIdeal.main_call3_call0_v73) := by
  rw [eq_binary h.k6 32 rfl, eq_binary h.r5 32 rfl, (p_call2_call0_v71 h), (p_call2_call0_v72 h)] <;> rfl
theorem p_call2_call0_v74 : W (Proc.devRef .tc KernelIdeal.main_call2_call0_v74) = V (Proc.devRef .tc ReferenceIdeal.main_call3_call0_v74) := by
  rw [eq_binary h.k6 33 rfl, eq_binary h.r5 33 rfl, (p_call2_call0_v69 h), (p_call2_call0_v73 h)] <;> rfl
theorem p_call2_call0_c_18 : W (Proc.devRef .tc KernelIdeal.main_call2_call0_c_18) = V (Proc.devRef .tc ReferenceIdeal.main_call3_call0_c_18) := by
  rw [eq_nullary h.k6 34 rfl, eq_nullary h.r5 34 rfl] <;> rfl
theorem p_call2_call0_v75 : W (Proc.devRef .tc KernelIdeal.main_call2_call0_v75) = V (Proc.devRef .tc ReferenceIdeal.main_call3_call0_v75) := by
  rw [eq_unary h.k6 35 rfl, eq_unary h.r5 35 rfl, (p_call2_call0_c_18 h)] <;> rfl
theorem p_call2_call0_v76 : W (Proc.devRef .tc KernelIdeal.main_call2_call0_v76) = V (Proc.devRef .tc ReferenceIdeal.main_call3_call0_v76) := by
  rw [eq_binary h.k6 36 rfl, eq_binary h.r5 36 rfl, (p_call2_call0_v73 h), (p_call2_call0_v75 h)] <;> rfl
theorem p_call2_call0_c_19 : W (Proc.devRef .tc KernelIdeal.main_call2_call0_c_19) = V (Proc.devRef .tc ReferenceIdeal.main_call3_call0_c_19) := by
  rw [eq_nullary h.k6 37 rfl, eq_nullary h.r5 37 rfl] <;> rfl
theorem p_call2_call0_v77 : W (Proc.devRef .tc KernelIdeal.main_call2_call0_v77) = V (Proc.devRef .tc ReferenceIdeal.main_call3_call0_v77) := by
  rw [eq_unary h.k6 38 rfl, eq_unary h.r5 38 rfl, (p_call2_call0_c_19 h)] <;> rfl
theorem p_call2_call0_v78 : W (Proc.devRef .tc KernelIdeal.main_call2_call0_v78) = V (Proc.devRef .tc ReferenceIdeal.main_call3_call0_v78) := by
  rw [eq_binary h.k6 39 rfl, eq_binary h.r5 39 rfl, (p_call2_call0_v73 h), (p_call2_call0_v77 h)] <;> rfl
theorem p_call2_call0_v79 : W (Proc.devRef .tc KernelIdeal.main_call2_call0_v79) = V (Proc.devRef .tc ReferenceIdeal.main_call3_call0_v79) := by
  rw [eq_binary h.k6 40 rfl, eq_binary h.r5 40 rfl, (p_call2_call0_v76 h), (p_call2_call0_v78 h)] <;> rfl
theorem p_call2_call0_v80 : W (Proc.devRef .tc KernelIdeal.main_call2_call0_v80) = V (Proc.devRef .tc ReferenceIdeal.main_call3_call0_v80) := by
  rw [eq_binary h.k6 41 rfl, eq_binary h.r5 41 rfl, (p_call2_call0_v74 h), (p_call2_call0_v79 h)] <;> rfl
theorem p_call2_call0_v81 : W (Proc.devRef .tc KernelIdeal.main_call2_call0_v81) = V (Proc.devRef .tc ReferenceIdeal.main_call3_call0_v81) := by
  rw [eq_binary h.k6 42 rfl, eq_binary h.r5 42 rfl, (p_call2_call0_v74 h), (p_call2_call0_v80 h)] <;> rfl
theorem p_call2_call0_c_20 : W (Proc.devRef .tc KernelIdeal.main_call2_call0_c_20) = V (Proc.devRef .tc ReferenceIdeal.main_call3_call0_c_20) := by
  rw [eq_nullary h.k6 43 rfl, eq_nullary h.r5 43 rfl] <;> rfl
theorem p_call2_call0_v82 : W (Proc.devRef .tc KernelIdeal.main_call2_call0_v82) = V (Proc.devRef .tc ReferenceIdeal.main_call3_call0_v82) := by
  rw [eq_unary h.k6 44 rfl, eq_unary h.r5 44 rfl, (p_call2_call0_c_20 h)] <;> rfl
theorem p_call2_call0_v83 : W (Proc.devRef .tc KernelIdeal.main_call2_call0_v83) = V (Proc.devRef .tc ReferenceIdeal.main_call3_call0_v83) := by
  rw [eq_binary h.k6 45 rfl, eq_binary h.r5 45 rfl, (p_call2_call0_v80 h), (p_call2_call0_v82 h)] <;> rfl
theorem p_call2_call0_c_21 : W (Proc.devRef .tc KernelIdeal.main_call2_call0_c_21) = V (Proc.devRef .tc ReferenceIdeal.main_call3_call0_c_21) := by
  rw [eq_nullary h.k6 46 rfl, eq_nullary h.r5 46 rfl] <;> rfl
theorem p_call2_call0_v84 : W (Proc.devRef .tc KernelIdeal.main_call2_call0_v84) = V (Proc.devRef .tc ReferenceIdeal.main_call3_call0_v84) := by
  rw [eq_unary h.k6 47 rfl, eq_unary h.r5 47 rfl, (p_call2_call0_c_21 h)] <;> rfl
theorem p_call2_call0_v85 : W (Proc.devRef .tc KernelIdeal.main_call2_call0_v85) = V (Proc.devRef .tc ReferenceIdeal.main_call3_call0_v85) := by
  rw [eq_binary h.k6 48 rfl, eq_binary h.r5 48 rfl, (p_call2_call0_v80 h), (p_call2_call0_v84 h)] <;> rfl
theorem p_call2_call0_v86 : W (Proc.devRef .tc KernelIdeal.main_call2_call0_v86) = V (Proc.devRef .tc ReferenceIdeal.main_call3_call0_v86) := by
  rw [eq_binary h.k6 49 rfl, eq_binary h.r5 49 rfl, (p_call2_call0_v83 h), (p_call2_call0_v85 h)] <;> rfl
theorem p_call2_call0_v87 : W (Proc.devRef .tc KernelIdeal.main_call2_call0_v87) = V (Proc.devRef .tc ReferenceIdeal.main_call3_call0_v87) := by
  rw [eq_binary h.k6 50 rfl, eq_binary h.r5 50 rfl, (p_call2_call0_v81 h), (p_call2_call0_v86 h)] <;> rfl
theorem p_call2_call0_v88 : W (Proc.devRef .tc KernelIdeal.main_call2_call0_v88) = V (Proc.devRef .tc ReferenceIdeal.main_call3_call0_v88) := by
  rw [eq_binary h.k6 51 rfl, eq_binary h.r5 51 rfl, (p_call2_call0_v81 h), (p_call2_call0_v87 h)] <;> rfl
theorem p_call2_call0_c_22 : W (Proc.devRef .tc KernelIdeal.main_call2_call0_c_22) = V (Proc.devRef .tc ReferenceIdeal.main_call3_call0_c_22) := by
  rw [eq_nullary h.k6 52 rfl, eq_nullary h.r5 52 rfl] <;> rfl
theorem p_call2_call0_v89 : W (Proc.devRef .tc KernelIdeal.main_call2_call0_v89) = V (Proc.devRef .tc ReferenceIdeal.main_call3_call0_v89) := by
  rw [eq_unary h.k6 53 rfl, eq_unary h.r5 53 rfl, (p_call2_call0_c_22 h)] <;> rfl
theorem p_call2_call0_v90 : W (Proc.devRef .tc KernelIdeal.main_call2_call0_v90) = V (Proc.devRef .tc ReferenceIdeal.main_call3_call0_v90) := by
  rw [eq_binary h.k6 54 rfl, eq_binary h.r5 54 rfl, (p_call2_call0_v87 h), (p_call2_call0_v89 h)] <;> rfl
theorem p_call2_call0_c_23 : W (Proc.devRef .tc KernelIdeal.main_call2_call0_c_23) = V (Proc.devRef .tc ReferenceIdeal.main_call3_call0_c_23) := by
  rw [eq_nullary h.k6 55 rfl, eq_nullary h.r5 55 rfl] <;> rfl
theorem p_call2_call0_v91 : W (Proc.devRef .tc KernelIdeal.main_call2_call0_v91) = V (Proc.devRef .tc ReferenceIdeal.main_call3_call0_v91) := by
  rw [eq_unary h.k6 56 rfl, eq_unary h.r5 56 rfl, (p_call2_call0_c_23 h)] <;> rfl
theorem p_call2_call0_v92 : W (Proc.devRef .tc KernelIdeal.main_call2_call0_v92) = V (Proc.devRef .tc ReferenceIdeal.main_call3_call0_v92) := by
  rw [eq_binary h.k6 57 rfl, eq_binary h.r5 57 rfl, (p_call2_call0_v87 h), (p_call2_call0_v91 h)] <;> rfl
theorem p_call2_call0_v93 : W (Proc.devRef .tc KernelIdeal.main_call2_call0_v93) = V (Proc.devRef .tc ReferenceIdeal.main_call3_call0_v93) := by
  rw [eq_binary h.k6 58 rfl, eq_binary h.r5 58 rfl, (p_call2_call0_v90 h), (p_call2_call0_v92 h)] <;> rfl
theorem p_call2_call0_v94 : W (Proc.devRef .tc KernelIdeal.main_call2_call0_v94) = V (Proc.devRef .tc ReferenceIdeal.main_call3_call0_v94) := by
  rw [eq_binary h.k6 59 rfl, eq_binary h.r5 59 rfl, (p_call2_call0_v88 h), (p_call2_call0_v93 h)] <;> rfl
theorem p_call2_call0_v95 : W (Proc.devRef .tc KernelIdeal.main_call2_call0_v95) = V (Proc.devRef .tc ReferenceIdeal.main_call3_call0_v95) := by
  rw [eq_binary h.k7 0 rfl, eq_binary h.r6 0 rfl, (p_call2_call0_v88 h), (p_call2_call0_v94 h)] <;> rfl
theorem p_call2_call0_c_24 : W (Proc.devRef .tc KernelIdeal.main_call2_call0_c_24) = V (Proc.devRef .tc ReferenceIdeal.main_call3_call0_c_24) := by
  rw [eq_nullary h.k7 1 rfl, eq_nullary h.r6 1 rfl] <;> rfl
theorem p_call2_call0_v96 : W (Proc.devRef .tc KernelIdeal.main_call2_call0_v96) = V (Proc.devRef .tc ReferenceIdeal.main_call3_call0_v96) := by
  rw [eq_unary h.k7 2 rfl, eq_unary h.r6 2 rfl, (p_call2_call0_c_24 h)] <;> rfl
theorem p_call2_call0_v97 : W (Proc.devRef .tc KernelIdeal.main_call2_call0_v97) = V (Proc.devRef .tc ReferenceIdeal.main_call3_call0_v97) := by
  rw [eq_binary h.k7 3 rfl, eq_binary h.r6 3 rfl, (p_call2_call0_v94 h), (p_call2_call0_v96 h)] <;> rfl
theorem p_call2_call0_c_25 : W (Proc.devRef .tc KernelIdeal.main_call2_call0_c_25) = V (Proc.devRef .tc ReferenceIdeal.main_call3_call0_c_25) := by
  rw [eq_nullary h.k7 4 rfl, eq_nullary h.r6 4 rfl] <;> rfl
theorem p_call2_call0_v98 : W (Proc.devRef .tc KernelIdeal.main_call2_call0_v98) = V (Proc.devRef .tc ReferenceIdeal.main_call3_call0_v98) := by
  rw [eq_unary h.k7 5 rfl, eq_unary h.r6 5 rfl, (p_call2_call0_c_25 h)] <;> rfl
theorem p_call2_call0_v99 : W (Proc.devRef .tc KernelIdeal.main_call2_call0_v99) = V (Proc.devRef .tc ReferenceIdeal.main_call3_call0_v99) := by
  rw [eq_binary h.k7 6 rfl, eq_binary h.r6 6 rfl, (p_call2_call0_v94 h), (p_call2_call0_v98 h)] <;> rfl
theorem p_call2_call0_v100 : W (Proc.devRef .tc KernelIdeal.main_call2_call0_v100) = V (Proc.devRef .tc ReferenceIdeal.main_call3_call0_v100) := by
  rw [eq_binary h.k7 7 rfl, eq_binary h.r6 7 rfl, (p_call2_call0_v97 h), (p_call2_call0_v99 h)] <;> rfl
theorem p_call2_call0_v101 : W (Proc.devRef .tc KernelIdeal.main_call2_call0_v101) = V (Proc.devRef .tc ReferenceIdeal.main_call3_call0_v101) := by
  rw [eq_binary h.k7 8 rfl, eq_binary h.r6 8 rfl, (p_call2_call0_v95 h), (p_call2_call0_v100 h)] <;> rfl
theorem p_call2_call0_v102 : W (Proc.devRef .tc KernelIdeal.main_call2_call0_v102) = V (Proc.devRef .tc ReferenceIdeal.main_call3_call0_v102) := by
  rw [eq_unary h.k7 9 rfl, eq_unary h.r6 9 rfl, (p_call2_v5 h)] <;> rfl
theorem p_call2_call0_v103 : W (Proc.devRef .tc KernelIdeal.main_call2_call0_v103) = V (Proc.devRef .tc ReferenceIdeal.main_call3_call0_v103) := by
  rw [eq_binary h.k7 10 rfl, eq_binary h.r6 10 rfl, (p_call2_call0_v95 h), (p_call2_call0_v102 h)] <;> rfl
theorem p_call2_call0_v104 : W (Proc.devRef .tc KernelIdeal.main_call2_call0_v104) = V (Proc.devRef .tc ReferenceIdeal.main_call3_call0_v104) := by
  rw [eq_unary h.k7 11 rfl, eq_unary h.r6 11 rfl, (p_call2_v7 h)] <;> rfl
theorem p_call2_call0_v105 : W (Proc.devRef .tc KernelIdeal.main_call2_call0_v105) = V (Proc.devRef .tc ReferenceIdeal.main_call3_call0_v105) := by
  rw [eq_binary h.k7 12 rfl, eq_binary h.r6 12 rfl, (p_call2_call0_v101 h), (p_call2_call0_v104 h)] <;> rfl
theorem p_call2_call0_c_26 : W (Proc.devRef .tc KernelIdeal.main_call2_call0_c_26) = V (Proc.devRef .tc ReferenceIdeal.main_call3_call0_c_26) := by
  rw [eq_nullary h.k7 13 rfl, eq_nullary h.r6 13 rfl] <;> rfl
theorem p_call2_call0_v106 : W (Proc.devRef .tc KernelIdeal.main_call2_call0_v106) = V (Proc.devRef .tc ReferenceIdeal.main_call3_call0_v106) := by
  rw [eq_unary h.k7 14 rfl, eq_unary h.r6 14 rfl, (p_call2_call0_c_26 h)] <;> rfl
theorem p_call2_call0_v107 : W (Proc.devRef .tc KernelIdeal.main_call2_call0_v107) = V (Proc.devRef .tc ReferenceIdeal.main_call3_call0_v107) := by
  rw [eq_binary h.k7 15 rfl, eq_binary h.r6 15 rfl, (p_call2_call0_v105 h), (p_call2_call0_v106 h)] <;> rfl
theorem p_call2_call0_v108 : W (Proc.devRef .tc KernelIdeal.main_call2_call0_v108) = V (Proc.devRef .tc ReferenceIdeal.main_call3_call0_v108) := by
  rw [eq_binary h.k7 16 rfl, eq_binary h.r6 16 rfl, (p_call2_call0_v103 h), (p_call2_call0_v107 h)] <;> rfl
theorem p_call2_call0_c_27 : W (Proc.devRef .tc KernelIdeal.main_call2_call0_c_27) = V (Proc.devRef .tc ReferenceIdeal.main_call3_call0_c_27) := by
  rw [eq_nullary h.k7 17 rfl, eq_nullary h.r6 17 rfl] <;> rfl
theorem p_call2_call0_v109 : W (Proc.devRef .tc KernelIdeal.main_call2_call0_v109) = V (Proc.devRef .tc ReferenceIdeal.main_call3_call0_v109) := by
  rw [eq_unary h.k7 18 rfl, eq_unary h.r6 18 rfl, (p_call2_call0_c_27 h)] <;> rfl
theorem p_call2_call0_v110 : W (Proc.devRef .tc KernelIdeal.main_call2_call0_v110) = V (Proc.devRef .tc ReferenceIdeal.main_call3_call0_v110) := by
  rw [eq_binary h.k7 19 rfl, eq_binary h.r6 19 rfl, (p_call2_call0_v107 h), (p_call2_call0_v109 h)] <;> rfl
theorem p_call2_call0_c_28 : W (Proc.devRef .tc KernelIdeal.main_call2_call0_c_28) = V (Proc.devRef .tc ReferenceIdeal.main_call3_call0_c_28) := by
  rw [eq_nullary h.k7 20 rfl, eq_nullary h.r6 20 rfl] <;> rfl
theorem p_call2_call0_v111 : W (Proc.devRef .tc KernelIdeal.main_call2_call0_v111) = V (Proc.devRef .tc ReferenceIdeal.main_call3_call0_v111) := by
  rw [eq_unary h.k7 21 rfl, eq_unary h.r6 21 rfl, (p_call2_call0_c_28 h)] <;> rfl
theorem p_call2_call0_v112 : W (Proc.devRef .tc KernelIdeal.main_call2_call0_v112) = V (Proc.devRef .tc ReferenceIdeal.main_call3_call0_v112) := by
  rw [eq_binary h.k7 22 rfl, eq_binary h.r6 22 rfl, (p_call2_call0_v107 h), (p_call2_call0_v111 h)] <;> rfl
theorem p_call2_call0_v113 : W (Proc.devRef .tc KernelIdeal.main_call2_call0_v113) = V (Proc.devRef .tc ReferenceIdeal.main_call3_call0_v113) := by
  rw [eq_binary h.k7 23 rfl, eq_binary h.r6 23 rfl, (p_call2_call0_v110 h), (p_call2_call0_v112 h)] <;> rfl
theorem p_call2_call0_v114 : W (Proc.devRef .tc KernelIdeal.main_call2_call0_v114) = V (Proc.devRef .tc ReferenceIdeal.main_call3_call0_v114) := by
  rw [eq_binary h.k7 24 rfl, eq_binary h.r6 24 rfl, (p_call2_call0_v108 h), (p_call2_call0_v113 h)] <;> rfl
theorem p_call2_call0_v115 : W (Proc.devRef .tc KernelIdeal.main_call2_call0_v115) = V (Proc.devRef .tc ReferenceIdeal.main_call3_call0_v115) := by
  rw [eq_binary h.k7 25 rfl, eq_binary h.r6 25 rfl, (p_call2_call0_v108 h), (p_call2_call0_v114 h)] <;> rfl
theorem p_call2_call0_c_29 : W (Proc.devRef .tc KernelIdeal.main_call2_call0_c_29) = V (Proc.devRef .tc ReferenceIdeal.main_call3_call0_c_29) := by
  rw [eq_nullary h.k7 26 rfl, eq_nullary h.r6 26 rfl] <;> rfl
theorem p_call2_call0_v116 : W (Proc.devRef .tc KernelIdeal.main_call2_call0_v116) = V (Proc.devRef .tc ReferenceIdeal.main_call3_call0_v116) := by
  rw [eq_unary h.k7 27 rfl, eq_unary h.r6 27 rfl, (p_call2_call0_c_29 h)] <;> rfl
theorem p_call2_call0_v117 : W (Proc.devRef .tc KernelIdeal.main_call2_call0_v117) = V (Proc.devRef .tc ReferenceIdeal.main_call3_call0_v117) := by
  rw [eq_binary h.k7 28 rfl, eq_binary h.r6 28 rfl, (p_call2_call0_v114 h), (p_call2_call0_v116 h)] <;> rfl
theorem p_call2_call0_c_30 : W (Proc.devRef .tc KernelIdeal.main_call2_call0_c_30) = V (Proc.devRef .tc ReferenceIdeal.main_call3_call0_c_30) := by
  rw [eq_nullary h.k7 29 rfl, eq_nullary h.r6 29 rfl] <;> rfl
theorem p_call2_call0_v118 : W (Proc.devRef .tc KernelIdeal.main_call2_call0_v118) = V (Proc.devRef .tc ReferenceIdeal.main_call3_call0_v118) := by
  rw [eq_unary h.k7 30 rfl, eq_unary h.r6 30 rfl, (p_call2_call0_c_30 h)] <;> rfl
theorem p_call2_call0_v119 : W (Proc.devRef .tc KernelIdeal.main_call2_call0_v119) = V (Proc.devRef .tc ReferenceIdeal.main_call3_call0_v119) := by
  rw [eq_binary h.k7 31 rfl, eq_binary h.r6 31 rfl, (p_call2_call0_v114 h), (p_call2_call0_v118 h)] <;> rfl
theorem p_call2_call0_v120 : W (Proc.devRef .tc KernelIdeal.main_call2_call0_v120) = V (Proc.devRef .tc ReferenceIdeal.main_call3_call0_v120) := by
  rw [eq_binary h.k7 32 rfl, eq_binary h.r6 32 rfl, (p_call2_call0_v117 h), (p_call2_call0_v119 h)] <;> rfl
theorem p_call2_call0_v121 : W (Proc.devRef .tc KernelIdeal.main_call2_call0_v121) = V (Proc.devRef .tc ReferenceIdeal.main_call3_call0_v121) := by
  rw [eq_binary h.k7 33 rfl, eq_binary h.r6 33 rfl, (p_call2_call0_v115 h), (p_call2_call0_v120 h)] <;> rfl
theorem p_call2_call0_v122 : W (Proc.devRef .tc KernelIdeal.main_call2_call0_v122) = V (Proc.devRef .tc ReferenceIdeal.main_call3_call0_v122) := by
  rw [eq_binary h.k7 34 rfl, eq_binary h.r6 34 rfl, (p_call2_call0_v115 h), (p_call2_call0_v121 h)] <;> rfl
theorem p_call2_call0_c_31 : W (Proc.devRef .tc KernelIdeal.main_call2_call0_c_31) = V (Proc.devRef .tc ReferenceIdeal.main_call3_call0_c_31) := by
  rw [eq_nullary h.k7 35 rfl, eq_nullary h.r6 35 rfl] <;> rfl
theorem p_call2_call0_v123 : W (Proc.devRef .tc KernelIdeal.main_call2_call0_v123) = V (Proc.devRef .tc ReferenceIdeal.main_call3_call0_v123) := by
  rw [eq_unary h.k7 36 rfl, eq_unary h.r6 36 rfl, (p_call2_call0_c_31 h)] <;> rfl
theorem p_call2_call0_v124 : W (Proc.devRef .tc KernelIdeal.main_call2_call0_v124) = V (Proc.devRef .tc ReferenceIdeal.main_call3_call0_v124) := by
  rw [eq_binary h.k7 37 rfl, eq_binary h.r6 37 rfl, (p_call2_call0_v121 h), (p_call2_call0_v123 h)] <;> rfl
theorem p_call2_call0_c_32 : W (Proc.devRef .tc KernelIdeal.main_call2_call0_c_32) = V (Proc.devRef .tc ReferenceIdeal.main_call3_call0_c_32) := by
  rw [eq_nullary h.k7 38 rfl, eq_nullary h.r6 38 rfl] <;> rfl
theorem p_call2_call0_v125 : W (Proc.devRef .tc KernelIdeal.main_call2_call0_v125) = V (Proc.devRef .tc ReferenceIdeal.main_call3_call0_v125) := by
  rw [eq_unary h.k7 39 rfl, eq_unary h.r6 39 rfl, (p_call2_call0_c_32 h)] <;> rfl
theorem p_call2_call0_v126 : W (Proc.devRef .tc KernelIdeal.main_call2_call0_v126) = V (Proc.devRef .tc ReferenceIdeal.main_call3_call0_v126) := by
  rw [eq_binary h.k7 40 rfl, eq_binary h.r6 40 rfl, (p_call2_call0_v121 h), (p_call2_call0_v125 h)] <;> rfl
theorem p_call2_call0_v127 : W (Proc.devRef .tc KernelIdeal.main_call2_call0_v127) = V (Proc.devRef .tc ReferenceIdeal.main_call3_call0_v127) := by
  rw [eq_binary h.k7 41 rfl, eq_binary h.r6 41 rfl, (p_call2_call0_v124 h), (p_call2_call0_v126 h)] <;> rfl
theorem p_call2_call0_v128 : W (Proc.devRef .tc KernelIdeal.main_call2_call0_v128) = V (Proc.devRef .tc ReferenceIdeal.main_call3_call0_v128) := by
  rw [eq_binary h.k7 42 rfl, eq_binary h.r6 42 rfl, (p_call2_call0_v122 h), (p_call2_call0_v127 h)] <;> rfl
theorem p_call2_call0_v129 : W (Proc.devRef .tc KernelIdeal.main_call2_call0_v129) = V (Proc.devRef .tc ReferenceIdeal.main_call3_call0_v129) := by
  rw [eq_binary h.k7 43 rfl, eq_binary h.r6 43 rfl, (p_call2_call0_v122 h), (p_call2_call0_v128 h)] <;> rfl
theorem p_call2_call0_c_33 : W (Proc.devRef .tc KernelIdeal.main_call2_call0_c_33) = V (Proc.devRef .tc ReferenceIdeal.main_call3_call0_c_33) := by
  rw [eq_nullary h.k7 44 rfl, eq_nullary h.r6 44 rfl] <;> rfl
theorem p_call2_call0_v130 : W (Proc.devRef .tc KernelIdeal.main_call2_call0_v130) = V (Proc.devRef .tc ReferenceIdeal.main_call3_call0_v130) := by
  rw [eq_unary h.k7 45 rfl, eq_unary h.r6 45 rfl, (p_call2_call0_c_33 h)] <;> rfl
theorem p_call2_call0_v131 : W (Proc.devRef .tc KernelIdeal.main_call2_call0_v131) = V (Proc.devRef .tc ReferenceIdeal.main_call3_call0_v131) := by
  rw [eq_binary h.k7 46 rfl, eq_binary h.r6 46 rfl, (p_call2_call0_v128 h), (p_call2_call0_v130 h)] <;> rfl
theorem p_call2_call0_c_34 : W (Proc.devRef .tc KernelIdeal.main_call2_call0_c_34) = V (Proc.devRef .tc ReferenceIdeal.main_call3_call0_c_34) := by
  rw [eq_nullary h.k7 47 rfl, eq_nullary h.r6 47 rfl] <;> rfl
theorem p_call2_call0_v132 : W (Proc.devRef .tc KernelIdeal.main_call2_call0_v132) = V (Proc.devRef .tc ReferenceIdeal.main_call3_call0_v132) := by
  rw [eq_unary h.k7 48 rfl, eq_unary h.r6 48 rfl, (p_call2_call0_c_34 h)] <;> rfl
theorem p_call2_call0_v133 : W (Proc.devRef .tc KernelIdeal.main_call2_call0_v133) = V (Proc.devRef .tc ReferenceIdeal.main_call3_call0_v133) := by
  rw [eq_binary h.k7 49 rfl, eq_binary h.r6 49 rfl, (p_call2_call0_v128 h), (p_call2_call0_v132 h)] <;> rfl
theorem p_call2_call0_v134 : W (Proc.devRef .tc KernelIdeal.main_call2_call0_v134) = V (Proc.devRef .tc ReferenceIdeal.main_call3_call0_v134) := by
  rw [eq_binary h.k7 50 rfl, eq_binary h.r6 50 rfl, (p_call2_call0_v131 h), (p_call2_call0_v133 h)] <;> rfl
theorem p_call2_call0_v135 : W (Proc.devRef .tc KernelIdeal.main_call2_call0_v135) = V (Proc.devRef .tc ReferenceIdeal.main_call3_call0_v135) := by
  rw [eq_binary h.k7 51 rfl, eq_binary h.r6 51 rfl, (p_call2_call0_v129 h), (p_call2_call0_v134 h)] <;> rfl
theorem p_call2_call0_v136 : W (Proc.devRef .tc KernelIdeal.main_call2_call0_v136) = V (Proc.devRef .tc ReferenceIdeal.main_call3_call0_v136) := by
  rw [eq_unary h.k7 52 rfl, eq_unary h.r6 52 rfl, (p_call2_v7 h)] <;> rfl
theorem p_call2_call0_v137 : W (Proc.devRef .tc KernelIdeal.main_call2_call0_v137) = V (Proc.devRef .tc ReferenceIdeal.main_call3_call0_v137) := by
  rw [eq_binary h.k7 53 rfl, eq_binary h.r6 53 rfl, (p_call2_call0_v129 h), (p_call2_call0_v136 h)] <;> rfl
theorem p_call2_call0_v138 : W (Proc.devRef .tc KernelIdeal.main_call2_call0_v138) = V (Proc.devRef .tc ReferenceIdeal.main_call3_call0_v138) := by
  rw [eq_unary h.k7 54 rfl, eq_unary h.r6 54 rfl, (p_call2_call0_v1 h)] <;> rfl
theorem p_call2_call0_v139 : W (Proc.devRef .tc KernelIdeal.main_call2_call0_v139) = V (Proc.devRef .tc ReferenceIdeal.main_call3_call0_v139) := by
  rw [eq_binary h.k7 55 rfl, eq_binary h.r6 55 rfl, (p_call2_call0_v135 h), (p_call2_call0_v138 h)] <;> rfl
theorem p_call2_call0_c_35 : W (Proc.devRef .tc KernelIdeal.main_call2_call0_c_35) = V (Proc.devRef .tc ReferenceIdeal.main_call3_call0_c_35) := by
  rw [eq_nullary h.k7 56 rfl, eq_nullary h.r6 56 rfl] <;> rfl
theorem p_call2_call0_v140 : W (Proc.devRef .tc KernelIdeal.main_call2_call0_v140) = V (Proc.devRef .tc ReferenceIdeal.main_call3_call0_v140) := by
  rw [eq_unary h.k7 57 rfl, eq_unary h.r6 57 rfl, (p_call2_call0_c_35 h)] <;> rfl
theorem p_call2_call0_v141 : W (Proc.devRef .tc KernelIdeal.main_call2_call0_v141) = V (Proc.devRef .tc ReferenceIdeal.main_call3_call0_v141) := by
  rw [eq_binary h.k7 58 rfl, eq_binary h.r6 58 rfl, (p_call2_call0_v139 h), (p_call2_call0_v140 h)] <;> rfl
theorem p_call2_call0_v142 : W (Proc.devRef .tc KernelIdeal.main_call2_call0_v142) = V (Proc.devRef .tc ReferenceIdeal.main_call3_call0_v142) := by
  rw [eq_binary h.k7 59 rfl, eq_binary h.r6 59 rfl, (p_call2_call0_v137 h), (p_call2_call0_v141 h)] <;> rfl
theorem p_call2_call0_c_36 : W (Proc.devRef .tc KernelIdeal.main_call2_call0_c_36) = V (Proc.devRef .tc ReferenceIdeal.main_call3_call0_c_36) := by
  rw [eq_nullary h.k8 0 rfl, eq_nullary h.r7 0 rfl] <;> rfl
theorem p_call2_call0_v143 : W (Proc.devRef .tc KernelIdeal.main_call2_call0_v143) = V (Proc.devRef .tc ReferenceIdeal.main_call3_call0_v143) := by
  rw [eq_unary h.k8 1 rfl, eq_unary h.r7 1 rfl, (p_call2_call0_c_36 h)] <;> rfl
theorem p_call2_call0_v144 : W (Proc.devRef .tc KernelIdeal.main_call2_call0_v144) = V (Proc.devRef .tc ReferenceIdeal.main_call3_call0_v144) := by
  rw [eq_binary h.k8 2 rfl, eq_binary h.r7 2 rfl, (p_call2_call0_v141 h), (p_call2_call0_v143 h)] <;> rfl
theorem p_call2_call0_c_37 : W (Proc.devRef .tc KernelIdeal.main_call2_call0_c_37) = V (Proc.devRef .tc ReferenceIdeal.main_call3_call0_c_37) := by
  rw [eq_nullary h.k8 3 rfl, eq_nullary h.r7 3 rfl] <;> rfl
theorem p_call2_call0_v145 : W (Proc.devRef .tc KernelIdeal.main_call2_call0_v145) = V (Proc.devRef .tc ReferenceIdeal.main_call3_call0_v145) := by
  rw [eq_unary h.k8 4 rfl, eq_unary h.r7 4 rfl, (p_call2_call0_c_37 h)] <;> rfl
theorem p_call2_call0_v146 : W (Proc.devRef .tc KernelIdeal.main_call2_call0_v146) = V (Proc.devRef .tc ReferenceIdeal.main_call3_call0_v146) := by
  rw [eq_binary h.k8 5 rfl, eq_binary h.r7 5 rfl, (p_call2_call0_v141 h), (p_call2_call0_v145 h)] <;> rfl
theorem p_call2_call0_v147 : W (Proc.devRef .tc KernelIdeal.main_call2_call0_v147) = V (Proc.devRef .tc ReferenceIdeal.main_call3_call0_v147) := by
  rw [eq_binary h.k8 6 rfl, eq_binary h.r7 6 rfl, (p_call2_call0_v144 h), (p_call2_call0_v146 h)] <;> rfl
theorem p_call2_call0_v148 : W (Proc.devRef .tc KernelIdeal.main_call2_call0_v148) = V (Proc.devRef .tc ReferenceIdeal.main_call3_call0_v148) := by
  rw [eq_binary h.k8 7 rfl, eq_binary h.r7 7 rfl, (p_call2_call0_v142 h), (p_call2_call0_v147 h)] <;> rfl
theorem p_call2_call0_v149 : W (Proc.devRef .tc KernelIdeal.main_call2_call0_v149) = V (Proc.devRef .tc ReferenceIdeal.main_call3_call0_v149) := by
  rw [eq_binary h.k8 8 rfl, eq_binary h.r7 8 rfl, (p_call2_call0_v142 h), (p_call2_call0_v148 h)] <;> rfl
theorem p_call2_call0_c_38 : W (Proc.devRef .tc KernelIdeal.main_call2_call0_c_38) = V (Proc.devRef .tc ReferenceIdeal.main_call3_call0_c_38) := by
  rw [eq_nullary h.k8 9 rfl, eq_nullary h.r7 9 rfl] <;> rfl
theorem p_call2_call0_v150 : W (Proc.devRef .tc KernelIdeal.main_call2_call0_v150) = V (Proc.devRef .tc ReferenceIdeal.main_call3_call0_v150) := by
  rw [eq_unary h.k8 10 rfl, eq_unary h.r7 10 rfl, (p_call2_call0_c_38 h)] <;> rfl
theorem p_call2_call0_v151 : W (Proc.devRef .tc KernelIdeal.main_call2_call0_v151) = V (Proc.devRef .tc ReferenceIdeal.main_call3_call0_v151) := by
  rw [eq_binary h.k8 11 rfl, eq_binary h.r7 11 rfl, (p_call2_call0_v148 h), (p_call2_call0_v150 h)] <;> rfl
theorem p_call2_call0_c_39 : W (Proc.devRef .tc KernelIdeal.main_call2_call0_c_39) = V (Proc.devRef .tc ReferenceIdeal.main_call3_call0_c_39) := by
  rw [eq_nullary h.k8 12 rfl, eq_nullary h.r7 12 rfl] <;> rfl
theorem p_call2_call0_v152 : W (Proc.devRef .tc KernelIdeal.main_call2_call0_v152) = V (Proc.devRef .tc ReferenceIdeal.main_call3_call0_v152) := by
  rw [eq_unary h.k8 13 rfl, eq_unary h.r7 13 rfl, (p_call2_call0_c_39 h)] <;> rfl
theorem p_call2_call0_v153 : W (Proc.devRef .tc KernelIdeal.main_call2_call0_v153) = V (Proc.devRef .tc ReferenceIdeal.main_call3_call0_v153) := by
  rw [eq_binary h.k8 14 rfl, eq_binary h.r7 14 rfl, (p_call2_call0_v148 h), (p_call2_call0_v152 h)] <;> rfl
theorem p_call2_call0_v154 : W (Proc.devRef .tc KernelIdeal.main_call2_call0_v154) = V (Proc.devRef .tc ReferenceIdeal.main_call3_call0_v154) := by
  rw [eq_binary h.k8 15 rfl, eq_binary h.r7 15 rfl, (p_call2_call0_v151 h), (p_call2_call0_v153 h)] <;> rfl
theorem p_call2_call0_v155 : W (Proc.devRef .tc KernelIdeal.main_call2_call0_v155) = V (Proc.devRef .tc ReferenceIdeal.main_call3_call0_v155) := by
  rw [eq_binary h.k8 16 rfl, eq_binary h.r7 16 rfl, (p_call2_call0_v149 h), (p_call2_call0_v154 h)] <;> rfl
theorem p_call2_call0_v156 : W (Proc.devRef .tc KernelIdeal.main_call2_call0_v156) = V (Proc.devRef .tc ReferenceIdeal.main_call3_call0_v156) := by
  rw [eq_binary h.k8 17 rfl, eq_binary h.r7 17 rfl, (p_call2_call0_v149 h), (p_call2_call0_v155 h)] <;> rfl
theorem p_call2_call0_c_40 : W (Proc.devRef .tc KernelIdeal.main_call2_call0_c_40) = V (Proc.devRef .tc ReferenceIdeal.main_call3_call0_c_40) := by
  rw [eq_nullary h.k8 18 rfl, eq_nullary h.r7 18 rfl] <;> rfl
theorem p_call2_call0_v157 : W (Proc.devRef .tc KernelIdeal.main_call2_call0_v157) = V (Proc.devRef .tc ReferenceIdeal.main_call3_call0_v157) := by
  rw [eq_unary h.k8 19 rfl, eq_unary h.r7 19 rfl, (p_call2_call0_c_40 h)] <;> rfl
theorem p_call2_call0_v158 : W (Proc.devRef .tc KernelIdeal.main_call2_call0_v158) = V (Proc.devRef .tc ReferenceIdeal.main_call3_call0_v158) := by
  rw [eq_binary h.k8 20 rfl, eq_binary h.r7 20 rfl, (p_call2_call0_v155 h), (p_call2_call0_v157 h)] <;> rfl
theorem p_call2_call0_c_41 : W (Proc.devRef .tc KernelIdeal.main_call2_call0_c_41) = V (Proc.devRef .tc ReferenceIdeal.main_call3_call0_c_41) := by
  rw [eq_nullary h.k8 21 rfl, eq_nullary h.r7 21 rfl] <;> rfl
theorem p_call2_call0_v159 : W (Proc.devRef .tc KernelIdeal.main_call2_call0_v159) = V (Proc.devRef .tc ReferenceIdeal.main_call3_call0_v159) := by
  rw [eq_unary h.k8 22 rfl, eq_unary h.r7 22 rfl, (p_call2_call0_c_41 h)] <;> rfl
theorem p_call2_call0_v160 : W (Proc.devRef .tc KernelIdeal.main_call2_call0_v160) = V (Proc.devRef .tc ReferenceIdeal.main_call3_call0_v160) := by
  rw [eq_binary h.k8 23 rfl, eq_binary h.r7 23 rfl, (p_call2_call0_v155 h), (p_call2_call0_v159 h)] <;> rfl
theorem p_call2_call0_v161 : W (Proc.devRef .tc KernelIdeal.main_call2_call0_v161) = V (Proc.devRef .tc ReferenceIdeal.main_call3_call0_v161) := by
  rw [eq_binary h.k8 24 rfl, eq_binary h.r7 24 rfl, (p_call2_call0_v158 h), (p_call2_call0_v160 h)] <;> rfl
theorem p_call2_call0_v162 : W (Proc.devRef .tc KernelIdeal.main_call2_call0_v162) = V (Proc.devRef .tc ReferenceIdeal.main_call3_call0_v162) := by
  rw [eq_binary h.k8 25 rfl, eq_binary h.r7 25 rfl, (p_call2_call0_v156 h), (p_call2_call0_v161 h)] <;> rfl
theorem p_call2_call0_v163 : W (Proc.devRef .tc KernelIdeal.main_call2_call0_v163) = V (Proc.devRef .tc ReferenceIdeal.main_call3_call0_v163) := by
  rw [eq_binary h.k8 26 rfl, eq_binary h.r7 26 rfl, (p_call2_call0_v156 h), (p_call2_call0_v162 h)] <;> rfl
theorem p_call2_call0_c_42 : W (Proc.devRef .tc KernelIdeal.main_call2_call0_c_42) = V (Proc.devRef .tc ReferenceIdeal.main_call3_call0_c_42) := by
  rw [eq_nullary h.k8 27 rfl, eq_nullary h.r7 27 rfl] <;> rfl
theorem p_call2_call0_v164 : W (Proc.devRef .tc KernelIdeal.main_call2_call0_v164) = V (Proc.devRef .tc ReferenceIdeal.main_call3_call0_v164) := by
  rw [eq_unary h.k8 28 rfl, eq_unary h.r7 28 rfl, (p_call2_call0_c_42 h)] <;> rfl
theorem p_call2_call0_v165 : W (Proc.devRef .tc KernelIdeal.main_call2_call0_v165) = V (Proc.devRef .tc ReferenceIdeal.main_call3_call0_v165) := by
  rw [eq_binary h.k8 29 rfl, eq_binary h.r7 29 rfl, (p_call2_call0_v162 h), (p_call2_call0_v164 h)] <;> rfl
theorem p_call2_call0_c_43 : W (Proc.devRef .tc KernelIdeal.main_call2_call0_c_43) = V (Proc.devRef .tc ReferenceIdeal.main_call3_call0_c_43) := by
  rw [eq_nullary h.k8 30 rfl, eq_nullary h.r7 30 rfl] <;> rfl
theorem p_call2_call0_v166 : W (Proc.devRef .tc KernelIdeal.main_call2_call0_v166) = V (Proc.devRef .tc ReferenceIdeal.main_call3_call0_v166) := by
  rw [eq_unary h.k8 31 rfl, eq_unary h.r7 31 rfl, (p_call2_call0_c_43 h)] <;> rfl
theorem p_call2_call0_v167 : W (Proc.devRef .tc KernelIdeal.main_call2_call0_v167) = V (Proc.devRef .tc ReferenceIdeal.main_call3_call0_v167) := by
  rw [eq_binary h.k8 32 rfl, eq_binary h.r7 32 rfl, (p_call2_call0_v162 h), (p_call2_call0_v166 h)] <;> rfl
theorem p_call2_call0_v168 : W (Proc.devRef .tc KernelIdeal.main_call2_call0_v168) = V (Proc.devRef .tc ReferenceIdeal.main_call3_call0_v168) := by
  rw [eq_binary h.k8 33 rfl, eq_binary h.r7 33 rfl, (p_call2_call0_v165 h), (p_call2_call0_v167 h)] <;> rfl
theorem p_call2_call0_v169 : W (Proc.devRef .tc KernelIdeal.main_call2_call0_v169) = V (Proc.devRef .tc ReferenceIdeal.main_call3_call0_v169) := by
  rw [eq_binary h.k8 34 rfl, eq_binary h.r7 34 rfl, (p_call2_call0_v163 h), (p_call2_call0_v168 h)] <;> rfl
theorem p_call2_call0_v170 : W (Proc.devRef .tc KernelIdeal.main_call2_call0_v170) = V (Proc.devRef .tc ReferenceIdeal.main_call3_call0_v170) := by
  rw [eq_unary h.k8 35 rfl, eq_unary h.r7 35 rfl, (p_call2_call0_v1 h)] <;> rfl
theorem p_call2_v19_0 : W (Proc.devRef .tc KernelIdeal.main_call2_v19_0) = V (Proc.devRef .tc ReferenceIdeal.main_call3_v19_0) := by
  rw [eq_binary h.k8 36 rfl, eq_binary h.r7 36 rfl, (p_call2_call0_v163 h), (p_call2_call0_v170 h)] <;> rfl
theorem p_call2_call0_v172 : W (Proc.devRef .tc KernelIdeal.main_call2_call0_v172) = V (Proc.devRef .tc ReferenceIdeal.main_call3_call0_v172) := by
  rw [eq_unary h.k8 37 rfl, eq_unary h.r7 37 rfl, (p_call2_v5 h)] <;> rfl
theorem p_call2_call0_v173 : W (Proc.devRef .tc KernelIdeal.main_call2_call0_v173) = V (Proc.devRef .tc ReferenceIdeal.main_call3_call0_v173) := by
  rw [eq_binary h.k8 38 rfl, eq_binary h.r7 38 rfl, (p_call2_call0_v169 h), (p_call2_call0_v172 h)] <;> rfl
theorem p_call2_call0_c_44 : W (Proc.devRef .tc KernelIdeal.main_call2_call0_c_44) = V (Proc.devRef .tc ReferenceIdeal.main_call3_call0_c_44) := by
  rw [eq_nullary h.k8 39 rfl, eq_nullary h.r7 39 rfl] <;> rfl
theorem p_call2_call0_v174 : W (Proc.devRef .tc KernelIdeal.main_call2_call0_v174) = V (Proc.devRef .tc ReferenceIdeal.main_call3_call0_v174) := by
  rw [eq_unary h.k8 40 rfl, eq_unary h.r7 40 rfl, (p_call2_call0_c_44 h)] <;> rfl
theorem p_call2_v19_1 : W (Proc.devRef .tc KernelIdeal.main_call2_v19_1) = V (Proc.devRef .tc ReferenceIdeal.main_call3_v19_1) := by
  rw [eq_binary h.k8 41 rfl, eq_binary h.r7 41 rfl, (p_call2_call0_v173 h), (p_call2_call0_v174 h)] <;> rfl
theorem p_call2_v20 : W (Proc.devRef .tc KernelIdeal.main_call2_v20) = V (Proc.devRef .tc ReferenceIdeal.main_call3_v20) := by
  rw [eq_binary h.k9 0 rfl, eq_binary h.r8 0 rfl, (p_call2_v19_0 h), (p_call2_v19_1 h)] <;> rfl
theorem p_call2_c_2 : W (Proc.devRef .tc KernelIdeal.main_call2_c_2) = V (Proc.devRef .tc ReferenceIdeal.main_call3_c_2) := by
  rw [eq_nullary h.k9 1 rfl, eq_nullary h.r8 1 rfl] <;> rfl
theorem p_call2_v21 : W (Proc.devRef .tc KernelIdeal.main_call2_v21) = V (Proc.devRef .tc ReferenceIdeal.main_call3_v21) := by
  rw [eq_unary h.k9 2 rfl, eq_unary h.r8 2 rfl, (p_call2_c_2 h)] <;> rfl
theorem p_call2_v22 : W (Proc.devRef .tc KernelIdeal.main_call2_v22) = V (Proc.devRef .tc ReferenceIdeal.main_call3_v22) := by
  rw [eq_binary h.k9 3 rfl, eq_binary h.r8 3 rfl, (p_call2_v20 h), (p_call2_v21 h)] <;> rfl
theorem p_call2_c_3 : W (Proc.devRef .tc KernelIdeal.main_call2_c_3) = V (Proc.devRef .tc ReferenceIdeal.main_call3_c_3) := by
  rw [eq_nullary h.k9 4 rfl, eq_nullary h.r8 4 rfl] <;> rfl
theorem p_call2_v23 : W (Proc.devRef .tc KernelIdeal.main_call2_v23) = V (Proc.devRef .tc ReferenceIdeal.main_call3_v23) := by
  rw [eq_unary h.k9 5 rfl, eq_unary h.r8 5 rfl, (p_call2_c_3 h)] <;> rfl
theorem p_call2_v24 : W (Proc.devRef .tc KernelIdeal.main_call2_v24) = V (Proc.devRef .tc ReferenceIdeal.main_call3_v24) := by
  rw [eq_binary h.k9 6 rfl, eq_binary h.r8 6 rfl, (p_call2_v22 h), (p_call2_v23 h)] <;> rfl
theorem p_call2_v25 : W (Proc.devRef .tc KernelIdeal.main_call2_v25) = V (Proc.devRef .tc ReferenceIdeal.main_call3_v25) := by
  rw [eq_unary h.k9 7 rfl, eq_unary h.r8 7 rfl, (p_call2_v24 h)] <;> rfl
theorem p_call2_cst : W (Proc.devRef .tc KernelIdeal.main_call2_cst) = V (Proc.devRef .tc ReferenceIdeal.main_call3_cst) := by
  rw [eq_nullary h.k9 8 rfl, eq_nullary h.r8 8 rfl] <;> rfl
theorem p_call2_v26 : W (Proc.devRef .tc KernelIdeal.main_call2_v26) = V (Proc.devRef .tc ReferenceIdeal.main_call3_v26) := by
  rw [eq_unary h.k9 9 rfl, eq_unary h.r8 9 rfl, (p_call2_cst h)] <;> rfl
theorem p_call2_v27 : W (Proc.devRef .tc KernelIdeal.main_call2_v27) = V (Proc.devRef .tc ReferenceIdeal.main_call3_v27) := by
  rw [eq_binary h.k9 10 rfl, eq_binary h.r8 10 rfl, (p_call2_v25 h), (p_call2_v26 h)] <;> rfl
theorem p_call2_v28 : W (Proc.devRef .tc KernelIdeal.main_call2_v28) = V (Proc.devRef .tc ReferenceIdeal.main_call3_v28) := by
  rw [eq_binary h.k9 11 rfl, eq_binary h.r8 11 rfl, (p_call2_v3 h), (p_call2_v2 h)] <;> rfl
theorem p_call2_v29 : W (Proc.devRef .tc KernelIdeal.main_call2_v29) = V (Proc.devRef .tc ReferenceIdeal.main_call3_v29) := by
  rw [eq_unary h.k9 12 rfl, eq_unary h.r8 12 rfl, (p_call2_v28 h)] <;> rfl
theorem p_call2_v30 : W (Proc.devRef .tc KernelIdeal.main_call2_v30) = V (Proc.devRef .tc ReferenceIdeal.main_call3_v30) := by
  rw [eq_binary h.k9 13 rfl, eq_binary h.r8 13 rfl, (p_call2_v27 h), (p_call2_v29 h)] <;> rfl
theorem p_call2_v31 : W (Proc.devRef .tc KernelIdeal.main_call2_v31) = V (Proc.devRef .tc ReferenceIdeal.main_call3_v31) := by
  rw [eq_unary h.k9 14 rfl, eq_unary h.r8 14 rfl, (p_call2_v2 h)] <;> rfl
theorem p_call2_v32 : W (Proc.devRef .tc KernelIdeal.main_call2_v32) = V (Proc.devRef .tc ReferenceIdeal.main_call3_v32) := by
  rw [eq_binary h.k9 15 rfl, eq_binary h.r8 15 rfl, (p_call2_v30 h), (p_call2_v31 h)] <;> rfl
theorem p_call2_v33 : W (Proc.devRef .tc KernelIdeal.main_call2_v33) = V (Proc.devRef .tc ReferenceIdeal.main_call3_v33) := by
  rw [eq_unary h.k9 16 rfl, eq_unary h.r8 16 rfl, (p_call2_v2 h)] <;> rfl
theorem p_v103 : W (Proc.devRef .tc KernelIdeal.main_v103) = V (Proc.devRef .tc ReferenceIdeal.main_v124) := by
  rw [eq_binary h.k9 17 rfl, eq_binary h.r8 17 rfl, (p_call2_v33 h), (p_call2_v32 h)] <;> rfl
theorem p_call3_v0 : W (Proc.devRef .tc KernelIdeal.main_call3_v0) = V (Proc.devRef .tc ReferenceIdeal.main_call4_v0) := by
  rw [eq_nullary h.k10 0 rfl, eq_nullary h.r9 0 rfl] <;> rfl
theorem p_call3_v1_0 : W (Proc.devRef .tc KernelIdeal.main_call3_v1_0) = V (Proc.devRef .tc ReferenceIdeal.main_call4_v1_0) := by
  rw [eq_binary h.k10 1 rfl, eq_binary h.r9 1 rfl, (p_v103 h), (p_call3_v0 h)] <;> rfl
theorem p_v104 : W (Proc.devRef .tc KernelIdeal.main_v104) = V (Proc.devRef .tc ReferenceIdeal.main_v125) := by
  rw [eq_binary h.k10 2 rfl, eq_binary h.r9 2 rfl, (p_v103 h), (p_call3_v0 h)] <;> rfl
theorem p_call4_v0 : W (Proc.devRef .tc KernelIdeal.main_call4_v0) = V (Proc.devRef .tc ReferenceIdeal.main_call5_v0) := by
  rw [eq_nullary h.k10 3 rfl, eq_nullary h.r9 3 rfl] <;> rfl
theorem p_call4_v1_0 : W (Proc.devRef .tc KernelIdeal.main_call4_v1_0) = V (Proc.devRef .tc ReferenceIdeal.main_call5_v1_0) := by
  rw [eq_binary h.k10 4 rfl, eq_binary h.r9 4 rfl, (p_v104 h), (p_call4_v0 h)] <;> rfl
theorem p_v105 : W (Proc.devRef .tc KernelIdeal.main_v105) = V (Proc.devRef .tc ReferenceIdeal.main_v126) := by
  rw [eq_binary h.k10 5 rfl, eq_binary h.r9 5 rfl, (p_v104 h), (p_call4_v0 h)] <;> rfl
theorem p_v106 : W (Proc.devRef .tc KernelIdeal.main_v106) = V (Proc.devRef .tc ReferenceIdeal.main_v127) := by
  rw [eq_unary h.k10 6 rfl, eq_unary h.r9 6 rfl, (p_v104 h)] <;> rfl

end Cert.Pairs

end
-- ==== Proof.PairScore.lean ====
/- From the magnitude on, the kernel program and the reference compute the channels' weights and the weighted energy by the same operations. -/
module

public import proofs.«01_k».proof.Proof.PairNoise

@[expose] public section

set_option maxRecDepth 100000

noncomputable section

namespace Cert.Pairs

open Cert.Lines
open Idealize.ShloMosaic Idealize.ShloMosaic.StableHlo Idealize.SL.Sem

variable {F : FTy → Type} [FloatOps F]

/-- The two programs hold the same there. -/
def Start.mag (W : Valuation KernelIdeal.τ KernelIdeal.sig (Elt F)) (V : Valuation ReferenceIdeal.τ ReferenceIdeal.sig (Elt F)) : Prop :=
  (W (Proc.devRef .tc KernelIdeal.main_v43_0) : T F KernelIdeal.S32x3x512x512 .f32) = (V (Proc.devRef .tc ReferenceIdeal.main_v35) : T F KernelIdeal.S32x3x512x512 .f32)
/-- The two programs hold the same there. -/
def Start.arg1 (W : Valuation KernelIdeal.τ KernelIdeal.sig (Elt F)) (V : Valuation ReferenceIdeal.τ ReferenceIdeal.sig (Elt F)) : Prop :=
  (W (Proc.devRef .tc KernelIdeal.main_arg1) : T F KernelIdeal.S16x3 .f32) = (V (Proc.devRef .tc ReferenceIdeal.main_arg1) : T F KernelIdeal.S16x3 .f32)
/-- The two programs hold the same there. -/
def Start.arg2 (W : Valuation KernelIdeal.τ KernelIdeal.sig (Elt F)) (V : Valuation ReferenceIdeal.τ ReferenceIdeal.sig (Elt F)) : Prop :=
  (W (Proc.devRef .tc KernelIdeal.main_arg2) : T F KernelIdeal.S16 .f32) = (V (Proc.devRef .tc ReferenceIdeal.main_arg2) : T F KernelIdeal.S16 .f32)
/-- The two programs hold the same there. -/
def Start.arg3 (W : Valuation KernelIdeal.τ KernelIdeal.sig (Elt F)) (V : Valuation ReferenceIdeal.τ ReferenceIdeal.sig (Elt F)) : Prop :=
  (W (Proc.devRef .tc KernelIdeal.main_arg3) : T F KernelIdeal.S16 .f32) = (V (Proc.devRef .tc ReferenceIdeal.main_arg3) : T F KernelIdeal.S16 .f32)
/-- The two programs hold the same there. -/
def Start.arg4 (W : Valuation KernelIdeal.τ KernelIdeal.sig (Elt F)) (V : Valuation ReferenceIdeal.τ ReferenceIdeal.sig (Elt F)) : Prop :=
  (W (Proc.devRef .tc KernelIdeal.main_arg4) : T F KernelIdeal.S1x16 .f32) = (V (Proc.devRef .tc ReferenceIdeal.main_arg4) : T F KernelIdeal.S1x16 .f32)
/-- The two programs hold the same there. -/
def Start.arg5 (W : Valuation KernelIdeal.τ KernelIdeal.sig (Elt F)) (V : Valuation ReferenceIdeal.τ ReferenceIdeal.sig (Elt F)) : Prop :=
  (W (Proc.devRef .tc KernelIdeal.main_arg5) : T F KernelIdeal.S1 .f32) = (V (Proc.devRef .tc ReferenceIdeal.main_arg5) : T F KernelIdeal.S1 .f32)
/-- The lines from the magnitude to the score have run, on the same magnitude and the same arguments. -/
structure Score (W : Valuation KernelIdeal.τ KernelIdeal.sig (Elt F)) (V : Valuation ReferenceIdeal.τ ReferenceIdeal.sig (Elt F)) : Prop where
  k1 : ∀ op ∈ KernelIdeal.Host.k1 (F := F), Fixes op W
  k2 : ∀ op ∈ KernelIdeal.Host.k2 (F := F), Fixes op W
  r0 : ∀ op ∈ ReferenceIdeal.Host.r0 (F := F), Fixes op V
  r1 : ∀ op ∈ ReferenceIdeal.Host.r1 (F := F), Fixes op V
  mag : Start.mag W V
  arg1 : Start.arg1 W V
  arg2 : Start.arg2 W V
  arg3 : Start.arg3 W V
  arg4 : Start.arg4 W V
  arg5 : Start.arg5 W V

variable {W : Valuation KernelIdeal.τ KernelIdeal.sig (Elt F)} {V : Valuation ReferenceIdeal.τ ReferenceIdeal.sig (Elt F)} (h : Score W V)
include h

theorem p_v43_0 : W (Proc.devRef .tc KernelIdeal.main_v43_0) = V (Proc.devRef .tc ReferenceIdeal.main_v35) := h.mag
theorem p_arg1 : W (Proc.devRef .tc KernelIdeal.main_arg1) = V (Proc.devRef .tc ReferenceIdeal.main_arg1) := h.arg1
theorem p_arg2 : W (Proc.devRef .tc KernelIdeal.main_arg2) = V (Proc.devRef .tc ReferenceIdeal.main_arg2) := h.arg2
theorem p_arg3 : W (Proc.devRef .tc KernelIdeal.main_arg3) = V (Proc.devRef .tc ReferenceIdeal.main_arg3) := h.arg3
theorem p_arg4 : W (Proc.devRef .tc KernelIdeal.main_arg4) = V (Proc.devRef .tc ReferenceIdeal.main_arg4) := h.arg4
theorem p_arg5 : W (Proc.devRef .tc KernelIdeal.main_arg5) = V (Proc.devRef .tc ReferenceIdeal.main_arg5) := h.arg5
theorem p_v44 : W (Proc.devRef .tc KernelIdeal.main_v44) = V (Proc.devRef .tc ReferenceIdeal.main_v36) := by
  rw [eq_reshape h.k1 0 rfl, eq_reshape h.r0 44 rfl, (p_v43_0 h)] <;> rfl
theorem p_v45 : W (Proc.devRef .tc KernelIdeal.main_v45) = V (Proc.devRef .tc ReferenceIdeal.main_v37) := by
  rw [eq_unary h.k1 1 rfl, eq_unary h.r0 45 rfl, (p_v44 h)] <;> rfl
theorem p_v46 : W (Proc.devRef .tc KernelIdeal.main_v46) = V (Proc.devRef .tc ReferenceIdeal.main_v38) := by
  rw [eq_reshape h.k1 2 rfl, eq_reshape h.r0 46 rfl, (p_v45 h)] <;> rfl
theorem p_cst_9 : W (Proc.devRef .tc KernelIdeal.main_cst_9) = V (Proc.devRef .tc ReferenceIdeal.main_cst_6) := by
  rw [eq_nullary h.k1 3 rfl, eq_nullary h.r0 47 rfl] <;> rfl
theorem p_v47 : W (Proc.devRef .tc KernelIdeal.main_v47) = V (Proc.devRef .tc ReferenceIdeal.main_v39) := by
  rw [eq_binary h.k1 4 rfl, eq_binary h.r0 48 rfl, (p_v46 h), (p_cst_9 h)] <;> rfl
theorem p_cst_10 : W (Proc.devRef .tc KernelIdeal.main_cst_10) = V (Proc.devRef .tc ReferenceIdeal.main_cst_7) := by
  rw [eq_nullary h.k2 0 rfl, eq_nullary h.r0 49 rfl] <;> rfl
theorem p_v48 : W (Proc.devRef .tc KernelIdeal.main_v48) = V (Proc.devRef .tc ReferenceIdeal.main_v40) := by
  rw [eq_unary h.k2 1 rfl, eq_unary h.r0 50 rfl, (p_cst_10 h)] <;> rfl
theorem p_v49 : W (Proc.devRef .tc KernelIdeal.main_v49) = V (Proc.devRef .tc ReferenceIdeal.main_v41) := by
  rw [eq_binary h.k2 2 rfl, eq_binary h.r0 51 rfl, (p_v47 h), (p_v48 h)] <;> rfl
theorem p_cst_11 : W (Proc.devRef .tc KernelIdeal.main_cst_11) = V (Proc.devRef .tc ReferenceIdeal.main_cst_8) := by
  rw [eq_nullary h.k2 3 rfl, eq_nullary h.r0 52 rfl] <;> rfl
theorem p_v50 : W (Proc.devRef .tc KernelIdeal.main_v50) = V (Proc.devRef .tc ReferenceIdeal.main_v42) := by
  rw [eq_binary h.k2 4 rfl, eq_binary h.r0 53 rfl, (p_v49 h), (p_cst_11 h)] <;> rfl
theorem p_cst_12 : W (Proc.devRef .tc KernelIdeal.main_cst_12) = V (Proc.devRef .tc ReferenceIdeal.main_cst_9) := by
  rw [eq_nullary h.k2 5 rfl, eq_nullary h.r0 54 rfl] <;> rfl
theorem p_v51 : W (Proc.devRef .tc KernelIdeal.main_v51) = V (Proc.devRef .tc ReferenceIdeal.main_v43) := by
  rw [eq_unary h.k2 6 rfl, eq_unary h.r0 55 rfl, (p_cst_12 h)] <;> rfl
theorem p_v52 : W (Proc.devRef .tc KernelIdeal.main_v52) = V (Proc.devRef .tc ReferenceIdeal.main_v44) := by
  rw [eq_binary h.k2 7 rfl, eq_binary h.r0 56 rfl, (p_v50 h), (p_v51 h)] <;> rfl
theorem p_v53 : W (Proc.devRef .tc KernelIdeal.main_v53) = V (Proc.devRef .tc ReferenceIdeal.main_v45) := by
  rw [eq_binary h.k2 8 rfl, eq_binary h.r0 57 rfl, (p_arg1 h), (p_v43_0 h)] <;> rfl
theorem p_v54 : W (Proc.devRef .tc KernelIdeal.main_v54) = V (Proc.devRef .tc ReferenceIdeal.main_v46) := by
  rw [eq_unary h.k2 9 rfl, eq_unary h.r0 58 rfl, (p_v53 h)] <;> rfl
theorem p_cst_13 : W (Proc.devRef .tc KernelIdeal.main_cst_13) = V (Proc.devRef .tc ReferenceIdeal.main_cst_10) := by
  rw [eq_nullary h.k2 10 rfl, eq_nullary h.r0 59 rfl] <;> rfl
theorem p_v55 : W (Proc.devRef .tc KernelIdeal.main_v55) = V (Proc.devRef .tc ReferenceIdeal.main_v47) := by
  rw [eq_binary h.k2 11 rfl, eq_binary h.r1 0 rfl, (p_v54 h), (p_cst_13 h)] <;> rfl
theorem p_cst_14 : W (Proc.devRef .tc KernelIdeal.main_cst_14) = V (Proc.devRef .tc ReferenceIdeal.main_cst_11) := by
  rw [eq_nullary h.k2 12 rfl, eq_nullary h.r1 1 rfl] <;> rfl
theorem p_v56 : W (Proc.devRef .tc KernelIdeal.main_v56) = V (Proc.devRef .tc ReferenceIdeal.main_v48) := by
  rw [eq_unary h.k2 13 rfl, eq_unary h.r1 2 rfl, (p_cst_14 h)] <;> rfl
theorem p_v57 : W (Proc.devRef .tc KernelIdeal.main_v57) = V (Proc.devRef .tc ReferenceIdeal.main_v49) := by
  rw [eq_binary h.k2 14 rfl, eq_binary h.r1 3 rfl, (p_v55 h), (p_v56 h)] <;> rfl
theorem p_c_15 : W (Proc.devRef .tc KernelIdeal.main_c_15) = V (Proc.devRef .tc ReferenceIdeal.main_c_12) := by
  rw [eq_nullary h.k2 15 rfl, eq_nullary h.r1 4 rfl] <;> rfl
theorem p_call0_cst : W (Proc.devRef .tc KernelIdeal.main_call0_cst) = V (Proc.devRef .tc ReferenceIdeal.main_call0_cst) := by
  rw [eq_nullary h.k2 16 rfl, eq_nullary h.r1 5 rfl] <;> rfl
theorem p_call0_v0 : W (Proc.devRef .tc KernelIdeal.main_call0_v0) = V (Proc.devRef .tc ReferenceIdeal.main_call0_v0) := by
  rw [eq_binary h.k2 17 rfl, eq_binary h.r1 6 rfl, (p_v54 h), (p_call0_cst h)] <;> rfl
theorem p_call0_v1 : W (Proc.devRef .tc KernelIdeal.main_call0_v1) = V (Proc.devRef .tc ReferenceIdeal.main_call0_v1) := by
  rw [eq_unary h.k2 18 rfl, eq_unary h.r1 7 rfl, (p_call0_v0 h)] <;> rfl
theorem p_call0_cst_0 : W (Proc.devRef .tc KernelIdeal.main_call0_cst_0) = V (Proc.devRef .tc ReferenceIdeal.main_call0_cst_0) := by
  rw [eq_nullary h.k2 19 rfl, eq_nullary h.r1 8 rfl] <;> rfl
theorem p_call0_v2 : W (Proc.devRef .tc KernelIdeal.main_call0_v2) = V (Proc.devRef .tc ReferenceIdeal.main_call0_v2) := by
  rw [eq_unary h.k2 20 rfl, eq_unary h.r1 9 rfl, (p_call0_cst_0 h)] <;> rfl
theorem p_call0_v3 : W (Proc.devRef .tc KernelIdeal.main_call0_v3) = V (Proc.devRef .tc ReferenceIdeal.main_call0_v3) := by
  rw [eq_binary h.k2 21 rfl, eq_binary h.r1 10 rfl, (p_call0_v1 h), (p_call0_v2 h)] <;> rfl
theorem p_call0_v4 : W (Proc.devRef .tc KernelIdeal.main_call0_v4) = V (Proc.devRef .tc ReferenceIdeal.main_call0_v4) := by
  rw [eq_unary h.k2 22 rfl, eq_unary h.r1 11 rfl, (p_call0_v3 h)] <;> rfl
theorem p_call0_v5 : W (Proc.devRef .tc KernelIdeal.main_call0_v5) = V (Proc.devRef .tc ReferenceIdeal.main_call0_v5) := by
  rw [eq_binary h.k2 23 rfl, eq_binary h.r1 12 rfl, (p_v54 h), (p_call0_v4 h)] <;> rfl
theorem p_call0_v6 : W (Proc.devRef .tc KernelIdeal.main_call0_v6) = V (Proc.devRef .tc ReferenceIdeal.main_call0_v6) := by
  rw [eq_binary h.k2 24 rfl, eq_binary h.r1 13 rfl, (p_call0_v5 h)] <;> rfl
theorem p_call0_v7 : W (Proc.devRef .tc KernelIdeal.main_call0_v7) = V (Proc.devRef .tc ReferenceIdeal.main_call0_v7) := by
  rw [eq_unary h.k2 25 rfl, eq_unary h.r1 14 rfl, (p_c_15 h)] <;> rfl
theorem p_call0_cst_1 : W (Proc.devRef .tc KernelIdeal.main_call0_cst_1) = V (Proc.devRef .tc ReferenceIdeal.main_call0_cst_1) := by
  rw [eq_nullary h.k2 26 rfl, eq_nullary h.r1 15 rfl] <;> rfl
theorem p_call0_v8 : W (Proc.devRef .tc KernelIdeal.main_call0_v8) = V (Proc.devRef .tc ReferenceIdeal.main_call0_v8) := by
  rw [eq_binary h.k2 27 rfl, eq_binary h.r1 16 rfl, (p_call0_cst_1 h), (p_call0_v7 h)] <;> rfl
theorem p_call0_cst_2 : W (Proc.devRef .tc KernelIdeal.main_call0_cst_2) = V (Proc.devRef .tc ReferenceIdeal.main_call0_cst_2) := by
  rw [eq_nullary h.k2 28 rfl, eq_nullary h.r1 17 rfl] <;> rfl
theorem p_call0_v9 : W (Proc.devRef .tc KernelIdeal.main_call0_v9) = V (Proc.devRef .tc ReferenceIdeal.main_call0_v9) := by
  rw [eq_binary h.k2 29 rfl, eq_binary h.r1 18 rfl, (p_call0_v6 h), (p_call0_cst_2 h)] <;> rfl
theorem p_call0_v10 : W (Proc.devRef .tc KernelIdeal.main_call0_v10) = V (Proc.devRef .tc ReferenceIdeal.main_call0_v10) := by
  rw [eq_unary h.k2 30 rfl, eq_unary h.r1 19 rfl, (p_call0_v8 h)] <;> rfl
theorem p_call0_v11 : W (Proc.devRef .tc KernelIdeal.main_call0_v11) = V (Proc.devRef .tc ReferenceIdeal.main_call0_v11) := by
  rw [eq_binary h.k2 31 rfl, eq_binary h.r1 20 rfl, (p_call0_v9 h), (p_call0_v10 h)] <;> rfl
theorem p_call0_cst_3 : W (Proc.devRef .tc KernelIdeal.main_call0_cst_3) = V (Proc.devRef .tc ReferenceIdeal.main_call0_cst_3) := by
  rw [eq_nullary h.k2 32 rfl, eq_nullary h.r1 21 rfl] <;> rfl
theorem p_call0_v12 : W (Proc.devRef .tc KernelIdeal.main_call0_v12) = V (Proc.devRef .tc ReferenceIdeal.main_call0_v12) := by
  rw [eq_binary h.k2 33 rfl, eq_binary h.r1 22 rfl, (p_call0_v8 h), (p_call0_cst_3 h)] <;> rfl
theorem p_call0_cst_4 : W (Proc.devRef .tc KernelIdeal.main_call0_cst_4) = V (Proc.devRef .tc ReferenceIdeal.main_call0_cst_4) := by
  rw [eq_nullary h.k2 34 rfl, eq_nullary h.r1 23 rfl] <;> rfl
theorem p_call0_call0_v0 : W (Proc.devRef .tc KernelIdeal.main_call0_call0_v0) = V (Proc.devRef .tc ReferenceIdeal.main_call0_call0_v0) := by
  rw [eq_unary h.k2 35 rfl, eq_unary h.r1 24 rfl, (p_call0_cst_4 h)] <;> rfl
theorem p_call0_call0_v1 : W (Proc.devRef .tc KernelIdeal.main_call0_call0_v1) = V (Proc.devRef .tc ReferenceIdeal.main_call0_call0_v1) := by
  rw [eq_unary h.k2 36 rfl, eq_unary h.r1 25 rfl, (p_call0_call0_v0 h)] <;> rfl
theorem p_v58 : W (Proc.devRef .tc KernelIdeal.main_v58) = V (Proc.devRef .tc ReferenceIdeal.main_v50) := by
  rw [eq_ternary h.k2 37 rfl, eq_ternary h.r1 26 rfl, (p_call0_v12 h), (p_call0_v11 h), (p_call0_call0_v1 h)] <;> rfl
theorem p_v59 : W (Proc.devRef .tc KernelIdeal.main_v59) = V (Proc.devRef .tc ReferenceIdeal.main_v51) := by
  rw [eq_unary h.k2 38 rfl, eq_unary h.r1 27 rfl, (p_v57 h)] <;> rfl
theorem p_v60 : W (Proc.devRef .tc KernelIdeal.main_v60) = V (Proc.devRef .tc ReferenceIdeal.main_v52) := by
  rw [eq_unary h.k2 39 rfl, eq_unary h.r1 28 rfl, (p_v59 h)] <;> rfl
theorem p_v61 : W (Proc.devRef .tc KernelIdeal.main_v61) = V (Proc.devRef .tc ReferenceIdeal.main_v53) := by
  rw [eq_binary h.k2 40 rfl, eq_binary h.r1 29 rfl, (p_v54 h), (p_v60 h)] <;> rfl
theorem p_v62 : W (Proc.devRef .tc KernelIdeal.main_v62) = V (Proc.devRef .tc ReferenceIdeal.main_v54) := by
  rw [eq_unary h.k2 41 rfl, eq_unary h.r1 30 rfl, (p_v58 h)] <;> rfl
theorem p_cst_16 : W (Proc.devRef .tc KernelIdeal.main_cst_16) = V (Proc.devRef .tc ReferenceIdeal.main_cst_13) := by
  rw [eq_nullary h.k2 42 rfl, eq_nullary h.r1 31 rfl] <;> rfl
theorem p_v63 : W (Proc.devRef .tc KernelIdeal.main_v63) = V (Proc.devRef .tc ReferenceIdeal.main_v55) := by
  rw [eq_unary h.k2 43 rfl, eq_unary h.r1 32 rfl, (p_cst_16 h)] <;> rfl
theorem p_v64 : W (Proc.devRef .tc KernelIdeal.main_v64) = V (Proc.devRef .tc ReferenceIdeal.main_v56) := by
  rw [eq_binary h.k2 44 rfl, eq_binary h.r1 33 rfl, (p_v62 h), (p_v63 h)] <;> rfl
theorem p_v65 : W (Proc.devRef .tc KernelIdeal.main_v65) = V (Proc.devRef .tc ReferenceIdeal.main_v57) := by
  rw [eq_unary h.k2 45 rfl, eq_unary h.r1 34 rfl, (p_v64 h)] <;> rfl
theorem p_v66 : W (Proc.devRef .tc KernelIdeal.main_v66) = V (Proc.devRef .tc ReferenceIdeal.main_v58) := by
  rw [eq_unary h.k2 46 rfl, eq_unary h.r1 35 rfl, (p_v65 h)] <;> rfl
theorem p_v67 : W (Proc.devRef .tc KernelIdeal.main_v67) = V (Proc.devRef .tc ReferenceIdeal.main_v59) := by
  rw [eq_binary h.k2 47 rfl, eq_binary h.r1 36 rfl, (p_v61 h), (p_v66 h)] <;> rfl
theorem p_v68 : W (Proc.devRef .tc KernelIdeal.main_v68) = V (Proc.devRef .tc ReferenceIdeal.main_v60) := by
  rw [eq_unary h.k2 48 rfl, eq_unary h.r1 37 rfl, (p_arg2 h)] <;> rfl
theorem p_v69 : W (Proc.devRef .tc KernelIdeal.main_v69) = V (Proc.devRef .tc ReferenceIdeal.main_v61) := by
  rw [eq_unary h.k2 49 rfl, eq_unary h.r1 38 rfl, (p_v68 h)] <;> rfl
theorem p_v70 : W (Proc.devRef .tc KernelIdeal.main_v70) = V (Proc.devRef .tc ReferenceIdeal.main_v62) := by
  rw [eq_binary h.k2 50 rfl, eq_binary h.r1 39 rfl, (p_v67 h), (p_v69 h)] <;> rfl
theorem p_v71 : W (Proc.devRef .tc KernelIdeal.main_v71) = V (Proc.devRef .tc ReferenceIdeal.main_v63) := by
  rw [eq_unary h.k2 51 rfl, eq_unary h.r1 40 rfl, (p_arg3 h)] <;> rfl
theorem p_v72 : W (Proc.devRef .tc KernelIdeal.main_v72) = V (Proc.devRef .tc ReferenceIdeal.main_v64) := by
  rw [eq_unary h.k2 52 rfl, eq_unary h.r1 41 rfl, (p_v71 h)] <;> rfl
theorem p_v73 : W (Proc.devRef .tc KernelIdeal.main_v73) = V (Proc.devRef .tc ReferenceIdeal.main_v65) := by
  rw [eq_binary h.k2 53 rfl, eq_binary h.r1 42 rfl, (p_v70 h), (p_v72 h)] <;> rfl
theorem p_call1_cst : W (Proc.devRef .tc KernelIdeal.main_call1_cst) = V (Proc.devRef .tc ReferenceIdeal.main_call1_cst) := by
  rw [eq_nullary h.k2 54 rfl, eq_nullary h.r1 43 rfl] <;> rfl
theorem p_call1_v0 : W (Proc.devRef .tc KernelIdeal.main_call1_v0) = V (Proc.devRef .tc ReferenceIdeal.main_call1_v0) := by
  rw [eq_unary h.k2 55 rfl, eq_unary h.r1 44 rfl, (p_call1_cst h)] <;> rfl
theorem p_v74 : W (Proc.devRef .tc KernelIdeal.main_v74) = V (Proc.devRef .tc ReferenceIdeal.main_v66) := by
  rw [eq_binary h.k2 56 rfl, eq_binary h.r1 45 rfl, (p_v73 h), (p_call1_v0 h)] <;> rfl
theorem p_v75 : W (Proc.devRef .tc KernelIdeal.main_v75) = V (Proc.devRef .tc ReferenceIdeal.main_v67) := by
  rw [eq_binary h.k2 57 rfl, eq_binary h.r1 46 rfl, (p_arg4 h), (p_v74 h)] <;> rfl
theorem p_v76 : W (Proc.devRef .tc KernelIdeal.main_v76) = V (Proc.devRef .tc ReferenceIdeal.main_v68) := by
  rw [eq_unary h.k2 58 rfl, eq_unary h.r1 47 rfl, (p_v75 h)] <;> rfl
theorem p_v77 : W (Proc.devRef .tc KernelIdeal.main_v77) = V (Proc.devRef .tc ReferenceIdeal.main_v69) := by
  rw [eq_unary h.k2 59 rfl, eq_unary h.r1 48 rfl, (p_arg5 h)] <;> rfl
theorem p_v78 : W (Proc.devRef .tc KernelIdeal.main_v78) = V (Proc.devRef .tc ReferenceIdeal.main_v70) := by
  rw [eq_unary h.k2 60 rfl, eq_unary h.r1 49 rfl, (p_v77 h)] <;> rfl
theorem p_v79 : W (Proc.devRef .tc KernelIdeal.main_v79) = V (Proc.devRef .tc ReferenceIdeal.main_v71) := by
  rw [eq_binary h.k2 61 rfl, eq_binary h.r1 50 rfl, (p_v76 h), (p_v78 h)] <;> rfl
theorem p_v80 : W (Proc.devRef .tc KernelIdeal.main_v80) = V (Proc.devRef .tc ReferenceIdeal.main_v72) := by
  rw [eq_reshape h.k2 62 rfl, eq_reshape h.r1 51 rfl, (p_v79 h)] <;> rfl
theorem p_v81 : W (Proc.devRef .tc KernelIdeal.main_v81) = V (Proc.devRef .tc ReferenceIdeal.main_v73) := by
  rw [eq_unary h.k2 63 rfl, eq_unary h.r1 52 rfl, (p_v80 h)] <;> rfl
theorem p_v82 : W (Proc.devRef .tc KernelIdeal.main_v82) = V (Proc.devRef .tc ReferenceIdeal.main_v74) := by
  rw [eq_reshape h.k2 64 rfl, eq_reshape h.r1 53 rfl, (p_v81 h)] <;> rfl
theorem p_cst_17 : W (Proc.devRef .tc KernelIdeal.main_cst_17) = V (Proc.devRef .tc ReferenceIdeal.main_cst_14) := by
  rw [eq_nullary h.k2 65 rfl, eq_nullary h.r1 54 rfl] <;> rfl
theorem p_v83 : W (Proc.devRef .tc KernelIdeal.main_v83) = V (Proc.devRef .tc ReferenceIdeal.main_v75) := by
  rw [eq_binary h.k2 66 rfl, eq_binary h.r1 55 rfl, (p_v82 h), (p_cst_17 h)] <;> rfl
theorem p_cst_18 : W (Proc.devRef .tc KernelIdeal.main_cst_18) = V (Proc.devRef .tc ReferenceIdeal.main_cst_15) := by
  rw [eq_nullary h.k2 67 rfl, eq_nullary h.r1 56 rfl] <;> rfl
theorem p_v84 : W (Proc.devRef .tc KernelIdeal.main_v84) = V (Proc.devRef .tc ReferenceIdeal.main_v76) := by
  rw [eq_unary h.k2 68 rfl, eq_unary h.r1 57 rfl, (p_cst_18 h)] <;> rfl
theorem p_v85 : W (Proc.devRef .tc KernelIdeal.main_v85) = V (Proc.devRef .tc ReferenceIdeal.main_v77) := by
  rw [eq_binary h.k2 69 rfl, eq_binary h.r1 58 rfl, (p_v83 h), (p_v84 h)] <;> rfl
theorem p_v86 : W (Proc.devRef .tc KernelIdeal.main_v86) = V (Proc.devRef .tc ReferenceIdeal.main_v78) := by
  rw [eq_reshape h.k2 70 rfl, eq_reshape h.r1 59 rfl, (p_v85 h)] <;> rfl
theorem p_v87 : W (Proc.devRef .tc KernelIdeal.main_v87) = V (Proc.devRef .tc ReferenceIdeal.main_v79) := by
  rw [eq_unary h.k2 71 rfl, eq_unary h.r1 60 rfl, (p_v86 h)] <;> rfl
theorem p_v88 : W (Proc.devRef .tc KernelIdeal.main_v88) = V (Proc.devRef .tc ReferenceIdeal.main_v80) := by
  rw [eq_unary h.k2 72 rfl, eq_unary h.r1 61 rfl, (p_v87 h)] <;> rfl
theorem p_cst_19 : W (Proc.devRef .tc KernelIdeal.main_cst_19) = V (Proc.devRef .tc ReferenceIdeal.main_cst_16) := by
  rw [eq_nullary h.k2 73 rfl, eq_nullary h.r1 62 rfl] <;> rfl
theorem p_v89 : W (Proc.devRef .tc KernelIdeal.main_v89) = V (Proc.devRef .tc ReferenceIdeal.main_v81) := by
  rw [eq_unary h.k2 74 rfl, eq_unary h.r1 63 rfl, (p_cst_19 h)] <;> rfl
theorem p_v90 : W (Proc.devRef .tc KernelIdeal.main_v90) = V (Proc.devRef .tc ReferenceIdeal.main_v82) := by
  rw [eq_binary h.k2 75 rfl, eq_binary h.r1 64 rfl, (p_v89 h), (p_v88 h)] <;> rfl
theorem p_cst_20 : W (Proc.devRef .tc KernelIdeal.main_cst_20) = V (Proc.devRef .tc ReferenceIdeal.main_cst_17) := by
  rw [eq_nullary h.k2 76 rfl, eq_nullary h.r1 65 rfl] <;> rfl
theorem p_v91 : W (Proc.devRef .tc KernelIdeal.main_v91) = V (Proc.devRef .tc ReferenceIdeal.main_v83) := by
  rw [eq_unary h.k2 77 rfl, eq_unary h.r1 66 rfl, (p_cst_20 h)] <;> rfl
theorem p_v92 : W (Proc.devRef .tc KernelIdeal.main_v92) = V (Proc.devRef .tc ReferenceIdeal.main_v84) := by
  rw [eq_binary h.k2 78 rfl, eq_binary h.r1 67 rfl, (p_v91 h), (p_v90 h)] <;> rfl
theorem p_v93 : W (Proc.devRef .tc KernelIdeal.main_v93) = V (Proc.devRef .tc ReferenceIdeal.main_v85) := by
  rw [eq_binary h.k2 79 rfl, eq_binary h.r1 68 rfl, (p_v52 h), (p_v92 h)] <;> rfl

end Cert.Pairs

end
-- ==== Proof.Algebraic.lean ====
/- On images of finite numbers the kernel program and the reference end with the same three results, over the extended reals. -/
module

public import proofs.«01_k».proof.Defs
public import proofs.«01_k».proof.Proof.Result
public import proofs.«01_k».proof.Proof.Mag
public import proofs.«01_k».proof.Proof.Picked
public import proofs.«01_k».proof.Proof.PairScore

@[expose] public section

set_option maxRecDepth 100000

noncomputable section

/-! ## What the precondition says -/

namespace Cert.Pre_finite

open Idealize.ShloMosaic Cert.Stacked

/-- The side conditions of the precondition's operations. -/
theorem sides : Cert.Pre_finite.Facts := ⟨by decide, by decide, by decide⟩

/-- Where it holds, every pixel is a finite number. -/
theorem pixel [Cert.Pre_finite.Facts] {A : S32x3x512x512.Idx → EReal} {a1 : FVec Ideal S16x3 .f32} {a2 a3 : FVec Ideal S16 .f32} {a4 : FVec Ideal S1x16 .f32}
    {a5 : FVec Ideal S1 .f32} (h : fn (F := Ideal) A a1 a2 a3 a4 a5 = fun _ => 1#1) (i : S32x3x512x512.Idx) : Fin' (A i) := by
  haveI : Subsingleton S_.Idx := ⟨fun a b => funext fun k => k.elim0⟩
  have e := Host.reduce_andi_all _ _ _ _ ValueIdx.ix0 (congrFun h ValueIdx.ix0) i
  have c : Ideal.cmp .olt (max (A i) (-(A i))) (Ideal.ofBits .f32 0x7F800000#32) = 1#1 := e
  rw [Cert.Energy.top_word] at c
  have l : max (A i) (-(A i)) < ⊤ := by
    by_contra n
    have z : Ideal.cmp .olt (max (A i) (-(A i))) ⊤ = 0#1 := by
      show BitVec.ofBool (decide (max (A i) (-(A i)) < ⊤)) = 0#1
      rw [decide_eq_false n]
      rfl
    rw [z] at c
    exact absurd c (by decide)
  obtain ⟨l1, l2⟩ := max_lt_iff.mp l
  refine ⟨fun b => ?_, l1.ne⟩
  rw [b] at l2
  exact absurd l2 (by simp)

end Cert.Pre_finite

namespace Cert.Algebraic

open Cert.Lines Cert.Stacked
open Idealize.ShloMosaic Idealize.ShloMosaic.TcCoe Idealize.ShloMosaic.StableHlo Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (d : Dev KernelIdeal.nD)

/-- What the reference ends with. -/
def V : Valuation ReferenceIdeal.τ ReferenceIdeal.sig (Elt Ideal) := after ReferenceIdeal.Host.rAll (launchContents m' d)

theorem V_fixes : ∀ op ∈ ReferenceIdeal.Host.rAll (F := Ideal), Fixes op (V m' d) := ReferenceIdeal.Host.rAll_line.fixes (launchContents m' d)

/-- An argument's buffer ends as launched. -/
theorem V_arg {r : Ref ReferenceIdeal.sig .tc} {j : ℕ} (hr : IsAt r j) (hj : j < 6) : V m' d (Proc.devRef .tc r) = m' (d, Proc.devRef .tc r) :=
  ReferenceIdeal.Host.rAll_line.keep _ hr (Or.inl hj)

/-- Each of the reference's runs of operations has run. -/
theorem V_sub {l : List (HloOp ReferenceIdeal.τ ReferenceIdeal.sig (Elt Ideal))} (h : l ⊆ ReferenceIdeal.Host.rAll (F := Ideal)) : ∀ op ∈ l, Fixes op (V m' d) :=
  fun op ho => V_fixes m' d op (h ho)

theorem sub0 : ReferenceIdeal.Host.r0 (F := Ideal) ⊆ ReferenceIdeal.Host.rAll := fun op h => by
  unfold ReferenceIdeal.Host.rAll; simp only [List.mem_append]; tauto
theorem sub1 : ReferenceIdeal.Host.r1 (F := Ideal) ⊆ ReferenceIdeal.Host.rAll := fun op h => by
  unfold ReferenceIdeal.Host.rAll; simp only [List.mem_append]; tauto
theorem sub2 : ReferenceIdeal.Host.r2 (F := Ideal) ⊆ ReferenceIdeal.Host.rAll := fun op h => by
  unfold ReferenceIdeal.Host.rAll; simp only [List.mem_append]; tauto
theorem sub9 : ReferenceIdeal.Host.r9 (F := Ideal) ⊆ ReferenceIdeal.Host.rAll := fun op h => by
  unfold ReferenceIdeal.Host.rAll; simp only [List.mem_append]; tauto

/-- The two programs are launched on the same arguments. -/
def Agree : Prop :=
  m' ((d.tc : Thread ReferenceIdeal.nD ReferenceIdeal.τ).loc ReferenceIdeal.main_arg0) = m ((d.tc : Thread KernelIdeal.nD KernelIdeal.τ).loc KernelIdeal.main_arg0)
    ∧ m' ((d.tc : Thread ReferenceIdeal.nD ReferenceIdeal.τ).loc ReferenceIdeal.main_arg1) = m ((d.tc : Thread KernelIdeal.nD KernelIdeal.τ).loc KernelIdeal.main_arg1)
    ∧ m' ((d.tc : Thread ReferenceIdeal.nD ReferenceIdeal.τ).loc ReferenceIdeal.main_arg2) = m ((d.tc : Thread KernelIdeal.nD KernelIdeal.τ).loc KernelIdeal.main_arg2)
    ∧ m' ((d.tc : Thread ReferenceIdeal.nD ReferenceIdeal.τ).loc ReferenceIdeal.main_arg3) = m ((d.tc : Thread KernelIdeal.nD KernelIdeal.τ).loc KernelIdeal.main_arg3)
    ∧ m' ((d.tc : Thread ReferenceIdeal.nD ReferenceIdeal.τ).loc ReferenceIdeal.main_arg4) = m ((d.tc : Thread KernelIdeal.nD KernelIdeal.τ).loc KernelIdeal.main_arg4)
    ∧ m' ((d.tc : Thread ReferenceIdeal.nD ReferenceIdeal.τ).loc ReferenceIdeal.main_arg5) = m ((d.tc : Thread KernelIdeal.nD KernelIdeal.τ).loc KernelIdeal.main_arg5)

/-- The image. -/
def image : KernelIdeal.S32x3x512x512.Idx → EReal := m (d, Proc.devRef .tc KernelIdeal.main_arg0)

theorem r_mag (h : Agree m m' d) : (V m' d (Proc.devRef .tc ReferenceIdeal.main_v35) : KernelIdeal.S32x3x512x512.Idx → EReal) =
    KernelIdeal.Run.mags KernelIdeal.Run.cosines KernelIdeal.Run.sines (image m d) :=
  Cert.RefMag.magnitude (V_sub m' d sub0) (KernelIdeal.Run.r_cst (V_sub m' d sub0)) (KernelIdeal.Run.r_cst_0 (V_sub m' d sub0)) (image m d)
    ((V_arg m' d (j := 0) ⟨rfl, rfl⟩ (by omega)).trans h.1)

/-- Up to the score. -/
theorem score (h : Agree m m' d) (hF : ∀ i, Fin' (image m d i)) : Cert.Pairs.Score (KernelIdeal.Run.W3 m d) (V m' d) where
  k1 := fun op ho => KernelIdeal.Run.kA_fixes m d op (List.mem_append_left _ ho)
  k2 := KernelIdeal.Run.k2_fixes m d
  r0 := V_sub m' d sub0
  r1 := V_sub m' d sub1
  mag := ((KernelIdeal.Host.kA_line.keep _ (r := KernelIdeal.main_v43_0) (j := 60) ⟨rfl, rfl⟩ (by omega)).trans (KernelIdeal.Run.W2_mag m d (image m d) rfl hF)).trans (r_mag m m' d h).symm
  arg1 := (KernelIdeal.Run.W3_arg m d (j := 1) ⟨rfl, rfl⟩ (by omega) (by decide)).trans (((V_arg m' d (j := 1) ⟨rfl, rfl⟩ (by omega)).trans h.2.1).symm)
  arg2 := (KernelIdeal.Run.W3_arg m d (j := 2) ⟨rfl, rfl⟩ (by omega) (by decide)).trans (((V_arg m' d (j := 2) ⟨rfl, rfl⟩ (by omega)).trans h.2.2.1).symm)
  arg3 := (KernelIdeal.Run.W3_arg m d (j := 3) ⟨rfl, rfl⟩ (by omega) (by decide)).trans (((V_arg m' d (j := 3) ⟨rfl, rfl⟩ (by omega)).trans h.2.2.2.1).symm)
  arg4 := (KernelIdeal.Run.W3_arg m d (j := 4) ⟨rfl, rfl⟩ (by omega) (by decide)).trans (((V_arg m' d (j := 4) ⟨rfl, rfl⟩ (by omega)).trans h.2.2.2.2.1).symm)
  arg5 := (KernelIdeal.Run.W3_arg m d (j := 5) ⟨rfl, rfl⟩ (by omega) (by decide)).trans (((V_arg m' d (j := 5) ⟨rfl, rfl⟩ (by omega)).trans h.2.2.2.2.2).symm)

/-- The noise. -/
theorem noise : Cert.Pairs.Noise (KernelIdeal.Run.W5 m d) (V m' d) := by
  have k := KernelIdeal.Run.kB_fixes m d
  have r := V_fixes m' d
  unfold KernelIdeal.Host.kB at k
  unfold ReferenceIdeal.Host.rAll at r
  simp only [List.mem_append] at k r
  constructor <;> intro op ho
  any_goals exact k op (by simp only [ho, true_or, or_true])
  all_goals exact r op (by simp only [ho, true_or, or_true])

/-- The second and the third result agree. -/
theorem second : (KernelIdeal.Run.W7 m d (Proc.devRef .tc KernelIdeal.main_v105) : IVec KernelIdeal.S32x1024 32) = (V m' d (Proc.devRef .tc ReferenceIdeal.main_v126) : IVec KernelIdeal.S32x1024 32) :=
  (KernelIdeal.Run.W7_keep m d (j := 429) ⟨rfl, rfl⟩ (by omega)).trans (Cert.Pairs.p_v105 (noise m m' d))
theorem third : (KernelIdeal.Run.W7 m d (Proc.devRef .tc KernelIdeal.main_v106) : IVec KernelIdeal.S32x256 32) = (V m' d (Proc.devRef .tc ReferenceIdeal.main_v127) : IVec KernelIdeal.S32x256 32) :=
  (KernelIdeal.Run.W7_keep m d (j := 430) ⟨rfl, rfl⟩ (by omega)).trans (Cert.Pairs.p_v106 (noise m m' d))

/-- And so does the first. -/
theorem first (h : Agree m m' d) (hF : ∀ i, Fin' (image m d i)) :
    (KernelIdeal.Run.W7 m d (Proc.devRef .tc KernelIdeal.main_v116) : KernelIdeal.S32x1024.Idx → EReal) = (V m' d (Proc.devRef .tc ReferenceIdeal.main_v128) : KernelIdeal.S32x1024.Idx → EReal) := by
  funext y
  obtain ⟨b, i, rfl⟩ : ∃ (b : Fin 32) (i : Fin 1024), y = ValueIdx.ix2 b i := ⟨y 0, y 1, by funext a; fin_cases a <;> rfl⟩
  have f0 := V_sub m' d sub0
  have f1 := V_sub m' d sub1
  have f2 := V_sub m' d sub2
  have f9 := V_sub m' d sub9
  obtain ⟨p, hp⟩ := Cert.Picked.v126_pos f9 (ValueIdx.ix2 b i)
  have he : ∀ i, Fin' (Cert.Energy.energy (V m' d) i) := Cert.Energy.v85_finite f0 f1 fun i => by
    rw [r_mag m m' d h]
    exact KernelIdeal.Run.mags_finite (image m d) hF i
  have e := Cert.Pairs.p_v93 (score m m' d h hF)
  have q := congrFun (Cert.Pairs.p_v105 (noise m m' d)) (ValueIdx.ix2 b i)
  refine (KernelIdeal.Run.W7_result m d b i p (q.trans hp)).trans ?_
  refine (KernelIdeal.Run.W5_marks m d b p).trans ?_
  refine Eq.trans ?_ ((Cert.Picked.picked f9 b i p hp).trans (Cert.RefMask.mask f2 f1 he b p)).symm
  exact congrArg (fun f : Fin 1024 → EReal => Cert.Rank.mark f p) (funext fun k => congrFun e (ValueIdx.ix2 b k))

/-- The claim. -/
theorem same [Cert.Pre_finite.Facts] : Cert.algebraic_KernelIdeal_ReferenceIdeal_pre_finite := fun m g m' g' hP hA =>
  ⟨fun c => KernelIdeal.Run.W7 m c (Proc.devRef .tc KernelIdeal.main_v116), fun c => KernelIdeal.Run.W7 m c (Proc.devRef .tc KernelIdeal.main_v105),
    fun c => KernelIdeal.Run.W7 m c (Proc.devRef .tc KernelIdeal.main_v106),
    (θ_run Cert.KernelIdeal.defs _ _).mono (fun r h c =>
      ⟨h.1 c (Proc.devRef .tc KernelIdeal.main_v116) (Finset.mem_filter.mpr ⟨StableHlo.devRef_mem_tcRefs _, by decide⟩), h.1 c (Proc.devRef .tc KernelIdeal.main_v105) (Finset.mem_filter.mpr ⟨StableHlo.devRef_mem_tcRefs _, by decide⟩),
        h.1 c (Proc.devRef .tc KernelIdeal.main_v106) (Finset.mem_filter.mpr ⟨StableHlo.devRef_mem_tcRefs _, by decide⟩), (KernelIdeal.Run.frame_of m r h).1 c⟩) (KernelIdeal.Run.run_main m g),
    (θ_run Cert.ReferenceIdeal.defs _ _).mono (fun r h c =>
      ⟨(h c _).trans (first m m' c (hA c) (Cert.Pre_finite.pixel (hP c))).symm, (h c _).trans (second m m' c).symm, (h c _).trans (third m m' c).symm,
        Cert.ReferenceIdeal.Host.frame_of m' r h c⟩) (Cert.ReferenceIdeal.Host.run m' g')⟩

end Cert.Algebraic

end
-- ==== Proof.lean ====
/- The claims, from the modules that prove them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.SameText
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ =>
  (θ_run Cert.KernelIdeal.defs _ _).mono (fun r h => Cert.KernelIdeal.Run.frame_of m r h) (Cert.KernelIdeal.Run.run_main m ρ)

theorem frame_reference : Cert.quiescent_ReferenceIdeal := fun m ρ _ =>
  (θ_run Cert.ReferenceIdeal.defs _ _).mono (fun r h => ⟨Cert.ReferenceIdeal.Host.frame_of m r h, Idealize.ShloMosaic.sem_eq_zero_of_no_sems (by decide) r.2⟩)
    (Cert.ReferenceIdeal.Host.run m ρ)

theorem claim : Cert.Claim := ⟨Cert.Kernel.Gen.facts, Cert.KernelIdeal.Gen.facts, Cert.ReferenceIdeal.Gen.facts, Cert.Pre_finite.sides,
  Cert.SameText.frame_kernel, frame_ideal, fun m ρ _ => frame_ideal m ρ trivial, frame_reference, fun m ρ _ => frame_reference m ρ trivial, trivial,
  letI := Cert.Pre_finite.sides; Cert.Algebraic.same⟩

end Cert.Proof

end
